-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwu (m : (ℓ : Loc Cert.KernelDwu.nD Cert.KernelDwu.τ Cert.KernelDwu.sig) → Buf (Elt Bits) ℓ) : Prop :=
  True

def Pre_KernelDwuIdeal (m : (ℓ : Loc Cert.KernelDwuIdeal.nD Cert.KernelDwuIdeal.τ Cert.KernelDwuIdeal.sig) → Buf (Elt Ideal) ℓ) : Prop :=
  True

def Pre_ReferenceDwuIdeal (m : (ℓ : Loc Cert.ReferenceDwuIdeal.nD Cert.ReferenceDwuIdeal.τ Cert.ReferenceDwuIdeal.sig) → Buf (Elt Ideal) ℓ) : Prop :=
  True

def Pre_KernelDg (m : (ℓ : Loc Cert.KernelDg.nD Cert.KernelDg.τ Cert.KernelDg.sig) → Buf (Elt Bits) ℓ) : Prop :=
  True

def Pre_KernelDgIdeal (m : (ℓ : Loc Cert.KernelDgIdeal.nD Cert.KernelDgIdeal.τ Cert.KernelDgIdeal.sig) → Buf (Elt Ideal) ℓ) : Prop :=
  True

def Pre_ReferenceDgIdeal (m : (ℓ : Loc Cert.ReferenceDgIdeal.nD Cert.ReferenceDgIdeal.τ Cert.ReferenceDgIdeal.sig) → Buf (Elt Ideal) ℓ) : Prop :=
  True

def Pre_KernelDwd (m : (ℓ : Loc Cert.KernelDwd.nD Cert.KernelDwd.τ Cert.KernelDwd.sig) → Buf (Elt Bits) ℓ) : Prop :=
  True

def Pre_KernelDwdIdeal (m : (ℓ : Loc Cert.KernelDwdIdeal.nD Cert.KernelDwdIdeal.τ Cert.KernelDwdIdeal.sig) → Buf (Elt Ideal) ℓ) : Prop :=
  True

def Pre_ReferenceDwdIdeal (m : (ℓ : Loc Cert.ReferenceDwdIdeal.nD Cert.ReferenceDwdIdeal.τ Cert.ReferenceDwdIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDwa (m : (ℓ : Loc Cert.KernelDwa.nD Cert.KernelDwa.τ Cert.KernelDwa.sig) → Buf (Elt Bits) ℓ) : Prop :=
  True

def Pre_KernelDwaIdeal (m : (ℓ : Loc Cert.KernelDwaIdeal.nD Cert.KernelDwaIdeal.τ Cert.KernelDwaIdeal.sig) → Buf (Elt Ideal) ℓ) : Prop :=
  True

def Pre_ReferenceDwaIdeal (m : (ℓ : Loc Cert.ReferenceDwaIdeal.nD Cert.ReferenceDwaIdeal.τ Cert.ReferenceDwaIdeal.sig) → Buf (Elt Ideal) ℓ) : Prop :=
  True

def Pre_KernelDwb (m : (ℓ : Loc Cert.KernelDwb.nD Cert.KernelDwb.τ Cert.KernelDwb.sig) → Buf (Elt Bits) ℓ) : Prop :=
  True

def Pre_KernelDwbIdeal (m : (ℓ : Loc Cert.KernelDwbIdeal.nD Cert.KernelDwbIdeal.τ Cert.KernelDwbIdeal.sig) → Buf (Elt Ideal) ℓ) : Prop :=
  True

def Pre_ReferenceDwbIdeal (m : (ℓ : Loc Cert.ReferenceDwbIdeal.nD Cert.ReferenceDwbIdeal.τ Cert.ReferenceDwbIdeal.sig) → Buf (Elt Ideal) ℓ) : Prop :=
  True

def Pre_KernelPw (m : (ℓ : Loc Cert.KernelPw.nD Cert.KernelPw.τ Cert.KernelPw.sig) → Buf (Elt Bits) ℓ) : Prop :=
  True

def Pre_KernelPwIdeal (m : (ℓ : Loc Cert.KernelPwIdeal.nD Cert.KernelPwIdeal.τ Cert.KernelPwIdeal.sig) → Buf (Elt Ideal) ℓ) : Prop :=
  True

def Pre_ReferencePwIdeal (m : (ℓ : Loc Cert.ReferencePwIdeal.nD Cert.ReferencePwIdeal.τ Cert.ReferencePwIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelAdb (m : (ℓ : Loc Cert.KernelAdb.nD Cert.KernelAdb.τ Cert.KernelAdb.sig) → Buf (Elt Bits) ℓ) : Prop :=
  True

def Pre_KernelAdbIdeal (m : (ℓ : Loc Cert.KernelAdbIdeal.nD Cert.KernelAdbIdeal.τ Cert.KernelAdbIdeal.sig) → Buf (Elt Ideal) ℓ) : Prop :=
  True

def Pre_ReferenceAdbIdeal (m : (ℓ : Loc Cert.ReferenceAdbIdeal.nD Cert.ReferenceAdbIdeal.τ Cert.ReferenceAdbIdeal.sig) → Buf (Elt Ideal) ℓ) : Prop :=
  True

def Pre_KernelAdp (m : (ℓ : Loc Cert.KernelAdp.nD Cert.KernelAdp.τ Cert.KernelAdp.sig) → Buf (Elt Bits) ℓ) : Prop :=
  True

def Pre_KernelAdpIdeal (m : (ℓ : Loc Cert.KernelAdpIdeal.nD Cert.KernelAdpIdeal.τ Cert.KernelAdpIdeal.sig) → Buf (Elt Ideal) ℓ) : Prop :=
  True

def Pre_ReferenceAdpIdeal (m : (ℓ : Loc Cert.ReferenceAdpIdeal.nD Cert.ReferenceAdpIdeal.τ Cert.ReferenceAdpIdeal.sig) → Buf (Elt Ideal) ℓ) : Prop :=
  True

def Pre_KernelAds (m : (ℓ : Loc Cert.KernelAds.nD Cert.KernelAds.τ Cert.KernelAds.sig) → Buf (Elt Bits) ℓ) : Prop :=
  True

def Pre_KernelAdsIdeal (m : (ℓ : Loc Cert.KernelAdsIdeal.nD Cert.KernelAdsIdeal.τ Cert.KernelAdsIdeal.sig) → Buf (Elt Ideal) ℓ) : Prop :=
  True

def Pre_ReferenceAdsIdeal (m : (ℓ : Loc Cert.ReferenceAdsIdeal.nD Cert.ReferenceAdsIdeal.τ Cert.ReferenceAdsIdeal.sig) → Buf (Elt Ideal) ℓ) : Prop :=
  True

def Pre_KernelAdu (m : (ℓ : Loc Cert.KernelAdu.nD Cert.KernelAdu.τ Cert.KernelAdu.sig) → Buf (Elt Bits) ℓ) : Prop :=
  True

def Pre_KernelAduIdeal (m : (ℓ : Loc Cert.KernelAduIdeal.nD Cert.KernelAduIdeal.τ Cert.KernelAduIdeal.sig) → Buf (Elt Ideal) ℓ) : Prop :=
  True

def Pre_ReferenceAduIdeal (m : (ℓ : Loc Cert.ReferenceAduIdeal.nD Cert.ReferenceAduIdeal.τ Cert.ReferenceAduIdeal.sig) → Buf (Elt Ideal) ℓ) : Prop :=
  True

def Pre_KernelAdf (m : (ℓ : Loc Cert.KernelAdf.nD Cert.KernelAdf.τ Cert.KernelAdf.sig) → Buf (Elt Bits) ℓ) : Prop :=
  True

def Pre_KernelAdfIdeal (m : (ℓ : Loc Cert.KernelAdfIdeal.nD Cert.KernelAdfIdeal.τ Cert.KernelAdfIdeal.sig) → Buf (Elt Ideal) ℓ) : Prop :=
  True

def Pre_ReferenceAdfIdeal (m : (ℓ : Loc Cert.ReferenceAdfIdeal.nD Cert.ReferenceAdfIdeal.τ Cert.ReferenceAdfIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelPwb (m : (ℓ : Loc Cert.KernelPwb.nD Cert.KernelPwb.τ Cert.KernelPwb.sig) → Buf (Elt Bits) ℓ) : Prop :=
  True

def Pre_KernelPwbIdeal (m : (ℓ : Loc Cert.KernelPwbIdeal.nD Cert.KernelPwbIdeal.τ Cert.KernelPwbIdeal.sig) → Buf (Elt Ideal) ℓ) : Prop :=
  True

def Pre_ReferencePwbIdeal (m : (ℓ : Loc Cert.ReferencePwbIdeal.nD Cert.ReferencePwbIdeal.τ Cert.ReferencePwbIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_ReferenceHeadIdeal (m : (ℓ : Loc Cert.ReferenceHeadIdeal.nD Cert.ReferenceHeadIdeal.τ Cert.ReferenceHeadIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0)

def quiescent_KernelDwu [hKernelDwu : Cert.KernelDwu.Facts] : Prop :=
  ∀ (m : (ℓ : Loc Cert.KernelDwu.nD Cert.KernelDwu.τ Cert.KernelDwu.sig) → Buf (Elt Bits) ℓ) (g : Dev Cert.KernelDwu.nD → PrngReg), Pre_KernelDwu m →
    θ_run (Cert.KernelDwu.defs (F := Bits)) (onTc (τ := Cert.KernelDwu.τ) (Cert.KernelDwu.main (F := Bits))) ⟨m, fun _ => 0, g⟩ (fun r => (∀ c : Dev Cert.KernelDwu.nD,
      r.2.mem ((c.tc : Thread Cert.KernelDwu.nD Cert.KernelDwu.τ).loc Cert.KernelDwu.main_arg0) = m ((c.tc : Thread Cert.KernelDwu.nD Cert.KernelDwu.τ).loc Cert.KernelDwu.main_arg0)
      ∧ r.2.mem ((c.tc : Thread Cert.KernelDwu.nD Cert.KernelDwu.τ).loc Cert.KernelDwu.main_arg1) = m ((c.tc : Thread Cert.KernelDwu.nD Cert.KernelDwu.τ).loc Cert.KernelDwu.main_arg1))
      ∧ r.2.sem = fun _ => 0)

def quiescent_KernelDwuIdeal [hKernelDwuIdeal : Cert.KernelDwuIdeal.Facts] : Prop :=
  ∀ (m : (ℓ : Loc Cert.KernelDwuIdeal.nD Cert.KernelDwuIdeal.τ Cert.KernelDwuIdeal.sig) → Buf (Elt Ideal) ℓ) (g : Dev Cert.KernelDwuIdeal.nD → PrngReg), Pre_KernelDwuIdeal m →
    θ_run (Cert.KernelDwuIdeal.defs (F := Ideal)) (onTc (τ := Cert.KernelDwuIdeal.τ) (Cert.KernelDwuIdeal.main (F := Ideal))) ⟨m, fun _ => 0, g⟩ (fun r => (∀ c : Dev Cert.KernelDwuIdeal.nD,
      r.2.mem ((c.tc : Thread Cert.KernelDwuIdeal.nD Cert.KernelDwuIdeal.τ).loc Cert.KernelDwuIdeal.main_arg0) = m ((c.tc : Thread Cert.KernelDwuIdeal.nD Cert.KernelDwuIdeal.τ).loc Cert.KernelDwuIdeal.main_arg0)
      ∧ r.2.mem ((c.tc : Thread Cert.KernelDwuIdeal.nD Cert.KernelDwuIdeal.τ).loc Cert.KernelDwuIdeal.main_arg1) = m ((c.tc : Thread Cert.KernelDwuIdeal.nD Cert.KernelDwuIdeal.τ).loc Cert.KernelDwuIdeal.main_arg1))
      ∧ r.2.sem = fun _ => 0)

def quiescent_ReferenceDwuIdeal [hReferenceDwuIdeal : Cert.ReferenceDwuIdeal.Facts] : Prop :=
  ∀ (m : (ℓ : Loc Cert.ReferenceDwuIdeal.nD Cert.ReferenceDwuIdeal.τ Cert.ReferenceDwuIdeal.sig) → Buf (Elt Ideal) ℓ) (g : Dev Cert.ReferenceDwuIdeal.nD → PrngReg), Pre_ReferenceDwuIdeal m →
    θ_run (Cert.ReferenceDwuIdeal.defs (F := Ideal)) (onTc (τ := Cert.ReferenceDwuIdeal.τ) (Cert.ReferenceDwuIdeal.main (F := Ideal))) ⟨m, fun _ => 0, g⟩ (fun r => (∀ c : Dev Cert.ReferenceDwuIdeal.nD,
      r.2.mem ((c.tc : Thread Cert.ReferenceDwuIdeal.nD Cert.ReferenceDwuIdeal.τ).loc Cert.ReferenceDwuIdeal.main_arg0) = m ((c.tc : Thread Cert.ReferenceDwuIdeal.nD Cert.ReferenceDwuIdeal.τ).loc Cert.ReferenceDwuIdeal.main_arg0)
      ∧ r.2.mem ((c.tc : Thread Cert.ReferenceDwuIdeal.nD Cert.ReferenceDwuIdeal.τ).loc Cert.ReferenceDwuIdeal.main_arg1) = m ((c.tc : Thread Cert.ReferenceDwuIdeal.nD Cert.ReferenceDwuIdeal.τ).loc Cert.ReferenceDwuIdeal.main_arg1))
      ∧ r.2.sem = fun _ => 0)

def quiescent_KernelDg [hKernelDg : Cert.KernelDg.Facts] : Prop :=
  ∀ (m : (ℓ : Loc Cert.KernelDg.nD Cert.KernelDg.τ Cert.KernelDg.sig) → Buf (Elt Bits) ℓ) (g : Dev Cert.KernelDg.nD → PrngReg), Pre_KernelDg m →
    θ_run (Cert.KernelDg.defs (F := Bits)) (onTc (τ := Cert.KernelDg.τ) (Cert.KernelDg.main (F := Bits))) ⟨m, fun _ => 0, g⟩ (fun r => (∀ c : Dev Cert.KernelDg.nD,
      r.2.mem ((c.tc : Thread Cert.KernelDg.nD Cert.KernelDg.τ).loc Cert.KernelDg.main_arg0) = m ((c.tc : Thread Cert.KernelDg.nD Cert.KernelDg.τ).loc Cert.KernelDg.main_arg0)
      ∧ r.2.mem ((c.tc : Thread Cert.KernelDg.nD Cert.KernelDg.τ).loc Cert.KernelDg.main_arg1) = m ((c.tc : Thread Cert.KernelDg.nD Cert.KernelDg.τ).loc Cert.KernelDg.main_arg1))
      ∧ r.2.sem = fun _ => 0)

def quiescent_KernelDgIdeal [hKernelDgIdeal : Cert.KernelDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg), Pre_KernelDgIdeal m →
    θ_run (Cert.KernelDgIdeal.defs (F := Ideal)) (onTc (τ := Cert.KernelDgIdeal.τ) (Cert.KernelDgIdeal.main (F := Ideal))) ⟨m, fun _ => 0, g⟩ (fun r => (∀ c : Dev Cert.KernelDgIdeal.nD,
      r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
      ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1))
      ∧ r.2.sem = fun _ => 0)

def quiescent_ReferenceDgIdeal [hReferenceDgIdeal : Cert.ReferenceDgIdeal.Facts] : Prop :=
  ∀ (m : (ℓ : Loc Cert.ReferenceDgIdeal.nD Cert.ReferenceDgIdeal.τ Cert.ReferenceDgIdeal.sig) → Buf (Elt Ideal) ℓ) (g : Dev Cert.ReferenceDgIdeal.nD → PrngReg), Pre_ReferenceDgIdeal m →
    θ_run (Cert.ReferenceDgIdeal.defs (F := Ideal)) (onTc (τ := Cert.ReferenceDgIdeal.τ) (Cert.ReferenceDgIdeal.main (F := Ideal))) ⟨m, fun _ => 0, g⟩ (fun r => (∀ c : Dev Cert.ReferenceDgIdeal.nD,
      r.2.mem ((c.tc : Thread Cert.ReferenceDgIdeal.nD Cert.ReferenceDgIdeal.τ).loc Cert.ReferenceDgIdeal.main_arg0) = m ((c.tc : Thread Cert.ReferenceDgIdeal.nD Cert.ReferenceDgIdeal.τ).loc Cert.ReferenceDgIdeal.main_arg0)
      ∧ r.2.mem ((c.tc : Thread Cert.ReferenceDgIdeal.nD Cert.ReferenceDgIdeal.τ).loc Cert.ReferenceDgIdeal.main_arg1) = m ((c.tc : Thread Cert.ReferenceDgIdeal.nD Cert.ReferenceDgIdeal.τ).loc Cert.ReferenceDgIdeal.main_arg1))
      ∧ r.2.sem = fun _ => 0)

def quiescent_KernelDwd [hKernelDwd : Cert.KernelDwd.Facts] : Prop :=
  ∀ (m : (ℓ : Loc Cert.KernelDwd.nD Cert.KernelDwd.τ Cert.KernelDwd.sig) → Buf (Elt Bits) ℓ) (g : Dev Cert.KernelDwd.nD → PrngReg), Pre_KernelDwd m →
    θ_run (Cert.KernelDwd.defs (F := Bits)) (onTc (τ := Cert.KernelDwd.τ) (Cert.KernelDwd.main (F := Bits))) ⟨m, fun _ => 0, g⟩ (fun r => (∀ c : Dev Cert.KernelDwd.nD,
      r.2.mem ((c.tc : Thread Cert.KernelDwd.nD Cert.KernelDwd.τ).loc Cert.KernelDwd.main_arg0) = m ((c.tc : Thread Cert.KernelDwd.nD Cert.KernelDwd.τ).loc Cert.KernelDwd.main_arg0)
      ∧ r.2.mem ((c.tc : Thread Cert.KernelDwd.nD Cert.KernelDwd.τ).loc Cert.KernelDwd.main_arg1) = m ((c.tc : Thread Cert.KernelDwd.nD Cert.KernelDwd.τ).loc Cert.KernelDwd.main_arg1))
      ∧ r.2.sem = fun _ => 0)

def quiescent_KernelDwdIdeal [hKernelDwdIdeal : Cert.KernelDwdIdeal.Facts] : Prop :=
  ∀ (m : (ℓ : Loc Cert.KernelDwdIdeal.nD Cert.KernelDwdIdeal.τ Cert.KernelDwdIdeal.sig) → Buf (Elt Ideal) ℓ) (g : Dev Cert.KernelDwdIdeal.nD → PrngReg), Pre_KernelDwdIdeal m →
    θ_run (Cert.KernelDwdIdeal.defs (F := Ideal)) (onTc (τ := Cert.KernelDwdIdeal.τ) (Cert.KernelDwdIdeal.main (F := Ideal))) ⟨m, fun _ => 0, g⟩ (fun r => (∀ c : Dev Cert.KernelDwdIdeal.nD,
      r.2.mem ((c.tc : Thread Cert.KernelDwdIdeal.nD Cert.KernelDwdIdeal.τ).loc Cert.KernelDwdIdeal.main_arg0) = m ((c.tc : Thread Cert.KernelDwdIdeal.nD Cert.KernelDwdIdeal.τ).loc Cert.KernelDwdIdeal.main_arg0)
      ∧ r.2.mem ((c.tc : Thread Cert.KernelDwdIdeal.nD Cert.KernelDwdIdeal.τ).loc Cert.KernelDwdIdeal.main_arg1) = m ((c.tc : Thread Cert.KernelDwdIdeal.nD Cert.KernelDwdIdeal.τ).loc Cert.KernelDwdIdeal.main_arg1))
      ∧ r.2.sem = fun _ => 0)

def quiescent_ReferenceDwdIdeal [hReferenceDwdIdeal : Cert.ReferenceDwdIdeal.Facts] : Prop :=
  ∀ (m : (ℓ : Loc Cert.ReferenceDwdIdeal.nD Cert.ReferenceDwdIdeal.τ Cert.ReferenceDwdIdeal.sig) → Buf (Elt Ideal) ℓ) (g : Dev Cert.ReferenceDwdIdeal.nD → PrngReg), Pre_ReferenceDwdIdeal m →
    θ_run (Cert.ReferenceDwdIdeal.defs (F := Ideal)) (onTc (τ := Cert.ReferenceDwdIdeal.τ) (Cert.ReferenceDwdIdeal.main (F := Ideal))) ⟨m, fun _ => 0, g⟩ (fun r => (∀ c : Dev Cert.ReferenceDwdIdeal.nD,
      r.2.mem ((c.tc : Thread Cert.ReferenceDwdIdeal.nD Cert.ReferenceDwdIdeal.τ).loc Cert.ReferenceDwdIdeal.main_arg0) = m ((c.tc : Thread Cert.ReferenceDwdIdeal.nD Cert.ReferenceDwdIdeal.τ).loc Cert.ReferenceDwdIdeal.main_arg0)
      ∧ r.2.mem ((c.tc : Thread Cert.ReferenceDwdIdeal.nD Cert.ReferenceDwdIdeal.τ).loc Cert.ReferenceDwdIdeal.main_arg1) = m ((c.tc : Thread Cert.ReferenceDwdIdeal.nD Cert.ReferenceDwdIdeal.τ).loc Cert.ReferenceDwdIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0)

def quiescent_KernelDwa [hKernelDwa : Cert.KernelDwa.Facts] : Prop :=
  ∀ (m : (ℓ : Loc Cert.KernelDwa.nD Cert.KernelDwa.τ Cert.KernelDwa.sig) → Buf (Elt Bits) ℓ) (g : Dev Cert.KernelDwa.nD → PrngReg), Pre_KernelDwa m →
    θ_run (Cert.KernelDwa.defs (F := Bits)) (onTc (τ := Cert.KernelDwa.τ) (Cert.KernelDwa.main (F := Bits))) ⟨m, fun _ => 0, g⟩ (fun r => (∀ c : Dev Cert.KernelDwa.nD,
      r.2.mem ((c.tc : Thread Cert.KernelDwa.nD Cert.KernelDwa.τ).loc Cert.KernelDwa.main_arg0) = m ((c.tc : Thread Cert.KernelDwa.nD Cert.KernelDwa.τ).loc Cert.KernelDwa.main_arg0)
      ∧ r.2.mem ((c.tc : Thread Cert.KernelDwa.nD Cert.KernelDwa.τ).loc Cert.KernelDwa.main_arg1) = m ((c.tc : Thread Cert.KernelDwa.nD Cert.KernelDwa.τ).loc Cert.KernelDwa.main_arg1))
      ∧ r.2.sem = fun _ => 0)

def quiescent_KernelDwaIdeal [hKernelDwaIdeal : Cert.KernelDwaIdeal.Facts] : Prop :=
  ∀ (m : (ℓ : Loc Cert.KernelDwaIdeal.nD Cert.KernelDwaIdeal.τ Cert.KernelDwaIdeal.sig) → Buf (Elt Ideal) ℓ) (g : Dev Cert.KernelDwaIdeal.nD → PrngReg), Pre_KernelDwaIdeal m →
    θ_run (Cert.KernelDwaIdeal.defs (F := Ideal)) (onTc (τ := Cert.KernelDwaIdeal.τ) (Cert.KernelDwaIdeal.main (F := Ideal))) ⟨m, fun _ => 0, g⟩ (fun r => (∀ c : Dev Cert.KernelDwaIdeal.nD,
      r.2.mem ((c.tc : Thread Cert.KernelDwaIdeal.nD Cert.KernelDwaIdeal.τ).loc Cert.KernelDwaIdeal.main_arg0) = m ((c.tc : Thread Cert.KernelDwaIdeal.nD Cert.KernelDwaIdeal.τ).loc Cert.KernelDwaIdeal.main_arg0)
      ∧ r.2.mem ((c.tc : Thread Cert.KernelDwaIdeal.nD Cert.KernelDwaIdeal.τ).loc Cert.KernelDwaIdeal.main_arg1) = m ((c.tc : Thread Cert.KernelDwaIdeal.nD Cert.KernelDwaIdeal.τ).loc Cert.KernelDwaIdeal.main_arg1))
      ∧ r.2.sem = fun _ => 0)

def quiescent_ReferenceDwaIdeal [hReferenceDwaIdeal : Cert.ReferenceDwaIdeal.Facts] : Prop :=
  ∀ (m : (ℓ : Loc Cert.ReferenceDwaIdeal.nD Cert.ReferenceDwaIdeal.τ Cert.ReferenceDwaIdeal.sig) → Buf (Elt Ideal) ℓ) (g : Dev Cert.ReferenceDwaIdeal.nD → PrngReg), Pre_ReferenceDwaIdeal m →
    θ_run (Cert.ReferenceDwaIdeal.defs (F := Ideal)) (onTc (τ := Cert.ReferenceDwaIdeal.τ) (Cert.ReferenceDwaIdeal.main (F := Ideal))) ⟨m, fun _ => 0, g⟩ (fun r => (∀ c : Dev Cert.ReferenceDwaIdeal.nD,
      r.2.mem ((c.tc : Thread Cert.ReferenceDwaIdeal.nD Cert.ReferenceDwaIdeal.τ).loc Cert.ReferenceDwaIdeal.main_arg0) = m ((c.tc : Thread Cert.ReferenceDwaIdeal.nD Cert.ReferenceDwaIdeal.τ).loc Cert.ReferenceDwaIdeal.main_arg0)
      ∧ r.2.mem ((c.tc : Thread Cert.ReferenceDwaIdeal.nD Cert.ReferenceDwaIdeal.τ).loc Cert.ReferenceDwaIdeal.main_arg1) = m ((c.tc : Thread Cert.ReferenceDwaIdeal.nD Cert.ReferenceDwaIdeal.τ).loc Cert.ReferenceDwaIdeal.main_arg1))
      ∧ r.2.sem = fun _ => 0)

def quiescent_KernelDwb [hKernelDwb : Cert.KernelDwb.Facts] : Prop :=
  ∀ (m : (ℓ : Loc Cert.KernelDwb.nD Cert.KernelDwb.τ Cert.KernelDwb.sig) → Buf (Elt Bits) ℓ) (g : Dev Cert.KernelDwb.nD → PrngReg), Pre_KernelDwb m →
    θ_run (Cert.KernelDwb.defs (F := Bits)) (onTc (τ := Cert.KernelDwb.τ) (Cert.KernelDwb.main (F := Bits))) ⟨m, fun _ => 0, g⟩ (fun r => (∀ c : Dev Cert.KernelDwb.nD,
      r.2.mem ((c.tc : Thread Cert.KernelDwb.nD Cert.KernelDwb.τ).loc Cert.KernelDwb.main_arg0) = m ((c.tc : Thread Cert.KernelDwb.nD Cert.KernelDwb.τ).loc Cert.KernelDwb.main_arg0)
      ∧ r.2.mem ((c.tc : Thread Cert.KernelDwb.nD Cert.KernelDwb.τ).loc Cert.KernelDwb.main_arg1) = m ((c.tc : Thread Cert.KernelDwb.nD Cert.KernelDwb.τ).loc Cert.KernelDwb.main_arg1))
      ∧ r.2.sem = fun _ => 0)

def quiescent_KernelDwbIdeal [hKernelDwbIdeal : Cert.KernelDwbIdeal.Facts] : Prop :=
  ∀ (m : (ℓ : Loc Cert.KernelDwbIdeal.nD Cert.KernelDwbIdeal.τ Cert.KernelDwbIdeal.sig) → Buf (Elt Ideal) ℓ) (g : Dev Cert.KernelDwbIdeal.nD → PrngReg), Pre_KernelDwbIdeal m →
    θ_run (Cert.KernelDwbIdeal.defs (F := Ideal)) (onTc (τ := Cert.KernelDwbIdeal.τ) (Cert.KernelDwbIdeal.main (F := Ideal))) ⟨m, fun _ => 0, g⟩ (fun r => (∀ c : Dev Cert.KernelDwbIdeal.nD,
      r.2.mem ((c.tc : Thread Cert.KernelDwbIdeal.nD Cert.KernelDwbIdeal.τ).loc Cert.KernelDwbIdeal.main_arg0) = m ((c.tc : Thread Cert.KernelDwbIdeal.nD Cert.KernelDwbIdeal.τ).loc Cert.KernelDwbIdeal.main_arg0)
      ∧ r.2.mem ((c.tc : Thread Cert.KernelDwbIdeal.nD Cert.KernelDwbIdeal.τ).loc Cert.KernelDwbIdeal.main_arg1) = m ((c.tc : Thread Cert.KernelDwbIdeal.nD Cert.KernelDwbIdeal.τ).loc Cert.KernelDwbIdeal.main_arg1))
      ∧ r.2.sem = fun _ => 0)

def quiescent_ReferenceDwbIdeal [hReferenceDwbIdeal : Cert.ReferenceDwbIdeal.Facts] : Prop :=
  ∀ (m : (ℓ : Loc Cert.ReferenceDwbIdeal.nD Cert.ReferenceDwbIdeal.τ Cert.ReferenceDwbIdeal.sig) → Buf (Elt Ideal) ℓ) (g : Dev Cert.ReferenceDwbIdeal.nD → PrngReg), Pre_ReferenceDwbIdeal m →
    θ_run (Cert.ReferenceDwbIdeal.defs (F := Ideal)) (onTc (τ := Cert.ReferenceDwbIdeal.τ) (Cert.ReferenceDwbIdeal.main (F := Ideal))) ⟨m, fun _ => 0, g⟩ (fun r => (∀ c : Dev Cert.ReferenceDwbIdeal.nD,
      r.2.mem ((c.tc : Thread Cert.ReferenceDwbIdeal.nD Cert.ReferenceDwbIdeal.τ).loc Cert.ReferenceDwbIdeal.main_arg0) = m ((c.tc : Thread Cert.ReferenceDwbIdeal.nD Cert.ReferenceDwbIdeal.τ).loc Cert.ReferenceDwbIdeal.main_arg0)
      ∧ r.2.mem ((c.tc : Thread Cert.ReferenceDwbIdeal.nD Cert.ReferenceDwbIdeal.τ).loc Cert.ReferenceDwbIdeal.main_arg1) = m ((c.tc : Thread Cert.ReferenceDwbIdeal.nD Cert.ReferenceDwbIdeal.τ).loc Cert.ReferenceDwbIdeal.main_arg1))
      ∧ r.2.sem = fun _ => 0)

def quiescent_KernelPw [hKernelPw : Cert.KernelPw.Facts] : Prop :=
  ∀ (m : (ℓ : Loc Cert.KernelPw.nD Cert.KernelPw.τ Cert.KernelPw.sig) → Buf (Elt Bits) ℓ) (g : Dev Cert.KernelPw.nD → PrngReg), Pre_KernelPw m →
    θ_run (Cert.KernelPw.defs (F := Bits)) (onTc (τ := Cert.KernelPw.τ) (Cert.KernelPw.main (F := Bits))) ⟨m, fun _ => 0, g⟩ (fun r => (∀ c : Dev Cert.KernelPw.nD,
      r.2.mem ((c.tc : Thread Cert.KernelPw.nD Cert.KernelPw.τ).loc Cert.KernelPw.main_arg0) = m ((c.tc : Thread Cert.KernelPw.nD Cert.KernelPw.τ).loc Cert.KernelPw.main_arg0)
      ∧ r.2.mem ((c.tc : Thread Cert.KernelPw.nD Cert.KernelPw.τ).loc Cert.KernelPw.main_arg1) = m ((c.tc : Thread Cert.KernelPw.nD Cert.KernelPw.τ).loc Cert.KernelPw.main_arg1)
      ∧ r.2.mem ((c.tc : Thread Cert.KernelPw.nD Cert.KernelPw.τ).loc Cert.KernelPw.main_arg2) = m ((c.tc : Thread Cert.KernelPw.nD Cert.KernelPw.τ).loc Cert.KernelPw.main_arg2))
      ∧ r.2.sem = fun _ => 0)

def quiescent_KernelPwIdeal [hKernelPwIdeal : Cert.KernelPwIdeal.Facts] : Prop :=
  ∀ (m : (ℓ : Loc Cert.KernelPwIdeal.nD Cert.KernelPwIdeal.τ Cert.KernelPwIdeal.sig) → Buf (Elt Ideal) ℓ) (g : Dev Cert.KernelPwIdeal.nD → PrngReg), Pre_KernelPwIdeal m →
    θ_run (Cert.KernelPwIdeal.defs (F := Ideal)) (onTc (τ := Cert.KernelPwIdeal.τ) (Cert.KernelPwIdeal.main (F := Ideal))) ⟨m, fun _ => 0, g⟩ (fun r => (∀ c : Dev Cert.KernelPwIdeal.nD,
      r.2.mem ((c.tc : Thread Cert.KernelPwIdeal.nD Cert.KernelPwIdeal.τ).loc Cert.KernelPwIdeal.main_arg0) = m ((c.tc : Thread Cert.KernelPwIdeal.nD Cert.KernelPwIdeal.τ).loc Cert.KernelPwIdeal.main_arg0)
      ∧ r.2.mem ((c.tc : Thread Cert.KernelPwIdeal.nD Cert.KernelPwIdeal.τ).loc Cert.KernelPwIdeal.main_arg1) = m ((c.tc : Thread Cert.KernelPwIdeal.nD Cert.KernelPwIdeal.τ).loc Cert.KernelPwIdeal.main_arg1)
      ∧ r.2.mem ((c.tc : Thread Cert.KernelPwIdeal.nD Cert.KernelPwIdeal.τ).loc Cert.KernelPwIdeal.main_arg2) = m ((c.tc : Thread Cert.KernelPwIdeal.nD Cert.KernelPwIdeal.τ).loc Cert.KernelPwIdeal.main_arg2))
      ∧ r.2.sem = fun _ => 0)

def quiescent_ReferencePwIdeal [hReferencePwIdeal : Cert.ReferencePwIdeal.Facts] : Prop :=
  ∀ (m : (ℓ : Loc Cert.ReferencePwIdeal.nD Cert.ReferencePwIdeal.τ Cert.ReferencePwIdeal.sig) → Buf (Elt Ideal) ℓ) (g : Dev Cert.ReferencePwIdeal.nD → PrngReg), Pre_ReferencePwIdeal m →
    θ_run (Cert.ReferencePwIdeal.defs (F := Ideal)) (onTc (τ := Cert.ReferencePwIdeal.τ) (Cert.ReferencePwIdeal.main (F := Ideal))) ⟨m, fun _ => 0, g⟩ (fun r => (∀ c : Dev Cert.ReferencePwIdeal.nD,
      r.2.mem ((c.tc : Thread Cert.ReferencePwIdeal.nD Cert.ReferencePwIdeal.τ).loc Cert.ReferencePwIdeal.main_arg0) = m ((c.tc : Thread Cert.ReferencePwIdeal.nD Cert.ReferencePwIdeal.τ).loc Cert.ReferencePwIdeal.main_arg0)
      ∧ r.2.mem ((c.tc : Thread Cert.ReferencePwIdeal.nD Cert.ReferencePwIdeal.τ).loc Cert.ReferencePwIdeal.main_arg1) = m ((c.tc : Thread Cert.ReferencePwIdeal.nD Cert.ReferencePwIdeal.τ).loc Cert.ReferencePwIdeal.main_arg1)
      ∧ r.2.mem ((c.tc : Thread Cert.ReferencePwIdeal.nD Cert.ReferencePwIdeal.τ).loc Cert.ReferencePwIdeal.main_arg2) = m ((c.tc : Thread Cert.ReferencePwIdeal.nD Cert.ReferencePwIdeal.τ).loc Cert.ReferencePwIdeal.main_arg2))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0)

def quiescent_KernelAdb [hKernelAdb : Cert.KernelAdb.Facts] : Prop :=
  ∀ (m : (ℓ : Loc Cert.KernelAdb.nD Cert.KernelAdb.τ Cert.KernelAdb.sig) → Buf (Elt Bits) ℓ) (g : Dev Cert.KernelAdb.nD → PrngReg), Pre_KernelAdb m →
    θ_run (Cert.KernelAdb.defs (F := Bits)) (onTc (τ := Cert.KernelAdb.τ) (Cert.KernelAdb.main (F := Bits))) ⟨m, fun _ => 0, g⟩ (fun r => (∀ c : Dev Cert.KernelAdb.nD,
      r.2.mem ((c.tc : Thread Cert.KernelAdb.nD Cert.KernelAdb.τ).loc Cert.KernelAdb.main_arg0) = m ((c.tc : Thread Cert.KernelAdb.nD Cert.KernelAdb.τ).loc Cert.KernelAdb.main_arg0)
      ∧ r.2.mem ((c.tc : Thread Cert.KernelAdb.nD Cert.KernelAdb.τ).loc Cert.KernelAdb.main_arg1) = m ((c.tc : Thread Cert.KernelAdb.nD Cert.KernelAdb.τ).loc Cert.KernelAdb.main_arg1)
      ∧ r.2.mem ((c.tc : Thread Cert.KernelAdb.nD Cert.KernelAdb.τ).loc Cert.KernelAdb.main_arg2) = m ((c.tc : Thread Cert.KernelAdb.nD Cert.KernelAdb.τ).loc Cert.KernelAdb.main_arg2)
      ∧ r.2.mem ((c.tc : Thread Cert.KernelAdb.nD Cert.KernelAdb.τ).loc Cert.KernelAdb.main_arg3) = m ((c.tc : Thread Cert.KernelAdb.nD Cert.KernelAdb.τ).loc Cert.KernelAdb.main_arg3))
      ∧ r.2.sem = fun _ => 0)

def quiescent_KernelAdbIdeal [hKernelAdbIdeal : Cert.KernelAdbIdeal.Facts] : Prop :=
  ∀ (m : (ℓ : Loc Cert.KernelAdbIdeal.nD Cert.KernelAdbIdeal.τ Cert.KernelAdbIdeal.sig) → Buf (Elt Ideal) ℓ) (g : Dev Cert.KernelAdbIdeal.nD → PrngReg), Pre_KernelAdbIdeal m →
    θ_run (Cert.KernelAdbIdeal.defs (F := Ideal)) (onTc (τ := Cert.KernelAdbIdeal.τ) (Cert.KernelAdbIdeal.main (F := Ideal))) ⟨m, fun _ => 0, g⟩ (fun r => (∀ c : Dev Cert.KernelAdbIdeal.nD,
      r.2.mem ((c.tc : Thread Cert.KernelAdbIdeal.nD Cert.KernelAdbIdeal.τ).loc Cert.KernelAdbIdeal.main_arg0) = m ((c.tc : Thread Cert.KernelAdbIdeal.nD Cert.KernelAdbIdeal.τ).loc Cert.KernelAdbIdeal.main_arg0)
      ∧ r.2.mem ((c.tc : Thread Cert.KernelAdbIdeal.nD Cert.KernelAdbIdeal.τ).loc Cert.KernelAdbIdeal.main_arg1) = m ((c.tc : Thread Cert.KernelAdbIdeal.nD Cert.KernelAdbIdeal.τ).loc Cert.KernelAdbIdeal.main_arg1)
      ∧ r.2.mem ((c.tc : Thread Cert.KernelAdbIdeal.nD Cert.KernelAdbIdeal.τ).loc Cert.KernelAdbIdeal.main_arg2) = m ((c.tc : Thread Cert.KernelAdbIdeal.nD Cert.KernelAdbIdeal.τ).loc Cert.KernelAdbIdeal.main_arg2)
      ∧ r.2.mem ((c.tc : Thread Cert.KernelAdbIdeal.nD Cert.KernelAdbIdeal.τ).loc Cert.KernelAdbIdeal.main_arg3) = m ((c.tc : Thread Cert.KernelAdbIdeal.nD Cert.KernelAdbIdeal.τ).loc Cert.KernelAdbIdeal.main_arg3))
      ∧ r.2.sem = fun _ => 0)

def quiescent_ReferenceAdbIdeal [hReferenceAdbIdeal : Cert.ReferenceAdbIdeal.Facts] : Prop :=
  ∀ (m : (ℓ : Loc Cert.ReferenceAdbIdeal.nD Cert.ReferenceAdbIdeal.τ Cert.ReferenceAdbIdeal.sig) → Buf (Elt Ideal) ℓ) (g : Dev Cert.ReferenceAdbIdeal.nD → PrngReg), Pre_ReferenceAdbIdeal m →
    θ_run (Cert.ReferenceAdbIdeal.defs (F := Ideal)) (onTc (τ := Cert.ReferenceAdbIdeal.τ) (Cert.ReferenceAdbIdeal.main (F := Ideal))) ⟨m, fun _ => 0, g⟩ (fun r => (∀ c : Dev Cert.ReferenceAdbIdeal.nD,
      r.2.mem ((c.tc : Thread Cert.ReferenceAdbIdeal.nD Cert.ReferenceAdbIdeal.τ).loc Cert.ReferenceAdbIdeal.main_arg0) = m ((c.tc : Thread Cert.ReferenceAdbIdeal.nD Cert.ReferenceAdbIdeal.τ).loc Cert.ReferenceAdbIdeal.main_arg0)
      ∧ r.2.mem ((c.tc : Thread Cert.ReferenceAdbIdeal.nD Cert.ReferenceAdbIdeal.τ).loc Cert.ReferenceAdbIdeal.main_arg1) = m ((c.tc : Thread Cert.ReferenceAdbIdeal.nD Cert.ReferenceAdbIdeal.τ).loc Cert.ReferenceAdbIdeal.main_arg1)
      ∧ r.2.mem ((c.tc : Thread Cert.ReferenceAdbIdeal.nD Cert.ReferenceAdbIdeal.τ).loc Cert.ReferenceAdbIdeal.main_arg2) = m ((c.tc : Thread Cert.ReferenceAdbIdeal.nD Cert.ReferenceAdbIdeal.τ).loc Cert.ReferenceAdbIdeal.main_arg2)
      ∧ r.2.mem ((c.tc : Thread Cert.ReferenceAdbIdeal.nD Cert.ReferenceAdbIdeal.τ).loc Cert.ReferenceAdbIdeal.main_arg3) = m ((c.tc : Thread Cert.ReferenceAdbIdeal.nD Cert.ReferenceAdbIdeal.τ).loc Cert.ReferenceAdbIdeal.main_arg3))
      ∧ r.2.sem = fun _ => 0)

def quiescent_KernelAdp [hKernelAdp : Cert.KernelAdp.Facts] : Prop :=
  ∀ (m : (ℓ : Loc Cert.KernelAdp.nD Cert.KernelAdp.τ Cert.KernelAdp.sig) → Buf (Elt Bits) ℓ) (g : Dev Cert.KernelAdp.nD → PrngReg), Pre_KernelAdp m →
    θ_run (Cert.KernelAdp.defs (F := Bits)) (onTc (τ := Cert.KernelAdp.τ) (Cert.KernelAdp.main (F := Bits))) ⟨m, fun _ => 0, g⟩ (fun r => (∀ c : Dev Cert.KernelAdp.nD,
      r.2.mem ((c.tc : Thread Cert.KernelAdp.nD Cert.KernelAdp.τ).loc Cert.KernelAdp.main_arg0) = m ((c.tc : Thread Cert.KernelAdp.nD Cert.KernelAdp.τ).loc Cert.KernelAdp.main_arg0)
      ∧ r.2.mem ((c.tc : Thread Cert.KernelAdp.nD Cert.KernelAdp.τ).loc Cert.KernelAdp.main_arg1) = m ((c.tc : Thread Cert.KernelAdp.nD Cert.KernelAdp.τ).loc Cert.KernelAdp.main_arg1)
      ∧ r.2.mem ((c.tc : Thread Cert.KernelAdp.nD Cert.KernelAdp.τ).loc Cert.KernelAdp.main_arg2) = m ((c.tc : Thread Cert.KernelAdp.nD Cert.KernelAdp.τ).loc Cert.KernelAdp.main_arg2)
      ∧ r.2.mem ((c.tc : Thread Cert.KernelAdp.nD Cert.KernelAdp.τ).loc Cert.KernelAdp.main_arg3) = m ((c.tc : Thread Cert.KernelAdp.nD Cert.KernelAdp.τ).loc Cert.KernelAdp.main_arg3))
      ∧ r.2.sem = fun _ => 0)

def quiescent_KernelAdpIdeal [hKernelAdpIdeal : Cert.KernelAdpIdeal.Facts] : Prop :=
  ∀ (m : (ℓ : Loc Cert.KernelAdpIdeal.nD Cert.KernelAdpIdeal.τ Cert.KernelAdpIdeal.sig) → Buf (Elt Ideal) ℓ) (g : Dev Cert.KernelAdpIdeal.nD → PrngReg), Pre_KernelAdpIdeal m →
    θ_run (Cert.KernelAdpIdeal.defs (F := Ideal)) (onTc (τ := Cert.KernelAdpIdeal.τ) (Cert.KernelAdpIdeal.main (F := Ideal))) ⟨m, fun _ => 0, g⟩ (fun r => (∀ c : Dev Cert.KernelAdpIdeal.nD,
      r.2.mem ((c.tc : Thread Cert.KernelAdpIdeal.nD Cert.KernelAdpIdeal.τ).loc Cert.KernelAdpIdeal.main_arg0) = m ((c.tc : Thread Cert.KernelAdpIdeal.nD Cert.KernelAdpIdeal.τ).loc Cert.KernelAdpIdeal.main_arg0)
      ∧ r.2.mem ((c.tc : Thread Cert.KernelAdpIdeal.nD Cert.KernelAdpIdeal.τ).loc Cert.KernelAdpIdeal.main_arg1) = m ((c.tc : Thread Cert.KernelAdpIdeal.nD Cert.KernelAdpIdeal.τ).loc Cert.KernelAdpIdeal.main_arg1)
      ∧ r.2.mem ((c.tc : Thread Cert.KernelAdpIdeal.nD Cert.KernelAdpIdeal.τ).loc Cert.KernelAdpIdeal.main_arg2) = m ((c.tc : Thread Cert.KernelAdpIdeal.nD Cert.KernelAdpIdeal.τ).loc Cert.KernelAdpIdeal.main_arg2)
      ∧ r.2.mem ((c.tc : Thread Cert.KernelAdpIdeal.nD Cert.KernelAdpIdeal.τ).loc Cert.KernelAdpIdeal.main_arg3) = m ((c.tc : Thread Cert.KernelAdpIdeal.nD Cert.KernelAdpIdeal.τ).loc Cert.KernelAdpIdeal.main_arg3))
      ∧ r.2.sem = fun _ => 0)

def quiescent_ReferenceAdpIdeal [hReferenceAdpIdeal : Cert.ReferenceAdpIdeal.Facts] : Prop :=
  ∀ (m : (ℓ : Loc Cert.ReferenceAdpIdeal.nD Cert.ReferenceAdpIdeal.τ Cert.ReferenceAdpIdeal.sig) → Buf (Elt Ideal) ℓ) (g : Dev Cert.ReferenceAdpIdeal.nD → PrngReg), Pre_ReferenceAdpIdeal m →
    θ_run (Cert.ReferenceAdpIdeal.defs (F := Ideal)) (onTc (τ := Cert.ReferenceAdpIdeal.τ) (Cert.ReferenceAdpIdeal.main (F := Ideal))) ⟨m, fun _ => 0, g⟩ (fun r => (∀ c : Dev Cert.ReferenceAdpIdeal.nD,
      r.2.mem ((c.tc : Thread Cert.ReferenceAdpIdeal.nD Cert.ReferenceAdpIdeal.τ).loc Cert.ReferenceAdpIdeal.main_arg0) = m ((c.tc : Thread Cert.ReferenceAdpIdeal.nD Cert.ReferenceAdpIdeal.τ).loc Cert.ReferenceAdpIdeal.main_arg0)
      ∧ r.2.mem ((c.tc : Thread Cert.ReferenceAdpIdeal.nD Cert.ReferenceAdpIdeal.τ).loc Cert.ReferenceAdpIdeal.main_arg1) = m ((c.tc : Thread Cert.ReferenceAdpIdeal.nD Cert.ReferenceAdpIdeal.τ).loc Cert.ReferenceAdpIdeal.main_arg1)
      ∧ r.2.mem ((c.tc : Thread Cert.ReferenceAdpIdeal.nD Cert.ReferenceAdpIdeal.τ).loc Cert.ReferenceAdpIdeal.main_arg2) = m ((c.tc : Thread Cert.ReferenceAdpIdeal.nD Cert.ReferenceAdpIdeal.τ).loc Cert.ReferenceAdpIdeal.main_arg2)
      ∧ r.2.mem ((c.tc : Thread Cert.ReferenceAdpIdeal.nD Cert.ReferenceAdpIdeal.τ).loc Cert.ReferenceAdpIdeal.main_arg3) = m ((c.tc : Thread Cert.ReferenceAdpIdeal.nD Cert.ReferenceAdpIdeal.τ).loc Cert.ReferenceAdpIdeal.main_arg3))
      ∧ r.2.sem = fun _ => 0)

def quiescent_KernelAds [hKernelAds : Cert.KernelAds.Facts] : Prop :=
  ∀ (m : (ℓ : Loc Cert.KernelAds.nD Cert.KernelAds.τ Cert.KernelAds.sig) → Buf (Elt Bits) ℓ) (g : Dev Cert.KernelAds.nD → PrngReg), Pre_KernelAds m →
    θ_run (Cert.KernelAds.defs (F := Bits)) (onTc (τ := Cert.KernelAds.τ) (Cert.KernelAds.main (F := Bits))) ⟨m, fun _ => 0, g⟩ (fun r => (∀ c : Dev Cert.KernelAds.nD,
      r.2.mem ((c.tc : Thread Cert.KernelAds.nD Cert.KernelAds.τ).loc Cert.KernelAds.main_arg0) = m ((c.tc : Thread Cert.KernelAds.nD Cert.KernelAds.τ).loc Cert.KernelAds.main_arg0)
      ∧ r.2.mem ((c.tc : Thread Cert.KernelAds.nD Cert.KernelAds.τ).loc Cert.KernelAds.main_arg1) = m ((c.tc : Thread Cert.KernelAds.nD Cert.KernelAds.τ).loc Cert.KernelAds.main_arg1)
      ∧ r.2.mem ((c.tc : Thread Cert.KernelAds.nD Cert.KernelAds.τ).loc Cert.KernelAds.main_arg2) = m ((c.tc : Thread Cert.KernelAds.nD Cert.KernelAds.τ).loc Cert.KernelAds.main_arg2)
      ∧ r.2.mem ((c.tc : Thread Cert.KernelAds.nD Cert.KernelAds.τ).loc Cert.KernelAds.main_arg3) = m ((c.tc : Thread Cert.KernelAds.nD Cert.KernelAds.τ).loc Cert.KernelAds.main_arg3))
      ∧ r.2.sem = fun _ => 0)

def quiescent_KernelAdsIdeal [hKernelAdsIdeal : Cert.KernelAdsIdeal.Facts] : Prop :=
  ∀ (m : (ℓ : Loc Cert.KernelAdsIdeal.nD Cert.KernelAdsIdeal.τ Cert.KernelAdsIdeal.sig) → Buf (Elt Ideal) ℓ) (g : Dev Cert.KernelAdsIdeal.nD → PrngReg), Pre_KernelAdsIdeal m →
    θ_run (Cert.KernelAdsIdeal.defs (F := Ideal)) (onTc (τ := Cert.KernelAdsIdeal.τ) (Cert.KernelAdsIdeal.main (F := Ideal))) ⟨m, fun _ => 0, g⟩ (fun r => (∀ c : Dev Cert.KernelAdsIdeal.nD,
      r.2.mem ((c.tc : Thread Cert.KernelAdsIdeal.nD Cert.KernelAdsIdeal.τ).loc Cert.KernelAdsIdeal.main_arg0) = m ((c.tc : Thread Cert.KernelAdsIdeal.nD Cert.KernelAdsIdeal.τ).loc Cert.KernelAdsIdeal.main_arg0)
      ∧ r.2.mem ((c.tc : Thread Cert.KernelAdsIdeal.nD Cert.KernelAdsIdeal.τ).loc Cert.KernelAdsIdeal.main_arg1) = m ((c.tc : Thread Cert.KernelAdsIdeal.nD Cert.KernelAdsIdeal.τ).loc Cert.KernelAdsIdeal.main_arg1)
      ∧ r.2.mem ((c.tc : Thread Cert.KernelAdsIdeal.nD Cert.KernelAdsIdeal.τ).loc Cert.KernelAdsIdeal.main_arg2) = m ((c.tc : Thread Cert.KernelAdsIdeal.nD Cert.KernelAdsIdeal.τ).loc Cert.KernelAdsIdeal.main_arg2)
      ∧ r.2.mem ((c.tc : Thread Cert.KernelAdsIdeal.nD Cert.KernelAdsIdeal.τ).loc Cert.KernelAdsIdeal.main_arg3) = m ((c.tc : Thread Cert.KernelAdsIdeal.nD Cert.KernelAdsIdeal.τ).loc Cert.KernelAdsIdeal.main_arg3))
      ∧ r.2.sem = fun _ => 0)

def quiescent_ReferenceAdsIdeal [hReferenceAdsIdeal : Cert.ReferenceAdsIdeal.Facts] : Prop :=
  ∀ (m : (ℓ : Loc Cert.ReferenceAdsIdeal.nD Cert.ReferenceAdsIdeal.τ Cert.ReferenceAdsIdeal.sig) → Buf (Elt Ideal) ℓ) (g : Dev Cert.ReferenceAdsIdeal.nD → PrngReg), Pre_ReferenceAdsIdeal m →
    θ_run (Cert.ReferenceAdsIdeal.defs (F := Ideal)) (onTc (τ := Cert.ReferenceAdsIdeal.τ) (Cert.ReferenceAdsIdeal.main (F := Ideal))) ⟨m, fun _ => 0, g⟩ (fun r => (∀ c : Dev Cert.ReferenceAdsIdeal.nD,
      r.2.mem ((c.tc : Thread Cert.ReferenceAdsIdeal.nD Cert.ReferenceAdsIdeal.τ).loc Cert.ReferenceAdsIdeal.main_arg0) = m ((c.tc : Thread Cert.ReferenceAdsIdeal.nD Cert.ReferenceAdsIdeal.τ).loc Cert.ReferenceAdsIdeal.main_arg0)
      ∧ r.2.mem ((c.tc : Thread Cert.ReferenceAdsIdeal.nD Cert.ReferenceAdsIdeal.τ).loc Cert.ReferenceAdsIdeal.main_arg1) = m ((c.tc : Thread Cert.ReferenceAdsIdeal.nD Cert.ReferenceAdsIdeal.τ).loc Cert.ReferenceAdsIdeal.main_arg1)
      ∧ r.2.mem ((c.tc : Thread Cert.ReferenceAdsIdeal.nD Cert.ReferenceAdsIdeal.τ).loc Cert.ReferenceAdsIdeal.main_arg2) = m ((c.tc : Thread Cert.ReferenceAdsIdeal.nD Cert.ReferenceAdsIdeal.τ).loc Cert.ReferenceAdsIdeal.main_arg2)
      ∧ r.2.mem ((c.tc : Thread Cert.ReferenceAdsIdeal.nD Cert.ReferenceAdsIdeal.τ).loc Cert.ReferenceAdsIdeal.main_arg3) = m ((c.tc : Thread Cert.ReferenceAdsIdeal.nD Cert.ReferenceAdsIdeal.τ).loc Cert.ReferenceAdsIdeal.main_arg3))
      ∧ r.2.sem = fun _ => 0)

def quiescent_KernelAdu [hKernelAdu : Cert.KernelAdu.Facts] : Prop :=
  ∀ (m : (ℓ : Loc Cert.KernelAdu.nD Cert.KernelAdu.τ Cert.KernelAdu.sig) → Buf (Elt Bits) ℓ) (g : Dev Cert.KernelAdu.nD → PrngReg), Pre_KernelAdu m →
    θ_run (Cert.KernelAdu.defs (F := Bits)) (onTc (τ := Cert.KernelAdu.τ) (Cert.KernelAdu.main (F := Bits))) ⟨m, fun _ => 0, g⟩ (fun r => (∀ c : Dev Cert.KernelAdu.nD,
      r.2.mem ((c.tc : Thread Cert.KernelAdu.nD Cert.KernelAdu.τ).loc Cert.KernelAdu.main_arg0) = m ((c.tc : Thread Cert.KernelAdu.nD Cert.KernelAdu.τ).loc Cert.KernelAdu.main_arg0)
      ∧ r.2.mem ((c.tc : Thread Cert.KernelAdu.nD Cert.KernelAdu.τ).loc Cert.KernelAdu.main_arg1) = m ((c.tc : Thread Cert.KernelAdu.nD Cert.KernelAdu.τ).loc Cert.KernelAdu.main_arg1)
      ∧ r.2.mem ((c.tc : Thread Cert.KernelAdu.nD Cert.KernelAdu.τ).loc Cert.KernelAdu.main_arg2) = m ((c.tc : Thread Cert.KernelAdu.nD Cert.KernelAdu.τ).loc Cert.KernelAdu.main_arg2)
      ∧ r.2.mem ((c.tc : Thread Cert.KernelAdu.nD Cert.KernelAdu.τ).loc Cert.KernelAdu.main_arg3) = m ((c.tc : Thread Cert.KernelAdu.nD Cert.KernelAdu.τ).loc Cert.KernelAdu.main_arg3)
      ∧ r.2.mem ((c.tc : Thread Cert.KernelAdu.nD Cert.KernelAdu.τ).loc Cert.KernelAdu.main_arg4) = m ((c.tc : Thread Cert.KernelAdu.nD Cert.KernelAdu.τ).loc Cert.KernelAdu.main_arg4))
      ∧ r.2.sem = fun _ => 0)

def quiescent_KernelAduIdeal [hKernelAduIdeal : Cert.KernelAduIdeal.Facts] : Prop :=
  ∀ (m : (ℓ : Loc Cert.KernelAduIdeal.nD Cert.KernelAduIdeal.τ Cert.KernelAduIdeal.sig) → Buf (Elt Ideal) ℓ) (g : Dev Cert.KernelAduIdeal.nD → PrngReg), Pre_KernelAduIdeal m →
    θ_run (Cert.KernelAduIdeal.defs (F := Ideal)) (onTc (τ := Cert.KernelAduIdeal.τ) (Cert.KernelAduIdeal.main (F := Ideal))) ⟨m, fun _ => 0, g⟩ (fun r => (∀ c : Dev Cert.KernelAduIdeal.nD,
      r.2.mem ((c.tc : Thread Cert.KernelAduIdeal.nD Cert.KernelAduIdeal.τ).loc Cert.KernelAduIdeal.main_arg0) = m ((c.tc : Thread Cert.KernelAduIdeal.nD Cert.KernelAduIdeal.τ).loc Cert.KernelAduIdeal.main_arg0)
      ∧ r.2.mem ((c.tc : Thread Cert.KernelAduIdeal.nD Cert.KernelAduIdeal.τ).loc Cert.KernelAduIdeal.main_arg1) = m ((c.tc : Thread Cert.KernelAduIdeal.nD Cert.KernelAduIdeal.τ).loc Cert.KernelAduIdeal.main_arg1)
      ∧ r.2.mem ((c.tc : Thread Cert.KernelAduIdeal.nD Cert.KernelAduIdeal.τ).loc Cert.KernelAduIdeal.main_arg2) = m ((c.tc : Thread Cert.KernelAduIdeal.nD Cert.KernelAduIdeal.τ).loc Cert.KernelAduIdeal.main_arg2)
      ∧ r.2.mem ((c.tc : Thread Cert.KernelAduIdeal.nD Cert.KernelAduIdeal.τ).loc Cert.KernelAduIdeal.main_arg3) = m ((c.tc : Thread Cert.KernelAduIdeal.nD Cert.KernelAduIdeal.τ).loc Cert.KernelAduIdeal.main_arg3)
      ∧ r.2.mem ((c.tc : Thread Cert.KernelAduIdeal.nD Cert.KernelAduIdeal.τ).loc Cert.KernelAduIdeal.main_arg4) = m ((c.tc : Thread Cert.KernelAduIdeal.nD Cert.KernelAduIdeal.τ).loc Cert.KernelAduIdeal.main_arg4))
      ∧ r.2.sem = fun _ => 0)

def quiescent_ReferenceAduIdeal [hReferenceAduIdeal : Cert.ReferenceAduIdeal.Facts] : Prop :=
  ∀ (m : (ℓ : Loc Cert.ReferenceAduIdeal.nD Cert.ReferenceAduIdeal.τ Cert.ReferenceAduIdeal.sig) → Buf (Elt Ideal) ℓ) (g : Dev Cert.ReferenceAduIdeal.nD → PrngReg), Pre_ReferenceAduIdeal m →
    θ_run (Cert.ReferenceAduIdeal.defs (F := Ideal)) (onTc (τ := Cert.ReferenceAduIdeal.τ) (Cert.ReferenceAduIdeal.main (F := Ideal))) ⟨m, fun _ => 0, g⟩ (fun r => (∀ c : Dev Cert.ReferenceAduIdeal.nD,
      r.2.mem ((c.tc : Thread Cert.ReferenceAduIdeal.nD Cert.ReferenceAduIdeal.τ).loc Cert.ReferenceAduIdeal.main_arg0) = m ((c.tc : Thread Cert.ReferenceAduIdeal.nD Cert.ReferenceAduIdeal.τ).loc Cert.ReferenceAduIdeal.main_arg0)
      ∧ r.2.mem ((c.tc : Thread Cert.ReferenceAduIdeal.nD Cert.ReferenceAduIdeal.τ).loc Cert.ReferenceAduIdeal.main_arg1) = m ((c.tc : Thread Cert.ReferenceAduIdeal.nD Cert.ReferenceAduIdeal.τ).loc Cert.ReferenceAduIdeal.main_arg1)
      ∧ r.2.mem ((c.tc : Thread Cert.ReferenceAduIdeal.nD Cert.ReferenceAduIdeal.τ).loc Cert.ReferenceAduIdeal.main_arg2) = m ((c.tc : Thread Cert.ReferenceAduIdeal.nD Cert.ReferenceAduIdeal.τ).loc Cert.ReferenceAduIdeal.main_arg2)
      ∧ r.2.mem ((c.tc : Thread Cert.ReferenceAduIdeal.nD Cert.ReferenceAduIdeal.τ).loc Cert.ReferenceAduIdeal.main_arg3) = m ((c.tc : Thread Cert.ReferenceAduIdeal.nD Cert.ReferenceAduIdeal.τ).loc Cert.ReferenceAduIdeal.main_arg3)
      ∧ r.2.mem ((c.tc : Thread Cert.ReferenceAduIdeal.nD Cert.ReferenceAduIdeal.τ).loc Cert.ReferenceAduIdeal.main_arg4) = m ((c.tc : Thread Cert.ReferenceAduIdeal.nD Cert.ReferenceAduIdeal.τ).loc Cert.ReferenceAduIdeal.main_arg4))
      ∧ r.2.sem = fun _ => 0)

def quiescent_KernelAdf [hKernelAdf : Cert.KernelAdf.Facts] : Prop :=
  ∀ (m : (ℓ : Loc Cert.KernelAdf.nD Cert.KernelAdf.τ Cert.KernelAdf.sig) → Buf (Elt Bits) ℓ) (g : Dev Cert.KernelAdf.nD → PrngReg), Pre_KernelAdf m →
    θ_run (Cert.KernelAdf.defs (F := Bits)) (onTc (τ := Cert.KernelAdf.τ) (Cert.KernelAdf.main (F := Bits))) ⟨m, fun _ => 0, g⟩ (fun r => (∀ c : Dev Cert.KernelAdf.nD,
      r.2.mem ((c.tc : Thread Cert.KernelAdf.nD Cert.KernelAdf.τ).loc Cert.KernelAdf.main_arg0) = m ((c.tc : Thread Cert.KernelAdf.nD Cert.KernelAdf.τ).loc Cert.KernelAdf.main_arg0)
      ∧ r.2.mem ((c.tc : Thread Cert.KernelAdf.nD Cert.KernelAdf.τ).loc Cert.KernelAdf.main_arg1) = m ((c.tc : Thread Cert.KernelAdf.nD Cert.KernelAdf.τ).loc Cert.KernelAdf.main_arg1)
      ∧ r.2.mem ((c.tc : Thread Cert.KernelAdf.nD Cert.KernelAdf.τ).loc Cert.KernelAdf.main_arg2) = m ((c.tc : Thread Cert.KernelAdf.nD Cert.KernelAdf.τ).loc Cert.KernelAdf.main_arg2)
      ∧ r.2.mem ((c.tc : Thread Cert.KernelAdf.nD Cert.KernelAdf.τ).loc Cert.KernelAdf.main_arg3) = m ((c.tc : Thread Cert.KernelAdf.nD Cert.KernelAdf.τ).loc Cert.KernelAdf.main_arg3)
      ∧ r.2.mem ((c.tc : Thread Cert.KernelAdf.nD Cert.KernelAdf.τ).loc Cert.KernelAdf.main_arg4) = m ((c.tc : Thread Cert.KernelAdf.nD Cert.KernelAdf.τ).loc Cert.KernelAdf.main_arg4))
      ∧ r.2.sem = fun _ => 0)

def quiescent_KernelAdfIdeal [hKernelAdfIdeal : Cert.KernelAdfIdeal.Facts] : Prop :=
  ∀ (m : (ℓ : Loc Cert.KernelAdfIdeal.nD Cert.KernelAdfIdeal.τ Cert.KernelAdfIdeal.sig) → Buf (Elt Ideal) ℓ) (g : Dev Cert.KernelAdfIdeal.nD → PrngReg), Pre_KernelAdfIdeal m →
    θ_run (Cert.KernelAdfIdeal.defs (F := Ideal)) (onTc (τ := Cert.KernelAdfIdeal.τ) (Cert.KernelAdfIdeal.main (F := Ideal))) ⟨m, fun _ => 0, g⟩ (fun r => (∀ c : Dev Cert.KernelAdfIdeal.nD,
      r.2.mem ((c.tc : Thread Cert.KernelAdfIdeal.nD Cert.KernelAdfIdeal.τ).loc Cert.KernelAdfIdeal.main_arg0) = m ((c.tc : Thread Cert.KernelAdfIdeal.nD Cert.KernelAdfIdeal.τ).loc Cert.KernelAdfIdeal.main_arg0)
      ∧ r.2.mem ((c.tc : Thread Cert.KernelAdfIdeal.nD Cert.KernelAdfIdeal.τ).loc Cert.KernelAdfIdeal.main_arg1) = m ((c.tc : Thread Cert.KernelAdfIdeal.nD Cert.KernelAdfIdeal.τ).loc Cert.KernelAdfIdeal.main_arg1)
      ∧ r.2.mem ((c.tc : Thread Cert.KernelAdfIdeal.nD Cert.KernelAdfIdeal.τ).loc Cert.KernelAdfIdeal.main_arg2) = m ((c.tc : Thread Cert.KernelAdfIdeal.nD Cert.KernelAdfIdeal.τ).loc Cert.KernelAdfIdeal.main_arg2)
      ∧ r.2.mem ((c.tc : Thread Cert.KernelAdfIdeal.nD Cert.KernelAdfIdeal.τ).loc Cert.KernelAdfIdeal.main_arg3) = m ((c.tc : Thread Cert.KernelAdfIdeal.nD Cert.KernelAdfIdeal.τ).loc Cert.KernelAdfIdeal.main_arg3)
      ∧ r.2.mem ((c.tc : Thread Cert.KernelAdfIdeal.nD Cert.KernelAdfIdeal.τ).loc Cert.KernelAdfIdeal.main_arg4) = m ((c.tc : Thread Cert.KernelAdfIdeal.nD Cert.KernelAdfIdeal.τ).loc Cert.KernelAdfIdeal.main_arg4))
      ∧ r.2.sem = fun _ => 0)

def quiescent_ReferenceAdfIdeal [hReferenceAdfIdeal : Cert.ReferenceAdfIdeal.Facts] : Prop :=
  ∀ (m : (ℓ : Loc Cert.ReferenceAdfIdeal.nD Cert.ReferenceAdfIdeal.τ Cert.ReferenceAdfIdeal.sig) → Buf (Elt Ideal) ℓ) (g : Dev Cert.ReferenceAdfIdeal.nD → PrngReg), Pre_ReferenceAdfIdeal m →
    θ_run (Cert.ReferenceAdfIdeal.defs (F := Ideal)) (onTc (τ := Cert.ReferenceAdfIdeal.τ) (Cert.ReferenceAdfIdeal.main (F := Ideal))) ⟨m, fun _ => 0, g⟩ (fun r => (∀ c : Dev Cert.ReferenceAdfIdeal.nD,
      r.2.mem ((c.tc : Thread Cert.ReferenceAdfIdeal.nD Cert.ReferenceAdfIdeal.τ).loc Cert.ReferenceAdfIdeal.main_arg0) = m ((c.tc : Thread Cert.ReferenceAdfIdeal.nD Cert.ReferenceAdfIdeal.τ).loc Cert.ReferenceAdfIdeal.main_arg0)
      ∧ r.2.mem ((c.tc : Thread Cert.ReferenceAdfIdeal.nD Cert.ReferenceAdfIdeal.τ).loc Cert.ReferenceAdfIdeal.main_arg1) = m ((c.tc : Thread Cert.ReferenceAdfIdeal.nD Cert.ReferenceAdfIdeal.τ).loc Cert.ReferenceAdfIdeal.main_arg1)
      ∧ r.2.mem ((c.tc : Thread Cert.ReferenceAdfIdeal.nD Cert.ReferenceAdfIdeal.τ).loc Cert.ReferenceAdfIdeal.main_arg2) = m ((c.tc : Thread Cert.ReferenceAdfIdeal.nD Cert.ReferenceAdfIdeal.τ).loc Cert.ReferenceAdfIdeal.main_arg2)
      ∧ r.2.mem ((c.tc : Thread Cert.ReferenceAdfIdeal.nD Cert.ReferenceAdfIdeal.τ).loc Cert.ReferenceAdfIdeal.main_arg3) = m ((c.tc : Thread Cert.ReferenceAdfIdeal.nD Cert.ReferenceAdfIdeal.τ).loc Cert.ReferenceAdfIdeal.main_arg3)
      ∧ r.2.mem ((c.tc : Thread Cert.ReferenceAdfIdeal.nD Cert.ReferenceAdfIdeal.τ).loc Cert.ReferenceAdfIdeal.main_arg4) = m ((c.tc : Thread Cert.ReferenceAdfIdeal.nD Cert.ReferenceAdfIdeal.τ).loc Cert.ReferenceAdfIdeal.main_arg4))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def quiescent_KernelPwb [hKernelPwb : Cert.KernelPwb.Facts] : Prop :=
  ∀ (m : (ℓ : Loc Cert.KernelPwb.nD Cert.KernelPwb.τ Cert.KernelPwb.sig) → Buf (Elt Bits) ℓ) (g : Dev Cert.KernelPwb.nD → PrngReg), Pre_KernelPwb m →
    θ_run (Cert.KernelPwb.defs (F := Bits)) (onTc (τ := Cert.KernelPwb.τ) (Cert.KernelPwb.main (F := Bits))) ⟨m, fun _ => 0, g⟩ (fun r => (∀ c : Dev Cert.KernelPwb.nD,
      r.2.mem ((c.tc : Thread Cert.KernelPwb.nD Cert.KernelPwb.τ).loc Cert.KernelPwb.main_arg0) = m ((c.tc : Thread Cert.KernelPwb.nD Cert.KernelPwb.τ).loc Cert.KernelPwb.main_arg0)
      ∧ r.2.mem ((c.tc : Thread Cert.KernelPwb.nD Cert.KernelPwb.τ).loc Cert.KernelPwb.main_arg1) = m ((c.tc : Thread Cert.KernelPwb.nD Cert.KernelPwb.τ).loc Cert.KernelPwb.main_arg1)
      ∧ r.2.mem ((c.tc : Thread Cert.KernelPwb.nD Cert.KernelPwb.τ).loc Cert.KernelPwb.main_arg2) = m ((c.tc : Thread Cert.KernelPwb.nD Cert.KernelPwb.τ).loc Cert.KernelPwb.main_arg2)
      ∧ r.2.mem ((c.tc : Thread Cert.KernelPwb.nD Cert.KernelPwb.τ).loc Cert.KernelPwb.main_arg3) = m ((c.tc : Thread Cert.KernelPwb.nD Cert.KernelPwb.τ).loc Cert.KernelPwb.main_arg3)
      ∧ r.2.mem ((c.tc : Thread Cert.KernelPwb.nD Cert.KernelPwb.τ).loc Cert.KernelPwb.main_arg4) = m ((c.tc : Thread Cert.KernelPwb.nD Cert.KernelPwb.τ).loc Cert.KernelPwb.main_arg4)
      ∧ r.2.mem ((c.tc : Thread Cert.KernelPwb.nD Cert.KernelPwb.τ).loc Cert.KernelPwb.main_arg5) = m ((c.tc : Thread Cert.KernelPwb.nD Cert.KernelPwb.τ).loc Cert.KernelPwb.main_arg5)
      ∧ r.2.mem ((c.tc : Thread Cert.KernelPwb.nD Cert.KernelPwb.τ).loc Cert.KernelPwb.main_arg6) = m ((c.tc : Thread Cert.KernelPwb.nD Cert.KernelPwb.τ).loc Cert.KernelPwb.main_arg6))
      ∧ r.2.sem = fun _ => 0)

def quiescent_KernelPwbIdeal [hKernelPwbIdeal : Cert.KernelPwbIdeal.Facts] : Prop :=
  ∀ (m : (ℓ : Loc Cert.KernelPwbIdeal.nD Cert.KernelPwbIdeal.τ Cert.KernelPwbIdeal.sig) → Buf (Elt Ideal) ℓ) (g : Dev Cert.KernelPwbIdeal.nD → PrngReg), Pre_KernelPwbIdeal m →
    θ_run (Cert.KernelPwbIdeal.defs (F := Ideal)) (onTc (τ := Cert.KernelPwbIdeal.τ) (Cert.KernelPwbIdeal.main (F := Ideal))) ⟨m, fun _ => 0, g⟩ (fun r => (∀ c : Dev Cert.KernelPwbIdeal.nD,
      r.2.mem ((c.tc : Thread Cert.KernelPwbIdeal.nD Cert.KernelPwbIdeal.τ).loc Cert.KernelPwbIdeal.main_arg0) = m ((c.tc : Thread Cert.KernelPwbIdeal.nD Cert.KernelPwbIdeal.τ).loc Cert.KernelPwbIdeal.main_arg0)
      ∧ r.2.mem ((c.tc : Thread Cert.KernelPwbIdeal.nD Cert.KernelPwbIdeal.τ).loc Cert.KernelPwbIdeal.main_arg1) = m ((c.tc : Thread Cert.KernelPwbIdeal.nD Cert.KernelPwbIdeal.τ).loc Cert.KernelPwbIdeal.main_arg1)
      ∧ r.2.mem ((c.tc : Thread Cert.KernelPwbIdeal.nD Cert.KernelPwbIdeal.τ).loc Cert.KernelPwbIdeal.main_arg2) = m ((c.tc : Thread Cert.KernelPwbIdeal.nD Cert.KernelPwbIdeal.τ).loc Cert.KernelPwbIdeal.main_arg2)
      ∧ r.2.mem ((c.tc : Thread Cert.KernelPwbIdeal.nD Cert.KernelPwbIdeal.τ).loc Cert.KernelPwbIdeal.main_arg3) = m ((c.tc : Thread Cert.KernelPwbIdeal.nD Cert.KernelPwbIdeal.τ).loc Cert.KernelPwbIdeal.main_arg3)
      ∧ r.2.mem ((c.tc : Thread Cert.KernelPwbIdeal.nD Cert.KernelPwbIdeal.τ).loc Cert.KernelPwbIdeal.main_arg4) = m ((c.tc : Thread Cert.KernelPwbIdeal.nD Cert.KernelPwbIdeal.τ).loc Cert.KernelPwbIdeal.main_arg4)
      ∧ r.2.mem ((c.tc : Thread Cert.KernelPwbIdeal.nD Cert.KernelPwbIdeal.τ).loc Cert.KernelPwbIdeal.main_arg5) = m ((c.tc : Thread Cert.KernelPwbIdeal.nD Cert.KernelPwbIdeal.τ).loc Cert.KernelPwbIdeal.main_arg5)
      ∧ r.2.mem ((c.tc : Thread Cert.KernelPwbIdeal.nD Cert.KernelPwbIdeal.τ).loc Cert.KernelPwbIdeal.main_arg6) = m ((c.tc : Thread Cert.KernelPwbIdeal.nD Cert.KernelPwbIdeal.τ).loc Cert.KernelPwbIdeal.main_arg6))
      ∧ r.2.sem = fun _ => 0)

def quiescent_ReferencePwbIdeal [hReferencePwbIdeal : Cert.ReferencePwbIdeal.Facts] : Prop :=
  ∀ (m : (ℓ : Loc Cert.ReferencePwbIdeal.nD Cert.ReferencePwbIdeal.τ Cert.ReferencePwbIdeal.sig) → Buf (Elt Ideal) ℓ) (g : Dev Cert.ReferencePwbIdeal.nD → PrngReg), Pre_ReferencePwbIdeal m →
    θ_run (Cert.ReferencePwbIdeal.defs (F := Ideal)) (onTc (τ := Cert.ReferencePwbIdeal.τ) (Cert.ReferencePwbIdeal.main (F := Ideal))) ⟨m, fun _ => 0, g⟩ (fun r => (∀ c : Dev Cert.ReferencePwbIdeal.nD,
      r.2.mem ((c.tc : Thread Cert.ReferencePwbIdeal.nD Cert.ReferencePwbIdeal.τ).loc Cert.ReferencePwbIdeal.main_arg0) = m ((c.tc : Thread Cert.ReferencePwbIdeal.nD Cert.ReferencePwbIdeal.τ).loc Cert.ReferencePwbIdeal.main_arg0)
      ∧ r.2.mem ((c.tc : Thread Cert.ReferencePwbIdeal.nD Cert.ReferencePwbIdeal.τ).loc Cert.ReferencePwbIdeal.main_arg1) = m ((c.tc : Thread Cert.ReferencePwbIdeal.nD Cert.ReferencePwbIdeal.τ).loc Cert.ReferencePwbIdeal.main_arg1)
      ∧ r.2.mem ((c.tc : Thread Cert.ReferencePwbIdeal.nD Cert.ReferencePwbIdeal.τ).loc Cert.ReferencePwbIdeal.main_arg2) = m ((c.tc : Thread Cert.ReferencePwbIdeal.nD Cert.ReferencePwbIdeal.τ).loc Cert.ReferencePwbIdeal.main_arg2)
      ∧ r.2.mem ((c.tc : Thread Cert.ReferencePwbIdeal.nD Cert.ReferencePwbIdeal.τ).loc Cert.ReferencePwbIdeal.main_arg3) = m ((c.tc : Thread Cert.ReferencePwbIdeal.nD Cert.ReferencePwbIdeal.τ).loc Cert.ReferencePwbIdeal.main_arg3)
      ∧ r.2.mem ((c.tc : Thread Cert.ReferencePwbIdeal.nD Cert.ReferencePwbIdeal.τ).loc Cert.ReferencePwbIdeal.main_arg4) = m ((c.tc : Thread Cert.ReferencePwbIdeal.nD Cert.ReferencePwbIdeal.τ).loc Cert.ReferencePwbIdeal.main_arg4)
      ∧ r.2.mem ((c.tc : Thread Cert.ReferencePwbIdeal.nD Cert.ReferencePwbIdeal.τ).loc Cert.ReferencePwbIdeal.main_arg5) = m ((c.tc : Thread Cert.ReferencePwbIdeal.nD Cert.ReferencePwbIdeal.τ).loc Cert.ReferencePwbIdeal.main_arg5)
      ∧ r.2.mem ((c.tc : Thread Cert.ReferencePwbIdeal.nD Cert.ReferencePwbIdeal.τ).loc Cert.ReferencePwbIdeal.main_arg6) = m ((c.tc : Thread Cert.ReferencePwbIdeal.nD Cert.ReferencePwbIdeal.τ).loc Cert.ReferencePwbIdeal.main_arg6))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3)
      ∧ r.2.mem ((c.tc : Thread Cert.KernelHead.nD Cert.KernelHead.τ).loc Cert.KernelHead.main_arg4) = m ((c.tc : Thread Cert.KernelHead.nD Cert.KernelHead.τ).loc Cert.KernelHead.main_arg4))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
      ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4))
      ∧ r.2.sem = fun _ => 0)

def preserves_Kernel_KernelIdeal : Prop :=
  True

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)) →
    ∃ (v0 : (c : Dev Cert.KernelDhIdeal.nD) → Buf (Elt Ideal) ((c.tc : Thread Cert.KernelDhIdeal.nD Cert.KernelDhIdeal.τ).loc Cert.KernelDhIdeal.main_v0_0)) (v1 : (c : Dev Cert.KernelDhIdeal.nD) → Buf (Elt Ideal) ((c.tc : Thread Cert.KernelDhIdeal.nD Cert.KernelDhIdeal.τ).loc Cert.KernelDhIdeal.main_v0_1)) (v2 : (c : Dev Cert.KernelDhIdeal.nD) → Buf (Elt Ideal) ((c.tc : Thread Cert.KernelDhIdeal.nD Cert.KernelDhIdeal.τ).loc Cert.KernelDhIdeal.main_v0_2)) (v3 : (c : Dev Cert.KernelDhIdeal.nD) → Buf (Elt Ideal) ((c.tc : Thread Cert.KernelDhIdeal.nD Cert.KernelDhIdeal.τ).loc Cert.KernelDhIdeal.main_v0_3)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0_0) = v0 c
          ∧ r.2.mem ((c.tc : Thread Cert.KernelDhIdeal.nD Cert.KernelDhIdeal.τ).loc Cert.KernelDhIdeal.main_v0_1) = v1 c
          ∧ r.2.mem ((c.tc : Thread Cert.KernelDhIdeal.nD Cert.KernelDhIdeal.τ).loc Cert.KernelDhIdeal.main_v0_2) = v2 c
          ∧ r.2.mem ((c.tc : Thread Cert.KernelDhIdeal.nD Cert.KernelDhIdeal.τ).loc Cert.KernelDhIdeal.main_v0_3) = v3 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v41) = v0 c
          ∧ r.2.mem ((c.tc : Thread Cert.ReferenceDhIdeal.nD Cert.ReferenceDhIdeal.τ).loc Cert.ReferenceDhIdeal.main_v42) = v1 c
          ∧ r.2.mem ((c.tc : Thread Cert.ReferenceDhIdeal.nD Cert.ReferenceDhIdeal.τ).loc Cert.ReferenceDhIdeal.main_v24) = v2 c
          ∧ r.2.mem ((c.tc : Thread Cert.ReferenceDhIdeal.nD Cert.ReferenceDhIdeal.τ).loc Cert.ReferenceDhIdeal.main_v44) = v3 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4))

def preserves_KernelDwu_KernelDwuIdeal : Prop :=
  True

def algebraic_KernelDwuIdeal_ReferenceDwuIdeal [hKernelDwuIdeal : Cert.KernelDwuIdeal.Facts] [hReferenceDwuIdeal : Cert.ReferenceDwuIdeal.Facts] : Prop :=
  ∀ (m : (ℓ : Loc Cert.KernelDwuIdeal.nD Cert.KernelDwuIdeal.τ Cert.KernelDwuIdeal.sig) → Buf (Elt Ideal) ℓ) (g : Dev Cert.KernelDwuIdeal.nD → PrngReg)
    (m' : (ℓ : Loc Cert.ReferenceDwuIdeal.nD Cert.ReferenceDwuIdeal.τ Cert.ReferenceDwuIdeal.sig) → Buf (Elt Ideal) ℓ) (g' : Dev Cert.ReferenceDwuIdeal.nD → PrngReg), Pre_KernelDwuIdeal m →
    (∀ c : Dev Cert.KernelDwuIdeal.nD,
      m' ((c.tc : Thread Cert.ReferenceDwuIdeal.nD Cert.ReferenceDwuIdeal.τ).loc Cert.ReferenceDwuIdeal.main_arg0) = m ((c.tc : Thread Cert.KernelDwuIdeal.nD Cert.KernelDwuIdeal.τ).loc Cert.KernelDwuIdeal.main_arg0)
      ∧ m' ((c.tc : Thread Cert.ReferenceDwuIdeal.nD Cert.ReferenceDwuIdeal.τ).loc Cert.ReferenceDwuIdeal.main_arg1) = m ((c.tc : Thread Cert.KernelDwuIdeal.nD Cert.KernelDwuIdeal.τ).loc Cert.KernelDwuIdeal.main_arg1)) →
    ∃ (v0 : (c : Dev Cert.KernelDwuIdeal.nD) → Buf (Elt Ideal) ((c.tc : Thread Cert.KernelDwuIdeal.nD Cert.KernelDwuIdeal.τ).loc Cert.KernelDwuIdeal.main_v0)),
      θ_run (Cert.KernelDwuIdeal.defs (F := Ideal)) (onTc (τ := Cert.KernelDwuIdeal.τ) (Cert.KernelDwuIdeal.main (F := Ideal))) ⟨m, fun _ => 0, g⟩ (fun r => ∀ c : Dev Cert.KernelDwuIdeal.nD,
          r.2.mem ((c.tc : Thread Cert.KernelDwuIdeal.nD Cert.KernelDwuIdeal.τ).loc Cert.KernelDwuIdeal.main_v0) = v0 c
          ∧ r.2.mem ((c.tc : Thread Cert.KernelDwuIdeal.nD Cert.KernelDwuIdeal.τ).loc Cert.KernelDwuIdeal.main_arg0) = m ((c.tc : Thread Cert.KernelDwuIdeal.nD Cert.KernelDwuIdeal.τ).loc Cert.KernelDwuIdeal.main_arg0)
          ∧ r.2.mem ((c.tc : Thread Cert.KernelDwuIdeal.nD Cert.KernelDwuIdeal.τ).loc Cert.KernelDwuIdeal.main_arg1) = m ((c.tc : Thread Cert.KernelDwuIdeal.nD Cert.KernelDwuIdeal.τ).loc Cert.KernelDwuIdeal.main_arg1))
      ∧ θ_run (Cert.ReferenceDwuIdeal.defs (F := Ideal)) (onTc (τ := Cert.ReferenceDwuIdeal.τ) (Cert.ReferenceDwuIdeal.main (F := Ideal))) ⟨m', fun _ => 0, g'⟩ (fun r => ∀ c : Dev Cert.ReferenceDwuIdeal.nD,
          r.2.mem ((c.tc : Thread Cert.ReferenceDwuIdeal.nD Cert.ReferenceDwuIdeal.τ).loc Cert.ReferenceDwuIdeal.main_v9) = v0 c
          ∧ r.2.mem ((c.tc : Thread Cert.ReferenceDwuIdeal.nD Cert.ReferenceDwuIdeal.τ).loc Cert.ReferenceDwuIdeal.main_arg0) = m' ((c.tc : Thread Cert.ReferenceDwuIdeal.nD Cert.ReferenceDwuIdeal.τ).loc Cert.ReferenceDwuIdeal.main_arg0)
          ∧ r.2.mem ((c.tc : Thread Cert.ReferenceDwuIdeal.nD Cert.ReferenceDwuIdeal.τ).loc Cert.ReferenceDwuIdeal.main_arg1) = m' ((c.tc : Thread Cert.ReferenceDwuIdeal.nD Cert.ReferenceDwuIdeal.τ).loc Cert.ReferenceDwuIdeal.main_arg1))

def preserves_KernelDg_KernelDgIdeal : Prop :=
  True

def algebraic_KernelDgIdeal_ReferenceDgIdeal [hKernelDgIdeal : Cert.KernelDgIdeal.Facts] [hReferenceDgIdeal : Cert.ReferenceDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg)
    (m' : (ℓ : Loc Cert.ReferenceDgIdeal.nD Cert.ReferenceDgIdeal.τ Cert.ReferenceDgIdeal.sig) → Buf (Elt Ideal) ℓ) (g' : Dev Cert.ReferenceDgIdeal.nD → PrngReg), Pre_KernelDgIdeal m →
    (∀ c : Dev Cert.KernelDgIdeal.nD,
      m' ((c.tc : Thread Cert.ReferenceDgIdeal.nD Cert.ReferenceDgIdeal.τ).loc Cert.ReferenceDgIdeal.main_arg0) = m ((c.tc : Thread Cert.KernelDgIdeal.nD Cert.KernelDgIdeal.τ).loc Cert.KernelDgIdeal.main_arg0)
      ∧ m' ((c.tc : Thread Cert.ReferenceDgIdeal.nD Cert.ReferenceDgIdeal.τ).loc Cert.ReferenceDgIdeal.main_arg1) = m ((c.tc : Thread Cert.KernelDgIdeal.nD Cert.KernelDgIdeal.τ).loc Cert.KernelDgIdeal.main_arg1)) →
    ∃ (v0 : (c : Dev Cert.KernelDgIdeal.nD) → Buf (Elt Ideal) ((c.tc : Thread Cert.KernelDgIdeal.nD Cert.KernelDgIdeal.τ).loc Cert.KernelDgIdeal.main_v0)),
      θ_run (Cert.KernelDgIdeal.defs (F := Ideal)) (onTc (τ := Cert.KernelDgIdeal.τ) (Cert.KernelDgIdeal.main (F := Ideal))) ⟨m, fun _ => 0, g⟩ (fun r => ∀ c : Dev Cert.KernelDgIdeal.nD,
          r.2.mem ((c.tc : Thread Cert.KernelDgIdeal.nD Cert.KernelDgIdeal.τ).loc Cert.KernelDgIdeal.main_v0) = v0 c
          ∧ r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
          ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1))
      ∧ θ_run (Cert.ReferenceDgIdeal.defs (F := Ideal)) (onTc (τ := Cert.ReferenceDgIdeal.τ) (Cert.ReferenceDgIdeal.main (F := Ideal))) ⟨m', fun _ => 0, g'⟩ (fun r => ∀ c : Dev Cert.ReferenceDgIdeal.nD,
          r.2.mem ((c.tc : Thread Cert.ReferenceDgIdeal.nD Cert.ReferenceDgIdeal.τ).loc Cert.ReferenceDgIdeal.main_v5) = v0 c
          ∧ r.2.mem ((c.tc : Thread Cert.ReferenceDgIdeal.nD Cert.ReferenceDgIdeal.τ).loc Cert.ReferenceDgIdeal.main_arg0) = m' ((c.tc : Thread Cert.ReferenceDgIdeal.nD Cert.ReferenceDgIdeal.τ).loc Cert.ReferenceDgIdeal.main_arg0)
          ∧ r.2.mem ((c.tc : Thread Cert.ReferenceDgIdeal.nD Cert.ReferenceDgIdeal.τ).loc Cert.ReferenceDgIdeal.main_arg1) = m' ((c.tc : Thread Cert.ReferenceDgIdeal.nD Cert.ReferenceDgIdeal.τ).loc Cert.ReferenceDgIdeal.main_arg1))

def preserves_KernelDwd_KernelDwdIdeal : Prop :=
  True

def algebraic_KernelDwdIdeal_ReferenceDwdIdeal [hKernelDwdIdeal : Cert.KernelDwdIdeal.Facts] [hReferenceDwdIdeal : Cert.ReferenceDwdIdeal.Facts] : Prop :=
  ∀ (m : (ℓ : Loc Cert.KernelDwdIdeal.nD Cert.KernelDwdIdeal.τ Cert.KernelDwdIdeal.sig) → Buf (Elt Ideal) ℓ) (g : Dev Cert.KernelDwdIdeal.nD → PrngReg)
    (m' : (ℓ : Loc Cert.ReferenceDwdIdeal.nD Cert.ReferenceDwdIdeal.τ Cert.ReferenceDwdIdeal.sig) → Buf (Elt Ideal) ℓ) (g' : Dev Cert.ReferenceDwdIdeal.nD → PrngReg), Pre_KernelDwdIdeal m →
    (∀ c : Dev Cert.KernelDwdIdeal.nD,
      m' ((c.tc : Thread Cert.ReferenceDwdIdeal.nD Cert.ReferenceDwdIdeal.τ).loc Cert.ReferenceDwdIdeal.main_arg0) = m ((c.tc : Thread Cert.KernelDwdIdeal.nD Cert.KernelDwdIdeal.τ).loc Cert.KernelDwdIdeal.main_arg0)
      ∧ m' ((c.tc : Thread Cert.ReferenceDwdIdeal.nD Cert.ReferenceDwdIdeal.τ).loc Cert.ReferenceDwdIdeal.main_arg1) = m ((c.tc : Thread Cert.KernelDwdIdeal.nD Cert.KernelDwdIdeal.τ).loc Cert.KernelDwdIdeal.main_arg1)) →
    ∃ (v0 : (c : Dev Cert.KernelDwdIdeal.nD) → Buf (Elt Ideal) ((c.tc : Thread Cert.KernelDwdIdeal.nD Cert.KernelDwdIdeal.τ).loc Cert.KernelDwdIdeal.main_v0)),
      θ_run (Cert.KernelDwdIdeal.defs (F := Ideal)) (onTc (τ := Cert.KernelDwdIdeal.τ) (Cert.KernelDwdIdeal.main (F := Ideal))) ⟨m, fun _ => 0, g⟩ (fun r => ∀ c : Dev Cert.KernelDwdIdeal.nD,
          r.2.mem ((c.tc : Thread Cert.KernelDwdIdeal.nD Cert.KernelDwdIdeal.τ).loc Cert.KernelDwdIdeal.main_v0) = v0 c
          ∧ r.2.mem ((c.tc : Thread Cert.KernelDwdIdeal.nD Cert.KernelDwdIdeal.τ).loc Cert.KernelDwdIdeal.main_arg0) = m ((c.tc : Thread Cert.KernelDwdIdeal.nD Cert.KernelDwdIdeal.τ).loc Cert.KernelDwdIdeal.main_arg0)
          ∧ r.2.mem ((c.tc : Thread Cert.KernelDwdIdeal.nD Cert.KernelDwdIdeal.τ).loc Cert.KernelDwdIdeal.main_arg1) = m ((c.tc : Thread Cert.KernelDwdIdeal.nD Cert.KernelDwdIdeal.τ).loc Cert.KernelDwdIdeal.main_arg1))
      ∧ θ_run (Cert.ReferenceDwdIdeal.defs (F := Ideal)) (onTc (τ := Cert.ReferenceDwdIdeal.τ) (Cert.ReferenceDwdIdeal.main (F := Ideal))) ⟨m', fun _ => 0, g'⟩ (fun r => ∀ c : Dev Cert.ReferenceDwdIdeal.nD,
          r.2.mem ((c.tc : Thread Cert.ReferenceDwdIdeal.nD Cert.ReferenceDwdIdeal.τ).loc Cert.ReferenceDwdIdeal.main_v6) = v0 c
          ∧ r.2.mem ((c.tc : Thread Cert.ReferenceDwdIdeal.nD Cert.ReferenceDwdIdeal.τ).loc Cert.ReferenceDwdIdeal.main_arg0) = m' ((c.tc : Thread Cert.ReferenceDwdIdeal.nD Cert.ReferenceDwdIdeal.τ).loc Cert.ReferenceDwdIdeal.main_arg0)
          ∧ r.2.mem ((c.tc : Thread Cert.ReferenceDwdIdeal.nD Cert.ReferenceDwdIdeal.τ).loc Cert.ReferenceDwdIdeal.main_arg1) = m' ((c.tc : Thread Cert.ReferenceDwdIdeal.nD Cert.ReferenceDwdIdeal.τ).loc Cert.ReferenceDwdIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)) →
    ∃ (v0 : (c : Dev Cert.KernelDxIdeal.nD) → Buf (Elt Ideal) ((c.tc : Thread Cert.KernelDxIdeal.nD Cert.KernelDxIdeal.τ).loc Cert.KernelDxIdeal.main_v0_0)) (v1 : (c : Dev Cert.KernelDxIdeal.nD) → Buf (Elt Ideal) ((c.tc : Thread Cert.KernelDxIdeal.nD Cert.KernelDxIdeal.τ).loc Cert.KernelDxIdeal.main_v0_1)) (v2 : (c : Dev Cert.KernelDxIdeal.nD) → Buf (Elt Ideal) ((c.tc : Thread Cert.KernelDxIdeal.nD Cert.KernelDxIdeal.τ).loc Cert.KernelDxIdeal.main_v0_2)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0_0) = v0 c
          ∧ r.2.mem ((c.tc : Thread Cert.KernelDxIdeal.nD Cert.KernelDxIdeal.τ).loc Cert.KernelDxIdeal.main_v0_1) = v1 c
          ∧ r.2.mem ((c.tc : Thread Cert.KernelDxIdeal.nD Cert.KernelDxIdeal.τ).loc Cert.KernelDxIdeal.main_v0_2) = v2 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v40) = v0 c
          ∧ r.2.mem ((c.tc : Thread Cert.ReferenceDxIdeal.nD Cert.ReferenceDxIdeal.τ).loc Cert.ReferenceDxIdeal.main_v23) = v1 c
          ∧ r.2.mem ((c.tc : Thread Cert.ReferenceDxIdeal.nD Cert.ReferenceDxIdeal.τ).loc Cert.ReferenceDxIdeal.main_v42) = v2 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4))

def preserves_KernelDwa_KernelDwaIdeal : Prop :=
  True

def algebraic_KernelDwaIdeal_ReferenceDwaIdeal [hKernelDwaIdeal : Cert.KernelDwaIdeal.Facts] [hReferenceDwaIdeal : Cert.ReferenceDwaIdeal.Facts] : Prop :=
  ∀ (m : (ℓ : Loc Cert.KernelDwaIdeal.nD Cert.KernelDwaIdeal.τ Cert.KernelDwaIdeal.sig) → Buf (Elt Ideal) ℓ) (g : Dev Cert.KernelDwaIdeal.nD → PrngReg)
    (m' : (ℓ : Loc Cert.ReferenceDwaIdeal.nD Cert.ReferenceDwaIdeal.τ Cert.ReferenceDwaIdeal.sig) → Buf (Elt Ideal) ℓ) (g' : Dev Cert.ReferenceDwaIdeal.nD → PrngReg), Pre_KernelDwaIdeal m →
    (∀ c : Dev Cert.KernelDwaIdeal.nD,
      m' ((c.tc : Thread Cert.ReferenceDwaIdeal.nD Cert.ReferenceDwaIdeal.τ).loc Cert.ReferenceDwaIdeal.main_arg0) = m ((c.tc : Thread Cert.KernelDwaIdeal.nD Cert.KernelDwaIdeal.τ).loc Cert.KernelDwaIdeal.main_arg0)
      ∧ m' ((c.tc : Thread Cert.ReferenceDwaIdeal.nD Cert.ReferenceDwaIdeal.τ).loc Cert.ReferenceDwaIdeal.main_arg1) = m ((c.tc : Thread Cert.KernelDwaIdeal.nD Cert.KernelDwaIdeal.τ).loc Cert.KernelDwaIdeal.main_arg1)) →
    ∃ (v0 : (c : Dev Cert.KernelDwaIdeal.nD) → Buf (Elt Ideal) ((c.tc : Thread Cert.KernelDwaIdeal.nD Cert.KernelDwaIdeal.τ).loc Cert.KernelDwaIdeal.main_v0)),
      θ_run (Cert.KernelDwaIdeal.defs (F := Ideal)) (onTc (τ := Cert.KernelDwaIdeal.τ) (Cert.KernelDwaIdeal.main (F := Ideal))) ⟨m, fun _ => 0, g⟩ (fun r => ∀ c : Dev Cert.KernelDwaIdeal.nD,
          r.2.mem ((c.tc : Thread Cert.KernelDwaIdeal.nD Cert.KernelDwaIdeal.τ).loc Cert.KernelDwaIdeal.main_v0) = v0 c
          ∧ r.2.mem ((c.tc : Thread Cert.KernelDwaIdeal.nD Cert.KernelDwaIdeal.τ).loc Cert.KernelDwaIdeal.main_arg0) = m ((c.tc : Thread Cert.KernelDwaIdeal.nD Cert.KernelDwaIdeal.τ).loc Cert.KernelDwaIdeal.main_arg0)
          ∧ r.2.mem ((c.tc : Thread Cert.KernelDwaIdeal.nD Cert.KernelDwaIdeal.τ).loc Cert.KernelDwaIdeal.main_arg1) = m ((c.tc : Thread Cert.KernelDwaIdeal.nD Cert.KernelDwaIdeal.τ).loc Cert.KernelDwaIdeal.main_arg1))
      ∧ θ_run (Cert.ReferenceDwaIdeal.defs (F := Ideal)) (onTc (τ := Cert.ReferenceDwaIdeal.τ) (Cert.ReferenceDwaIdeal.main (F := Ideal))) ⟨m', fun _ => 0, g'⟩ (fun r => ∀ c : Dev Cert.ReferenceDwaIdeal.nD,
          r.2.mem ((c.tc : Thread Cert.ReferenceDwaIdeal.nD Cert.ReferenceDwaIdeal.τ).loc Cert.ReferenceDwaIdeal.main_v8) = v0 c
          ∧ r.2.mem ((c.tc : Thread Cert.ReferenceDwaIdeal.nD Cert.ReferenceDwaIdeal.τ).loc Cert.ReferenceDwaIdeal.main_arg0) = m' ((c.tc : Thread Cert.ReferenceDwaIdeal.nD Cert.ReferenceDwaIdeal.τ).loc Cert.ReferenceDwaIdeal.main_arg0)
          ∧ r.2.mem ((c.tc : Thread Cert.ReferenceDwaIdeal.nD Cert.ReferenceDwaIdeal.τ).loc Cert.ReferenceDwaIdeal.main_arg1) = m' ((c.tc : Thread Cert.ReferenceDwaIdeal.nD Cert.ReferenceDwaIdeal.τ).loc Cert.ReferenceDwaIdeal.main_arg1))

def preserves_KernelDwb_KernelDwbIdeal : Prop :=
  True

def algebraic_KernelDwbIdeal_ReferenceDwbIdeal [hKernelDwbIdeal : Cert.KernelDwbIdeal.Facts] [hReferenceDwbIdeal : Cert.ReferenceDwbIdeal.Facts] : Prop :=
  ∀ (m : (ℓ : Loc Cert.KernelDwbIdeal.nD Cert.KernelDwbIdeal.τ Cert.KernelDwbIdeal.sig) → Buf (Elt Ideal) ℓ) (g : Dev Cert.KernelDwbIdeal.nD → PrngReg)
    (m' : (ℓ : Loc Cert.ReferenceDwbIdeal.nD Cert.ReferenceDwbIdeal.τ Cert.ReferenceDwbIdeal.sig) → Buf (Elt Ideal) ℓ) (g' : Dev Cert.ReferenceDwbIdeal.nD → PrngReg), Pre_KernelDwbIdeal m →
    (∀ c : Dev Cert.KernelDwbIdeal.nD,
      m' ((c.tc : Thread Cert.ReferenceDwbIdeal.nD Cert.ReferenceDwbIdeal.τ).loc Cert.ReferenceDwbIdeal.main_arg0) = m ((c.tc : Thread Cert.KernelDwbIdeal.nD Cert.KernelDwbIdeal.τ).loc Cert.KernelDwbIdeal.main_arg0)
      ∧ m' ((c.tc : Thread Cert.ReferenceDwbIdeal.nD Cert.ReferenceDwbIdeal.τ).loc Cert.ReferenceDwbIdeal.main_arg1) = m ((c.tc : Thread Cert.KernelDwbIdeal.nD Cert.KernelDwbIdeal.τ).loc Cert.KernelDwbIdeal.main_arg1)) →
    ∃ (v0 : (c : Dev Cert.KernelDwbIdeal.nD) → Buf (Elt Ideal) ((c.tc : Thread Cert.KernelDwbIdeal.nD Cert.KernelDwbIdeal.τ).loc Cert.KernelDwbIdeal.main_v0)),
      θ_run (Cert.KernelDwbIdeal.defs (F := Ideal)) (onTc (τ := Cert.KernelDwbIdeal.τ) (Cert.KernelDwbIdeal.main (F := Ideal))) ⟨m, fun _ => 0, g⟩ (fun r => ∀ c : Dev Cert.KernelDwbIdeal.nD,
          r.2.mem ((c.tc : Thread Cert.KernelDwbIdeal.nD Cert.KernelDwbIdeal.τ).loc Cert.KernelDwbIdeal.main_v0) = v0 c
          ∧ r.2.mem ((c.tc : Thread Cert.KernelDwbIdeal.nD Cert.KernelDwbIdeal.τ).loc Cert.KernelDwbIdeal.main_arg0) = m ((c.tc : Thread Cert.KernelDwbIdeal.nD Cert.KernelDwbIdeal.τ).loc Cert.KernelDwbIdeal.main_arg0)
          ∧ r.2.mem ((c.tc : Thread Cert.KernelDwbIdeal.nD Cert.KernelDwbIdeal.τ).loc Cert.KernelDwbIdeal.main_arg1) = m ((c.tc : Thread Cert.KernelDwbIdeal.nD Cert.KernelDwbIdeal.τ).loc Cert.KernelDwbIdeal.main_arg1))
      ∧ θ_run (Cert.ReferenceDwbIdeal.defs (F := Ideal)) (onTc (τ := Cert.ReferenceDwbIdeal.τ) (Cert.ReferenceDwbIdeal.main (F := Ideal))) ⟨m', fun _ => 0, g'⟩ (fun r => ∀ c : Dev Cert.ReferenceDwbIdeal.nD,
          r.2.mem ((c.tc : Thread Cert.ReferenceDwbIdeal.nD Cert.ReferenceDwbIdeal.τ).loc Cert.ReferenceDwbIdeal.main_v6) = v0 c
          ∧ r.2.mem ((c.tc : Thread Cert.ReferenceDwbIdeal.nD Cert.ReferenceDwbIdeal.τ).loc Cert.ReferenceDwbIdeal.main_arg0) = m' ((c.tc : Thread Cert.ReferenceDwbIdeal.nD Cert.ReferenceDwbIdeal.τ).loc Cert.ReferenceDwbIdeal.main_arg0)
          ∧ r.2.mem ((c.tc : Thread Cert.ReferenceDwbIdeal.nD Cert.ReferenceDwbIdeal.τ).loc Cert.ReferenceDwbIdeal.main_arg1) = m' ((c.tc : Thread Cert.ReferenceDwbIdeal.nD Cert.ReferenceDwbIdeal.τ).loc Cert.ReferenceDwbIdeal.main_arg1))

def preserves_KernelPw_KernelPwIdeal : Prop :=
  True

def algebraic_KernelPwIdeal_ReferencePwIdeal [hKernelPwIdeal : Cert.KernelPwIdeal.Facts] [hReferencePwIdeal : Cert.ReferencePwIdeal.Facts] : Prop :=
  ∀ (m : (ℓ : Loc Cert.KernelPwIdeal.nD Cert.KernelPwIdeal.τ Cert.KernelPwIdeal.sig) → Buf (Elt Ideal) ℓ) (g : Dev Cert.KernelPwIdeal.nD → PrngReg)
    (m' : (ℓ : Loc Cert.ReferencePwIdeal.nD Cert.ReferencePwIdeal.τ Cert.ReferencePwIdeal.sig) → Buf (Elt Ideal) ℓ) (g' : Dev Cert.ReferencePwIdeal.nD → PrngReg), Pre_KernelPwIdeal m →
    (∀ c : Dev Cert.KernelPwIdeal.nD,
      m' ((c.tc : Thread Cert.ReferencePwIdeal.nD Cert.ReferencePwIdeal.τ).loc Cert.ReferencePwIdeal.main_arg0) = m ((c.tc : Thread Cert.KernelPwIdeal.nD Cert.KernelPwIdeal.τ).loc Cert.KernelPwIdeal.main_arg0)
      ∧ m' ((c.tc : Thread Cert.ReferencePwIdeal.nD Cert.ReferencePwIdeal.τ).loc Cert.ReferencePwIdeal.main_arg1) = m ((c.tc : Thread Cert.KernelPwIdeal.nD Cert.KernelPwIdeal.τ).loc Cert.KernelPwIdeal.main_arg1)
      ∧ m' ((c.tc : Thread Cert.ReferencePwIdeal.nD Cert.ReferencePwIdeal.τ).loc Cert.ReferencePwIdeal.main_arg2) = m ((c.tc : Thread Cert.KernelPwIdeal.nD Cert.KernelPwIdeal.τ).loc Cert.KernelPwIdeal.main_arg2)) →
    ∃ (v0 : (c : Dev Cert.KernelPwIdeal.nD) → Buf (Elt Ideal) ((c.tc : Thread Cert.KernelPwIdeal.nD Cert.KernelPwIdeal.τ).loc Cert.KernelPwIdeal.main_v0)),
      θ_run (Cert.KernelPwIdeal.defs (F := Ideal)) (onTc (τ := Cert.KernelPwIdeal.τ) (Cert.KernelPwIdeal.main (F := Ideal))) ⟨m, fun _ => 0, g⟩ (fun r => ∀ c : Dev Cert.KernelPwIdeal.nD,
          r.2.mem ((c.tc : Thread Cert.KernelPwIdeal.nD Cert.KernelPwIdeal.τ).loc Cert.KernelPwIdeal.main_v0) = v0 c
          ∧ r.2.mem ((c.tc : Thread Cert.KernelPwIdeal.nD Cert.KernelPwIdeal.τ).loc Cert.KernelPwIdeal.main_arg0) = m ((c.tc : Thread Cert.KernelPwIdeal.nD Cert.KernelPwIdeal.τ).loc Cert.KernelPwIdeal.main_arg0)
          ∧ r.2.mem ((c.tc : Thread Cert.KernelPwIdeal.nD Cert.KernelPwIdeal.τ).loc Cert.KernelPwIdeal.main_arg1) = m ((c.tc : Thread Cert.KernelPwIdeal.nD Cert.KernelPwIdeal.τ).loc Cert.KernelPwIdeal.main_arg1)
          ∧ r.2.mem ((c.tc : Thread Cert.KernelPwIdeal.nD Cert.KernelPwIdeal.τ).loc Cert.KernelPwIdeal.main_arg2) = m ((c.tc : Thread Cert.KernelPwIdeal.nD Cert.KernelPwIdeal.τ).loc Cert.KernelPwIdeal.main_arg2))
      ∧ θ_run (Cert.ReferencePwIdeal.defs (F := Ideal)) (onTc (τ := Cert.ReferencePwIdeal.τ) (Cert.ReferencePwIdeal.main (F := Ideal))) ⟨m', fun _ => 0, g'⟩ (fun r => ∀ c : Dev Cert.ReferencePwIdeal.nD,
          r.2.mem ((c.tc : Thread Cert.ReferencePwIdeal.nD Cert.ReferencePwIdeal.τ).loc Cert.ReferencePwIdeal.main_v10) = v0 c
          ∧ r.2.mem ((c.tc : Thread Cert.ReferencePwIdeal.nD Cert.ReferencePwIdeal.τ).loc Cert.ReferencePwIdeal.main_arg0) = m' ((c.tc : Thread Cert.ReferencePwIdeal.nD Cert.ReferencePwIdeal.τ).loc Cert.ReferencePwIdeal.main_arg0)
          ∧ r.2.mem ((c.tc : Thread Cert.ReferencePwIdeal.nD Cert.ReferencePwIdeal.τ).loc Cert.ReferencePwIdeal.main_arg1) = m' ((c.tc : Thread Cert.ReferencePwIdeal.nD Cert.ReferencePwIdeal.τ).loc Cert.ReferencePwIdeal.main_arg1)
          ∧ r.2.mem ((c.tc : Thread Cert.ReferencePwIdeal.nD Cert.ReferencePwIdeal.τ).loc Cert.ReferencePwIdeal.main_arg2) = m' ((c.tc : Thread Cert.ReferencePwIdeal.nD Cert.ReferencePwIdeal.τ).loc Cert.ReferencePwIdeal.main_arg2))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v0)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v0) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v0) = v0 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)) →
    ∃ (v0 : (c : Dev Cert.KernelAdaIdeal.nD) → Buf (Elt Ideal) ((c.tc : Thread Cert.KernelAdaIdeal.nD Cert.KernelAdaIdeal.τ).loc Cert.KernelAdaIdeal.main_v0_0)) (v1 : (c : Dev Cert.KernelAdaIdeal.nD) → Buf (Elt Ideal) ((c.tc : Thread Cert.KernelAdaIdeal.nD Cert.KernelAdaIdeal.τ).loc Cert.KernelAdaIdeal.main_v0_1)) (v2 : (c : Dev Cert.KernelAdaIdeal.nD) → Buf (Elt Ideal) ((c.tc : Thread Cert.KernelAdaIdeal.nD Cert.KernelAdaIdeal.τ).loc Cert.KernelAdaIdeal.main_v0_2)) (v3 : (c : Dev Cert.KernelAdaIdeal.nD) → Buf (Elt Ideal) ((c.tc : Thread Cert.KernelAdaIdeal.nD Cert.KernelAdaIdeal.τ).loc Cert.KernelAdaIdeal.main_v0_3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0_0) = v0 c
          ∧ r.2.mem ((c.tc : Thread Cert.KernelAdaIdeal.nD Cert.KernelAdaIdeal.τ).loc Cert.KernelAdaIdeal.main_v0_1) = v1 c
          ∧ r.2.mem ((c.tc : Thread Cert.KernelAdaIdeal.nD Cert.KernelAdaIdeal.τ).loc Cert.KernelAdaIdeal.main_v0_2) = v2 c
          ∧ r.2.mem ((c.tc : Thread Cert.KernelAdaIdeal.nD Cert.KernelAdaIdeal.τ).loc Cert.KernelAdaIdeal.main_v0_3) = v3 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v2) = v0 c
          ∧ r.2.mem ((c.tc : Thread Cert.ReferenceAdaIdeal.nD Cert.ReferenceAdaIdeal.τ).loc Cert.ReferenceAdaIdeal.main_v26) = v1 c
          ∧ r.2.mem ((c.tc : Thread Cert.ReferenceAdaIdeal.nD Cert.ReferenceAdaIdeal.τ).loc Cert.ReferenceAdaIdeal.main_v7) = v2 c
          ∧ r.2.mem ((c.tc : Thread Cert.ReferenceAdaIdeal.nD Cert.ReferenceAdaIdeal.τ).loc Cert.ReferenceAdaIdeal.main_v13) = v3 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3))

def preserves_KernelAdb_KernelAdbIdeal : Prop :=
  True

def algebraic_KernelAdbIdeal_ReferenceAdbIdeal [hKernelAdbIdeal : Cert.KernelAdbIdeal.Facts] [hReferenceAdbIdeal : Cert.ReferenceAdbIdeal.Facts] : Prop :=
  ∀ (m : (ℓ : Loc Cert.KernelAdbIdeal.nD Cert.KernelAdbIdeal.τ Cert.KernelAdbIdeal.sig) → Buf (Elt Ideal) ℓ) (g : Dev Cert.KernelAdbIdeal.nD → PrngReg)
    (m' : (ℓ : Loc Cert.ReferenceAdbIdeal.nD Cert.ReferenceAdbIdeal.τ Cert.ReferenceAdbIdeal.sig) → Buf (Elt Ideal) ℓ) (g' : Dev Cert.ReferenceAdbIdeal.nD → PrngReg), Pre_KernelAdbIdeal m →
    (∀ c : Dev Cert.KernelAdbIdeal.nD,
      m' ((c.tc : Thread Cert.ReferenceAdbIdeal.nD Cert.ReferenceAdbIdeal.τ).loc Cert.ReferenceAdbIdeal.main_arg0) = m ((c.tc : Thread Cert.KernelAdbIdeal.nD Cert.KernelAdbIdeal.τ).loc Cert.KernelAdbIdeal.main_arg0)
      ∧ m' ((c.tc : Thread Cert.ReferenceAdbIdeal.nD Cert.ReferenceAdbIdeal.τ).loc Cert.ReferenceAdbIdeal.main_arg1) = m ((c.tc : Thread Cert.KernelAdbIdeal.nD Cert.KernelAdbIdeal.τ).loc Cert.KernelAdbIdeal.main_arg1)
      ∧ m' ((c.tc : Thread Cert.ReferenceAdbIdeal.nD Cert.ReferenceAdbIdeal.τ).loc Cert.ReferenceAdbIdeal.main_arg2) = m ((c.tc : Thread Cert.KernelAdbIdeal.nD Cert.KernelAdbIdeal.τ).loc Cert.KernelAdbIdeal.main_arg2)
      ∧ m' ((c.tc : Thread Cert.ReferenceAdbIdeal.nD Cert.ReferenceAdbIdeal.τ).loc Cert.ReferenceAdbIdeal.main_arg3) = m ((c.tc : Thread Cert.KernelAdbIdeal.nD Cert.KernelAdbIdeal.τ).loc Cert.KernelAdbIdeal.main_arg3)) →
    ∃ (v0 : (c : Dev Cert.KernelAdbIdeal.nD) → Buf (Elt Ideal) ((c.tc : Thread Cert.KernelAdbIdeal.nD Cert.KernelAdbIdeal.τ).loc Cert.KernelAdbIdeal.main_v0_0)) (v1 : (c : Dev Cert.KernelAdbIdeal.nD) → Buf (Elt Ideal) ((c.tc : Thread Cert.KernelAdbIdeal.nD Cert.KernelAdbIdeal.τ).loc Cert.KernelAdbIdeal.main_v0_1)) (v2 : (c : Dev Cert.KernelAdbIdeal.nD) → Buf (Elt Ideal) ((c.tc : Thread Cert.KernelAdbIdeal.nD Cert.KernelAdbIdeal.τ).loc Cert.KernelAdbIdeal.main_v0_2)) (v3 : (c : Dev Cert.KernelAdbIdeal.nD) → Buf (Elt Ideal) ((c.tc : Thread Cert.KernelAdbIdeal.nD Cert.KernelAdbIdeal.τ).loc Cert.KernelAdbIdeal.main_v0_3)),
      θ_run (Cert.KernelAdbIdeal.defs (F := Ideal)) (onTc (τ := Cert.KernelAdbIdeal.τ) (Cert.KernelAdbIdeal.main (F := Ideal))) ⟨m, fun _ => 0, g⟩ (fun r => ∀ c : Dev Cert.KernelAdbIdeal.nD,
          r.2.mem ((c.tc : Thread Cert.KernelAdbIdeal.nD Cert.KernelAdbIdeal.τ).loc Cert.KernelAdbIdeal.main_v0_0) = v0 c
          ∧ r.2.mem ((c.tc : Thread Cert.KernelAdbIdeal.nD Cert.KernelAdbIdeal.τ).loc Cert.KernelAdbIdeal.main_v0_1) = v1 c
          ∧ r.2.mem ((c.tc : Thread Cert.KernelAdbIdeal.nD Cert.KernelAdbIdeal.τ).loc Cert.KernelAdbIdeal.main_v0_2) = v2 c
          ∧ r.2.mem ((c.tc : Thread Cert.KernelAdbIdeal.nD Cert.KernelAdbIdeal.τ).loc Cert.KernelAdbIdeal.main_v0_3) = v3 c
          ∧ r.2.mem ((c.tc : Thread Cert.KernelAdbIdeal.nD Cert.KernelAdbIdeal.τ).loc Cert.KernelAdbIdeal.main_arg0) = m ((c.tc : Thread Cert.KernelAdbIdeal.nD Cert.KernelAdbIdeal.τ).loc Cert.KernelAdbIdeal.main_arg0)
          ∧ r.2.mem ((c.tc : Thread Cert.KernelAdbIdeal.nD Cert.KernelAdbIdeal.τ).loc Cert.KernelAdbIdeal.main_arg1) = m ((c.tc : Thread Cert.KernelAdbIdeal.nD Cert.KernelAdbIdeal.τ).loc Cert.KernelAdbIdeal.main_arg1)
          ∧ r.2.mem ((c.tc : Thread Cert.KernelAdbIdeal.nD Cert.KernelAdbIdeal.τ).loc Cert.KernelAdbIdeal.main_arg2) = m ((c.tc : Thread Cert.KernelAdbIdeal.nD Cert.KernelAdbIdeal.τ).loc Cert.KernelAdbIdeal.main_arg2)
          ∧ r.2.mem ((c.tc : Thread Cert.KernelAdbIdeal.nD Cert.KernelAdbIdeal.τ).loc Cert.KernelAdbIdeal.main_arg3) = m ((c.tc : Thread Cert.KernelAdbIdeal.nD Cert.KernelAdbIdeal.τ).loc Cert.KernelAdbIdeal.main_arg3))
      ∧ θ_run (Cert.ReferenceAdbIdeal.defs (F := Ideal)) (onTc (τ := Cert.ReferenceAdbIdeal.τ) (Cert.ReferenceAdbIdeal.main (F := Ideal))) ⟨m', fun _ => 0, g'⟩ (fun r => ∀ c : Dev Cert.ReferenceAdbIdeal.nD,
          r.2.mem ((c.tc : Thread Cert.ReferenceAdbIdeal.nD Cert.ReferenceAdbIdeal.τ).loc Cert.ReferenceAdbIdeal.main_v2) = v0 c
          ∧ r.2.mem ((c.tc : Thread Cert.ReferenceAdbIdeal.nD Cert.ReferenceAdbIdeal.τ).loc Cert.ReferenceAdbIdeal.main_v26) = v1 c
          ∧ r.2.mem ((c.tc : Thread Cert.ReferenceAdbIdeal.nD Cert.ReferenceAdbIdeal.τ).loc Cert.ReferenceAdbIdeal.main_v7) = v2 c
          ∧ r.2.mem ((c.tc : Thread Cert.ReferenceAdbIdeal.nD Cert.ReferenceAdbIdeal.τ).loc Cert.ReferenceAdbIdeal.main_v13) = v3 c
          ∧ r.2.mem ((c.tc : Thread Cert.ReferenceAdbIdeal.nD Cert.ReferenceAdbIdeal.τ).loc Cert.ReferenceAdbIdeal.main_arg0) = m' ((c.tc : Thread Cert.ReferenceAdbIdeal.nD Cert.ReferenceAdbIdeal.τ).loc Cert.ReferenceAdbIdeal.main_arg0)
          ∧ r.2.mem ((c.tc : Thread Cert.ReferenceAdbIdeal.nD Cert.ReferenceAdbIdeal.τ).loc Cert.ReferenceAdbIdeal.main_arg1) = m' ((c.tc : Thread Cert.ReferenceAdbIdeal.nD Cert.ReferenceAdbIdeal.τ).loc Cert.ReferenceAdbIdeal.main_arg1)
          ∧ r.2.mem ((c.tc : Thread Cert.ReferenceAdbIdeal.nD Cert.ReferenceAdbIdeal.τ).loc Cert.ReferenceAdbIdeal.main_arg2) = m' ((c.tc : Thread Cert.ReferenceAdbIdeal.nD Cert.ReferenceAdbIdeal.τ).loc Cert.ReferenceAdbIdeal.main_arg2)
          ∧ r.2.mem ((c.tc : Thread Cert.ReferenceAdbIdeal.nD Cert.ReferenceAdbIdeal.τ).loc Cert.ReferenceAdbIdeal.main_arg3) = m' ((c.tc : Thread Cert.ReferenceAdbIdeal.nD Cert.ReferenceAdbIdeal.τ).loc Cert.ReferenceAdbIdeal.main_arg3))

def preserves_KernelAdp_KernelAdpIdeal : Prop :=
  True

def algebraic_KernelAdpIdeal_ReferenceAdpIdeal [hKernelAdpIdeal : Cert.KernelAdpIdeal.Facts] [hReferenceAdpIdeal : Cert.ReferenceAdpIdeal.Facts] : Prop :=
  ∀ (m : (ℓ : Loc Cert.KernelAdpIdeal.nD Cert.KernelAdpIdeal.τ Cert.KernelAdpIdeal.sig) → Buf (Elt Ideal) ℓ) (g : Dev Cert.KernelAdpIdeal.nD → PrngReg)
    (m' : (ℓ : Loc Cert.ReferenceAdpIdeal.nD Cert.ReferenceAdpIdeal.τ Cert.ReferenceAdpIdeal.sig) → Buf (Elt Ideal) ℓ) (g' : Dev Cert.ReferenceAdpIdeal.nD → PrngReg), Pre_KernelAdpIdeal m →
    (∀ c : Dev Cert.KernelAdpIdeal.nD,
      m' ((c.tc : Thread Cert.ReferenceAdpIdeal.nD Cert.ReferenceAdpIdeal.τ).loc Cert.ReferenceAdpIdeal.main_arg0) = m ((c.tc : Thread Cert.KernelAdpIdeal.nD Cert.KernelAdpIdeal.τ).loc Cert.KernelAdpIdeal.main_arg0)
      ∧ m' ((c.tc : Thread Cert.ReferenceAdpIdeal.nD Cert.ReferenceAdpIdeal.τ).loc Cert.ReferenceAdpIdeal.main_arg1) = m ((c.tc : Thread Cert.KernelAdpIdeal.nD Cert.KernelAdpIdeal.τ).loc Cert.KernelAdpIdeal.main_arg1)
      ∧ m' ((c.tc : Thread Cert.ReferenceAdpIdeal.nD Cert.ReferenceAdpIdeal.τ).loc Cert.ReferenceAdpIdeal.main_arg2) = m ((c.tc : Thread Cert.KernelAdpIdeal.nD Cert.KernelAdpIdeal.τ).loc Cert.KernelAdpIdeal.main_arg2)
      ∧ m' ((c.tc : Thread Cert.ReferenceAdpIdeal.nD Cert.ReferenceAdpIdeal.τ).loc Cert.ReferenceAdpIdeal.main_arg3) = m ((c.tc : Thread Cert.KernelAdpIdeal.nD Cert.KernelAdpIdeal.τ).loc Cert.KernelAdpIdeal.main_arg3)) →
    ∃ (v0 : (c : Dev Cert.KernelAdpIdeal.nD) → Buf (Elt Ideal) ((c.tc : Thread Cert.KernelAdpIdeal.nD Cert.KernelAdpIdeal.τ).loc Cert.KernelAdpIdeal.main_v0_0)) (v1 : (c : Dev Cert.KernelAdpIdeal.nD) → Buf (Elt Ideal) ((c.tc : Thread Cert.KernelAdpIdeal.nD Cert.KernelAdpIdeal.τ).loc Cert.KernelAdpIdeal.main_v0_1)) (v2 : (c : Dev Cert.KernelAdpIdeal.nD) → Buf (Elt Ideal) ((c.tc : Thread Cert.KernelAdpIdeal.nD Cert.KernelAdpIdeal.τ).loc Cert.KernelAdpIdeal.main_v0_2)) (v3 : (c : Dev Cert.KernelAdpIdeal.nD) → Buf (Elt Ideal) ((c.tc : Thread Cert.KernelAdpIdeal.nD Cert.KernelAdpIdeal.τ).loc Cert.KernelAdpIdeal.main_v0_3)),
      θ_run (Cert.KernelAdpIdeal.defs (F := Ideal)) (onTc (τ := Cert.KernelAdpIdeal.τ) (Cert.KernelAdpIdeal.main (F := Ideal))) ⟨m, fun _ => 0, g⟩ (fun r => ∀ c : Dev Cert.KernelAdpIdeal.nD,
          r.2.mem ((c.tc : Thread Cert.KernelAdpIdeal.nD Cert.KernelAdpIdeal.τ).loc Cert.KernelAdpIdeal.main_v0_0) = v0 c
          ∧ r.2.mem ((c.tc : Thread Cert.KernelAdpIdeal.nD Cert.KernelAdpIdeal.τ).loc Cert.KernelAdpIdeal.main_v0_1) = v1 c
          ∧ r.2.mem ((c.tc : Thread Cert.KernelAdpIdeal.nD Cert.KernelAdpIdeal.τ).loc Cert.KernelAdpIdeal.main_v0_2) = v2 c
          ∧ r.2.mem ((c.tc : Thread Cert.KernelAdpIdeal.nD Cert.KernelAdpIdeal.τ).loc Cert.KernelAdpIdeal.main_v0_3) = v3 c
          ∧ r.2.mem ((c.tc : Thread Cert.KernelAdpIdeal.nD Cert.KernelAdpIdeal.τ).loc Cert.KernelAdpIdeal.main_arg0) = m ((c.tc : Thread Cert.KernelAdpIdeal.nD Cert.KernelAdpIdeal.τ).loc Cert.KernelAdpIdeal.main_arg0)
          ∧ r.2.mem ((c.tc : Thread Cert.KernelAdpIdeal.nD Cert.KernelAdpIdeal.τ).loc Cert.KernelAdpIdeal.main_arg1) = m ((c.tc : Thread Cert.KernelAdpIdeal.nD Cert.KernelAdpIdeal.τ).loc Cert.KernelAdpIdeal.main_arg1)
          ∧ r.2.mem ((c.tc : Thread Cert.KernelAdpIdeal.nD Cert.KernelAdpIdeal.τ).loc Cert.KernelAdpIdeal.main_arg2) = m ((c.tc : Thread Cert.KernelAdpIdeal.nD Cert.KernelAdpIdeal.τ).loc Cert.KernelAdpIdeal.main_arg2)
          ∧ r.2.mem ((c.tc : Thread Cert.KernelAdpIdeal.nD Cert.KernelAdpIdeal.τ).loc Cert.KernelAdpIdeal.main_arg3) = m ((c.tc : Thread Cert.KernelAdpIdeal.nD Cert.KernelAdpIdeal.τ).loc Cert.KernelAdpIdeal.main_arg3))
      ∧ θ_run (Cert.ReferenceAdpIdeal.defs (F := Ideal)) (onTc (τ := Cert.ReferenceAdpIdeal.τ) (Cert.ReferenceAdpIdeal.main (F := Ideal))) ⟨m', fun _ => 0, g'⟩ (fun r => ∀ c : Dev Cert.ReferenceAdpIdeal.nD,
          r.2.mem ((c.tc : Thread Cert.ReferenceAdpIdeal.nD Cert.ReferenceAdpIdeal.τ).loc Cert.ReferenceAdpIdeal.main_v2) = v0 c
          ∧ r.2.mem ((c.tc : Thread Cert.ReferenceAdpIdeal.nD Cert.ReferenceAdpIdeal.τ).loc Cert.ReferenceAdpIdeal.main_v26) = v1 c
          ∧ r.2.mem ((c.tc : Thread Cert.ReferenceAdpIdeal.nD Cert.ReferenceAdpIdeal.τ).loc Cert.ReferenceAdpIdeal.main_v7) = v2 c
          ∧ r.2.mem ((c.tc : Thread Cert.ReferenceAdpIdeal.nD Cert.ReferenceAdpIdeal.τ).loc Cert.ReferenceAdpIdeal.main_v13) = v3 c
          ∧ r.2.mem ((c.tc : Thread Cert.ReferenceAdpIdeal.nD Cert.ReferenceAdpIdeal.τ).loc Cert.ReferenceAdpIdeal.main_arg0) = m' ((c.tc : Thread Cert.ReferenceAdpIdeal.nD Cert.ReferenceAdpIdeal.τ).loc Cert.ReferenceAdpIdeal.main_arg0)
          ∧ r.2.mem ((c.tc : Thread Cert.ReferenceAdpIdeal.nD Cert.ReferenceAdpIdeal.τ).loc Cert.ReferenceAdpIdeal.main_arg1) = m' ((c.tc : Thread Cert.ReferenceAdpIdeal.nD Cert.ReferenceAdpIdeal.τ).loc Cert.ReferenceAdpIdeal.main_arg1)
          ∧ r.2.mem ((c.tc : Thread Cert.ReferenceAdpIdeal.nD Cert.ReferenceAdpIdeal.τ).loc Cert.ReferenceAdpIdeal.main_arg2) = m' ((c.tc : Thread Cert.ReferenceAdpIdeal.nD Cert.ReferenceAdpIdeal.τ).loc Cert.ReferenceAdpIdeal.main_arg2)
          ∧ r.2.mem ((c.tc : Thread Cert.ReferenceAdpIdeal.nD Cert.ReferenceAdpIdeal.τ).loc Cert.ReferenceAdpIdeal.main_arg3) = m' ((c.tc : Thread Cert.ReferenceAdpIdeal.nD Cert.ReferenceAdpIdeal.τ).loc Cert.ReferenceAdpIdeal.main_arg3))

def preserves_KernelAds_KernelAdsIdeal : Prop :=
  True

def algebraic_KernelAdsIdeal_ReferenceAdsIdeal [hKernelAdsIdeal : Cert.KernelAdsIdeal.Facts] [hReferenceAdsIdeal : Cert.ReferenceAdsIdeal.Facts] : Prop :=
  ∀ (m : (ℓ : Loc Cert.KernelAdsIdeal.nD Cert.KernelAdsIdeal.τ Cert.KernelAdsIdeal.sig) → Buf (Elt Ideal) ℓ) (g : Dev Cert.KernelAdsIdeal.nD → PrngReg)
    (m' : (ℓ : Loc Cert.ReferenceAdsIdeal.nD Cert.ReferenceAdsIdeal.τ Cert.ReferenceAdsIdeal.sig) → Buf (Elt Ideal) ℓ) (g' : Dev Cert.ReferenceAdsIdeal.nD → PrngReg), Pre_KernelAdsIdeal m →
    (∀ c : Dev Cert.KernelAdsIdeal.nD,
      m' ((c.tc : Thread Cert.ReferenceAdsIdeal.nD Cert.ReferenceAdsIdeal.τ).loc Cert.ReferenceAdsIdeal.main_arg0) = m ((c.tc : Thread Cert.KernelAdsIdeal.nD Cert.KernelAdsIdeal.τ).loc Cert.KernelAdsIdeal.main_arg0)
      ∧ m' ((c.tc : Thread Cert.ReferenceAdsIdeal.nD Cert.ReferenceAdsIdeal.τ).loc Cert.ReferenceAdsIdeal.main_arg1) = m ((c.tc : Thread Cert.KernelAdsIdeal.nD Cert.KernelAdsIdeal.τ).loc Cert.KernelAdsIdeal.main_arg1)
      ∧ m' ((c.tc : Thread Cert.ReferenceAdsIdeal.nD Cert.ReferenceAdsIdeal.τ).loc Cert.ReferenceAdsIdeal.main_arg2) = m ((c.tc : Thread Cert.KernelAdsIdeal.nD Cert.KernelAdsIdeal.τ).loc Cert.KernelAdsIdeal.main_arg2)
      ∧ m' ((c.tc : Thread Cert.ReferenceAdsIdeal.nD Cert.ReferenceAdsIdeal.τ).loc Cert.ReferenceAdsIdeal.main_arg3) = m ((c.tc : Thread Cert.KernelAdsIdeal.nD Cert.KernelAdsIdeal.τ).loc Cert.KernelAdsIdeal.main_arg3)) →
    ∃ (v0 : (c : Dev Cert.KernelAdsIdeal.nD) → Buf (Elt Ideal) ((c.tc : Thread Cert.KernelAdsIdeal.nD Cert.KernelAdsIdeal.τ).loc Cert.KernelAdsIdeal.main_v0_0)) (v1 : (c : Dev Cert.KernelAdsIdeal.nD) → Buf (Elt Ideal) ((c.tc : Thread Cert.KernelAdsIdeal.nD Cert.KernelAdsIdeal.τ).loc Cert.KernelAdsIdeal.main_v0_1)) (v2 : (c : Dev Cert.KernelAdsIdeal.nD) → Buf (Elt Ideal) ((c.tc : Thread Cert.KernelAdsIdeal.nD Cert.KernelAdsIdeal.τ).loc Cert.KernelAdsIdeal.main_v0_2)) (v3 : (c : Dev Cert.KernelAdsIdeal.nD) → Buf (Elt Ideal) ((c.tc : Thread Cert.KernelAdsIdeal.nD Cert.KernelAdsIdeal.τ).loc Cert.KernelAdsIdeal.main_v0_3)),
      θ_run (Cert.KernelAdsIdeal.defs (F := Ideal)) (onTc (τ := Cert.KernelAdsIdeal.τ) (Cert.KernelAdsIdeal.main (F := Ideal))) ⟨m, fun _ => 0, g⟩ (fun r => ∀ c : Dev Cert.KernelAdsIdeal.nD,
          r.2.mem ((c.tc : Thread Cert.KernelAdsIdeal.nD Cert.KernelAdsIdeal.τ).loc Cert.KernelAdsIdeal.main_v0_0) = v0 c
          ∧ r.2.mem ((c.tc : Thread Cert.KernelAdsIdeal.nD Cert.KernelAdsIdeal.τ).loc Cert.KernelAdsIdeal.main_v0_1) = v1 c
          ∧ r.2.mem ((c.tc : Thread Cert.KernelAdsIdeal.nD Cert.KernelAdsIdeal.τ).loc Cert.KernelAdsIdeal.main_v0_2) = v2 c
          ∧ r.2.mem ((c.tc : Thread Cert.KernelAdsIdeal.nD Cert.KernelAdsIdeal.τ).loc Cert.KernelAdsIdeal.main_v0_3) = v3 c
          ∧ r.2.mem ((c.tc : Thread Cert.KernelAdsIdeal.nD Cert.KernelAdsIdeal.τ).loc Cert.KernelAdsIdeal.main_arg0) = m ((c.tc : Thread Cert.KernelAdsIdeal.nD Cert.KernelAdsIdeal.τ).loc Cert.KernelAdsIdeal.main_arg0)
          ∧ r.2.mem ((c.tc : Thread Cert.KernelAdsIdeal.nD Cert.KernelAdsIdeal.τ).loc Cert.KernelAdsIdeal.main_arg1) = m ((c.tc : Thread Cert.KernelAdsIdeal.nD Cert.KernelAdsIdeal.τ).loc Cert.KernelAdsIdeal.main_arg1)
          ∧ r.2.mem ((c.tc : Thread Cert.KernelAdsIdeal.nD Cert.KernelAdsIdeal.τ).loc Cert.KernelAdsIdeal.main_arg2) = m ((c.tc : Thread Cert.KernelAdsIdeal.nD Cert.KernelAdsIdeal.τ).loc Cert.KernelAdsIdeal.main_arg2)
          ∧ r.2.mem ((c.tc : Thread Cert.KernelAdsIdeal.nD Cert.KernelAdsIdeal.τ).loc Cert.KernelAdsIdeal.main_arg3) = m ((c.tc : Thread Cert.KernelAdsIdeal.nD Cert.KernelAdsIdeal.τ).loc Cert.KernelAdsIdeal.main_arg3))
      ∧ θ_run (Cert.ReferenceAdsIdeal.defs (F := Ideal)) (onTc (τ := Cert.ReferenceAdsIdeal.τ) (Cert.ReferenceAdsIdeal.main (F := Ideal))) ⟨m', fun _ => 0, g'⟩ (fun r => ∀ c : Dev Cert.ReferenceAdsIdeal.nD,
          r.2.mem ((c.tc : Thread Cert.ReferenceAdsIdeal.nD Cert.ReferenceAdsIdeal.τ).loc Cert.ReferenceAdsIdeal.main_arg0) = v0 c
          ∧ r.2.mem ((c.tc : Thread Cert.ReferenceAdsIdeal.nD Cert.ReferenceAdsIdeal.τ).loc Cert.ReferenceAdsIdeal.main_v23) = v1 c
          ∧ r.2.mem ((c.tc : Thread Cert.ReferenceAdsIdeal.nD Cert.ReferenceAdsIdeal.τ).loc Cert.ReferenceAdsIdeal.main_v4) = v2 c
          ∧ r.2.mem ((c.tc : Thread Cert.ReferenceAdsIdeal.nD Cert.ReferenceAdsIdeal.τ).loc Cert.ReferenceAdsIdeal.main_v10) = v3 c
          ∧ r.2.mem ((c.tc : Thread Cert.ReferenceAdsIdeal.nD Cert.ReferenceAdsIdeal.τ).loc Cert.ReferenceAdsIdeal.main_arg0) = m' ((c.tc : Thread Cert.ReferenceAdsIdeal.nD Cert.ReferenceAdsIdeal.τ).loc Cert.ReferenceAdsIdeal.main_arg0)
          ∧ r.2.mem ((c.tc : Thread Cert.ReferenceAdsIdeal.nD Cert.ReferenceAdsIdeal.τ).loc Cert.ReferenceAdsIdeal.main_arg1) = m' ((c.tc : Thread Cert.ReferenceAdsIdeal.nD Cert.ReferenceAdsIdeal.τ).loc Cert.ReferenceAdsIdeal.main_arg1)
          ∧ r.2.mem ((c.tc : Thread Cert.ReferenceAdsIdeal.nD Cert.ReferenceAdsIdeal.τ).loc Cert.ReferenceAdsIdeal.main_arg2) = m' ((c.tc : Thread Cert.ReferenceAdsIdeal.nD Cert.ReferenceAdsIdeal.τ).loc Cert.ReferenceAdsIdeal.main_arg2)
          ∧ r.2.mem ((c.tc : Thread Cert.ReferenceAdsIdeal.nD Cert.ReferenceAdsIdeal.τ).loc Cert.ReferenceAdsIdeal.main_arg3) = m' ((c.tc : Thread Cert.ReferenceAdsIdeal.nD Cert.ReferenceAdsIdeal.τ).loc Cert.ReferenceAdsIdeal.main_arg3))

def preserves_KernelAdu_KernelAduIdeal : Prop :=
  True

def algebraic_KernelAduIdeal_ReferenceAduIdeal [hKernelAduIdeal : Cert.KernelAduIdeal.Facts] [hReferenceAduIdeal : Cert.ReferenceAduIdeal.Facts] : Prop :=
  ∀ (m : (ℓ : Loc Cert.KernelAduIdeal.nD Cert.KernelAduIdeal.τ Cert.KernelAduIdeal.sig) → Buf (Elt Ideal) ℓ) (g : Dev Cert.KernelAduIdeal.nD → PrngReg)
    (m' : (ℓ : Loc Cert.ReferenceAduIdeal.nD Cert.ReferenceAduIdeal.τ Cert.ReferenceAduIdeal.sig) → Buf (Elt Ideal) ℓ) (g' : Dev Cert.ReferenceAduIdeal.nD → PrngReg), Pre_KernelAduIdeal m →
    (∀ c : Dev Cert.KernelAduIdeal.nD,
      m' ((c.tc : Thread Cert.ReferenceAduIdeal.nD Cert.ReferenceAduIdeal.τ).loc Cert.ReferenceAduIdeal.main_arg0) = m ((c.tc : Thread Cert.KernelAduIdeal.nD Cert.KernelAduIdeal.τ).loc Cert.KernelAduIdeal.main_arg0)
      ∧ m' ((c.tc : Thread Cert.ReferenceAduIdeal.nD Cert.ReferenceAduIdeal.τ).loc Cert.ReferenceAduIdeal.main_arg1) = m ((c.tc : Thread Cert.KernelAduIdeal.nD Cert.KernelAduIdeal.τ).loc Cert.KernelAduIdeal.main_arg1)
      ∧ m' ((c.tc : Thread Cert.ReferenceAduIdeal.nD Cert.ReferenceAduIdeal.τ).loc Cert.ReferenceAduIdeal.main_arg2) = m ((c.tc : Thread Cert.KernelAduIdeal.nD Cert.KernelAduIdeal.τ).loc Cert.KernelAduIdeal.main_arg2)
      ∧ m' ((c.tc : Thread Cert.ReferenceAduIdeal.nD Cert.ReferenceAduIdeal.τ).loc Cert.ReferenceAduIdeal.main_arg3) = m ((c.tc : Thread Cert.KernelAduIdeal.nD Cert.KernelAduIdeal.τ).loc Cert.KernelAduIdeal.main_arg3)
      ∧ m' ((c.tc : Thread Cert.ReferenceAduIdeal.nD Cert.ReferenceAduIdeal.τ).loc Cert.ReferenceAduIdeal.main_arg4) = m ((c.tc : Thread Cert.KernelAduIdeal.nD Cert.KernelAduIdeal.τ).loc Cert.KernelAduIdeal.main_arg4)) →
    ∃ (v0 : (c : Dev Cert.KernelAduIdeal.nD) → Buf (Elt Ideal) ((c.tc : Thread Cert.KernelAduIdeal.nD Cert.KernelAduIdeal.τ).loc Cert.KernelAduIdeal.main_v1_0)) (v1 : (c : Dev Cert.KernelAduIdeal.nD) → Buf (Elt Ideal) ((c.tc : Thread Cert.KernelAduIdeal.nD Cert.KernelAduIdeal.τ).loc Cert.KernelAduIdeal.main_v1_1)) (v2 : (c : Dev Cert.KernelAduIdeal.nD) → Buf (Elt Ideal) ((c.tc : Thread Cert.KernelAduIdeal.nD Cert.KernelAduIdeal.τ).loc Cert.KernelAduIdeal.main_v1_2)) (v3 : (c : Dev Cert.KernelAduIdeal.nD) → Buf (Elt Ideal) ((c.tc : Thread Cert.KernelAduIdeal.nD Cert.KernelAduIdeal.τ).loc Cert.KernelAduIdeal.main_v1_3)),
      θ_run (Cert.KernelAduIdeal.defs (F := Ideal)) (onTc (τ := Cert.KernelAduIdeal.τ) (Cert.KernelAduIdeal.main (F := Ideal))) ⟨m, fun _ => 0, g⟩ (fun r => ∀ c : Dev Cert.KernelAduIdeal.nD,
          r.2.mem ((c.tc : Thread Cert.KernelAduIdeal.nD Cert.KernelAduIdeal.τ).loc Cert.KernelAduIdeal.main_v1_0) = v0 c
          ∧ r.2.mem ((c.tc : Thread Cert.KernelAduIdeal.nD Cert.KernelAduIdeal.τ).loc Cert.KernelAduIdeal.main_v1_1) = v1 c
          ∧ r.2.mem ((c.tc : Thread Cert.KernelAduIdeal.nD Cert.KernelAduIdeal.τ).loc Cert.KernelAduIdeal.main_v1_2) = v2 c
          ∧ r.2.mem ((c.tc : Thread Cert.KernelAduIdeal.nD Cert.KernelAduIdeal.τ).loc Cert.KernelAduIdeal.main_v1_3) = v3 c
          ∧ r.2.mem ((c.tc : Thread Cert.KernelAduIdeal.nD Cert.KernelAduIdeal.τ).loc Cert.KernelAduIdeal.main_arg0) = m ((c.tc : Thread Cert.KernelAduIdeal.nD Cert.KernelAduIdeal.τ).loc Cert.KernelAduIdeal.main_arg0)
          ∧ r.2.mem ((c.tc : Thread Cert.KernelAduIdeal.nD Cert.KernelAduIdeal.τ).loc Cert.KernelAduIdeal.main_arg1) = m ((c.tc : Thread Cert.KernelAduIdeal.nD Cert.KernelAduIdeal.τ).loc Cert.KernelAduIdeal.main_arg1)
          ∧ r.2.mem ((c.tc : Thread Cert.KernelAduIdeal.nD Cert.KernelAduIdeal.τ).loc Cert.KernelAduIdeal.main_arg2) = m ((c.tc : Thread Cert.KernelAduIdeal.nD Cert.KernelAduIdeal.τ).loc Cert.KernelAduIdeal.main_arg2)
          ∧ r.2.mem ((c.tc : Thread Cert.KernelAduIdeal.nD Cert.KernelAduIdeal.τ).loc Cert.KernelAduIdeal.main_arg3) = m ((c.tc : Thread Cert.KernelAduIdeal.nD Cert.KernelAduIdeal.τ).loc Cert.KernelAduIdeal.main_arg3)
          ∧ r.2.mem ((c.tc : Thread Cert.KernelAduIdeal.nD Cert.KernelAduIdeal.τ).loc Cert.KernelAduIdeal.main_arg4) = m ((c.tc : Thread Cert.KernelAduIdeal.nD Cert.KernelAduIdeal.τ).loc Cert.KernelAduIdeal.main_arg4))
      ∧ θ_run (Cert.ReferenceAduIdeal.defs (F := Ideal)) (onTc (τ := Cert.ReferenceAduIdeal.τ) (Cert.ReferenceAduIdeal.main (F := Ideal))) ⟨m', fun _ => 0, g'⟩ (fun r => ∀ c : Dev Cert.ReferenceAduIdeal.nD,
          r.2.mem ((c.tc : Thread Cert.ReferenceAduIdeal.nD Cert.ReferenceAduIdeal.τ).loc Cert.ReferenceAduIdeal.main_v6) = v0 c
          ∧ r.2.mem ((c.tc : Thread Cert.ReferenceAduIdeal.nD Cert.ReferenceAduIdeal.τ).loc Cert.ReferenceAduIdeal.main_v30) = v1 c
          ∧ r.2.mem ((c.tc : Thread Cert.ReferenceAduIdeal.nD Cert.ReferenceAduIdeal.τ).loc Cert.ReferenceAduIdeal.main_v11) = v2 c
          ∧ r.2.mem ((c.tc : Thread Cert.ReferenceAduIdeal.nD Cert.ReferenceAduIdeal.τ).loc Cert.ReferenceAduIdeal.main_v17) = v3 c
          ∧ r.2.mem ((c.tc : Thread Cert.ReferenceAduIdeal.nD Cert.ReferenceAduIdeal.τ).loc Cert.ReferenceAduIdeal.main_arg0) = m' ((c.tc : Thread Cert.ReferenceAduIdeal.nD Cert.ReferenceAduIdeal.τ).loc Cert.ReferenceAduIdeal.main_arg0)
          ∧ r.2.mem ((c.tc : Thread Cert.ReferenceAduIdeal.nD Cert.ReferenceAduIdeal.τ).loc Cert.ReferenceAduIdeal.main_arg1) = m' ((c.tc : Thread Cert.ReferenceAduIdeal.nD Cert.ReferenceAduIdeal.τ).loc Cert.ReferenceAduIdeal.main_arg1)
          ∧ r.2.mem ((c.tc : Thread Cert.ReferenceAduIdeal.nD Cert.ReferenceAduIdeal.τ).loc Cert.ReferenceAduIdeal.main_arg2) = m' ((c.tc : Thread Cert.ReferenceAduIdeal.nD Cert.ReferenceAduIdeal.τ).loc Cert.ReferenceAduIdeal.main_arg2)
          ∧ r.2.mem ((c.tc : Thread Cert.ReferenceAduIdeal.nD Cert.ReferenceAduIdeal.τ).loc Cert.ReferenceAduIdeal.main_arg3) = m' ((c.tc : Thread Cert.ReferenceAduIdeal.nD Cert.ReferenceAduIdeal.τ).loc Cert.ReferenceAduIdeal.main_arg3)
          ∧ r.2.mem ((c.tc : Thread Cert.ReferenceAduIdeal.nD Cert.ReferenceAduIdeal.τ).loc Cert.ReferenceAduIdeal.main_arg4) = m' ((c.tc : Thread Cert.ReferenceAduIdeal.nD Cert.ReferenceAduIdeal.τ).loc Cert.ReferenceAduIdeal.main_arg4))

def preserves_KernelAdf_KernelAdfIdeal : Prop :=
  True

def algebraic_KernelAdfIdeal_ReferenceAdfIdeal [hKernelAdfIdeal : Cert.KernelAdfIdeal.Facts] [hReferenceAdfIdeal : Cert.ReferenceAdfIdeal.Facts] : Prop :=
  ∀ (m : (ℓ : Loc Cert.KernelAdfIdeal.nD Cert.KernelAdfIdeal.τ Cert.KernelAdfIdeal.sig) → Buf (Elt Ideal) ℓ) (g : Dev Cert.KernelAdfIdeal.nD → PrngReg)
    (m' : (ℓ : Loc Cert.ReferenceAdfIdeal.nD Cert.ReferenceAdfIdeal.τ Cert.ReferenceAdfIdeal.sig) → Buf (Elt Ideal) ℓ) (g' : Dev Cert.ReferenceAdfIdeal.nD → PrngReg), Pre_KernelAdfIdeal m →
    (∀ c : Dev Cert.KernelAdfIdeal.nD,
      m' ((c.tc : Thread Cert.ReferenceAdfIdeal.nD Cert.ReferenceAdfIdeal.τ).loc Cert.ReferenceAdfIdeal.main_arg0) = m ((c.tc : Thread Cert.KernelAdfIdeal.nD Cert.KernelAdfIdeal.τ).loc Cert.KernelAdfIdeal.main_arg0)
      ∧ m' ((c.tc : Thread Cert.ReferenceAdfIdeal.nD Cert.ReferenceAdfIdeal.τ).loc Cert.ReferenceAdfIdeal.main_arg1) = m ((c.tc : Thread Cert.KernelAdfIdeal.nD Cert.KernelAdfIdeal.τ).loc Cert.KernelAdfIdeal.main_arg1)
      ∧ m' ((c.tc : Thread Cert.ReferenceAdfIdeal.nD Cert.ReferenceAdfIdeal.τ).loc Cert.ReferenceAdfIdeal.main_arg2) = m ((c.tc : Thread Cert.KernelAdfIdeal.nD Cert.KernelAdfIdeal.τ).loc Cert.KernelAdfIdeal.main_arg2)
      ∧ m' ((c.tc : Thread Cert.ReferenceAdfIdeal.nD Cert.ReferenceAdfIdeal.τ).loc Cert.ReferenceAdfIdeal.main_arg3) = m ((c.tc : Thread Cert.KernelAdfIdeal.nD Cert.KernelAdfIdeal.τ).loc Cert.KernelAdfIdeal.main_arg3)
      ∧ m' ((c.tc : Thread Cert.ReferenceAdfIdeal.nD Cert.ReferenceAdfIdeal.τ).loc Cert.ReferenceAdfIdeal.main_arg4) = m ((c.tc : Thread Cert.KernelAdfIdeal.nD Cert.KernelAdfIdeal.τ).loc Cert.KernelAdfIdeal.main_arg4)) →
    ∃ (v0 : (c : Dev Cert.KernelAdfIdeal.nD) → Buf (Elt Ideal) ((c.tc : Thread Cert.KernelAdfIdeal.nD Cert.KernelAdfIdeal.τ).loc Cert.KernelAdfIdeal.main_v1_0)) (v1 : (c : Dev Cert.KernelAdfIdeal.nD) → Buf (Elt Ideal) ((c.tc : Thread Cert.KernelAdfIdeal.nD Cert.KernelAdfIdeal.τ).loc Cert.KernelAdfIdeal.main_v1_1)) (v2 : (c : Dev Cert.KernelAdfIdeal.nD) → Buf (Elt Ideal) ((c.tc : Thread Cert.KernelAdfIdeal.nD Cert.KernelAdfIdeal.τ).loc Cert.KernelAdfIdeal.main_v1_2)) (v3 : (c : Dev Cert.KernelAdfIdeal.nD) → Buf (Elt Ideal) ((c.tc : Thread Cert.KernelAdfIdeal.nD Cert.KernelAdfIdeal.τ).loc Cert.KernelAdfIdeal.main_v1_3)),
      θ_run (Cert.KernelAdfIdeal.defs (F := Ideal)) (onTc (τ := Cert.KernelAdfIdeal.τ) (Cert.KernelAdfIdeal.main (F := Ideal))) ⟨m, fun _ => 0, g⟩ (fun r => ∀ c : Dev Cert.KernelAdfIdeal.nD,
          r.2.mem ((c.tc : Thread Cert.KernelAdfIdeal.nD Cert.KernelAdfIdeal.τ).loc Cert.KernelAdfIdeal.main_v1_0) = v0 c
          ∧ r.2.mem ((c.tc : Thread Cert.KernelAdfIdeal.nD Cert.KernelAdfIdeal.τ).loc Cert.KernelAdfIdeal.main_v1_1) = v1 c
          ∧ r.2.mem ((c.tc : Thread Cert.KernelAdfIdeal.nD Cert.KernelAdfIdeal.τ).loc Cert.KernelAdfIdeal.main_v1_2) = v2 c
          ∧ r.2.mem ((c.tc : Thread Cert.KernelAdfIdeal.nD Cert.KernelAdfIdeal.τ).loc Cert.KernelAdfIdeal.main_v1_3) = v3 c
          ∧ r.2.mem ((c.tc : Thread Cert.KernelAdfIdeal.nD Cert.KernelAdfIdeal.τ).loc Cert.KernelAdfIdeal.main_arg0) = m ((c.tc : Thread Cert.KernelAdfIdeal.nD Cert.KernelAdfIdeal.τ).loc Cert.KernelAdfIdeal.main_arg0)
          ∧ r.2.mem ((c.tc : Thread Cert.KernelAdfIdeal.nD Cert.KernelAdfIdeal.τ).loc Cert.KernelAdfIdeal.main_arg1) = m ((c.tc : Thread Cert.KernelAdfIdeal.nD Cert.KernelAdfIdeal.τ).loc Cert.KernelAdfIdeal.main_arg1)
          ∧ r.2.mem ((c.tc : Thread Cert.KernelAdfIdeal.nD Cert.KernelAdfIdeal.τ).loc Cert.KernelAdfIdeal.main_arg2) = m ((c.tc : Thread Cert.KernelAdfIdeal.nD Cert.KernelAdfIdeal.τ).loc Cert.KernelAdfIdeal.main_arg2)
          ∧ r.2.mem ((c.tc : Thread Cert.KernelAdfIdeal.nD Cert.KernelAdfIdeal.τ).loc Cert.KernelAdfIdeal.main_arg3) = m ((c.tc : Thread Cert.KernelAdfIdeal.nD Cert.KernelAdfIdeal.τ).loc Cert.KernelAdfIdeal.main_arg3)
          ∧ r.2.mem ((c.tc : Thread Cert.KernelAdfIdeal.nD Cert.KernelAdfIdeal.τ).loc Cert.KernelAdfIdeal.main_arg4) = m ((c.tc : Thread Cert.KernelAdfIdeal.nD Cert.KernelAdfIdeal.τ).loc Cert.KernelAdfIdeal.main_arg4))
      ∧ θ_run (Cert.ReferenceAdfIdeal.defs (F := Ideal)) (onTc (τ := Cert.ReferenceAdfIdeal.τ) (Cert.ReferenceAdfIdeal.main (F := Ideal))) ⟨m', fun _ => 0, g'⟩ (fun r => ∀ c : Dev Cert.ReferenceAdfIdeal.nD,
          r.2.mem ((c.tc : Thread Cert.ReferenceAdfIdeal.nD Cert.ReferenceAdfIdeal.τ).loc Cert.ReferenceAdfIdeal.main_v6) = v0 c
          ∧ r.2.mem ((c.tc : Thread Cert.ReferenceAdfIdeal.nD Cert.ReferenceAdfIdeal.τ).loc Cert.ReferenceAdfIdeal.main_v30) = v1 c
          ∧ r.2.mem ((c.tc : Thread Cert.ReferenceAdfIdeal.nD Cert.ReferenceAdfIdeal.τ).loc Cert.ReferenceAdfIdeal.main_v11) = v2 c
          ∧ r.2.mem ((c.tc : Thread Cert.ReferenceAdfIdeal.nD Cert.ReferenceAdfIdeal.τ).loc Cert.ReferenceAdfIdeal.main_v17) = v3 c
          ∧ r.2.mem ((c.tc : Thread Cert.ReferenceAdfIdeal.nD Cert.ReferenceAdfIdeal.τ).loc Cert.ReferenceAdfIdeal.main_arg0) = m' ((c.tc : Thread Cert.ReferenceAdfIdeal.nD Cert.ReferenceAdfIdeal.τ).loc Cert.ReferenceAdfIdeal.main_arg0)
          ∧ r.2.mem ((c.tc : Thread Cert.ReferenceAdfIdeal.nD Cert.ReferenceAdfIdeal.τ).loc Cert.ReferenceAdfIdeal.main_arg1) = m' ((c.tc : Thread Cert.ReferenceAdfIdeal.nD Cert.ReferenceAdfIdeal.τ).loc Cert.ReferenceAdfIdeal.main_arg1)
          ∧ r.2.mem ((c.tc : Thread Cert.ReferenceAdfIdeal.nD Cert.ReferenceAdfIdeal.τ).loc Cert.ReferenceAdfIdeal.main_arg2) = m' ((c.tc : Thread Cert.ReferenceAdfIdeal.nD Cert.ReferenceAdfIdeal.τ).loc Cert.ReferenceAdfIdeal.main_arg2)
          ∧ r.2.mem ((c.tc : Thread Cert.ReferenceAdfIdeal.nD Cert.ReferenceAdfIdeal.τ).loc Cert.ReferenceAdfIdeal.main_arg3) = m' ((c.tc : Thread Cert.ReferenceAdfIdeal.nD Cert.ReferenceAdfIdeal.τ).loc Cert.ReferenceAdfIdeal.main_arg3)
          ∧ r.2.mem ((c.tc : Thread Cert.ReferenceAdfIdeal.nD Cert.ReferenceAdfIdeal.τ).loc Cert.ReferenceAdfIdeal.main_arg4) = m' ((c.tc : Thread Cert.ReferenceAdfIdeal.nD Cert.ReferenceAdfIdeal.τ).loc Cert.ReferenceAdfIdeal.main_arg4))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v0)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v0) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v12) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def preserves_KernelPwb_KernelPwbIdeal : Prop :=
  True

def algebraic_KernelPwbIdeal_ReferencePwbIdeal [hKernelPwbIdeal : Cert.KernelPwbIdeal.Facts] [hReferencePwbIdeal : Cert.ReferencePwbIdeal.Facts] : Prop :=
  ∀ (m : (ℓ : Loc Cert.KernelPwbIdeal.nD Cert.KernelPwbIdeal.τ Cert.KernelPwbIdeal.sig) → Buf (Elt Ideal) ℓ) (g : Dev Cert.KernelPwbIdeal.nD → PrngReg)
    (m' : (ℓ : Loc Cert.ReferencePwbIdeal.nD Cert.ReferencePwbIdeal.τ Cert.ReferencePwbIdeal.sig) → Buf (Elt Ideal) ℓ) (g' : Dev Cert.ReferencePwbIdeal.nD → PrngReg), Pre_KernelPwbIdeal m →
    (∀ c : Dev Cert.KernelPwbIdeal.nD,
      m' ((c.tc : Thread Cert.ReferencePwbIdeal.nD Cert.ReferencePwbIdeal.τ).loc Cert.ReferencePwbIdeal.main_arg0) = m ((c.tc : Thread Cert.KernelPwbIdeal.nD Cert.KernelPwbIdeal.τ).loc Cert.KernelPwbIdeal.main_arg0)
      ∧ m' ((c.tc : Thread Cert.ReferencePwbIdeal.nD Cert.ReferencePwbIdeal.τ).loc Cert.ReferencePwbIdeal.main_arg1) = m ((c.tc : Thread Cert.KernelPwbIdeal.nD Cert.KernelPwbIdeal.τ).loc Cert.KernelPwbIdeal.main_arg1)
      ∧ m' ((c.tc : Thread Cert.ReferencePwbIdeal.nD Cert.ReferencePwbIdeal.τ).loc Cert.ReferencePwbIdeal.main_arg2) = m ((c.tc : Thread Cert.KernelPwbIdeal.nD Cert.KernelPwbIdeal.τ).loc Cert.KernelPwbIdeal.main_arg2)
      ∧ m' ((c.tc : Thread Cert.ReferencePwbIdeal.nD Cert.ReferencePwbIdeal.τ).loc Cert.ReferencePwbIdeal.main_arg3) = m ((c.tc : Thread Cert.KernelPwbIdeal.nD Cert.KernelPwbIdeal.τ).loc Cert.KernelPwbIdeal.main_arg3)
      ∧ m' ((c.tc : Thread Cert.ReferencePwbIdeal.nD Cert.ReferencePwbIdeal.τ).loc Cert.ReferencePwbIdeal.main_arg4) = m ((c.tc : Thread Cert.KernelPwbIdeal.nD Cert.KernelPwbIdeal.τ).loc Cert.KernelPwbIdeal.main_arg4)
      ∧ m' ((c.tc : Thread Cert.ReferencePwbIdeal.nD Cert.ReferencePwbIdeal.τ).loc Cert.ReferencePwbIdeal.main_arg5) = m ((c.tc : Thread Cert.KernelPwbIdeal.nD Cert.KernelPwbIdeal.τ).loc Cert.KernelPwbIdeal.main_arg5)
      ∧ m' ((c.tc : Thread Cert.ReferencePwbIdeal.nD Cert.ReferencePwbIdeal.τ).loc Cert.ReferencePwbIdeal.main_arg6) = m ((c.tc : Thread Cert.KernelPwbIdeal.nD Cert.KernelPwbIdeal.τ).loc Cert.KernelPwbIdeal.main_arg6)) →
    ∃ (v0 : (c : Dev Cert.KernelPwbIdeal.nD) → Buf (Elt Ideal) ((c.tc : Thread Cert.KernelPwbIdeal.nD Cert.KernelPwbIdeal.τ).loc Cert.KernelPwbIdeal.main_v0_0)) (v1 : (c : Dev Cert.KernelPwbIdeal.nD) → Buf (Elt Ideal) ((c.tc : Thread Cert.KernelPwbIdeal.nD Cert.KernelPwbIdeal.τ).loc Cert.KernelPwbIdeal.main_v0_1)) (v2 : (c : Dev Cert.KernelPwbIdeal.nD) → Buf (Elt Ideal) ((c.tc : Thread Cert.KernelPwbIdeal.nD Cert.KernelPwbIdeal.τ).loc Cert.KernelPwbIdeal.main_v0_2)),
      θ_run (Cert.KernelPwbIdeal.defs (F := Ideal)) (onTc (τ := Cert.KernelPwbIdeal.τ) (Cert.KernelPwbIdeal.main (F := Ideal))) ⟨m, fun _ => 0, g⟩ (fun r => ∀ c : Dev Cert.KernelPwbIdeal.nD,
          r.2.mem ((c.tc : Thread Cert.KernelPwbIdeal.nD Cert.KernelPwbIdeal.τ).loc Cert.KernelPwbIdeal.main_v0_0) = v0 c
          ∧ r.2.mem ((c.tc : Thread Cert.KernelPwbIdeal.nD Cert.KernelPwbIdeal.τ).loc Cert.KernelPwbIdeal.main_v0_1) = v1 c
          ∧ r.2.mem ((c.tc : Thread Cert.KernelPwbIdeal.nD Cert.KernelPwbIdeal.τ).loc Cert.KernelPwbIdeal.main_v0_2) = v2 c
          ∧ r.2.mem ((c.tc : Thread Cert.KernelPwbIdeal.nD Cert.KernelPwbIdeal.τ).loc Cert.KernelPwbIdeal.main_arg0) = m ((c.tc : Thread Cert.KernelPwbIdeal.nD Cert.KernelPwbIdeal.τ).loc Cert.KernelPwbIdeal.main_arg0)
          ∧ r.2.mem ((c.tc : Thread Cert.KernelPwbIdeal.nD Cert.KernelPwbIdeal.τ).loc Cert.KernelPwbIdeal.main_arg1) = m ((c.tc : Thread Cert.KernelPwbIdeal.nD Cert.KernelPwbIdeal.τ).loc Cert.KernelPwbIdeal.main_arg1)
          ∧ r.2.mem ((c.tc : Thread Cert.KernelPwbIdeal.nD Cert.KernelPwbIdeal.τ).loc Cert.KernelPwbIdeal.main_arg2) = m ((c.tc : Thread Cert.KernelPwbIdeal.nD Cert.KernelPwbIdeal.τ).loc Cert.KernelPwbIdeal.main_arg2)
          ∧ r.2.mem ((c.tc : Thread Cert.KernelPwbIdeal.nD Cert.KernelPwbIdeal.τ).loc Cert.KernelPwbIdeal.main_arg3) = m ((c.tc : Thread Cert.KernelPwbIdeal.nD Cert.KernelPwbIdeal.τ).loc Cert.KernelPwbIdeal.main_arg3)
          ∧ r.2.mem ((c.tc : Thread Cert.KernelPwbIdeal.nD Cert.KernelPwbIdeal.τ).loc Cert.KernelPwbIdeal.main_arg4) = m ((c.tc : Thread Cert.KernelPwbIdeal.nD Cert.KernelPwbIdeal.τ).loc Cert.KernelPwbIdeal.main_arg4)
          ∧ r.2.mem ((c.tc : Thread Cert.KernelPwbIdeal.nD Cert.KernelPwbIdeal.τ).loc Cert.KernelPwbIdeal.main_arg5) = m ((c.tc : Thread Cert.KernelPwbIdeal.nD Cert.KernelPwbIdeal.τ).loc Cert.KernelPwbIdeal.main_arg5)
          ∧ r.2.mem ((c.tc : Thread Cert.KernelPwbIdeal.nD Cert.KernelPwbIdeal.τ).loc Cert.KernelPwbIdeal.main_arg6) = m ((c.tc : Thread Cert.KernelPwbIdeal.nD Cert.KernelPwbIdeal.τ).loc Cert.KernelPwbIdeal.main_arg6))
      ∧ θ_run (Cert.ReferencePwbIdeal.defs (F := Ideal)) (onTc (τ := Cert.ReferencePwbIdeal.τ) (Cert.ReferencePwbIdeal.main (F := Ideal))) ⟨m', fun _ => 0, g'⟩ (fun r => ∀ c : Dev Cert.ReferencePwbIdeal.nD,
          r.2.mem ((c.tc : Thread Cert.ReferencePwbIdeal.nD Cert.ReferencePwbIdeal.τ).loc Cert.ReferencePwbIdeal.main_v27) = v0 c
          ∧ r.2.mem ((c.tc : Thread Cert.ReferencePwbIdeal.nD Cert.ReferencePwbIdeal.τ).loc Cert.ReferencePwbIdeal.main_v40) = v1 c
          ∧ r.2.mem ((c.tc : Thread Cert.ReferencePwbIdeal.nD Cert.ReferencePwbIdeal.τ).loc Cert.ReferencePwbIdeal.main_v41) = v2 c
          ∧ r.2.mem ((c.tc : Thread Cert.ReferencePwbIdeal.nD Cert.ReferencePwbIdeal.τ).loc Cert.ReferencePwbIdeal.main_arg0) = m' ((c.tc : Thread Cert.ReferencePwbIdeal.nD Cert.ReferencePwbIdeal.τ).loc Cert.ReferencePwbIdeal.main_arg0)
          ∧ r.2.mem ((c.tc : Thread Cert.ReferencePwbIdeal.nD Cert.ReferencePwbIdeal.τ).loc Cert.ReferencePwbIdeal.main_arg1) = m' ((c.tc : Thread Cert.ReferencePwbIdeal.nD Cert.ReferencePwbIdeal.τ).loc Cert.ReferencePwbIdeal.main_arg1)
          ∧ r.2.mem ((c.tc : Thread Cert.ReferencePwbIdeal.nD Cert.ReferencePwbIdeal.τ).loc Cert.ReferencePwbIdeal.main_arg2) = m' ((c.tc : Thread Cert.ReferencePwbIdeal.nD Cert.ReferencePwbIdeal.τ).loc Cert.ReferencePwbIdeal.main_arg2)
          ∧ r.2.mem ((c.tc : Thread Cert.ReferencePwbIdeal.nD Cert.ReferencePwbIdeal.τ).loc Cert.ReferencePwbIdeal.main_arg3) = m' ((c.tc : Thread Cert.ReferencePwbIdeal.nD Cert.ReferencePwbIdeal.τ).loc Cert.ReferencePwbIdeal.main_arg3)
          ∧ r.2.mem ((c.tc : Thread Cert.ReferencePwbIdeal.nD Cert.ReferencePwbIdeal.τ).loc Cert.ReferencePwbIdeal.main_arg4) = m' ((c.tc : Thread Cert.ReferencePwbIdeal.nD Cert.ReferencePwbIdeal.τ).loc Cert.ReferencePwbIdeal.main_arg4)
          ∧ r.2.mem ((c.tc : Thread Cert.ReferencePwbIdeal.nD Cert.ReferencePwbIdeal.τ).loc Cert.ReferencePwbIdeal.main_arg5) = m' ((c.tc : Thread Cert.ReferencePwbIdeal.nD Cert.ReferencePwbIdeal.τ).loc Cert.ReferencePwbIdeal.main_arg5)
          ∧ r.2.mem ((c.tc : Thread Cert.ReferencePwbIdeal.nD Cert.ReferencePwbIdeal.τ).loc Cert.ReferencePwbIdeal.main_arg6) = m' ((c.tc : Thread Cert.ReferencePwbIdeal.nD Cert.ReferencePwbIdeal.τ).loc Cert.ReferencePwbIdeal.main_arg6))

def preserves_KernelHead_KernelHeadIdeal : Prop :=
  True

def algebraic_KernelHeadIdeal_ReferenceHeadIdeal [hKernelHeadIdeal : Cert.KernelHeadIdeal.Facts] [hReferenceHeadIdeal : Cert.ReferenceHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)
      ∧ m' ((c.tc : Thread Cert.ReferenceHeadIdeal.nD Cert.ReferenceHeadIdeal.τ).loc Cert.ReferenceHeadIdeal.main_arg4) = m ((c.tc : Thread Cert.KernelHeadIdeal.nD Cert.KernelHeadIdeal.τ).loc Cert.KernelHeadIdeal.main_arg4)) →
    ∃ (v0 : (c : Dev Cert.KernelHeadIdeal.nD) → Buf (Elt Ideal) ((c.tc : Thread Cert.KernelHeadIdeal.nD Cert.KernelHeadIdeal.τ).loc Cert.KernelHeadIdeal.main_v0_0)) (v1 : (c : Dev Cert.KernelHeadIdeal.nD) → Buf (Elt Ideal) ((c.tc : Thread Cert.KernelHeadIdeal.nD Cert.KernelHeadIdeal.τ).loc Cert.KernelHeadIdeal.main_v0_1)) (v2 : (c : Dev Cert.KernelHeadIdeal.nD) → Buf (Elt Ideal) ((c.tc : Thread Cert.KernelHeadIdeal.nD Cert.KernelHeadIdeal.τ).loc Cert.KernelHeadIdeal.main_v0_2)) (v3 : (c : Dev Cert.KernelHeadIdeal.nD) → Buf (Elt Ideal) ((c.tc : Thread Cert.KernelHeadIdeal.nD Cert.KernelHeadIdeal.τ).loc Cert.KernelHeadIdeal.main_v0_3)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v0_0) = v0 c
          ∧ r.2.mem ((c.tc : Thread Cert.KernelHeadIdeal.nD Cert.KernelHeadIdeal.τ).loc Cert.KernelHeadIdeal.main_v0_1) = v1 c
          ∧ r.2.mem ((c.tc : Thread Cert.KernelHeadIdeal.nD Cert.KernelHeadIdeal.τ).loc Cert.KernelHeadIdeal.main_v0_2) = v2 c
          ∧ r.2.mem ((c.tc : Thread Cert.KernelHeadIdeal.nD Cert.KernelHeadIdeal.τ).loc Cert.KernelHeadIdeal.main_v0_3) = v3 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
          ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v52) = v0 c
          ∧ r.2.mem ((c.tc : Thread Cert.ReferenceHeadIdeal.nD Cert.ReferenceHeadIdeal.τ).loc Cert.ReferenceHeadIdeal.main_v53) = v1 c
          ∧ r.2.mem ((c.tc : Thread Cert.ReferenceHeadIdeal.nD Cert.ReferenceHeadIdeal.τ).loc Cert.ReferenceHeadIdeal.main_v54) = v2 c
          ∧ r.2.mem ((c.tc : Thread Cert.ReferenceHeadIdeal.nD Cert.ReferenceHeadIdeal.τ).loc Cert.ReferenceHeadIdeal.main_v36) = v3 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3)
          ∧ r.2.mem ((c.tc : Thread Cert.ReferenceHeadIdeal.nD Cert.ReferenceHeadIdeal.τ).loc Cert.ReferenceHeadIdeal.main_arg4) = m' ((c.tc : Thread Cert.ReferenceHeadIdeal.nD Cert.ReferenceHeadIdeal.τ).loc Cert.ReferenceHeadIdeal.main_arg4))

def Claim : Prop :=
  ∃ (hKernel : Cert.Kernel.Facts) (hKernelIdeal : Cert.KernelIdeal.Facts) (hReferenceIdeal : Cert.ReferenceIdeal.Facts) (hKernelDh : Cert.KernelDh.Facts) (hKernelDhIdeal : Cert.KernelDhIdeal.Facts) (hReferenceDhIdeal : Cert.ReferenceDhIdeal.Facts) (hKernelDwu : Cert.KernelDwu.Facts) (hKernelDwuIdeal : Cert.KernelDwuIdeal.Facts) (hReferenceDwuIdeal : Cert.ReferenceDwuIdeal.Facts) (hKernelDg : Cert.KernelDg.Facts) (hKernelDgIdeal : Cert.KernelDgIdeal.Facts) (hReferenceDgIdeal : Cert.ReferenceDgIdeal.Facts) (hKernelDwd : Cert.KernelDwd.Facts) (hKernelDwdIdeal : Cert.KernelDwdIdeal.Facts) (hReferenceDwdIdeal : Cert.ReferenceDwdIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDx : Cert.KernelDx.Facts) (hKernelDxIdeal : Cert.KernelDxIdeal.Facts) (hReferenceDxIdeal : Cert.ReferenceDxIdeal.Facts) (hKernelDwa : Cert.KernelDwa.Facts) (hKernelDwaIdeal : Cert.KernelDwaIdeal.Facts) (hReferenceDwaIdeal : Cert.ReferenceDwaIdeal.Facts) (hKernelDwb : Cert.KernelDwb.Facts) (hKernelDwbIdeal : Cert.KernelDwbIdeal.Facts) (hReferenceDwbIdeal : Cert.ReferenceDwbIdeal.Facts) (hKernelPw : Cert.KernelPw.Facts) (hKernelPwIdeal : Cert.KernelPwIdeal.Facts) (hReferencePwIdeal : Cert.ReferencePwIdeal.Facts) (hKernelSum : Cert.KernelSum.Facts) (hKernelSumIdeal : Cert.KernelSumIdeal.Facts) (hReferenceSumIdeal : Cert.ReferenceSumIdeal.Facts) (hKernelAda : Cert.KernelAda.Facts) (hKernelAdaIdeal : Cert.KernelAdaIdeal.Facts) (hReferenceAdaIdeal : Cert.ReferenceAdaIdeal.Facts) (hKernelAdb : Cert.KernelAdb.Facts) (hKernelAdbIdeal : Cert.KernelAdbIdeal.Facts) (hReferenceAdbIdeal : Cert.ReferenceAdbIdeal.Facts) (hKernelAdp : Cert.KernelAdp.Facts) (hKernelAdpIdeal : Cert.KernelAdpIdeal.Facts) (hReferenceAdpIdeal : Cert.ReferenceAdpIdeal.Facts) (hKernelAds : Cert.KernelAds.Facts) (hKernelAdsIdeal : Cert.KernelAdsIdeal.Facts) (hReferenceAdsIdeal : Cert.ReferenceAdsIdeal.Facts) (hKernelAdu : Cert.KernelAdu.Facts) (hKernelAduIdeal : Cert.KernelAduIdeal.Facts) (hReferenceAduIdeal : Cert.ReferenceAduIdeal.Facts) (hKernelAdf : Cert.KernelAdf.Facts) (hKernelAdfIdeal : Cert.KernelAdfIdeal.Facts) (hReferenceAdfIdeal : Cert.ReferenceAdfIdeal.Facts) (hKernelRms : Cert.KernelRms.Facts) (hKernelRmsIdeal : Cert.KernelRmsIdeal.Facts) (hReferenceRmsIdeal : Cert.ReferenceRmsIdeal.Facts) (hKernelPwb : Cert.KernelPwb.Facts) (hKernelPwbIdeal : Cert.KernelPwbIdeal.Facts) (hReferencePwbIdeal : Cert.ReferencePwbIdeal.Facts) (hKernelHead : Cert.KernelHead.Facts) (hKernelHeadIdeal : Cert.KernelHeadIdeal.Facts) (hReferenceHeadIdeal : Cert.ReferenceHeadIdeal.Facts),
    quiescent_Kernel (hKernel := hKernel)
    ∧ quiescent_KernelIdeal (hKernelIdeal := hKernelIdeal)
    ∧ quiescent_ReferenceIdeal (hReferenceIdeal := hReferenceIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwu (hKernelDwu := hKernelDwu)
    ∧ quiescent_KernelDwuIdeal (hKernelDwuIdeal := hKernelDwuIdeal)
    ∧ quiescent_ReferenceDwuIdeal (hReferenceDwuIdeal := hReferenceDwuIdeal)
    ∧ quiescent_KernelDg (hKernelDg := hKernelDg)
    ∧ quiescent_KernelDgIdeal (hKernelDgIdeal := hKernelDgIdeal)
    ∧ quiescent_ReferenceDgIdeal (hReferenceDgIdeal := hReferenceDgIdeal)
    ∧ quiescent_KernelDwd (hKernelDwd := hKernelDwd)
    ∧ quiescent_KernelDwdIdeal (hKernelDwdIdeal := hKernelDwdIdeal)
    ∧ quiescent_ReferenceDwdIdeal (hReferenceDwdIdeal := hReferenceDwdIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDwa (hKernelDwa := hKernelDwa)
    ∧ quiescent_KernelDwaIdeal (hKernelDwaIdeal := hKernelDwaIdeal)
    ∧ quiescent_ReferenceDwaIdeal (hReferenceDwaIdeal := hReferenceDwaIdeal)
    ∧ quiescent_KernelDwb (hKernelDwb := hKernelDwb)
    ∧ quiescent_KernelDwbIdeal (hKernelDwbIdeal := hKernelDwbIdeal)
    ∧ quiescent_ReferenceDwbIdeal (hReferenceDwbIdeal := hReferenceDwbIdeal)
    ∧ quiescent_KernelPw (hKernelPw := hKernelPw)
    ∧ quiescent_KernelPwIdeal (hKernelPwIdeal := hKernelPwIdeal)
    ∧ quiescent_ReferencePwIdeal (hReferencePwIdeal := hReferencePwIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelAdb (hKernelAdb := hKernelAdb)
    ∧ quiescent_KernelAdbIdeal (hKernelAdbIdeal := hKernelAdbIdeal)
    ∧ quiescent_ReferenceAdbIdeal (hReferenceAdbIdeal := hReferenceAdbIdeal)
    ∧ quiescent_KernelAdp (hKernelAdp := hKernelAdp)
    ∧ quiescent_KernelAdpIdeal (hKernelAdpIdeal := hKernelAdpIdeal)
    ∧ quiescent_ReferenceAdpIdeal (hReferenceAdpIdeal := hReferenceAdpIdeal)
    ∧ quiescent_KernelAds (hKernelAds := hKernelAds)
    ∧ quiescent_KernelAdsIdeal (hKernelAdsIdeal := hKernelAdsIdeal)
    ∧ quiescent_ReferenceAdsIdeal (hReferenceAdsIdeal := hReferenceAdsIdeal)
    ∧ quiescent_KernelAdu (hKernelAdu := hKernelAdu)
    ∧ quiescent_KernelAduIdeal (hKernelAduIdeal := hKernelAduIdeal)
    ∧ quiescent_ReferenceAduIdeal (hReferenceAduIdeal := hReferenceAduIdeal)
    ∧ quiescent_KernelAdf (hKernelAdf := hKernelAdf)
    ∧ quiescent_KernelAdfIdeal (hKernelAdfIdeal := hKernelAdfIdeal)
    ∧ quiescent_ReferenceAdfIdeal (hReferenceAdfIdeal := hReferenceAdfIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelPwb (hKernelPwb := hKernelPwb)
    ∧ quiescent_KernelPwbIdeal (hKernelPwbIdeal := hKernelPwbIdeal)
    ∧ quiescent_ReferencePwbIdeal (hReferencePwbIdeal := hReferencePwbIdeal)
    ∧ quiescent_KernelHead (hKernelHead := hKernelHead)
    ∧ quiescent_KernelHeadIdeal (hKernelHeadIdeal := hKernelHeadIdeal)
    ∧ quiescent_ReferenceHeadIdeal (hReferenceHeadIdeal := hReferenceHeadIdeal)
    ∧ preserves_Kernel_KernelIdeal
    ∧ preserves_KernelDh_KernelDhIdeal
    ∧ algebraic_KernelDhIdeal_ReferenceDhIdeal (hKernelDhIdeal := hKernelDhIdeal) (hReferenceDhIdeal := hReferenceDhIdeal)
    ∧ preserves_KernelDwu_KernelDwuIdeal
    ∧ algebraic_KernelDwuIdeal_ReferenceDwuIdeal (hKernelDwuIdeal := hKernelDwuIdeal) (hReferenceDwuIdeal := hReferenceDwuIdeal)
    ∧ preserves_KernelDg_KernelDgIdeal
    ∧ algebraic_KernelDgIdeal_ReferenceDgIdeal (hKernelDgIdeal := hKernelDgIdeal) (hReferenceDgIdeal := hReferenceDgIdeal)
    ∧ preserves_KernelDwd_KernelDwdIdeal
    ∧ algebraic_KernelDwdIdeal_ReferenceDwdIdeal (hKernelDwdIdeal := hKernelDwdIdeal) (hReferenceDwdIdeal := hReferenceDwdIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDx_KernelDxIdeal
    ∧ algebraic_KernelDxIdeal_ReferenceDxIdeal (hKernelDxIdeal := hKernelDxIdeal) (hReferenceDxIdeal := hReferenceDxIdeal)
    ∧ preserves_KernelDwa_KernelDwaIdeal
    ∧ algebraic_KernelDwaIdeal_ReferenceDwaIdeal (hKernelDwaIdeal := hKernelDwaIdeal) (hReferenceDwaIdeal := hReferenceDwaIdeal)
    ∧ preserves_KernelDwb_KernelDwbIdeal
    ∧ algebraic_KernelDwbIdeal_ReferenceDwbIdeal (hKernelDwbIdeal := hKernelDwbIdeal) (hReferenceDwbIdeal := hReferenceDwbIdeal)
    ∧ preserves_KernelPw_KernelPwIdeal
    ∧ algebraic_KernelPwIdeal_ReferencePwIdeal (hKernelPwIdeal := hKernelPwIdeal) (hReferencePwIdeal := hReferencePwIdeal)
    ∧ preserves_KernelSum_KernelSumIdeal
    ∧ algebraic_KernelSumIdeal_ReferenceSumIdeal (hKernelSumIdeal := hKernelSumIdeal) (hReferenceSumIdeal := hReferenceSumIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelAdb_KernelAdbIdeal
    ∧ algebraic_KernelAdbIdeal_ReferenceAdbIdeal (hKernelAdbIdeal := hKernelAdbIdeal) (hReferenceAdbIdeal := hReferenceAdbIdeal)
    ∧ preserves_KernelAdp_KernelAdpIdeal
    ∧ algebraic_KernelAdpIdeal_ReferenceAdpIdeal (hKernelAdpIdeal := hKernelAdpIdeal) (hReferenceAdpIdeal := hReferenceAdpIdeal)
    ∧ preserves_KernelAds_KernelAdsIdeal
    ∧ algebraic_KernelAdsIdeal_ReferenceAdsIdeal (hKernelAdsIdeal := hKernelAdsIdeal) (hReferenceAdsIdeal := hReferenceAdsIdeal)
    ∧ preserves_KernelAdu_KernelAduIdeal
    ∧ algebraic_KernelAduIdeal_ReferenceAduIdeal (hKernelAduIdeal := hKernelAduIdeal) (hReferenceAduIdeal := hReferenceAduIdeal)
    ∧ preserves_KernelAdf_KernelAdfIdeal
    ∧ algebraic_KernelAdfIdeal_ReferenceAdfIdeal (hKernelAdfIdeal := hKernelAdfIdeal) (hReferenceAdfIdeal := hReferenceAdfIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelPwb_KernelPwbIdeal
    ∧ algebraic_KernelPwbIdeal_ReferencePwbIdeal (hKernelPwbIdeal := hKernelPwbIdeal) (hReferencePwbIdeal := hReferencePwbIdeal)
    ∧ preserves_KernelHead_KernelHeadIdeal
    ∧ algebraic_KernelHeadIdeal_ReferenceHeadIdeal (hKernelHeadIdeal := hKernelHeadIdeal) (hReferenceHeadIdeal := hReferenceHeadIdeal)
-- ==== Kernel.lean ====
abbrev S4096x1024 : Shape := ⟨2, ![4096, 1024]⟩
abbrev S1x1024 : Shape := ⟨2, ![1, 1024]⟩
abbrev S4x256x256 : Shape := ⟨3, ![4, 256, 256]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2049x1024 : Shape := ⟨3, ![2, 2049, 1024]⟩
abbrev S2048 : Shape := ⟨1, ![2048]⟩
abbrev S2x2049x256 : Shape := ⟨3, ![2, 2049, 256]⟩
abbrev S2x1x256 : Shape := ⟨3, ![2, 1, 256]⟩
abbrev S2x2047x256 : Shape := ⟨3, ![2, 2047, 256]⟩
abbrev S2x2048x256 : Shape := ⟨3, ![2, 2048, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S512x1024 : Shape := ⟨2, ![512, 1024]⟩
abbrev S32x1024 : Shape := ⟨2, ![32, 1024]⟩
abbrev S8x544x128 : Shape := ⟨3, ![8, 544, 128]⟩
abbrev S512x1 : Shape := ⟨2, ![512, 1]⟩
abbrev S1x256x256 : Shape := ⟨3, ![1, 256, 256]⟩
abbrev S256x256 : Shape := ⟨2, ![256, 256]⟩
abbrev S1x256 : Shape := ⟨2, ![1, 256]⟩
abbrev S512x256 : Shape := ⟨2, ![512, 256]⟩
abbrev S256 : Shape := ⟨1, ![256]⟩
abbrev S32x256 : Shape := ⟨2, ![32, 256]⟩
abbrev S512x128 : Shape := ⟨2, ![512, 128]⟩
abbrev S1x512x128 : Shape := ⟨3, ![1, 512, 128]⟩
abbrev S32x128 : Shape := ⟨2, ![32, 128]⟩
abbrev S1x32x128 : Shape := ⟨3, ![1, 32, 128]⟩
abbrev S512 : Shape := ⟨1, ![512]⟩
abbrev S1024 : Shape := ⟨1, ![1024]⟩

abbrev nBuf : Space → Nat
  | .hbm => 120
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x256x256, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x1x1024, .f32⟩
  | .hbm, ⟨25, _⟩ => ⟨S_, .f32⟩
  | .hbm, ⟨26, _⟩ => ⟨S_, .f32⟩
  | .hbm, ⟨27, _⟩ => ⟨S2x2048x1024, .f32⟩
  | .hbm, ⟨28, _⟩ => ⟨S2x2049x1024, .f32⟩
  | .hbm, ⟨29, _⟩ => ⟨S2048, .i32⟩
  | .hbm, ⟨30, _⟩ => ⟨S2x2049x256, .f32⟩
  | .hbm, ⟨31, _⟩ => ⟨S_, .f32⟩
  | .hbm, ⟨32, _⟩ => ⟨S2x1x256, .f32⟩
  | .hbm, ⟨33, _⟩ => ⟨S2x2047x256, .f32⟩
  | .hbm, ⟨34, _⟩ => ⟨S2x2048x256, .f32⟩
  | .hbm, ⟨35, _⟩ => ⟨S2x2048x256, .f32⟩
  | .hbm, ⟨36, _⟩ => ⟨S2x2048x256, .f32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S1x2048x1, .f32⟩
  | .hbm, ⟨45, _⟩ => ⟨S2x2048x256, .f32⟩
  | .hbm, ⟨46, _⟩ => ⟨S2x2048x256, .f32⟩
  | .hbm, ⟨47, _⟩ => ⟨S2x2048x256, .f32⟩
  | .hbm, ⟨48, _⟩ => ⟨S2x2048x256, .f32⟩
  | .hbm, ⟨49, _⟩ => ⟨S2x2049x256, .f32⟩
  | .hbm, ⟨50, _⟩ => ⟨S_, .f32⟩
  | .hbm, ⟨51, _⟩ => ⟨S2x3x256, .f32⟩
  | .hbm, ⟨52, _⟩ => ⟨S2x2045x256, .f32⟩
  | .hbm, ⟨53, _⟩ => ⟨S2x2048x256, .f32⟩
  | .hbm, ⟨54, _⟩ => ⟨S2x2048x256, .f32⟩
  | .hbm, ⟨55, _⟩ => ⟨S2x2048x256, .f32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S1x2048x1, .f32⟩
  | .hbm, ⟨64, _⟩ => ⟨S2x2048x256, .f32⟩
  | .hbm, ⟨65, _⟩ => ⟨S2x2048x256, .f32⟩
  | .hbm, ⟨66, _⟩ => ⟨S2x2048x256, .f32⟩
  | .hbm, ⟨67, _⟩ => ⟨S2x2048x256, .f32⟩
  | .hbm, ⟨68, _⟩ => ⟨S2x2049x256, .f32⟩
  | .hbm, ⟨69, _⟩ => ⟨S_, .f32⟩
  | .hbm, ⟨70, _⟩ => ⟨S2x7x256, .f32⟩
  | .hbm, ⟨71, _⟩ => ⟨S2x2041x256, .f32⟩
  | .hbm, ⟨72, _⟩ => ⟨S2x2048x256, .f32⟩
  | .hbm, ⟨73, _⟩ => ⟨S2x2048x256, .f32⟩
  | .hbm, ⟨74, _⟩ => ⟨S2x2048x256, .f32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .f32⟩
  | .hbm, ⟨82, _⟩ => ⟨S1x2048x1, .f32⟩
  | .hbm, ⟨83, _⟩ => ⟨S2x2048x256, .f32⟩
  | .hbm, ⟨84, _⟩ => ⟨S2x2048x256, .f32⟩
  | .hbm, ⟨85, _⟩ => ⟨S2x2048x256, .f32⟩
  | .hbm, ⟨86, _⟩ => ⟨S2x2048x256, .f32⟩
  | .hbm, ⟨87, _⟩ => ⟨S2x2049x256, .f32⟩
  | .hbm, ⟨88, _⟩ => ⟨S_, .f32⟩
  | .hbm, ⟨89, _⟩ => ⟨S2x15x256, .f32⟩
  | .hbm, ⟨90, _⟩ => ⟨S2x2033x256, .f32⟩
  | .hbm, ⟨91, _⟩ => ⟨S2x2048x256, .f32⟩
  | .hbm, ⟨92, _⟩ => ⟨S2x2048x256, .f32⟩
  | .hbm, ⟨93, _⟩ => ⟨S2x2048x256, .f32⟩
  | .hbm, ⟨94, _⟩ => ⟨S_, .i32⟩
  | .hbm, ⟨95, _⟩ => ⟨S2048, .i32⟩
  | .hbm, ⟨96, _⟩ => ⟨S2048, .i32⟩
  | .hbm, ⟨97, _⟩ => ⟨S_, .i32⟩
  | .hbm, ⟨98, _⟩ => ⟨S2048, .i32⟩
  | .hbm, ⟨99, _⟩ => ⟨S2048, .i32⟩
  | .hbm, ⟨100, _⟩ => ⟨S2048, .f32⟩
  | .hbm, ⟨101, _⟩ => ⟨S1x2048x1, .f32⟩
  | .hbm, ⟨102, _⟩ => ⟨S2x2048x256, .f32⟩
  | .hbm, ⟨103, _⟩ => ⟨S2x2048x256, .f32⟩
  | .hbm, ⟨104, _⟩ => ⟨S2x2048x256, .f32⟩
  | .hbm, ⟨105, _⟩ => ⟨S2x2048x256, .f32⟩
  | .hbm, ⟨106, _⟩ => ⟨S2x2048x1x256, .f32⟩
  | .hbm, ⟨107, _⟩ => ⟨S2x2048x1x256, .f32⟩
  | .hbm, ⟨108, _⟩ => ⟨S2x2048x1x256, .f32⟩
  | .hbm, ⟨109, _⟩ => ⟨S2x2048x1x256, .f32⟩
  | .hbm, ⟨110, _⟩ => ⟨S2x2048x4x256, .f32⟩
  | .hbm, ⟨111, _⟩ => ⟨S4096x1024, .f32⟩
  | .hbm, ⟨112, _⟩ => ⟨S4096x1024, .bf16⟩
  | .hbm, ⟨113, _⟩ => ⟨S4x256x256, .bf16⟩
  | .hbm, ⟨114, _⟩ => ⟨S4096x1024, .f32⟩
  | .hbm, ⟨115, _⟩ => ⟨S4096x1024, .bf16⟩
  | .hbm, ⟨116, _⟩ => ⟨S4x256x256, .f32⟩
  | .hbm, ⟨117, _⟩ => ⟨S1x1024, .f32⟩
  | .hbm, ⟨118, _⟩ => ⟨S1x1024, .f32⟩
  | .hbm, ⟨119, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x256x256, .bf16⟩
  | .local _ .vmem, ⟨3, _⟩ => ⟨S512x1024, .f32⟩
  | .local _ .vmem, ⟨4, _⟩ => ⟨S512x1024, .f32⟩
  | .local _ .vmem, ⟨5, _⟩ => ⟨S32x1024, .f32⟩
  | .local _ .vmem, ⟨6, _⟩ => ⟨S32x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S4x256x256, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S8x544x128, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_12 : Ref sig .tc := ⟨.hbm, 94, rfl⟩
abbrev main_v72 : Ref sig .tc := ⟨.hbm, 95, rfl⟩
abbrev main_v73 : Ref sig .tc := ⟨.hbm, 96, rfl⟩
abbrev main_c_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90_0 : Ref sig .tc := ⟨.hbm, 114, rfl⟩
abbrev main_v90_1 : Ref sig .tc := ⟨.hbm, 115, rfl⟩
abbrev main_v90_2 : Ref sig .tc := ⟨.hbm, 116, rfl⟩
abbrev main_v90_3 : Ref sig .tc := ⟨.hbm, 117, rfl⟩
abbrev main_v90_4 : Ref sig .tc := ⟨.hbm, 118, rfl⟩
abbrev main_v90_5 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S1x1024 : Shape := ⟨2, ![1, 1024]⟩
abbrev S4x256x256 : Shape := ⟨3, ![4, 256, 256]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2049x1024 : Shape := ⟨3, ![2, 2049, 1024]⟩
abbrev S2048 : Shape := ⟨1, ![2048]⟩
abbrev S2x2049x256 : Shape := ⟨3, ![2, 2049, 256]⟩
abbrev S2x1x256 : Shape := ⟨3, ![2, 1, 256]⟩
abbrev S2x2047x256 : Shape := ⟨3, ![2, 2047, 256]⟩
abbrev S2x2048x256 : Shape := ⟨3, ![2, 2048, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S4x256x2x2048 : Shape := ⟨4, ![4, 256, 2, 2048]⟩
abbrev S1024 : Shape := ⟨1, ![1024]⟩
abbrev S4x2x2048x256 : Shape := ⟨4, ![4, 2, 2048, 256]⟩

abbrev nBuf : Space → Nat
  | .hbm => 266
  | .vmem => 0
  | .smem => 0
  | _ => 0

abbrev hbmTy0_0 (i : Nat) : BufTy := match i % 128 with
  | 0 => ⟨S4096x1024, .f32⟩
  | 1 => ⟨S1x1024, .f32⟩
  | 2 => ⟨S4x256x256, .f32⟩
  | 3 => ⟨S1x1024, .f32⟩
  | 4 => ⟨S1x1024, .f32⟩
  | 5 => ⟨S4096x1024, .f32⟩
  | 6 => ⟨S2x2048x1024, .f32⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1024, .f32⟩
  | 23 => ⟨S2x2048x1024, .f32⟩
  | 24 => ⟨S1x1x1024, .f32⟩
  | 25 => ⟨S2x2048x1024, .f32⟩
  | 26 => ⟨S2x2048x1024, .f32⟩
  | 27 => ⟨S_, .f32⟩
  | 28 => ⟨S2x1x1024, .f32⟩
  | 29 => ⟨S_, .f32⟩
  | 30 => ⟨S_, .f32⟩
  | 31 => ⟨S2x2048x1024, .f32⟩
  | 32 => ⟨S2x2049x1024, .f32⟩
  | 33 => ⟨S_, .f32⟩
  | 34 => ⟨S2x1x1024, .f32⟩
  | 35 => ⟨S2048, .i32⟩
  | 36 => ⟨S2x2049x256, .f32⟩
  | 37 => ⟨S_, .f32⟩
  | 38 => ⟨S2x1x256, .f32⟩
  | 39 => ⟨S2x2047x256, .f32⟩
  | 40 => ⟨S2x2048x256, .f32⟩
  | 41 => ⟨S_, .f32⟩
  | 42 => ⟨S2x1x256, .f32⟩
  | 43 => ⟨S2x2048x256, .f32⟩
  | 44 => ⟨S2x2048x256, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .f32⟩
  | 52 => ⟨S1x2048x1, .f32⟩
  | 53 => ⟨S2x2048x256, .f32⟩
  | 54 => ⟨S2x2048x256, .f32⟩
  | 55 => ⟨S2x2048x256, .f32⟩
  | 56 => ⟨S2x2048x256, .f32⟩
  | 57 => ⟨S2x2049x256, .f32⟩
  | 58 => ⟨S_, .f32⟩
  | 59 => ⟨S2x3x256, .f32⟩
  | 60 => ⟨S2x2045x256, .f32⟩
  | 61 => ⟨S2x2048x256, .f32⟩
  | 62 => ⟨S_, .f32⟩
  | 63 => ⟨S2x3x256, .f32⟩
  | 64 => ⟨S2x2048x256, .f32⟩
  | 65 => ⟨S2x2048x256, .f32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048, .f32⟩
  | 73 => ⟨S1x2048x1, .f32⟩
  | 74 => ⟨S2x2048x256, .f32⟩
  | 75 => ⟨S2x2048x256, .f32⟩
  | 76 => ⟨S2x2048x256, .f32⟩
  | 77 => ⟨S2x2048x256, .f32⟩
  | 78 => ⟨S2x2049x256, .f32⟩
  | 79 => ⟨S_, .f32⟩
  | 80 => ⟨S2x7x256, .f32⟩
  | 81 => ⟨S2x2041x256, .f32⟩
  | 82 => ⟨S2x2048x256, .f32⟩
  | 83 => ⟨S_, .f32⟩
  | 84 => ⟨S2x7x256, .f32⟩
  | 85 => ⟨S2x2048x256, .f32⟩
  | 86 => ⟨S2x2048x256, .f32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S2048, .f32⟩
  | 94 => ⟨S1x2048x1, .f32⟩
  | 95 => ⟨S2x2048x256, .f32⟩
  | 96 => ⟨S2x2048x256, .f32⟩
  | 97 => ⟨S2x2048x256, .f32⟩
  | 98 => ⟨S2x2048x256, .f32⟩
  | 99 => ⟨S2x2049x256, .f32⟩
  | 100 => ⟨S_, .f32⟩
  | 101 => ⟨S2x15x256, .f32⟩
  | 102 => ⟨S2x2033x256, .f32⟩
  | 103 => ⟨S2x2048x256, .f32⟩
  | 104 => ⟨S_, .f32⟩
  | 105 => ⟨S2x15x256, .f32⟩
  | 106 => ⟨S2x2048x256, .f32⟩
  | 107 => ⟨S2x2048x256, .f32⟩
  | 108 => ⟨S_, .i32⟩
  | 109 => ⟨S2048, .i32⟩
  | 110 => ⟨S2048, .i32⟩
  | 111 => ⟨S_, .i32⟩
  | 112 => ⟨S2048, .i32⟩
  | 113 => ⟨S2048, .i32⟩
  | 114 => ⟨S2048, .f32⟩
  | 115 => ⟨S1x2048x1, .f32⟩
  | 116 => ⟨S2x2048x256, .f32⟩
  | 117 => ⟨S2x2048x256, .f32⟩
  | 118 => ⟨S2x2048x256, .f32⟩
  | 119 => ⟨S2x2048x256, .f32⟩
  | 120 => ⟨S2x2048x1x256, .f32⟩
  | 121 => ⟨S2x2048x1x256, .f32⟩
  | 122 => ⟨S2x2048x1x256, .f32⟩
  | 123 => ⟨S2x2048x1x256, .f32⟩
  | 124 => ⟨S2x2048x4x256, .f32⟩
  | 125 => ⟨S4x256x2x2048, .f32⟩
  | 126 => ⟨S2x2048x4x256, .f32⟩
  | 127 => ⟨S2x2048x1024, .f32⟩
  | _ => ⟨S4096x1024, .f32⟩

abbrev hbmTy0_1 (i : Nat) : BufTy := match i % 128 with
  | 0 => ⟨S1x1x1024, .f32⟩
  | 1 => ⟨S2x2048x1024, .f32⟩
  | 2 => ⟨S2x2048x1024, .f32⟩
  | 3 => ⟨S1x1x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S_, .f32⟩
  | 12 => ⟨S1024, .f32⟩
  | 13 => ⟨S1x1x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S1x1x1024, .f32⟩
  | 20 => ⟨S_, .f32⟩
  | 21 => ⟨S1024, .f32⟩
  | 22 => ⟨S1x1024, .f32⟩
  | 23 => ⟨S2x2048x4x256, .f32⟩
  | 24 => ⟨S4x256x2x2048, .f32⟩
  | 25 => ⟨S4x2x2048x256, .f32⟩
  | 26 => ⟨S2x2048x4x256, .f32⟩
  | 27 => ⟨S4x256x256, .f32⟩
  | 28 => ⟨S4x256x256, .f32⟩
  | 29 => ⟨S2x2048x1x256, .f32⟩
  | 30 => ⟨S2x2048x256, .f32⟩
  | 31 => ⟨S2x2048x1x256, .f32⟩
  | 32 => ⟨S2x2048x256, .f32⟩
  | 33 => ⟨S2x2048x1x256, .f32⟩
  | 34 => ⟨S2x2048x256, .f32⟩
  | 35 => ⟨S2x2048x1x256, .f32⟩
  | 36 => ⟨S2x2048x256, .f32⟩
  | 37 => ⟨S2x2048x256, .f32⟩
  | 38 => ⟨S_, .f32⟩
  | 39 => ⟨S2x2048x1024, .f32⟩
  | 40 => ⟨S2x2048x256, .f32⟩
  | 41 => ⟨S2x2048x256, .f32⟩
  | 42 => ⟨S2x2048x256, .f32⟩
  | 43 => ⟨S_, .f32⟩
  | 44 => ⟨S2x2049x256, .f32⟩
  | 45 => ⟨S2x15x256, .f32⟩
  | 46 => ⟨S2x2033x256, .f32⟩
  | 47 => ⟨S_, .f32⟩
  | 48 => ⟨S2x2049x256, .f32⟩
  | 49 => ⟨S2x2049x256, .f32⟩
  | 50 => ⟨S_, .f32⟩
  | 51 => ⟨S2x2049x1024, .f32⟩
  | 52 => ⟨S2x2048x256, .f32⟩
  | 53 => ⟨S_, .f32⟩
  | 54 => ⟨S2x2048x1024, .f32⟩
  | 55 => ⟨S2x2048x1024, .f32⟩
  | 56 => ⟨S2x2048x256, .f32⟩
  | 57 => ⟨S2x2048x256, .f32⟩
  | 58 => ⟨S2x2048x256, .f32⟩
  | 59 => ⟨S_, .f32⟩
  | 60 => ⟨S2x2049x256, .f32⟩
  | 61 => ⟨S2x7x256, .f32⟩
  | 62 => ⟨S2x2041x256, .f32⟩
  | 63 => ⟨S_, .f32⟩
  | 64 => ⟨S2x2049x256, .f32⟩
  | 65 => ⟨S2x2049x256, .f32⟩
  | 66 => ⟨S_, .f32⟩
  | 67 => ⟨S2x2049x1024, .f32⟩
  | 68 => ⟨S2x2049x1024, .f32⟩
  | 69 => ⟨S2x2048x256, .f32⟩
  | 70 => ⟨S_, .f32⟩
  | 71 => ⟨S2x2048x1024, .f32⟩
  | 72 => ⟨S2x2048x1024, .f32⟩
  | 73 => ⟨S2x2048x256, .f32⟩
  | 74 => ⟨S2x2048x256, .f32⟩
  | 75 => ⟨S2x2048x256, .f32⟩
  | 76 => ⟨S_, .f32⟩
  | 77 => ⟨S2x2049x256, .f32⟩
  | 78 => ⟨S2x3x256, .f32⟩
  | 79 => ⟨S2x2045x256, .f32⟩
  | 80 => ⟨S_, .f32⟩
  | 81 => ⟨S2x2049x256, .f32⟩
  | 82 => ⟨S2x2049x256, .f32⟩
  | 83 => ⟨S_, .f32⟩
  | 84 => ⟨S2x2049x1024, .f32⟩
  | 85 => ⟨S2x2049x1024, .f32⟩
  | 86 => ⟨S2x2048x256, .f32⟩
  | 87 => ⟨S_, .f32⟩
  | 88 => ⟨S2x2048x1024, .f32⟩
  | 89 => ⟨S2x2048x1024, .f32⟩
  | 90 => ⟨S2x2048x256, .f32⟩
  | 91 => ⟨S2x2048x256, .f32⟩
  | 92 => ⟨S2x2048x256, .f32⟩
  | 93 => ⟨S_, .f32⟩
  | 94 => ⟨S2x2049x256, .f32⟩
  | 95 => ⟨S2x1x256, .f32⟩
  | 96 => ⟨S2x2047x256, .f32⟩
  | 97 => ⟨S_, .f32⟩
  | 98 => ⟨S2x2049x256, .f32⟩
  | 99 => ⟨S2x2049x256, .f32⟩
  | 100 => ⟨S_, .f32⟩
  | 101 => ⟨S2x2049x1024, .f32⟩
  | 102 => ⟨S2x2049x1024, .f32⟩
  | 103 => ⟨S2x1x1024, .f32⟩
  | 104 => ⟨S2x2048x1024, .f32⟩
  | 105 => ⟨S_, .f32⟩
  | 106 => ⟨S_, .f32⟩
  | 107 => ⟨S2x2048x1024, .f32⟩
  | 108 => ⟨S2x2048x1024, .f32⟩
  | 109 => ⟨S2x2048x1024, .f32⟩
  | 110 => ⟨S_, .f32⟩
  | 111 => ⟨S1024, .f32⟩
  | 112 => ⟨S1x1x1024, .f32⟩
  | 113 => ⟨S2x2048x1024, .f32⟩
  | 114 => ⟨S2x2048x1024, .f32⟩
  | 115 => ⟨S_, .f32⟩
  | 116 => ⟨S1024, .f32⟩
  | 117 => ⟨S1x1024, .f32⟩
  | 118 => ⟨S2x2048x1024, .f32⟩
  | 119 => ⟨S_, .f32⟩
  | 120 => ⟨S2x2048, .f32⟩
  | 121 => ⟨S2x2048x1, .f32⟩
  | 122 => ⟨S2x2048x1024, .f32⟩
  | 123 => ⟨S2x2048x1024, .f32⟩
  | 124 => ⟨S2x2048x1024, .f32⟩
  | 125 => ⟨S2x2048x1, .f32⟩
  | 126 => ⟨S_, .f32⟩
  | 127 => ⟨S2x2048x1, .f32⟩
  | _ => ⟨S4096x1024, .f32⟩

abbrev hbmTy0_2 (i : Nat) : BufTy := match i % 128 with
  | 0 => ⟨S2x2048x1, .f32⟩
  | 1 => ⟨S_, .f32⟩
  | 2 => ⟨S2x2048, .f32⟩
  | 3 => ⟨S2x2048x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S4096x1024, .f32⟩
  | 9 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_18 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_20 : Ref sig .tc := ⟨.hbm, 139, rfl⟩
abbrev main_v109 : Ref sig .tc := ⟨.hbm, 140, rfl⟩
abbrev main_v110 : Ref sig .tc := ⟨.hbm, 141, rfl⟩
abbrev main_cst_21 : Ref sig .tc := ⟨.hbm, 142, rfl⟩
abbrev main_v111 : Ref sig .tc := ⟨.hbm, 143, rfl⟩
abbrev main_v112 : Ref sig .tc := ⟨.hbm, 144, rfl⟩
abbrev main_cst_22 : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_24 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_25 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_26 : Ref sig .tc := ⟨.hbm, 175, rfl⟩
abbrev main_v139 : Ref sig .tc := ⟨.hbm, 176, rfl⟩
abbrev main_v140 : Ref sig .tc := ⟨.hbm, 177, rfl⟩
abbrev main_cst_27 : Ref sig .tc := ⟨.hbm, 178, rfl⟩
abbrev main_v141 : Ref sig .tc := ⟨.hbm, 179, rfl⟩
abbrev main_v142 : Ref sig .tc := ⟨.hbm, 180, rfl⟩
abbrev main_cst_28 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_29 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_30 : Ref sig .tc := ⟨.hbm, 191, rfl⟩
abbrev main_v151 : Ref sig .tc := ⟨.hbm, 192, rfl⟩
abbrev main_v152 : Ref sig .tc := ⟨.hbm, 193, rfl⟩
abbrev main_cst_31 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_32 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_33 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_34 : Ref sig .tc := ⟨.hbm, 208, rfl⟩
abbrev main_v164 : Ref sig .tc := ⟨.hbm, 209, rfl⟩
abbrev main_v165 : Ref sig .tc := ⟨.hbm, 210, rfl⟩
abbrev main_cst_35 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_36 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_37 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_38 : Ref sig .tc := ⟨.hbm, 225, rfl⟩
abbrev main_v177 : Ref sig .tc := ⟨.hbm, 226, rfl⟩
abbrev main_v178 : Ref sig .tc := ⟨.hbm, 227, rfl⟩
abbrev main_cst_39 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_call1_cst : Ref sig .tc := ⟨.hbm, 233, rfl⟩
abbrev main_call1_v0 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_40 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_41 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_42 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_cst_43 : Ref sig .tc := ⟨.hbm, 254, rfl⟩
abbrev main_v199 : Ref sig .tc := ⟨.hbm, 255, rfl⟩
abbrev main_v200 : Ref sig .tc := ⟨.hbm, 256, rfl⟩
abbrev main_cst_44 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩

abbrev nD : Nat := 1
abbrev τ : Topo := Topo.v7x

variable {F : FTy → Type} [FloatOps F]
-- ==== KernelDh.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S2x512x2816 : Shape := ⟨3, ![2, 512, 2816]⟩
abbrev S512x1024 : Shape := ⟨2, ![512, 1024]⟩
abbrev S8x128 : Shape := ⟨2, ![8, 128]⟩
abbrev S2816x1024 : Shape := ⟨2, ![2816, 1024]⟩
abbrev S1x512x2816 : Shape := ⟨3, ![1, 512, 2816]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S8x128, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== ReferenceDhIdeal.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2x2816 : Shape := ⟨3, ![4096, 2, 2816]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5632, .bf16⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S2x4096x2816, .f32⟩
  | .hbm, ⟨28, _⟩ => ⟨S4096x2x2816, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S_, .f32⟩
  | .hbm, ⟨57, _⟩ => ⟨S1024, .f32⟩
  | .hbm, ⟨58, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== KernelDwu.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x1408 : Shape := ⟨3, ![1, 4096, 1408]⟩
abbrev S1408x1024 : Shape := ⟨2, ![1408, 1024]⟩
abbrev S8x128 : Shape := ⟨2, ![8, 128]⟩
abbrev S4096x1408 : Shape := ⟨2, ![4096, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDwuIdeal.lean ====
abbrev S2x4096x2816 : Shape := ⟨3, ![2, 4096, 2816]⟩
abbrev S4096x1024 : Shape := ⟨2, ![4096, 1024]⟩
abbrev S_ : Shape := ⟨0, ![]⟩
abbrev S1024x5632 : Shape := ⟨2, ![1024, 5632]⟩
abbrev S4096x5632 : Shape := ⟨2, ![4096, 5632]⟩
abbrev S4096x2x2816 : Shape := ⟨3, ![4096, 2, 2816]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S2x4096x2816, .f32⟩
  | .hbm, ⟨7, _⟩ => ⟨S4096x2x2816, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelDg.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDgIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwd.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDwdIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUp.lean ====
abbrev S4096x1024 : Shape := ⟨2, ![4096, 1024]⟩
abbrev S5632x1024 : Shape := ⟨2, ![5632, 1024]⟩
abbrev S2x4096x2816 : Shape := ⟨3, ![2, 4096, 2816]⟩
abbrev S1024x1024 : Shape := ⟨2, ![1024, 1024]⟩
abbrev S2816x1024 : Shape := ⟨2, ![2816, 1024]⟩
abbrev S1x1024x2816 : Shape := ⟨3, ![1, 1024, 2816]⟩
abbrev S8x128 : Shape := ⟨2, ![8, 128]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S1024x5632, .bf16⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== KernelDown.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferenceDownIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDx.lean ====
abbrev S2x4096x1024 : Shape := ⟨3, ![2, 4096, 1024]⟩
abbrev S1024x2048 : Shape := ⟨2, ![1024, 2048]⟩
abbrev S4096x1024 : Shape := ⟨2, ![4096, 1024]⟩
abbrev S1x1024 : Shape := ⟨2, ![1, 1024]⟩
abbrev S2x512x1024 : Shape := ⟨3, ![2, 512, 1024]⟩
abbrev S512x1024 : Shape := ⟨2, ![512, 1024]⟩
abbrev S8x128 : Shape := ⟨2, ![8, 128]⟩
abbrev S1024x1024 : Shape := ⟨2, ![1024, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x1024, .bf16⟩
  | .hbm, ⟨1, _⟩ => ⟨S1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S8x128, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ReferenceDxIdeal.lean ====
abbrev S2x4096x1024 : Shape := ⟨3, ![2, 4096, 1024]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x2x1024 : Shape := ⟨3, ![4096, 2, 1024]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x2048, .f32⟩
  | .hbm, ⟨25, _⟩ => ⟨S4096x2048, .f32⟩
  | .hbm, ⟨26, _⟩ => ⟨S2x4096x1024, .f32⟩
  | .hbm, ⟨27, _⟩ => ⟨S4096x2x1024, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KernelDwa.lean ====
abbrev S4096x1024 : Shape := ⟨2, ![4096, 1024]⟩
abbrev S2x4096x1024 : Shape := ⟨3, ![2, 4096, 1024]⟩
abbrev S1024x2048 : Shape := ⟨2, ![1024, 2048]⟩
abbrev S1x4096x1024 : Shape := ⟨3, ![1, 4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1024x2048, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceDwaIdeal.lean ====
abbrev S4096x1024 : Shape := ⟨2, ![4096, 1024]⟩
abbrev S2x4096x1024 : Shape := ⟨3, ![2, 4096, 1024]⟩
abbrev S_ : Shape := ⟨0, ![]⟩
abbrev S1024x2048 : Shape := ⟨2, ![1024, 2048]⟩
abbrev S4096x2048 : Shape := ⟨2, ![4096, 2048]⟩
abbrev S4096x2x1024 : Shape := ⟨3, ![4096, 2, 1024]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S2x4096x1024, .f32⟩
  | .hbm, ⟨7, _⟩ => ⟨S4096x2x1024, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDwb.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferenceDwbIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelPw.lean ====
abbrev S4096x1024 : Shape := ⟨2, ![4096, 1024]⟩
abbrev S1024x2048 : Shape := ⟨2, ![1024, 2048]⟩
abbrev S1x2048 : Shape := ⟨2, ![1, 2048]⟩
abbrev S2x4096x1024 : Shape := ⟨3, ![2, 4096, 1024]⟩
abbrev S512x1024 : Shape := ⟨2, ![512, 1024]⟩
abbrev S1024x1024 : Shape := ⟨2, ![1024, 1024]⟩
abbrev S1x1024 : Shape := ⟨2, ![1, 1024]⟩
abbrev S1x512x1024 : Shape := ⟨3, ![1, 512, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S2x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferencePwIdeal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S1x4096x1024 : Shape := ⟨3, ![1, 4096, 1024]⟩
abbrev S2x4096x1024 : Shape := ⟨3, ![2, 4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S1x4096x1024, .f32⟩
  | .hbm, ⟨11, _⟩ => ⟨S1x4096x1024, .f32⟩
  | .hbm, ⟨12, _⟩ => ⟨S2x4096x1024, .f32⟩
  | .hbm, ⟨13, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelSum.lean ====
abbrev S8x72x1024 : Shape := ⟨3, ![8, 72, 1024]⟩
abbrev S72x1024 : Shape := ⟨2, ![72, 1024]⟩
abbrev S1x72x1024 : Shape := ⟨3, ![1, 72, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x72x1024, .f32⟩
  | .local _ .vmem, ⟨1, _⟩ => ⟨S72x1024, .f32⟩
  | _, _ => ⟨S8x72x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x72x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumIdeal.lean ====
abbrev S8x72x1024 : Shape := ⟨3, ![8, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S_, .f32⟩
  | .hbm, ⟨2, _⟩ => ⟨S72x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAda.lean ====
abbrev S8x1024x256 : Shape := ⟨3, ![8, 1024, 256]⟩
abbrev S1x1024x256 : Shape := ⟨3, ![1, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdaIdeal.lean ====
abbrev S8x1024x256 : Shape := ⟨3, ![8, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S_, .f32⟩
  | .hbm, ⟨12, _⟩ => ⟨S1x1024x256, .f32⟩
  | .hbm, ⟨13, _⟩ => ⟨S1x1024x256, .f32⟩
  | .hbm, ⟨14, _⟩ => ⟨S1x1024x256, .f32⟩
  | .hbm, ⟨15, _⟩ => ⟨S_, .f32⟩
  | .hbm, ⟨16, _⟩ => ⟨S1x1024x256, .f32⟩
  | .hbm, ⟨17, _⟩ => ⟨S1x1024x256, .f32⟩
  | .hbm, ⟨18, _⟩ => ⟨S1x1024x256, .f32⟩
  | .hbm, ⟨19, _⟩ => ⟨S_, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdb.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdbIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdp.lean ====
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S1x128x256, .f32⟩
  | .hbm, ⟨5, _⟩ => ⟨S1x128x256, .f32⟩
  | .hbm, ⟨6, _⟩ => ⟨S1x128x256, .f32⟩
  | .hbm, ⟨7, _⟩ => ⟨S1x128x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdpIdeal.lean ====
abbrev S8x128x256 : Shape := ⟨3, ![8, 128, 256]⟩
abbrev S1x128x256 : Shape := ⟨3, ![1, 128, 256]⟩
abbrev S_ : Shape := ⟨0, ![]⟩
abbrev S128x256 : Shape := ⟨2, ![128, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S1x128x256, .f32⟩
  | .hbm, ⟨8, _⟩ => ⟨S_, .f32⟩
  | .hbm, ⟨9, _⟩ => ⟨S1x128x256, .f32⟩
  | .hbm, ⟨10, _⟩ => ⟨S1x128x256, .f32⟩
  | .hbm, ⟨11, _⟩ => ⟨S_, .f32⟩
  | .hbm, ⟨12, _⟩ => ⟨S1x128x256, .f32⟩
  | .hbm, ⟨13, _⟩ => ⟨S1x128x256, .f32⟩
  | .hbm, ⟨14, _⟩ => ⟨S1x128x256, .f32⟩
  | .hbm, ⟨15, _⟩ => ⟨S_, .f32⟩
  | .hbm, ⟨16, _⟩ => ⟨S1x128x256, .f32⟩
  | .hbm, ⟨17, _⟩ => ⟨S1x128x256, .f32⟩
  | .hbm, ⟨18, _⟩ => ⟨S1x128x256, .f32⟩
  | .hbm, ⟨19, _⟩ => ⟨S_, .f32⟩
  | .hbm, ⟨20, _⟩ => ⟨S1x128x256, .f32⟩
  | .hbm, ⟨21, _⟩ => ⟨S1x128x256, .f32⟩
  | .hbm, ⟨22, _⟩ => ⟨S1x128x256, .f32⟩
  | .hbm, ⟨23, _⟩ => ⟨S_, .f32⟩
  | .hbm, ⟨24, _⟩ => ⟨S1x128x256, .f32⟩
  | .hbm, ⟨25, _⟩ => ⟨S1x128x256, .f32⟩
  | .hbm, ⟨26, _⟩ => ⟨S_, .f32⟩
  | .hbm, ⟨27, _⟩ => ⟨S1x128x256, .f32⟩
  | .hbm, ⟨28, _⟩ => ⟨S1x128x256, .f32⟩
  | .hbm, ⟨29, _⟩ => ⟨S1x128x256, .f32⟩
  | .hbm, ⟨30, _⟩ => ⟨S_, .f32⟩
  | .hbm, ⟨31, _⟩ => ⟨S1x128x256, .f32⟩
  | .hbm, ⟨32, _⟩ => ⟨S1x128x256, .f32⟩
  | .hbm, ⟨33, _⟩ => ⟨S1x128x256, .f32⟩
  | .hbm, ⟨34, _⟩ => ⟨S_, .f32⟩
  | .hbm, ⟨35, _⟩ => ⟨S1x128x256, .f32⟩
  | .hbm, ⟨36, _⟩ => ⟨S1x128x256, .f32⟩
  | .hbm, ⟨37, _⟩ => ⟨S1x128x256, .f32⟩
  | .hbm, ⟨38, _⟩ => ⟨S_, .f32⟩
  | .hbm, ⟨39, _⟩ => ⟨S1x128x256, .f32⟩
  | .hbm, ⟨40, _⟩ => ⟨S1x128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAds.lean ====
abbrev S1x24x1024 : Shape := ⟨3, ![1, 24, 1024]⟩
abbrev S24x1024 : Shape := ⟨2, ![24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S1x24x1024, .f32⟩
  | .hbm, ⟨5, _⟩ => ⟨S1x24x1024, .f32⟩
  | .hbm, ⟨6, _⟩ => ⟨S1x24x1024, .f32⟩
  | .hbm, ⟨7, _⟩ => ⟨S1x24x1024, .f32⟩
  | .local _ .vmem, ⟨0, _⟩ => ⟨S1x24x1024, .f32⟩
  | .local _ .vmem, ⟨1, _⟩ => ⟨S1x24x1024, .f32⟩
  | .local _ .vmem, ⟨2, _⟩ => ⟨S1x24x1024, .f32⟩
  | .local _ .vmem, ⟨3, _⟩ => ⟨S1x24x1024, .f32⟩
  | .local _ .vmem, ⟨4, _⟩ => ⟨S1x24x1024, .f32⟩
  | .local _ .vmem, ⟨5, _⟩ => ⟨S1x24x1024, .f32⟩
  | .local _ .vmem, ⟨6, _⟩ => ⟨S1x24x1024, .f32⟩
  | .local _ .vmem, ⟨7, _⟩ => ⟨S1x24x1024, .f32⟩
  | _, _ => ⟨S1x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdsIdeal.lean ====
abbrev S1x24x1024 : Shape := ⟨3, ![1, 24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S_, .f32⟩
  | .hbm, ⟨5, _⟩ => ⟨S1x24x1024, .f32⟩
  | .hbm, ⟨6, _⟩ => ⟨S1x24x1024, .f32⟩
  | .hbm, ⟨7, _⟩ => ⟨S_, .f32⟩
  | .hbm, ⟨8, _⟩ => ⟨S1x24x1024, .f32⟩
  | .hbm, ⟨9, _⟩ => ⟨S1x24x1024, .f32⟩
  | .hbm, ⟨10, _⟩ => ⟨S1x24x1024, .f32⟩
  | .hbm, ⟨11, _⟩ => ⟨S_, .f32⟩
  | .hbm, ⟨12, _⟩ => ⟨S1x24x1024, .f32⟩
  | .hbm, ⟨13, _⟩ => ⟨S1x24x1024, .f32⟩
  | .hbm, ⟨14, _⟩ => ⟨S1x24x1024, .f32⟩
  | .hbm, ⟨15, _⟩ => ⟨S_, .f32⟩
  | .hbm, ⟨16, _⟩ => ⟨S1x24x1024, .f32⟩
  | .hbm, ⟨17, _⟩ => ⟨S1x24x1024, .f32⟩
  | .hbm, ⟨18, _⟩ => ⟨S1x24x1024, .f32⟩
  | .hbm, ⟨19, _⟩ => ⟨S_, .f32⟩
  | .hbm, ⟨20, _⟩ => ⟨S1x24x1024, .f32⟩
  | .hbm, ⟨21, _⟩ => ⟨S1x24x1024, .f32⟩
  | .hbm, ⟨22, _⟩ => ⟨S_, .f32⟩
  | .hbm, ⟨23, _⟩ => ⟨S1x24x1024, .f32⟩
  | .hbm, ⟨24, _⟩ => ⟨S1x24x1024, .f32⟩
  | .hbm, ⟨25, _⟩ => ⟨S1x24x1024, .f32⟩
  | .hbm, ⟨26, _⟩ => ⟨S_, .f32⟩
  | .hbm, ⟨27, _⟩ => ⟨S1x24x1024, .f32⟩
  | .hbm, ⟨28, _⟩ => ⟨S1x24x1024, .f32⟩
  | .hbm, ⟨29, _⟩ => ⟨S1x24x1024, .f32⟩
  | .hbm, ⟨30, _⟩ => ⟨S_, .f32⟩
  | .hbm, ⟨31, _⟩ => ⟨S1x24x1024, .f32⟩
  | .hbm, ⟨32, _⟩ => ⟨S1x24x1024, .f32⟩
  | .hbm, ⟨33, _⟩ => ⟨S1x24x1024, .f32⟩
  | .hbm, ⟨34, _⟩ => ⟨S_, .f32⟩
  | .hbm, ⟨35, _⟩ => ⟨S1x24x1024, .f32⟩
  | .hbm, ⟨36, _⟩ => ⟨S1x24x1024, .f32⟩
  | _, _ => ⟨S1x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdu.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x176x1024, .bf16⟩
  | .local _ .vmem, ⟨17, _⟩ => ⟨S8x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceAduIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelAdf.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S8x176x1024, .bf16⟩
  | .local _ .vmem, ⟨17, _⟩ => ⟨S8x176x1024, .bf16⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S1x176x1024, .f32⟩
  | .local _ .vmem, ⟨27, _⟩ => ⟨S1x176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x176x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceAdfIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelRms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelPwb.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferencePwbIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== KernelHead.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1, .f32⟩
  | .local _ .vmem, ⟨13, _⟩ => ⟨S1x1024, .f32⟩
  | .local _ .vmem, ⟨14, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== ReferenceHeadIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x1, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Consts.lean ====
/- The constants of the programs at the ideal instance, and a sum of reals there. -/
module

public import Idealize.ShloMosaic.PureOps.Ideal.Laws
public import Mathlib.Tactic.NormNum
public import Mathlib.Tactic.FieldSimp
public import Mathlib.Tactic.Ring

@[expose] public section

noncomputable section

namespace Cert.Consts

open Idealize.ShloMosaic

/-- The width of a row, as a constant. -/
theorem width : Ideal.ofBits FTy.f32 1149239296#32 = ((1024 : ℝ) : EReal) := by
  simp [Ideal.ofBits, Ideal.ieee, -EReal.coe_mul]; norm_num

/-- The small constant under a root is a positive real. -/
theorem small : ∃ e : ℝ, 0 < e ∧ Ideal.ofBits FTy.f32 897988541#32 = (e : EReal) := by
  refine ⟨_, ?_, by simp [Ideal.ofBits, Ideal.ieee, -EReal.coe_mul]; rfl⟩
  norm_num

/-- Minus one half. -/
theorem negHalf : Ideal.ofBits FTy.f32 3204448256#32 = ((-(1 / 2) : ℝ) : EReal) := by
  simp [Ideal.ofBits, Ideal.ieee, -EReal.coe_mul]; norm_num

/-- A finite sum of reals is the real of the sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An array all of whose entries are reals is the array of those reals. -/
theorem reals {ι : Type} {x : ι → EReal} (h : ∀ i, ∃ r : ℝ, x i = (r : EReal)) : ∃ f : ι → ℝ, x = fun i => (f i : EReal) :=
  ⟨fun i => (h i).choose, funext fun i => (h i).choose_spec⟩

end Cert.Consts

end
-- ==== Proof.Norm.lean ====
/- The backward of the RMS norm on one row: the kernel's closed form against the chain rule's own terms. -/
module

public import proofs.«01_k».proof.Proof.Consts

@[expose] public section

noncomputable section

namespace Cert.Norm

open Idealize.ShloMosaic Cert.Consts

/-- The reciprocal root of a row's mean square. -/
def inv (x : Fin 1024 → EReal) : EReal :=
  Ideal.rsqrt (Ideal.div (∑ k, x k * x k) (Ideal.ofBits FTy.f32 1149239296#32) + Ideal.ofBits FTy.f32 897988541#32)

/-- The kernel's row: the gradient `r` of the sum beside the norm, plus the norm's own, of the row `x` with gain `g` when
    the gradient of its output is `a`. -/
def row (a x g r : Fin 1024 → EReal) (d : Fin 1024) : EReal :=
  r d + inv x * (a d * g d - x d * inv x
    * Ideal.div (∑ k, a k * g k * (x k * inv x)) (Ideal.ofBits FTy.f32 1149239296#32))

/-- The derivative of the reciprocal root, spread over the row. -/
def spread (a x g : Fin 1024 → EReal) : EReal :=
  Ideal.div ((∑ k, x k * (a k * g k)) * (Ideal.ofBits FTy.f32 3204448256#32
      * Ideal.div (inv x) (Ideal.div (∑ k, x k * x k) (Ideal.ofBits FTy.f32 1149239296#32) + Ideal.ofBits FTy.f32 897988541#32)))
    (Ideal.ofBits FTy.f32 1149239296#32)

/-- The chain rule's row: the product rule at `x * inv x * g`, the square's two factors apart. -/
def chain (a x g r : Fin 1024 → EReal) (d : Fin 1024) : EReal :=
  r d + a d * g d * inv x + x d * spread a x g + spread a x g * x d

/-- The root of a row of reals: a real, whose square is the reciprocal of the mean square. -/
theorem inv_real (x : Fin 1024 → ℝ) : ∃ s i : ℝ, 0 < s ∧ 0 < i ∧ i * i = 1 / s ∧ inv (fun k => (x k : EReal)) = (i : EReal)
    ∧ Ideal.div (∑ k, (x k : EReal) * (x k : EReal)) (Ideal.ofBits FTy.f32 1149239296#32) + Ideal.ofBits FTy.f32 897988541#32 = (s : EReal) := by
  obtain ⟨e, he, hc⟩ := small
  have hs : 0 < (∑ k, x k * x k) * (1 / 1024) + e :=
    add_pos_of_nonneg_of_pos (mul_nonneg (Finset.sum_nonneg fun k _ => mul_self_nonneg (x k)) (by norm_num)) he
  have es : Ideal.div (∑ k, (x k : EReal) * (x k : EReal)) (Ideal.ofBits FTy.f32 1149239296#32) + Ideal.ofBits FTy.f32 897988541#32
      = (((∑ k, x k * x k) * (1 / 1024) + e : ℝ) : EReal) := by
    rw [hc, width, Ideal.div_coe (by norm_num : (1024 : ℝ) ≠ 0)]
    simp only [← EReal.coe_mul, sum_coe, ← EReal.coe_add]
  refine ⟨_, (Real.sqrt ((∑ k, x k * x k) * (1 / 1024) + e))⁻¹, hs, inv_pos.mpr (Real.sqrt_pos.mpr hs), ?_, ?_, es⟩
  · rw [← mul_inv, Real.mul_self_sqrt hs.le]; exact (one_div _).symm
  · unfold inv
    rw [es, Ideal.rsqrt_coe, if_neg (not_lt.mpr hs.le), if_neg hs.ne']

/-- A square is not negative. -/
theorem sq_nonneg (x : EReal) : 0 ≤ x * x := by
  induction x with
  | bot => rw [EReal.bot_mul_bot]; exact le_top
  | top => rw [EReal.top_mul_top]; exact le_top
  | coe x => rw [← EReal.coe_mul]; exact_mod_cast mul_self_nonneg x

/-- A row is of reals, or its squares sum to infinity. -/
theorem reals_or_top (x : Fin 1024 → EReal) : (∃ f : Fin 1024 → ℝ, x = fun k => (f k : EReal)) ∨ ∑ k, x k * x k = ⊤ := by
  by_cases h : ∀ k, ∃ r : ℝ, x k = (r : EReal)
  · exact Or.inl (reals h)
  · obtain ⟨k, hk⟩ := not_forall.mp h
    refine Or.inr (top_le_iff.mp ?_)
    have hsq : x k * x k = ⊤ := by
      revert hk
      generalize x k = z
      intro hk
      induction z with
      | bot => exact EReal.bot_mul_bot
      | top => exact EReal.top_mul_top
      | coe z => exact absurd ⟨z, rfl⟩ hk
    rw [← hsq]
    exact Finset.single_le_sum (f := fun k => x k * x k) (fun k _ => sq_nonneg (x k)) (Finset.mem_univ k)

/-- A factor that is a real and not negative goes into a sum. -/
theorem sum_mul {ι : Type} (s : Finset ι) (f : ι → EReal) {i : ℝ} (hi : 0 ≤ i) : (∑ k ∈ s, f k) * (i : EReal) = ∑ k ∈ s, f k * (i : EReal) := by
  classical
  refine Finset.induction_on s (by simp) fun a s ha ih => ?_
  rw [Finset.sum_insert ha, Finset.sum_insert ha, ← ih, mul_comm, mul_comm (f a), mul_comm (∑ k ∈ s, f k)]
  exact EReal.left_distrib_of_nonneg_of_ne_top (by exact_mod_cast hi) (EReal.coe_ne_top i) _ _

/-- The two forms of the norm's gradient, from the sum `T` and the gradient `A` at a place of a row whose entry there is the
    real `x`, with `i` the positive root and `c` the reciprocal width. -/
theorem forms (A T : EReal) (x i s c : ℝ) (hi : 0 < i) (hc : 0 < c) (his : i * i = 1 / s) :
    (i : EReal) * (A - (x : EReal) * (i : EReal) * (T * (i : EReal) * (c : EReal)))
      = A * (i : EReal) + (x : EReal) * (T * (((-(1 / 2) : ℝ) : EReal) * ((i : EReal) * ((1 / s : ℝ) : EReal))) * (c : EReal))
        + T * (((-(1 / 2) : ℝ) : EReal) * ((i : EReal) * ((1 / s : ℝ) : EReal))) * (c : EReal) * (x : EReal) := by
  have hn : -(1 / 2) * (i * (1 / s)) < 0 := by
    rw [← his]
    have := mul_pos hi (mul_pos hi hi)
    linarith
  rw [← EReal.coe_mul x i, ← EReal.coe_mul i (1 / s), ← EReal.coe_mul (-(1 / 2)) (i * (1 / s))]
  induction T with
  | coe T =>
    simp only [← EReal.coe_mul]
    induction A with
    | coe A =>
      simp only [← EReal.coe_mul, ← EReal.coe_add, ← EReal.coe_sub]
      refine congrArg _ ?_
      rw [← his]
      ring
    | top => rw [EReal.top_sub_coe, EReal.coe_mul_top_of_pos hi, EReal.top_mul_coe_of_pos hi, EReal.top_add_coe, EReal.top_add_coe]
    | bot => rw [sub_eq_add_neg, EReal.bot_add, EReal.coe_mul_bot_of_pos hi, EReal.bot_mul_coe_of_pos hi, EReal.bot_add, EReal.bot_add]
  | top =>
    rw [EReal.top_mul_coe_of_pos hi, EReal.top_mul_coe_of_pos hc, EReal.top_mul_coe_of_neg hn, EReal.bot_mul_coe_of_pos hc]
    rcases lt_trichotomy x 0 with hx | hx | hx
    · rw [EReal.coe_mul_top_of_neg (mul_neg_of_neg_of_pos hx hi), EReal.coe_mul_bot_of_neg hx, EReal.bot_mul_coe_of_neg hx]
      induction A with
      | coe A => rw [← EReal.coe_mul, EReal.coe_add_top, EReal.top_add_top]; rw [EReal.coe_sub_bot, EReal.coe_mul_top_of_pos hi]
      | top => rw [EReal.top_mul_coe_of_pos hi, EReal.top_add_top, EReal.top_add_top]; rw [EReal.top_sub_bot, EReal.coe_mul_top_of_pos hi]
      | bot => rw [sub_eq_add_neg, EReal.bot_add, EReal.coe_mul_bot_of_pos hi, EReal.bot_mul_coe_of_pos hi, EReal.bot_add, EReal.bot_add]
    · subst hx
      simp [mul_comm]
    · rw [EReal.coe_mul_top_of_pos (mul_pos hx hi), EReal.coe_mul_bot_of_pos hx, EReal.bot_mul_coe_of_pos hx, EReal.add_bot,
        sub_eq_add_neg, EReal.neg_top, EReal.add_bot, EReal.coe_mul_bot_of_pos hi]
  | bot =>
    rw [EReal.bot_mul_coe_of_pos hi, EReal.bot_mul_coe_of_pos hc, EReal.bot_mul_coe_of_neg hn, EReal.top_mul_coe_of_pos hc]
    rcases lt_trichotomy x 0 with hx | hx | hx
    · rw [EReal.coe_mul_bot_of_neg (mul_neg_of_neg_of_pos hx hi), EReal.coe_mul_top_of_neg hx, EReal.top_mul_coe_of_neg hx, EReal.add_bot,
        sub_eq_add_neg, EReal.neg_top, EReal.add_bot, EReal.coe_mul_bot_of_pos hi]
    · subst hx
      simp [mul_comm]
    · rw [EReal.coe_mul_bot_of_pos (mul_pos hx hi), EReal.coe_mul_top_of_pos hx, EReal.top_mul_coe_of_pos hx]
      induction A with
      | coe A => rw [← EReal.coe_mul, EReal.coe_add_top, EReal.top_add_top]; rw [EReal.coe_sub_bot, EReal.coe_mul_top_of_pos hi]
      | top => rw [EReal.top_mul_coe_of_pos hi, EReal.top_add_top, EReal.top_add_top]; rw [EReal.top_sub_bot, EReal.coe_mul_top_of_pos hi]
      | bot => rw [sub_eq_add_neg, EReal.bot_add, EReal.coe_mul_bot_of_pos hi, EReal.bot_mul_coe_of_pos hi, EReal.bot_add, EReal.bot_add]

/-- The two are the same on every row. Where the row has an infinity, its root's reciprocal is zero, and the norm's own
    gradient is zero in both. -/
theorem row_eq_chain (a x g r : Fin 1024 → EReal) (d : Fin 1024) : row a x g r d = chain a x g r d := by
  have e : chain a x g r d = r d + (a d * g d * inv x + x d * spread a x g + spread a x g * x d) := by
    unfold chain
    rw [add_assoc, add_assoc, add_assoc]
  rw [e]
  unfold row
  refine congrArg (fun z => r d + z) ?_
  have e1 : ∑ k, a k * g k * (x k * inv x) = ∑ k, x k * (a k * g k) * inv x :=
    Finset.sum_congr rfl fun k _ => by rw [← mul_assoc, mul_comm (a k * g k)]
  rw [e1]
  unfold spread
  rcases reals_or_top x with ⟨f, rfl⟩ | h
  · obtain ⟨s, i, hs, hi0, hi, ei, es⟩ := inv_real f
    rw [ei, es, width, negHalf, Ideal.div_coe (by norm_num : (1024 : ℝ) ≠ 0), Ideal.div_coe (by norm_num : (1024 : ℝ) ≠ 0),
      Ideal.div_coe hs.ne', ← sum_mul _ _ hi0.le]
    exact forms _ _ _ _ _ _ hi0 (by norm_num) hi
  · obtain ⟨e, he, hc⟩ := small
    have hw : (⊤ : EReal) * ((1 / 1024 : ℝ) : EReal) = ⊤ := EReal.top_mul_coe_of_pos (by norm_num)
    have hi : inv x = 0 := by
      unfold inv
      rw [h, hc, width, Ideal.div_coe (by norm_num : (1024 : ℝ) ≠ 0), hw, EReal.top_add_coe, Ideal.rsqrt_top]
    have hd : ∀ y : EReal, Ideal.div 0 y = if y = 0 then ⊥ else 0 := fun y => by
      unfold Ideal.div
      by_cases hy : y = 0
      · rw [if_pos hy, if_pos hy, if_neg (lt_irrefl _)]
      · rw [if_neg hy, if_neg hy, zero_mul]
    have hs : Ideal.div ⊤ ((1024 : ℝ) : EReal) + (e : EReal) = ⊤ := by
      rw [Ideal.div_coe (by norm_num : (1024 : ℝ) ≠ 0), hw, EReal.top_add_coe]
    have hz : Ideal.div 0 ((1024 : ℝ) : EReal) = 0 := by rw [hd, if_neg (by norm_num)]
    rw [hi, h, hc, width, hs, hd ⊤, if_neg EReal.top_ne_zero]
    simp only [mul_zero, zero_mul, hz, add_zero]

end Cert.Norm

end
-- ==== Proof.DhRef.lean ====
/- The gradient into the feed-forward network's input, as the reference computes it, at an index. -/
module

public import proofs.«01_k».proof.Proof.Gen.ReferenceDhIdeal.Read
public import proofs.«01_k».proof.Proof.Norm
public import Idealize.ShloMosaic.Lib.Pointwise

@[expose] public section

set_option maxRecDepth 16384

noncomputable section

namespace Cert.DhValue

open Cert.ReferenceDhIdeal Cert.ReferenceDhIdeal.Gen Cert.ReferenceDhIdeal.Read
open Idealize.ShloMosaic Idealize.ShloMosaic.TcCoe Idealize.SL.Sem

/-- The gradient of the norm's output at token `t` and feature `d`: the two branches' gradients against their weights. -/
def act (dup : Vec Ideal S2x4096x2816 .bf16) (wu : Vec Ideal S5632x1024 .bf16) (t : Fin 4096) (d : Fin 1024) : EReal :=
  (∑ k : Fin 2816, dup (ix3 0 t k) * wu (ix2 ⟨k.val, by omega⟩ d))
    + ∑ k : Fin 2816, dup (ix3 1 t k) * wu (ix2 ⟨2816 + k.val, by omega⟩ d)

/-- The reference's product of the two branches side by side is the two branches' products. -/
theorem product (dup : Vec Ideal S2x4096x2816 .bf16) (wu : Vec Ideal S5632x1024 .bf16) (t : Fin 4096) (d : Fin 1024) :
    val_main_v21 (F := Ideal) dup wu (ix2 t d) = act dup wu t d := by
  have e : val_main_v21 (F := Ideal) dup wu (ix2 t d)
      = ∑ k : Fin (2816 + 2816), dup (ix3 ⟨k.val / 2816, by omega⟩ t ⟨k.val % 2816, by omega⟩) * wu (ix2 k d) := by
    unfold val_main_v21 val_main_v20 val_main_v19 val_main_v18 val_main_v1 val_main_v0
    pointwise
  rw [e, Fin.sum_univ_add]
  refine congrArg₂ (fun a b : EReal => a + b) (Finset.sum_congr rfl fun k _ => congrArg₂ (fun a b : EReal => a * b) (congrArg dup ?_) (congrArg wu ?_))
    (Finset.sum_congr rfl fun k _ => congrArg₂ (fun a b : EReal => a * b) (congrArg dup ?_) (congrArg wu ?_))
  · funext a; apply Fin.ext
    match a with
    | ⟨0, _⟩ => show k.val / 2816 = 0; omega
    | ⟨1, _⟩ => rfl
    | ⟨2, _⟩ => show k.val % 2816 = k.val; omega
  · funext a; apply Fin.ext
    match a with
    | ⟨0, _⟩ => rfl
    | ⟨1, _⟩ => rfl
  · funext a; apply Fin.ext
    match a with
    | ⟨0, _⟩ => show (2816 + k.val) / 2816 = 1; omega
    | ⟨1, _⟩ => rfl
    | ⟨2, _⟩ => show (2816 + k.val) % 2816 = k.val; omega
  · funext a; apply Fin.ext
    match a with
    | ⟨0, _⟩ => rfl
    | ⟨1, _⟩ => rfl

variable (dup : Vec Ideal S2x4096x2816 .bf16) (wu : Vec Ideal S5632x1024 .bf16) (r : Vec Ideal S4096x1024 .f32)
  (g : Vec Ideal S1x1024 .f32) (dr : Vec Ideal S4096x1024 .f32)

/-- The reference's first result at an index is the chain rule's row. -/
theorem rows_chain (t : Fin 4096) (d : Fin 1024) : val_main_v41 (F := Ideal) dup wu r g dr (ix2 t d)
    = Norm.chain (act dup wu t) (fun k => r (ix2 t k)) (fun k => g (ix2 0 k)) (fun k => dr (ix2 t k)) d := by
  have hp : ∀ k, val_main_v21 (F := Ideal) dup wu (ix2 t k) = act dup wu t k := product dup wu t
  unfold val_main_v41 val_main_v40 val_main_v39 val_main_v38 val_main_v37 val_main_v36 val_main_v35 val_main_v34 val_main_v33
    val_main_v32 val_main_v31 val_main_v30 val_main_v29 val_main_v28 val_main_v27 val_main_v26 val_main_v25 val_main_v12
    val_main_v11 val_main_v10 val_main_v9 val_main_v8 val_main_v7 val_main_v6 val_main_v5 val_main_v4 val_main_v3 val_main_v2
    val_main_cst_1 val_main_cst_0 val_main_cst val_main_cst_2 val_main_cst_4 val_main_cst_5 val_main_cst_6
  revert hp
  generalize val_main_v21 (F := Ideal) dup wu = a
  intro hp
  unfold Norm.chain Norm.spread Norm.inv
  pointwise
  simp only [Finset.univ_unique, Finset.sum_singleton, hp]

/-- The gain's gradient at a feature. -/
theorem gain_sum (j : S1x1024.Idx) : val_main_v24 (F := Ideal) dup wu r j
    = ∑ t : Fin 4096, act dup wu t (j 1) * (r (ix2 t (j 1)) * Norm.inv fun k => r (ix2 t k)) := by
  have hp : ∀ t k, val_main_v21 (F := Ideal) dup wu (ix2 t k) = act dup wu t k := product dup wu
  unfold val_main_v24 val_main_v23 val_main_v22 val_main_v14 val_main_v13 val_main_v9 val_main_v8 val_main_v7 val_main_v6
    val_main_v5 val_main_v4 val_main_v3 val_main_v2 val_main_cst_3 val_main_cst_1 val_main_cst_0 val_main_cst
  revert hp
  generalize val_main_v21 (F := Ideal) dup wu = a
  intro hp
  unfold Norm.inv
  pointwise
  exact Finset.sum_congr rfl fun t _ => (congrArg (fun z => _ * z) (hp t (j 1))).trans (mul_comm _ _)

/-- The rows' sum at a feature. -/
theorem row_sum (j : S1x1024.Idx) : val_main_v44 (F := Ideal) dup wu r g dr j
    = ∑ t : Fin 4096, val_main_v41 (F := Ideal) dup wu r g dr (ix2 t (j 1)) := by
  unfold val_main_v44 val_main_v43 val_main_cst_7
  generalize val_main_v41 (F := Ideal) dup wu r g dr = a
  pointwise

end Cert.DhValue

end
-- ==== Proof.DhKer.lean ====
/- The gradient into the feed-forward network's input: what the kernel's blocks and its two running sums leave. -/
module

public import proofs.«01_k».proof.Proof.Gen.KernelDhIdeal.Value
public import proofs.«01_k».proof.Proof.DhRef
public import Idealize.ShloMosaic.Lib.Pointwise
public import Idealize.ShloMosaic.Lib.Pipeline.ValueKit

@[expose] public section

set_option maxRecDepth 16384

noncomputable section

namespace Cert.DhValue

open Cert.KernelDhIdeal Cert.KernelDhIdeal.Gen Cert.KernelDhIdeal.Value
open Idealize.ShloMosaic Idealize.ShloMosaic.TcCoe Idealize.SL.Sem

section forms

variable (dup : Vec Ideal S2x4096x2816 .bf16) (wu : Vec Ideal S5632x1024 .bf16) (r : Vec Ideal S4096x1024 .f32)
  (g : Vec Ideal S1x1024 .f32) (dr : Vec Ideal S4096x1024 .f32)

/-- A row's gradient. -/
def rowAt (t : Fin 4096) (d : Fin 1024) : EReal :=
  Norm.row (act dup wu t) (fun k => r (ix2 t k)) (fun k => g (ix2 0 k)) (fun k => dr (ix2 t k)) d

/-- A row's part of the gain's gradient. -/
def gainAt (t : Fin 4096) (d : Fin 1024) : EReal :=
  act dup wu t d * (r (ix2 t d) * Norm.inv fun k => r (ix2 t k))

/-- The rows. -/
def Rows : Vec Ideal S4096x1024 .f32 := fun j => rowAt dup wu r g dr (j 0) (j 1)

/-- The gain's gradient. -/
def Gain : Vec Ideal S1x1024 .f32 := fun j => ∑ t : Fin 4096, gainAt dup wu r t (j 1)

/-- The rows' sum. -/
def Sums : Vec Ideal S1x1024 .f32 := fun j => ∑ t : Fin 4096, rowAt dup wu r g dr t (j 1)

end forms

/-- Row `x` of the `n`-th block of 512. -/
def rowOf (n : ℕ) (hn : n < 8) (x : Fin 512) : Fin 4096 := ⟨n * 512 + x.val, by omega⟩

/-- The sum over the rows, block by block. -/
theorem sum_rows (f : Fin 4096 → EReal) (term : ℕ → EReal)
    (h : ∀ (n : ℕ) (hn : n < 8), term n = ∑ x : Fin 512, f (rowOf n hn x)) :
    ∑ n ∈ Finset.range 8, term n = ∑ t : Fin 4096, f t := by
  have e := Fin.sum_univ_univ_mul_add (M := EReal) 8 512 (fun l => if hl : l < 4096 then f ⟨l, hl⟩ else 0)
  have er : ∑ l : Fin (8 * 512), (if hl : l.val < 4096 then f ⟨l.val, hl⟩ else 0) = ∑ t : Fin 4096, f t :=
    Finset.sum_congr rfl fun l _ => dif_pos l.isLt
  rw [← er, ← e, ← Fin.sum_univ_eq_sum_range term 8]
  refine Finset.sum_congr rfl fun n _ => ?_
  rw [h n.val n.isLt]
  refine Finset.sum_congr rfl fun x _ => ?_
  have hx : n.val * 512 + x.val < 4096 := by have := n.isLt; have := x.isLt; omega
  rw [dif_pos hx]
  rfl

variable (m : (ℓ : Loc nD τ sig) → Buf (Elt Ideal) ℓ) (ρ : Dev nD → PrngReg)

/-- Where the input windows' blocks sit. -/
theorem idx_in : ∀ t : Fin cfg0.N, (win0_0.index t (0 : Fin 3) = 0 ∧ win0_0.index t (1 : Fin 3) = t.val ∧ win0_0.index t (2 : Fin 3) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0) :=
  (by decide +kernel : ∀ t : Fin grid0.N, _)

/-- Where the output windows' blocks sit. -/
theorem idx_out : ∀ t : Fin cfg0.N, (win0_5.index t (0 : Fin 2) = t.val ∧ win0_5.index t (1 : Fin 2) = 0)
    ∧ (win0_6.index t (0 : Fin 2) = t.val ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem points (t : Fin cfg0.N) : t.val < 8 := lt_of_lt_of_eq t.isLt (by decide)

theorem in0 (c : Dev nD) (t : Fin cfg0.N) (b : Fin 2) (x : Fin 512) (k : Fin 2816) :
    iblk m c 0 t (ix3 b x k) = V m c main_arg0 (ix3 b (rowOf t.val (points t) x) k) := by
  obtain ⟨⟨e0, e1, e2⟩, _⟩ := idx_in t
  show V m c main_arg0 (((cfg0.win 0).blk t).view.emb (ix3 b x k)) = _
  refine congrArg _ (funext fun a => Fin.ext ?_)
  match a with
  | ⟨0, _⟩ => show win0_0.index t (0 : Fin 3) * 2 + 1 * b.val = b.val; omega
  | ⟨1, _⟩ => show win0_0.index t (1 : Fin 3) * 512 + 1 * x.val = t.val * 512 + x.val; omega
  | ⟨2, _⟩ => show win0_0.index t (2 : Fin 3) * 2816 + 1 * k.val = k.val; omega

theorem in1 (c : Dev nD) (t : Fin cfg0.N) (x : Fin 5632) (k : Fin 1024) :
    iblk m c 1 t (ix2 x k) = V m c main_arg1 (ix2 x k) := by
  obtain ⟨_, ⟨e0, e1⟩, _⟩ := idx_in t
  show V m c main_arg1 (((cfg0.win 1).blk t).view.emb (ix2 x k)) = _
  refine congrArg _ (funext fun a => Fin.ext ?_)
  match a with
  | ⟨0, _⟩ => show win0_1.index t (0 : Fin 2) * 5632 + 1 * x.val = x.val; omega
  | ⟨1, _⟩ => show win0_1.index t (1 : Fin 2) * 1024 + 1 * k.val = k.val; omega

theorem in2 (c : Dev nD) (t : Fin cfg0.N) (x : Fin 512) (k : Fin 1024) :
    iblk m c 2 t (ix2 x k) = V m c main_arg2 (ix2 (rowOf t.val (points t) x) k) := by
  obtain ⟨_, _, ⟨e0, e1⟩, _⟩ := idx_in t
  show V m c main_arg2 (((cfg0.win 2).blk t).view.emb (ix2 x k)) = _
  refine congrArg _ (funext fun a => Fin.ext ?_)
  match a with
  | ⟨0, _⟩ => show win0_2.index t (0 : Fin 2) * 512 + 1 * x.val = t.val * 512 + x.val; omega
  | ⟨1, _⟩ => show win0_2.index t (1 : Fin 2) * 1024 + 1 * k.val = k.val; omega

theorem in3 (c : Dev nD) (t : Fin cfg0.N) (x : Fin 1) (k : Fin 1024) :
    iblk m c 3 t (ix2 x k) = V m c main_arg3 (ix2 x k) := by
  obtain ⟨_, _, _, ⟨e0, e1⟩, _⟩ := idx_in t
  show V m c main_arg3 (((cfg0.win 3).blk t).view.emb (ix2 x k)) = _
  refine congrArg _ (funext fun a => Fin.ext ?_)
  match a with
  | ⟨0, _⟩ => show win0_3.index t (0 : Fin 2) * 1 + 1 * x.val = x.val; omega
  | ⟨1, _⟩ => show win0_3.index t (1 : Fin 2) * 1024 + 1 * k.val = k.val; omega

theorem in4 (c : Dev nD) (t : Fin cfg0.N) (x : Fin 512) (k : Fin 1024) :
    iblk m c 4 t (ix2 x k) = V m c main_arg4 (ix2 (rowOf t.val (points t) x) k) := by
  obtain ⟨_, _, _, _, ⟨e0, e1⟩⟩ := idx_in t
  show V m c main_arg4 (((cfg0.win 4).blk t).view.emb (ix2 x k)) = _
  refine congrArg _ (funext fun a => Fin.ext ?_)
  match a with
  | ⟨0, _⟩ => show win0_4.index t (0 : Fin 2) * 512 + 1 * x.val = t.val * 512 + x.val; omega
  | ⟨1, _⟩ => show win0_4.index t (1 : Fin 2) * 1024 + 1 * k.val = k.val; omega

/-- The row a point computes for row `x` of its block. -/
abbrev rowV (c : Dev nD) (t : Fin cfg0.N) (x : Fin 512) (d : Fin 1024) : EReal :=
  rowAt (V m c main_arg0) (V m c main_arg1) (V m c main_arg2) (V m c main_arg3) (V m c main_arg4) (rowOf t.val (points t) x) d

/-- Its part of the gain's gradient. -/
abbrev gainV (c : Dev nD) (t : Fin cfg0.N) (x : Fin 512) (d : Fin 1024) : EReal :=
  gainAt (V m c main_arg0) (V m c main_arg1) (V m c main_arg2) (rowOf t.val (points t) x) d

/-- The rows a point leaves in the first result's block. -/
theorem rows5 (c : Dev nD) (t : Fin cfg0.N) (x : Fin 512) (d : Fin 1024) :
    (outsAt0 m c t.val t.isLt).1 (ix2 x d) = rowV m c t x d := by
  unfold rowV rowAt Norm.row Norm.inv act
  by_cases h0 : t.val % 8 = 0
  · rw [outsAt0_A m c t h0]
    frame_out
    pointwise [k0_pay1, k0_pay10, k0_pay9, k0_pay8, k0_pay7]
    simp only [in0, in1, in2, in3, in4]
  · rw [outsAt0_B m c t h0]
    frame_out
    pointwise [k0_pay1, k0_pay10, k0_pay9, k0_pay8, k0_pay7]
    simp only [in0, in1, in2, in3, in4]

/-- And in the second result's. -/
theorem rows6 (c : Dev nD) (t : Fin cfg0.N) (x : Fin 512) (d : Fin 1024) :
    (outsAt0 m c t.val t.isLt).2.1 (ix2 x d) = rowV m c t x d := by
  unfold rowV rowAt Norm.row Norm.inv act
  by_cases h0 : t.val % 8 = 0
  · rw [outsAt0_A m c t h0]
    frame_out
    pointwise [k0_pay2, k0_pay1, k0_pay10, k0_pay9, k0_pay8, k0_pay7]
    simp only [in0, in1, in2, in3, in4]
  · rw [outsAt0_B m c t h0]
    frame_out
    pointwise [k0_pay2, k0_pay1, k0_pay10, k0_pay9, k0_pay8, k0_pay7]
    simp only [in0, in1, in2, in3, in4]

/-- An index of the one row. -/
theorem eta (y : S1x1024.Idx) : ∃ d : Fin 1024, y = ix2 0 d := by
  refine ⟨y 1, funext fun a => Fin.ext ?_⟩
  match a with
  | ⟨0, _⟩ => exact Nat.lt_one_iff.mp (y 0).isLt
  | ⟨1, _⟩ => rfl

/-- The gain's running sum at the first point. -/
theorem gain7_A (c : Dev nD) (t : Fin cfg0.N) (h0 : t.val % 8 = 0) (d : Fin 1024) :
    (outsAt0 m c t.val t.isLt).2.2.1 (ix2 0 d) = ∑ x : Fin 512, gainV m c t x d := by
  unfold gainV gainAt Norm.inv act
  rw [outsAt0_A m c t h0]
  frame_out
  pointwise [k0_pay5, k0_pay3, k0_pay1, k0_pay10, k0_pay9, k0_pay8, k0_pay7]
  simp only [in0, in1, in2, in3, in4]

/-- And at a later one. -/
theorem gain7_B (c : Dev nD) (t : Fin cfg0.N) (h0 : ¬t.val % 8 = 0) (d : Fin 1024) :
    (outsAt0 m c t.val t.isLt).2.2.1 (ix2 0 d)
      = (outsAt0 m c (t.val - 1) (Nat.lt_of_le_of_lt (Nat.sub_le _ _) t.isLt)).2.2.1 (ix2 0 d) + ∑ x : Fin 512, gainV m c t x d := by
  unfold gainV gainAt Norm.inv act
  rw [outsAt0_B m c t h0]
  frame_out
  pointwise [k0_pay5, k0_pay3, k0_pay1, k0_pay10, k0_pay9, k0_pay8, k0_pay7]
  simp only [in0, in1, in2, in3, in4]

/-- The rows' running sum at the first point. -/
theorem sum8_A (c : Dev nD) (t : Fin cfg0.N) (h0 : t.val % 8 = 0) (d : Fin 1024) :
    (outsAt0 m c t.val t.isLt).2.2.2 (ix2 0 d) = ∑ x : Fin 512, rowV m c t x d := by
  unfold rowV rowAt Norm.row Norm.inv act
  rw [outsAt0_A m c t h0]
  frame_out
  pointwise [k0_pay6, k0_pay4, k0_pay1, k0_pay10, k0_pay9, k0_pay8, k0_pay7]
  simp only [in0, in1, in2, in3, in4]

/-- And at a later one. -/
theorem sum8_B (c : Dev nD) (t : Fin cfg0.N) (h0 : ¬t.val % 8 = 0) (d : Fin 1024) :
    (outsAt0 m c t.val t.isLt).2.2.2 (ix2 0 d)
      = (outsAt0 m c (t.val - 1) (Nat.lt_of_le_of_lt (Nat.sub_le _ _) t.isLt)).2.2.2 (ix2 0 d) + ∑ x : Fin 512, rowV m c t x d := by
  unfold rowV rowAt Norm.row Norm.inv act
  rw [outsAt0_B m c t h0]
  frame_out
  pointwise [k0_pay6, k0_pay4, k0_pay1, k0_pay10, k0_pay9, k0_pay8, k0_pay7]
  simp only [in0, in1, in2, in3, in4]

/-- The gain's gradient after the last point. -/
theorem gain7_last (c : Dev nD) (t : Fin cfg0.N) (ht : t.val % 8 = 7) (y : S1x1024.Idx) :
    (outsAt0 m c t.val t.isLt).2.2.1 y = Gain (V m c main_arg0) (V m c main_arg1) (V m c main_arg2) y := by
  have e := Pipeline.eq_sum_of_reset_step_apply_single_of_mod (fun n h => (outsAt0 m c n h).2.2.1) 8 (fun _ => (0 : EReal))
    (fun n y => if hn : n < cfg0.N then ∑ x : Fin 512, gainV m c ⟨n, hn⟩ x (y 1) else 0)
    (fun t h y => by
      obtain ⟨d, rfl⟩ := eta y
      refine (gain7_A m c t h d).trans ?_
      rw [dif_pos t.isLt, zero_add]; rfl)
    (fun t h y => by
      obtain ⟨d, rfl⟩ := eta y
      refine (gain7_B m c t h d).trans ?_
      rw [dif_pos t.isLt]; rfl)
    (by decide) t ht y
  refine e.trans ?_
  rw [zero_add]
  exact sum_rows (fun t => gainAt (V m c main_arg0) (V m c main_arg1) (V m c main_arg2) t (y 1)) _
    (fun n hn => dif_pos (show n < cfg0.N from lt_of_lt_of_eq hn (by decide)))

/-- The rows' sum after the last point. -/
theorem sum8_last (c : Dev nD) (t : Fin cfg0.N) (ht : t.val % 8 = 7) (y : S1x1024.Idx) :
    (outsAt0 m c t.val t.isLt).2.2.2 y
      = Sums (V m c main_arg0) (V m c main_arg1) (V m c main_arg2) (V m c main_arg3) (V m c main_arg4) y := by
  have e := Pipeline.eq_sum_of_reset_step_apply_single_of_mod (fun n h => (outsAt0 m c n h).2.2.2) 8 (fun _ => (0 : EReal))
    (fun n y => if hn : n < cfg0.N then ∑ x : Fin 512, rowV m c ⟨n, hn⟩ x (y 1) else 0)
    (fun t h y => by
      obtain ⟨d, rfl⟩ := eta y
      refine (sum8_A m c t h d).trans ?_
      rw [dif_pos t.isLt, zero_add]; rfl)
    (fun t h y => by
      obtain ⟨d, rfl⟩ := eta y
      refine (sum8_B m c t h d).trans ?_
      rw [dif_pos t.isLt]; rfl)
    (by decide) t ht y
  refine e.trans ?_
  rw [zero_add]
  exact sum_rows (fun t => rowAt (V m c main_arg0) (V m c main_arg1) (V m c main_arg2) (V m c main_arg3) (V m c main_arg4) t (y 1)) _
    (fun n hn => dif_pos (show n < cfg0.N from lt_of_lt_of_eq hn (by decide)))

end Cert.DhValue

end
-- ==== Proof.Dh.lean ====
/- The gradient into the feed-forward network's input: the claim that kernel and reference leave the same results. -/
module

public import proofs.«01_k».proof.Defs
public import proofs.«01_k».proof.Proof.Gen.KernelDh
public import proofs.«01_k».proof.Proof.Gen.ReferenceDhIdeal
public import proofs.«01_k».proof.Proof.DhKer

@[expose] public section

set_option maxRecDepth 16384

noncomputable section

namespace Cert.DhValue

open Cert.KernelDhIdeal Cert.KernelDhIdeal.Gen Cert.KernelDhIdeal.Value
open Idealize.ShloMosaic Idealize.ShloMosaic.TcCoe Idealize.SL.Sem

variable (m : (ℓ : Loc nD τ sig) → Buf (Elt Ideal) ℓ) (ρ : Dev nD → PrngReg)

/-- The first result's array: the rows. -/
theorem final5 (c : Dev nD) : (dats m 0 c).arrAt 5 cfg0.N
    = Rows (V m c main_arg0) (V m c main_arg1) (V m c main_arg2) (V m c main_arg3) (V m c main_arg4) := by
  refine (dats m 0 c).arrAt_eq_of_covers 5 _ (by decide +kernel) fun t hf y => ?_
  obtain ⟨⟨e0, e1⟩, _⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 5).blk t).view.emb (ix2 x d) = ix2 (rowOf t.val (points t) x) d := funext fun a => Fin.ext (by
    match a with
    | ⟨0, _⟩ => show win0_5.index t (0 : Fin 2) * 512 + 1 * x.val = t.val * 512 + x.val; omega
    | ⟨1, _⟩ => show win0_5.index t (1 : Fin 2) * 1024 + 1 * d.val = d.val; omega)
  rw [e]
  refine Eq.trans ?_ (rows5 m c t x d)
  blk_simp
  rw [after0_5]

/-- The second result's. -/
theorem final6 (c : Dev nD) : (dats m 0 c).arrAt 6 cfg0.N
    = Rows (V m c main_arg0) (V m c main_arg1) (V m c main_arg2) (V m c main_arg3) (V m c main_arg4) := by
  refine (dats m 0 c).arrAt_eq_of_covers 6 _ (by decide +kernel) fun t hf y => ?_
  obtain ⟨_, ⟨e0, e1⟩, _⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 6).blk t).view.emb (ix2 x d) = ix2 (rowOf t.val (points t) x) d := funext fun a => Fin.ext (by
    match a with
    | ⟨0, _⟩ => show win0_6.index t (0 : Fin 2) * 512 + 1 * x.val = t.val * 512 + x.val; omega
    | ⟨1, _⟩ => show win0_6.index t (1 : Fin 2) * 1024 + 1 * d.val = d.val; omega)
  rw [e]
  refine Eq.trans ?_ (rows6 m c t x d)
  blk_simp
  rw [after0_6]

/-- The third result's: the gain's gradient. -/
theorem final7 (c : Dev nD) : (dats m 0 c).arrAt 7 cfg0.N
    = Gain (V m c main_arg0) (V m c main_arg1) (V m c main_arg2) := by
  refine (dats m 0 c).arrAt_eq_of_after_last 7 t0_7 (by decide +kernel) _ fun j => ?_
  rw [after0_7]
  exact gain7_last m c t0_7 (by decide) j

/-- The fourth result's: the rows' sum. -/
theorem final8 (c : Dev nD) : (dats m 0 c).arrAt 8 cfg0.N
    = Sums (V m c main_arg0) (V m c main_arg1) (V m c main_arg2) (V m c main_arg3) (V m c main_arg4) := by
  refine (dats m 0 c).arrAt_eq_of_after_last 8 t0_7 (by decide +kernel) _ fun j => ?_
  rw [after0_8]
  exact sum8_last m c t0_7 (by decide) j

/-- The kernel's run: its four results, and the arguments as they were. -/
theorem run_all : θ_run defs (onTc (τ := τ) (main (F := Ideal))) ⟨m, fun _ => 0, ρ⟩ fun r => ∀ c : Dev nD,
      r.2.mem ((c : Thread nD τ).loc main_v0_0) = Rows (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v0_1) = Rows (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v0_2) = Gain (m ((c : Thread nD τ).loc main_arg0)) (m ((c : Thread nD τ).loc main_arg1))
        (m ((c : Thread nD τ).loc main_arg2))
      ∧ r.2.mem ((c : Thread nD τ).loc main_v0_3) = Sums (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c),
    (h c).2.2.1.trans (final7 m c), (h c).2.2.2.1.trans (final8 m c), (h c).2.2.2.2⟩) (run_blocks m ρ)

section reference

open Cert.ReferenceDhIdeal.Read

variable (dup : Vec Ideal S2x4096x2816 .bf16) (wu : Vec Ideal S5632x1024 .bf16) (r : Vec Ideal S4096x1024 .f32)
  (g : Vec Ideal S1x1024 .f32) (dr : Vec Ideal S4096x1024 .f32)

/-- The reference's row is the kernel's. -/
theorem rows_eq (t : Fin 4096) (d : Fin 1024) : val_main_v41 (F := Ideal) dup wu r g dr (ix2 t d) = rowAt dup wu r g dr t d := by
  rw [rows_chain]
  unfold rowAt
  exact (Norm.row_eq_chain _ _ _ _ d).symm

end reference

/-- The two programs leave the same four results. -/
theorem algebraic : Cert.algebraic_KernelDhIdeal_ReferenceDhIdeal := by
  intro m g m' g' _ hagree
  refine ⟨_, _, _, _, run_all m g, ?_⟩
  refine (θ_run _ _ _).mono (fun r h c => ?_) (Cert.ReferenceDhIdeal.Value.run m' g')
  obtain ⟨h0, h1, h2, h3, hk⟩ := h c
  obtain ⟨a0, a1, a2, a3, a4⟩ := hagree c
  refine ⟨?_, ?_, ?_, ?_, hk⟩
  · rw [h0, Cert.ReferenceDhIdeal.Read.val_main_v41_eq, a0, a1, a2, a3, a4]
    funext j
    obtain ⟨t, d, rfl⟩ : ∃ (t : Fin 4096) (d : Fin 1024), j = ix2 t d := ⟨j 0, j 1, funext fun a => by match a with | ⟨0, _⟩ => rfl | ⟨1, _⟩ => rfl⟩
    exact rows_eq _ _ _ _ _ t d
  · rw [h1, Cert.ReferenceDhIdeal.Read.val_main_v42_eq, a0, a1, a2, a3, a4]
    funext j
    obtain ⟨t, d, rfl⟩ : ∃ (t : Fin 4096) (d : Fin 1024), j = ix2 t d := ⟨j 0, j 1, funext fun a => by match a with | ⟨0, _⟩ => rfl | ⟨1, _⟩ => rfl⟩
    exact rows_eq _ _ _ _ _ t d
  · rw [h2, Cert.ReferenceDhIdeal.Read.val_main_v24_eq, a0, a1, a2]
    funext j
    exact gain_sum _ _ _ j
  · rw [h3, Cert.ReferenceDhIdeal.Read.val_main_v44_eq, a0, a1, a2, a3, a4]
    funext j
    exact (row_sum _ _ _ _ _ j).trans (Finset.sum_congr rfl fun t _ => rows_eq _ _ _ _ _ t (j 1))

end Cert.DhValue

end
-- ==== Proof.Dwu.lean ====
/- The gradient of the up-projection's weight: the kernel's blocks of rows, one half-branch at a time, and the
   reference's transposed product of the branches side by side are one sum over the tokens at every index. -/
module

public import proofs.«01_k».proof.Proof.Gen.KernelDwuIdeal.Value
public import proofs.«01_k».proof.Proof.Gen.ReferenceDwuIdeal.Read
public import Idealize.ShloMosaic.Lib.Pointwise
public import proofs.«01_k».proof.Defs
public import proofs.«01_k».proof.Proof.Gen.KernelDwu
public import proofs.«01_k».proof.Proof.Gen.ReferenceDwuIdeal

@[expose] public section

set_option maxRecDepth 16384

noncomputable section

namespace Cert.DwuValue

open Cert.KernelDwuIdeal Cert.KernelDwuIdeal.Gen Cert.KernelDwuIdeal.Value
open Idealize.ShloMosaic Idealize.ShloMosaic.TcCoe Idealize.SL.Sem

/-- The result at an index: row `j 0` of the weight's gradient is feature `j 0 % 2816` of branch `j 0 / 2816`; its entry
    `j 1` is that feature's gradient against feature `j 1` of the input, summed over the tokens. -/
def G (dup : Vec Ideal S2x4096x2816 .bf16) (h : Vec Ideal S4096x1024 .bf16) : Vec Ideal S5632x1024 .bf16 :=
  fun j => ∑ k : Fin 4096, dup (ix3 ⟨(j 0).val / 2816, by have h := (j 0).isLt; change (j 0).val < 5632 at h; omega⟩ k
    ⟨(j 0).val % 2816, by omega⟩) * h (ix2 k (j 1))

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer is its one payload of the input blocks. -/
theorem out_eq (c : Dev nD) (i : grid0.Coords) (a3 : Memref sig .tc .vmem S1x4096x1408 .bf16) (h3 : a3.IsWhole)
    (a4 : Memref sig .tc .vmem S4096x1024 .bf16) (h4 : a4.IsWhole) (a5 : Memref sig .tc .vmem S1408x1024 .bf16) (h5 : a5.IsWhole)
    (a6 : Memref sig .tc .vmem S8x128 .f32) (h6 : a6.IsWhole)
    (x0 : Vec Ideal S1x4096x1408 .bf16) (x1 : Vec Ideal S4096x1024 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  simp only [View.readAt_eq_ld, h3.read_unread, h4.read_unread]
  rw [View.canon_unit_zero hz, View.ld_unit_zero hz3, View.ld_unit_zero hz]

/-- The payload at an index: a column of the one block against a column of the other. -/
theorem pay_apply (x0 : Vec Ideal S1x4096x1408 .bf16) (x1 : Vec Ideal S4096x1024 .bf16) (j : S1408x1024.Idx) :
    k0_pay1 x0 x1 j = ∑ k : Fin 4096, x0 (ix3 0 k (j 0)) * x1 (ix2 k (j 1)) := by
  unfold k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 3) = t.val / 2 ∧ win0_0.index t (1 : Fin 3) = 0
    ∧ win0_0.index t (2 : Fin 3) = t.val % 2
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What a point writes back is its block of `G` of the arguments. -/
theorem flushed2_eq (c : Dev nD) (t : Fin cfg0.N) :
    (dats m 0 c).flushed 2 t = ((cfg0.win 2).blk t).view.read (Elt Ideal) (G (V m c main_arg0) (V m c main_arg1)) := by
  obtain ⟨e0, e1, e2, e3, e4, e5, e6⟩ := idx_facts t
  rw [flushed2_A, out_eq]
  funext j
  have hj : (j 0).val < 1408 := (j 0).isLt
  show k0_pay1 (iblk m c 0 t) (iblk m c 1 t) j = G (V m c main_arg0) (V m c main_arg1) (((cfg0.win 2).blk t).view.emb j)
  rw [pay_apply]
  unfold G
  refine Finset.sum_congr rfl fun k _ => congrArg₂ (fun a b : EReal => a * b) ?_ ?_
  · show V m c main_arg0 (((cfg0.win 0).blk t).view.emb (ix3 0 k (j 0))) = _
    refine congrArg _ (funext fun a => Fin.ext ?_)
    match a with
    | ⟨0, _⟩ => show win0_0.index t (0 : Fin 3) * 1 + 1 * 0 = (win0_2.index t (0 : Fin 2) * 1408 + 1 * (j 0).val) / 2816; omega
    | ⟨1, _⟩ => show win0_0.index t (1 : Fin 3) * 4096 + 1 * k.val = k.val; omega
    | ⟨2, _⟩ => show win0_0.index t (2 : Fin 3) * 1408 + 1 * (j 0).val = (win0_2.index t (0 : Fin 2) * 1408 + 1 * (j 0).val) % 2816; omega
  · show V m c main_arg1 (((cfg0.win 1).blk t).view.emb (ix2 k (j 1))) = _
    refine congrArg _ (funext fun a => Fin.ext ?_)
    match a with
    | ⟨0, _⟩ => show win0_1.index t (0 : Fin 2) * 4096 + 1 * k.val = k.val; omega
    | ⟨1, _⟩ => show win0_1.index t (1 : Fin 2) * 1024 + 1 * (j 1).val = win0_2.index t (1 : Fin 2) * 1024 + 1 * (j 1).val; omega

/-- Membership in an output block, by coordinates. -/
theorem mem_blk (t : Fin cfg0.N) (i : S5632x1024.Idx) : i ∈ ((cfg0.win 2).blk t).view.set ↔
    ∀ a : Fin 2, win0_2.index t a * S1408x1024.size a ≤ (i a).val ∧ (i a).val < win0_2.index t a * S1408x1024.size a + S1408x1024.size a := by
  show i ∈ ((View.whole main_v0).slice (win0_2.rect t)).set ↔ _
  rw [View.set_slice_whole, Rect.mem_set_unit]; exact Iff.rfl

/-- Every index of the result is in some point's block. -/
theorem covered2 (i : S5632x1024.Idx) :
    ∃ t : Fin cfg0.N, (cfg0.win 2).flush t = true ∧ i ∈ ((cfg0.win 2).blk t).view.set := by
  have hi : (i 0).val < 5632 := (i 0).isLt
  have hi1 : (i 1).val < 1024 := (i 1).isLt
  have hN : cfg0.N = 4 := by decide
  obtain ⟨t, ht⟩ : ∃ t : Fin cfg0.N, t.val = (i 0).val / 1408 := ⟨⟨(i 0).val / 1408, by omega⟩, rfl⟩
  obtain ⟨_, _, _, _, _, e4, e5⟩ := idx_facts t
  refine ⟨t, flush0_2 _, ?_⟩
  rw [mem_blk]
  have key : ∀ a : Fin 2, win0_2.index t a * S1408x1024.size a ≤ (i a).val
      ∧ (i a).val < win0_2.index t a * S1408x1024.size a + S1408x1024.size a := by
    rw [Fin.forall_fin_two, e4, e5, ht]
    show ((i 0).val / 1408 * 1408 ≤ (i 0).val ∧ (i 0).val < (i 0).val / 1408 * 1408 + 1408)
      ∧ (0 * 1024 ≤ (i 1).val ∧ (i 1).val < 0 * 1024 + 1024)
    omega
  exact key

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The reference's result is the same function. -/
theorem ref_eq (dup : Vec Ideal S2x4096x2816 .bf16) (h : Vec Ideal S4096x1024 .bf16) :
    Cert.ReferenceDwuIdeal.Read.val_main_v9 (F := Ideal) dup h = G dup h := by
  funext j
  unfold G Cert.ReferenceDwuIdeal.Read.val_main_v9 Cert.ReferenceDwuIdeal.Read.val_main_v8 Cert.ReferenceDwuIdeal.Read.val_main_v7
    Cert.ReferenceDwuIdeal.Read.val_main_v6 Cert.ReferenceDwuIdeal.Read.val_main_v5 Cert.ReferenceDwuIdeal.Read.val_main_v4
    Cert.ReferenceDwuIdeal.Read.val_main_v3 Cert.ReferenceDwuIdeal.Read.val_main_v1
  pointwise

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The two programs leave the same result. -/
theorem algebraic : Cert.algebraic_KernelDwuIdeal_ReferenceDwuIdeal := by
  intro m g m' g' _ hagree
  refine ⟨fun c => G (m ((c : Thread nD τ).loc main_arg0)) (m ((c : Thread nD τ).loc main_arg1)), run m g, ?_⟩
  refine (θ_run _ _ _).mono (fun r h c => ⟨?_, (h c).2⟩) (Cert.ReferenceDwuIdeal.Value.run m' g')
  rw [(h c).1, Cert.ReferenceDwuIdeal.Read.val_main_v9_eq]
  refine (ref_eq _ _).trans ?_
  rw [(hagree c).1, (hagree c).2]

end Cert.DwuValue

end
-- ==== Proof.Dg.lean ====
/- The gradient of the down-projection with respect to its input: the kernel's blocks of rows and the reference's
   transposed product are one sum over the model dimension at every index. -/
module

public import proofs.«01_k».proof.Proof.Gen.KernelDgIdeal.Value
public import proofs.«01_k».proof.Proof.Gen.ReferenceDgIdeal.Read
public import Idealize.ShloMosaic.Lib.Pointwise
public import proofs.«01_k».proof.Defs
public import proofs.«01_k».proof.Proof.Gen.KernelDg
public import proofs.«01_k».proof.Proof.Gen.ReferenceDgIdeal

@[expose] public section

set_option maxRecDepth 16384

noncomputable section

namespace Cert.DgValue

open Cert.KernelDgIdeal Cert.KernelDgIdeal.Gen Cert.KernelDgIdeal.Value
open Idealize.ShloMosaic Idealize.ShloMosaic.TcCoe Idealize.SL.Sem

/-- The result at an index: row `j 0` of the incoming gradient against row `j 1` of the weight. -/
def G (d : Vec Ideal S4096x1024 .bf16) (w : Vec Ideal S2816x1024 .bf16) : Vec Ideal S4096x2816 .bf16 :=
  fun j => ∑ k : Fin 1024, d (ix2 (j 0) k) * w (ix2 (j 1) k)

theorem hz : (![0, 0] : Fin 2 → Nat) = fun _ => 0 := funext fun a => by fin_cases a <;> rfl

/-- What the body leaves in the output's buffer is its one payload of the input blocks. -/
theorem out_eq (c : Dev nD) (i : grid0.Coords) (a3 : Memref sig .tc .vmem S512x1024 .bf16) (h3 : a3.IsWhole)
    (a4 : Memref sig .tc .vmem S2816x1024 .bf16) (h4 : a4.IsWhole) (a5 : Memref sig .tc .vmem S512x2816 .bf16) (h5 : a5.IsWhole)
    (a6 : Memref sig .tc .vmem S8x128 .f32) (h6 : a6.IsWhole)
    (x0 : Vec Ideal S512x1024 .bf16) (x1 : Vec Ideal S2816x1024 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  simp only [View.readAt_eq_ld, h3.read_unread, h4.read_unread]
  rw [View.canon_unit_zero hz, View.ld_unit_zero hz, View.ld_unit_zero hz]

/-- The payload at an index: a row of the one block against a row of the other. -/
theorem pay_apply (x0 : Vec Ideal S512x1024 .bf16) (x1 : Vec Ideal S2816x1024 .bf16) (j : S512x2816.Idx) :
    k0_pay1 x0 x1 j = ∑ k : Fin 1024, x0 (ix2 (j 0) k) * x1 (ix2 (j 1) k) := by
  unfold k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What a point writes back is its block of `G` of the arguments. -/
theorem flushed2_eq (c : Dev nD) (t : Fin cfg0.N) :
    (dats m 0 c).flushed 2 t = ((cfg0.win 2).blk t).view.read (Elt Ideal) (G (V m c main_arg0) (V m c main_arg1)) := by
  obtain ⟨e0, e1, e2, e3, e4, e5⟩ := idx_facts t
  rw [flushed2_A, out_eq]
  funext j
  show k0_pay1 (iblk m c 0 t) (iblk m c 1 t) j = G (V m c main_arg0) (V m c main_arg1) (((cfg0.win 2).blk t).view.emb j)
  rw [pay_apply]
  unfold G
  refine Finset.sum_congr rfl fun k _ => ?_
  refine congrArg₂ (fun a b : EReal => a * b) ?_ ?_
  · show V m c main_arg0 (((cfg0.win 0).blk t).view.emb (ix2 (j 0) k)) = _
    refine congrArg _ (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V m c main_arg1 (((cfg0.win 1).blk t).view.emb (ix2 (j 1) k)) = _
    refine congrArg _ (funext fun a => Fin.ext ?_)
    match a with
    | ⟨0, _⟩ => show win0_1.index t (0 : Fin 2) * 2816 + 1 * (j 1).val = win0_2.index t (1 : Fin 2) * 2816 + 1 * (j 1).val; omega
    | ⟨1, _⟩ => show win0_1.index t (1 : Fin 2) * 1024 + 1 * k.val = k.val; omega

/-- Membership in an output block, by coordinates. -/
theorem mem_blk (t : Fin cfg0.N) (i : S4096x2816.Idx) : i ∈ ((cfg0.win 2).blk t).view.set ↔
    ∀ a : Fin 2, win0_2.index t a * S512x2816.size a ≤ (i a).val ∧ (i a).val < win0_2.index t a * S512x2816.size a + S512x2816.size a := by
  show i ∈ ((View.whole main_v0).slice (win0_2.rect t)).set ↔ _
  rw [View.set_slice_whole, Rect.mem_set_unit]; exact Iff.rfl

/-- Every index of the result is in some point's block. -/
theorem covered2 (i : S4096x2816.Idx) :
    ∃ t : Fin cfg0.N, (cfg0.win 2).flush t = true ∧ i ∈ ((cfg0.win 2).blk t).view.set := by
  have hi : (i 0).val < 4096 := (i 0).isLt
  have hi1 : (i 1).val < 2816 := (i 1).isLt
  have hN : cfg0.N = 8 := by decide
  obtain ⟨t, ht⟩ : ∃ t : Fin cfg0.N, t.val = (i 0).val / 512 := ⟨⟨(i 0).val / 512, by omega⟩, rfl⟩
  obtain ⟨_, _, _, _, e4, e5⟩ := idx_facts t
  refine ⟨t, flush0_2 _, ?_⟩
  rw [mem_blk]
  have key : ∀ a : Fin 2, win0_2.index t a * S512x2816.size a ≤ (i a).val
      ∧ (i a).val < win0_2.index t a * S512x2816.size a + S512x2816.size a := by
    rw [Fin.forall_fin_two, e4, e5, ht]
    show ((i 0).val / 512 * 512 ≤ (i 0).val ∧ (i 0).val < (i 0).val / 512 * 512 + 512)
      ∧ (0 * 2816 ≤ (i 1).val ∧ (i 1).val < 0 * 2816 + 2816)
    omega
  exact key

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The reference's result is the same function. -/
theorem ref_eq (d : Vec Ideal S4096x1024 .bf16) (w : Vec Ideal S2816x1024 .bf16) :
    Cert.ReferenceDgIdeal.Read.val_main_v5 (F := Ideal) d w = G d w := by
  funext j
  unfold G Cert.ReferenceDgIdeal.Read.val_main_v5 Cert.ReferenceDgIdeal.Read.val_main_v4 Cert.ReferenceDgIdeal.Read.val_main_v3
    Cert.ReferenceDgIdeal.Read.val_main_v1
  pointwise

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The two programs leave the same result. -/
theorem algebraic : Cert.algebraic_KernelDgIdeal_ReferenceDgIdeal := by
  intro m g m' g' _ hagree
  refine ⟨fun c => G (m ((c : Thread nD τ).loc main_arg0)) (m ((c : Thread nD τ).loc main_arg1)), run m g, ?_⟩
  refine (θ_run _ _ _).mono (fun r h c => ⟨?_, (h c).2⟩) (Cert.ReferenceDgIdeal.Value.run m' g')
  rw [(h c).1, Cert.ReferenceDgIdeal.Read.val_main_v5_eq]
  refine (ref_eq _ _).trans ?_
  rw [(hagree c).1, (hagree c).2]

end Cert.DgValue

end
-- ==== Proof.Dwd.lean ====
/- The gradient of the down-projection's weight: the kernel sums over the tokens in two halves, the first kept in a scratch
   buffer, and the reference's product is the whole sum. -/
module

public import proofs.«01_k».proof.Proof.Gen.KernelDwdIdeal.Value
public import proofs.«01_k».proof.Proof.Gen.ReferenceDwdIdeal.Read
public import Idealize.ShloMosaic.Lib.Pointwise
public import proofs.«01_k».proof.Defs
public import proofs.«01_k».proof.Proof.Gen.KernelDwd
public import proofs.«01_k».proof.Proof.Gen.ReferenceDwdIdeal

@[expose] public section

set_option maxRecDepth 16384

noncomputable section

namespace Cert.DwdValue

open Cert.KernelDwdIdeal Cert.KernelDwdIdeal.Gen Cert.KernelDwdIdeal.Value
open Idealize.ShloMosaic Idealize.ShloMosaic.TcCoe Idealize.SL.Sem

/-- The result at an index: feature `j 0` of the hidden values against feature `j 1` of the output's gradient, summed over the
    tokens. -/
def G (g : Vec Ideal S4096x2816 .bf16) (d : Vec Ideal S4096x1024 .bf16) : Vec Ideal S2816x1024 .bf16 :=
  fun j => ∑ k : Fin 4096, g (ix2 k (j 0)) * d (ix2 k (j 1))

/-- The sum over the tokens in its two halves. -/
theorem G_split (g : Vec Ideal S4096x2816 .bf16) (d : Vec Ideal S4096x1024 .bf16) (j : S2816x1024.Idx) :
    G g d j = (∑ k : Fin 2048, g (ix2 (Fin.castAdd 2048 k) (j 0)) * d (ix2 (Fin.castAdd 2048 k) (j 1)))
      + ∑ k : Fin 2048, g (ix2 (Fin.natAdd 2048 k) (j 0)) * d (ix2 (Fin.natAdd 2048 k) (j 1)) := by
  unfold G
  exact Fin.sum_univ_add (a := 2048) (b := 2048) _

theorem hz : (![0, 0] : Fin 2 → Nat) = fun _ => 0 := funext fun a => by fin_cases a <;> rfl

/-- What the first half leaves in the scratch. -/
theorem sout_eq (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i) (hc2 : ¬cond0_2 i)
    (x0 : Vec Ideal S2048x1408 .bf16) (x1 : Vec Ideal S2048x1024 .bf16) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  simp only [View.readAt_eq_ld, h3.read_unread, h4.read_unread]
  rw [View.canon_unit_zero hz, View.ld_unit_zero hz, View.ld_unit_zero hz]

/-- What the second half leaves in the output's buffer, over the scratch. -/
theorem out_eq (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i) (hc2 : cond0_2 i)
    (x0 : Vec Ideal S2048x1408 .bf16) (x1 : Vec Ideal S2048x1024 .bf16) (xs : Vec Ideal S1408x1024 .f32) :
    out0_B_2 c i a3 h3 a4 h4 a5 h5 a6 h6 hc0 hc1 hc2 x0 x1 xs = k0_pay4 x0 x1 xs := by
  unfold out0_B_2
  rw [View.read_writes_junk_eq_canon]
  unfold kernelRun0_B
  dsimp only
  sl_unfold_words
  simp only [View.readAt_eq_ld, h3.read_unread, h4.read_unread, h6.read_unread]
  rw [View.canon_unit_zero hz, View.ld_unit_zero hz, View.ld_unit_zero hz, View.ld_unit_zero hz]

/-- The first half's sum at an index. -/
theorem pay2_apply (x0 : Vec Ideal S2048x1408 .bf16) (x1 : Vec Ideal S2048x1024 .bf16) (j : S1408x1024.Idx) :
    k0_pay2 x0 x1 j = ∑ k : Fin 2048, x0 (ix2 k (j 0)) * x1 (ix2 k (j 1)) := by
  unfold k0_pay2 k0_pay1
  pointwise

/-- The second half's sum at an index, added to the scratch. -/
theorem pay4_apply (x0 : Vec Ideal S2048x1408 .bf16) (x1 : Vec Ideal S2048x1024 .bf16) (xs : Vec Ideal S1408x1024 .f32) (j : S1408x1024.Idx) :
    k0_pay4 x0 x1 xs j = xs j + ∑ k : Fin 2048, x0 (ix2 k (j 0)) * x1 (ix2 k (j 1)) := by
  unfold k0_pay4 k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val % 2 ∧ win0_0.index t (1 : Fin 2) = t.val / 2
    ∧ win0_1.index t (0 : Fin 2) = t.val % 2 ∧ win0_1.index t (1 : Fin 2) = 0
    ∧ win0_2.index t (0 : Fin 2) = t.val / 2 ∧ win0_2.index t (1 : Fin 2) = 0 :=
  (by decide +kernel : ∀ t : Fin grid0.N, _)

/-- The scratch an odd point finds: the sum over the first half of the tokens. -/
theorem scratch_eq (c : Dev nD) (n : ℕ) (hn : n < cfg0.N) (h0 : n % 2 = 0) :
    (outsAt0 m c n hn).2 = k0_pay2 (iblk m c 0 ⟨n, hn⟩) (iblk m c 1 ⟨n, hn⟩) := by
  have e := outsAt0_A m c ⟨n, hn⟩ h0 (by show ¬ n % 2 = 1; omega)
  have e' : (outsAt0 m c n hn).2 = _ := congrArg Prod.snd e
  rw [e']
  dsimp only
  rw [sout_eq]

/-- An input block's entries are the array's, `2048` rows to a block of the tokens. -/
theorem block0 (c : Dev nD) (t : Fin cfg0.N) (k : Fin 2048) (y : Fin 1408) (K : Fin 4096) (Y : Fin 2816)
    (hK : K.val = t.val % 2 * 2048 + k.val) (hY : Y.val = t.val / 2 * 1408 + y.val) :
    iblk m c 0 t (ix2 k y) = V m c main_arg0 (ix2 K Y) := by
  obtain ⟨e0, e1, e2, e3, e4, e5⟩ := idx_facts t
  show V m c main_arg0 (((cfg0.win 0).blk t).view.emb (ix2 k y)) = _
  refine congrArg _ (funext fun a => Fin.ext ?_)
  match a with
  | ⟨0, _⟩ => show win0_0.index t (0 : Fin 2) * 2048 + 1 * k.val = K.val; omega
  | ⟨1, _⟩ => show win0_0.index t (1 : Fin 2) * 1408 + 1 * y.val = Y.val; omega

/-- The same of the other input. -/
theorem block1 (c : Dev nD) (t : Fin cfg0.N) (k : Fin 2048) (y : Fin 1024) (K : Fin 4096) (Y : Fin 1024)
    (hK : K.val = t.val % 2 * 2048 + k.val) (hY : Y.val = y.val) :
    iblk m c 1 t (ix2 k y) = V m c main_arg1 (ix2 K Y) := by
  obtain ⟨e0, e1, e2, e3, e4, e5⟩ := idx_facts t
  show V m c main_arg1 (((cfg0.win 1).blk t).view.emb (ix2 k y)) = _
  refine congrArg _ (funext fun a => Fin.ext ?_)
  match a with
  | ⟨0, _⟩ => show win0_1.index t (0 : Fin 2) * 2048 + 1 * k.val = K.val; omega
  | ⟨1, _⟩ => show win0_1.index t (1 : Fin 2) * 1024 + 1 * y.val = Y.val; omega

/-- What an odd point writes back is its block of `G` of the arguments. -/
theorem flushed2_G (c : Dev nD) (t : Fin cfg0.N) (hf : (cfg0.win 2).flush t = true) :
    (dats m 0 c).flushed 2 t = ((cfg0.win 2).blk t).view.read (Elt Ideal) (G (V m c main_arg0) (V m c main_arg1)) := by
  have h1 : t.val % 2 = 1 := (flush0_2 t).mp hf
  obtain ⟨e0, e1, e2, e3, e4, e5⟩ := idx_facts t
  have hp : t.val - 1 < cfg0.N := Nat.lt_of_le_of_lt (Nat.sub_le _ _) t.isLt
  rw [flushed2_B m c t (by omega) h1, out_eq, scratch_eq m c (t.val - 1) hp (by omega)]
  funext j
  show k0_pay4 (iblk m c 0 t) (iblk m c 1 t) (k0_pay2 (iblk m c 0 ⟨t.val - 1, hp⟩) (iblk m c 1 ⟨t.val - 1, hp⟩)) j
    = G (V m c main_arg0) (V m c main_arg1) (((cfg0.win 2).blk t).view.emb j)
  rw [pay4_apply, pay2_apply, G_split]
  have r0 : (((cfg0.win 2).blk t).view.emb j 0).val = win0_2.index t (0 : Fin 2) * 1408 + 1 * (j 0).val := rfl
  have r1 : (((cfg0.win 2).blk t).view.emb j 1).val = win0_2.index t (1 : Fin 2) * 1024 + 1 * (j 1).val := rfl
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact block0 m c _ k (j 0) _ _ (by show k.val = (t.val - 1) % 2 * 2048 + k.val; omega) (by rw [r0]; show _ = (t.val - 1) / 2 * 1408 + _; omega)
  · exact block1 m c _ k (j 1) _ _ (by show k.val = (t.val - 1) % 2 * 2048 + k.val; omega) (by rw [r1]; omega)
  · exact block0 m c _ k (j 0) _ _ (by show 2048 + k.val = t.val % 2 * 2048 + k.val; omega) (by rw [r0]; omega)
  · exact block1 m c _ k (j 1) _ _ (by show 2048 + k.val = t.val % 2 * 2048 + k.val; omega) (by rw [r1]; omega)

/-- The result array after the run. -/
theorem final2_G (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t hf => flushed2_G m c t hf)
    (fun i => (covered_iff2 i).2 (by
      have h0 : (i 0).val < 2816 := (i 0).isLt
      have h1 : (i 1).val < 1024 := (i 1).isLt
      omega))).trans (by rw [V_main_arg0, V_main_arg1])

/-- The reference's result is the same function. -/
theorem ref_eq (g : Vec Ideal S4096x2816 .bf16) (d : Vec Ideal S4096x1024 .bf16) :
    Cert.ReferenceDwdIdeal.Read.val_main_v6 (F := Ideal) g d = G g d := by
  funext j
  unfold G Cert.ReferenceDwdIdeal.Read.val_main_v6 Cert.ReferenceDwdIdeal.Read.val_main_v5 Cert.ReferenceDwdIdeal.Read.val_main_v4
    Cert.ReferenceDwdIdeal.Read.val_main_v3 Cert.ReferenceDwdIdeal.Read.val_main_v1
  pointwise
  exact Finset.sum_congr rfl fun k _ => mul_comm _ _

/-- The kernel's run: the result is `G` of the arguments, which are unchanged. -/
theorem run_G : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2_G m c), (h c).2⟩) (run_blocks m ρ)

/-- The two programs leave the same result. -/
theorem algebraic : Cert.algebraic_KernelDwdIdeal_ReferenceDwdIdeal := by
  intro m g m' g' _ hagree
  refine ⟨fun c => G (m ((c : Thread nD τ).loc main_arg0)) (m ((c : Thread nD τ).loc main_arg1)), run_G m g, ?_⟩
  refine (θ_run _ _ _).mono (fun r h c => ⟨?_, (h c).2⟩) (Cert.ReferenceDwdIdeal.Value.run m' g')
  rw [(h c).1, Cert.ReferenceDwdIdeal.Read.val_main_v6_eq]
  refine (ref_eq _ _).trans ?_
  rw [(hagree c).1, (hagree c).2]

end Cert.DwdValue

end
-- ==== Proof.Up.lean ====
/- The up-projection: the kernel's blocks, one branch at a time, and the reference's product cut into its two branches are
   one sum over the model dimension at every index. -/
module

public import proofs.«01_k».proof.Proof.Gen.KernelUpIdeal.Value
public import proofs.«01_k».proof.Proof.Gen.ReferenceUpIdeal.Read
public import Idealize.ShloMosaic.Lib.Pointwise
public import proofs.«01_k».proof.Defs
public import proofs.«01_k».proof.Proof.Gen.KernelUp
public import proofs.«01_k».proof.Proof.Gen.ReferenceUpIdeal

@[expose] public section

set_option maxRecDepth 16384

noncomputable section

namespace Cert.UpValue

open Cert.KernelUpIdeal Cert.KernelUpIdeal.Gen Cert.KernelUpIdeal.Value
open Idealize.ShloMosaic Idealize.ShloMosaic.TcCoe Idealize.SL.Sem

/-- The result at an index: token `j 1` against feature `j 2` of branch `j 0`, whose weights are row `2816 * j 0 + j 2`. -/
def G (h : Vec Ideal S4096x1024 .bf16) (w : Vec Ideal S5632x1024 .bf16) : Vec Ideal S2x4096x2816 .bf16 :=
  fun j => ∑ k : Fin 1024, h (ix2 (j 1) k) * w (ix2 ⟨(j 0).val * 2816 + (j 2).val, by
    have h0 := (j 0).isLt; have h2 := (j 2).isLt; change (j 0).val < 2 at h0; change (j 2).val < 2816 at h2; omega⟩ k)

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer is its one payload of the input blocks. -/
theorem out_eq (c : Dev nD) (i : grid0.Coords) (a3 : Memref sig .tc .vmem S1024x1024 .bf16) (h3 : a3.IsWhole)
    (a4 : Memref sig .tc .vmem S2816x1024 .bf16) (h4 : a4.IsWhole) (a5 : Memref sig .tc .vmem S1x1024x2816 .bf16) (h5 : a5.IsWhole)
    (a6 : Memref sig .tc .vmem S8x128 .f32) (h6 : a6.IsWhole)
    (x0 : Vec Ideal S1024x1024 .bf16) (x1 : Vec Ideal S2816x1024 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  simp only [View.readAt_eq_ld, h3.read_unread, h4.read_unread]
  rw [View.canon_unit_zero hz3, View.ld_unit_zero hz, View.ld_unit_zero hz]

/-- The payload at an index: a row of the one block against a row of the other. -/
theorem pay_apply (x0 : Vec Ideal S1024x1024 .bf16) (x1 : Vec Ideal S2816x1024 .bf16) (j : S1x1024x2816.Idx) :
    k0_pay1 x0 x1 j = ∑ k : Fin 1024, x0 (ix2 (j 1) k) * x1 (ix2 (j 2) k) := by
  unfold k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val % 4 ∧ win0_0.index t (1 : Fin 2) = 0
    ∧ win0_1.index t (0 : Fin 2) = t.val / 4 ∧ win0_1.index t (1 : Fin 2) = 0
    ∧ win0_2.index t (0 : Fin 3) = t.val / 4 ∧ win0_2.index t (1 : Fin 3) = t.val % 4 ∧ win0_2.index t (2 : Fin 3) = 0 :=
  (by decide +kernel : ∀ t : Fin grid0.N, _)

/-- What a point writes back is its block of `G` of the arguments. -/
theorem flushed2_eq (c : Dev nD) (t : Fin cfg0.N) :
    (dats m 0 c).flushed 2 t = ((cfg0.win 2).blk t).view.read (Elt Ideal) (G (V m c main_arg0) (V m c main_arg1)) := by
  obtain ⟨e0, e1, e2, e3, e4, e5, e6⟩ := idx_facts t
  rw [flushed2_A, out_eq]
  funext j
  have hj : (j 0).val < 1 := (j 0).isLt
  show k0_pay1 (iblk m c 0 t) (iblk m c 1 t) j = G (V m c main_arg0) (V m c main_arg1) (((cfg0.win 2).blk t).view.emb j)
  rw [pay_apply]
  unfold G
  refine Finset.sum_congr rfl fun k _ => congrArg₂ (fun a b : EReal => a * b) ?_ ?_
  · show V m c main_arg0 (((cfg0.win 0).blk t).view.emb (ix2 (j 1) k)) = _
    refine congrArg _ (funext fun a => Fin.ext ?_)
    match a with
    | ⟨0, _⟩ => show win0_0.index t (0 : Fin 2) * 1024 + 1 * (j 1).val = win0_2.index t (1 : Fin 3) * 1024 + 1 * (j 1).val; omega
    | ⟨1, _⟩ => show win0_0.index t (1 : Fin 2) * 1024 + 1 * k.val = k.val; omega
  · show V m c main_arg1 (((cfg0.win 1).blk t).view.emb (ix2 (j 2) k)) = _
    refine congrArg _ (funext fun a => Fin.ext ?_)
    match a with
    | ⟨0, _⟩ =>
      show win0_1.index t (0 : Fin 2) * 2816 + 1 * (j 2).val
        = (win0_2.index t (0 : Fin 3) * 1 + 1 * (j 0).val) * 2816 + (win0_2.index t (2 : Fin 3) * 2816 + 1 * (j 2).val)
      omega
    | ⟨1, _⟩ => show win0_1.index t (1 : Fin 2) * 1024 + 1 * k.val = k.val; omega

/-- Membership in an output block, by coordinates. -/
theorem mem_blk (t : Fin cfg0.N) (i : S2x4096x2816.Idx) : i ∈ ((cfg0.win 2).blk t).view.set ↔
    ∀ a : Fin 3, win0_2.index t a * S1x1024x2816.size a ≤ (i a).val ∧ (i a).val < win0_2.index t a * S1x1024x2816.size a + S1x1024x2816.size a := by
  show i ∈ ((View.whole main_v0).slice (win0_2.rect t)).set ↔ _
  rw [View.set_slice_whole, Rect.mem_set_unit]; exact Iff.rfl

/-- Every index of the result is in some point's block. -/
theorem covered2 (i : S2x4096x2816.Idx) :
    ∃ t : Fin cfg0.N, (cfg0.win 2).flush t = true ∧ i ∈ ((cfg0.win 2).blk t).view.set := by
  have hi : (i 0).val < 2 := (i 0).isLt
  have hi1 : (i 1).val < 4096 := (i 1).isLt
  have hi2 : (i 2).val < 2816 := (i 2).isLt
  have hN : cfg0.N = 8 := by decide
  obtain ⟨t, ht⟩ : ∃ t : Fin cfg0.N, t.val = (i 0).val * 4 + (i 1).val / 1024 := ⟨⟨(i 0).val * 4 + (i 1).val / 1024, by omega⟩, rfl⟩
  obtain ⟨_, _, _, _, e4, e5, e6⟩ := idx_facts t
  refine ⟨t, flush0_2 _, ?_⟩
  rw [mem_blk]
  have key : ∀ a : Fin 3, win0_2.index t a * S1x1024x2816.size a ≤ (i a).val
      ∧ (i a).val < win0_2.index t a * S1x1024x2816.size a + S1x1024x2816.size a := by
    rw [Fin.forall_fin_succ, Fin.forall_fin_two]
    show (win0_2.index t (0 : Fin 3) * 1 ≤ (i 0).val ∧ (i 0).val < win0_2.index t (0 : Fin 3) * 1 + 1)
      ∧ (win0_2.index t (1 : Fin 3) * 1024 ≤ (i 1).val ∧ (i 1).val < win0_2.index t (1 : Fin 3) * 1024 + 1024)
      ∧ (win0_2.index t (2 : Fin 3) * 2816 ≤ (i 2).val ∧ (i 2).val < win0_2.index t (2 : Fin 3) * 2816 + 2816)
    omega
  exact key

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The reference's result is the same function. -/
theorem ref_eq (h : Vec Ideal S4096x1024 .bf16) (w : Vec Ideal S5632x1024 .bf16) :
    Cert.ReferenceUpIdeal.Read.val_main_v9 (F := Ideal) h w = G h w := by
  funext j
  unfold G Cert.ReferenceUpIdeal.Read.val_main_v9 Cert.ReferenceUpIdeal.Read.val_main_v8 Cert.ReferenceUpIdeal.Read.val_main_v7
    Cert.ReferenceUpIdeal.Read.val_main_v6 Cert.ReferenceUpIdeal.Read.val_main_v5 Cert.ReferenceUpIdeal.Read.val_main_v4
    Cert.ReferenceUpIdeal.Read.val_main_v3 Cert.ReferenceUpIdeal.Read.val_main_v2 Cert.ReferenceUpIdeal.Read.val_main_v1
    Cert.ReferenceUpIdeal.Read.val_main_v0
  pointwise
  have h0 : (j 0).val < 2 := (j 0).isLt
  split <;> rename_i hh <;> refine Finset.sum_congr rfl fun k _ => congrArg (fun x => _ * w (ix2 x k)) (Fin.ext ?_)
  · show (j 2).val = (j 0).val * 2816 + (j 2).val
    omega
  · show 2816 + (j 2).val = (j 0).val * 2816 + (j 2).val
    omega

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The two programs leave the same result. -/
theorem algebraic : Cert.algebraic_KernelUpIdeal_ReferenceUpIdeal := by
  intro m g m' g' _ hagree
  refine ⟨fun c => G (m ((c : Thread nD τ).loc main_arg0)) (m ((c : Thread nD τ).loc main_arg1)), run m g, ?_⟩
  refine (θ_run _ _ _).mono (fun r h c => ⟨?_, (h c).2⟩) (Cert.ReferenceUpIdeal.Value.run m' g')
  rw [(h c).1, Cert.ReferenceUpIdeal.Read.val_main_v9_eq]
  refine (ref_eq _ _).trans ?_
  rw [(hagree c).1, (hagree c).2]

end Cert.UpValue

end
-- ==== Proof.Down.lean ====
/- The down-projection with its residual: the kernel's blocks of rows and the reference's product are one sum over the
   hidden dimension at every index. -/
module

public import proofs.«01_k».proof.Proof.Gen.KernelDownIdeal.Value
public import proofs.«01_k».proof.Proof.Gen.ReferenceDownIdeal.Read
public import Idealize.ShloMosaic.Lib.Pointwise
public import proofs.«01_k».proof.Defs
public import proofs.«01_k».proof.Proof.Gen.KernelDown
public import proofs.«01_k».proof.Proof.Gen.ReferenceDownIdeal

@[expose] public section

set_option maxRecDepth 16384

noncomputable section

namespace Cert.DownValue

open Cert.KernelDownIdeal Cert.KernelDownIdeal.Gen Cert.KernelDownIdeal.Value
open Idealize.ShloMosaic Idealize.ShloMosaic.TcCoe Idealize.SL.Sem

/-- The result at an index: the residual plus row `j 0` of the hidden values against column `j 1` of the weight. -/
def G (g : Vec Ideal S4096x2816 .bf16) (w : Vec Ideal S2816x1024 .bf16) (r : Vec Ideal S4096x1024 .f32) : Vec Ideal S4096x1024 .f32 :=
  fun j => r j + ∑ k : Fin 2816, g (ix2 (j 0) k) * w (ix2 k (j 1))

theorem hz : (![0, 0] : Fin 2 → Nat) = fun _ => 0 := funext fun a => by fin_cases a <;> rfl

/-- What the body leaves in the output's buffer is its one payload of the input blocks. -/
theorem out_eq (c : Dev nD) (i : grid0.Coords) (a3 : Memref sig .tc .vmem S512x2816 .bf16) (h3 : a3.IsWhole)
    (a4 : Memref sig .tc .vmem S2816x1024 .bf16) (h4 : a4.IsWhole) (a5 : Memref sig .tc .vmem S512x1024 .f32) (h5 : a5.IsWhole)
    (a6 : Memref sig .tc .vmem S512x1024 .f32) (h6 : a6.IsWhole) (a7 : Memref sig .tc .vmem S8x128 .f32) (h7 : a7.IsWhole)
    (x0 : Vec Ideal S512x2816 .bf16) (x1 : Vec Ideal S2816x1024 .bf16) (x2 : Vec Ideal S512x1024 .f32) :
    out0_A_3 c i a3 h3 a4 h4 a5 h5 a6 h6 a7 h7 x0 x1 x2 = k0_pay1 x0 x1 x2 := by
  unfold out0_A_3
  rw [View.read_writes_junk_eq_canon]
  unfold kernelRun0_A
  dsimp only
  sl_unfold_words
  simp only [View.readAt_eq_ld, h3.read_unread, h4.read_unread, h5.read_unread]
  rw [View.canon_unit_zero hz, View.ld_unit_zero hz, View.ld_unit_zero hz, View.ld_unit_zero hz]

/-- The payload at an index. -/
theorem pay_apply (x0 : Vec Ideal S512x2816 .bf16) (x1 : Vec Ideal S2816x1024 .bf16) (x2 : Vec Ideal S512x1024 .f32) (j : S512x1024.Idx) :
    k0_pay1 x0 x1 x2 j = x2 j + ∑ k : Fin 2816, x0 (ix2 (j 0) k) * x1 (ix2 k (j 1)) := by
  unfold k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What a point writes back is its block of `G` of the arguments. -/
theorem flushed3_eq (c : Dev nD) (t : Fin cfg0.N) :
    (dats m 0 c).flushed 3 t
      = ((cfg0.win 3).blk t).view.read (Elt Ideal) (G (V m c main_arg0) (V m c main_arg1) (V m c main_arg2)) := by
  obtain ⟨e0, e1, e2, e3, e4, e5, e6, e7⟩ := idx_facts t
  rw [flushed3_A, out_eq]
  funext j
  show k0_pay1 (iblk m c 0 t) (iblk m c 1 t) (iblk m c 2 t) j
    = G (V m c main_arg0) (V m c main_arg1) (V m c main_arg2) (((cfg0.win 3).blk t).view.emb j)
  rw [pay_apply]
  unfold G
  refine congrArg₂ (fun a b : EReal => a + b) ?_ (Finset.sum_congr rfl fun k _ => congrArg₂ (fun a b : EReal => a * b) ?_ ?_)
  · show V m c main_arg2 (((cfg0.win 2).blk t).view.emb j) = _
    refine congrArg _ (funext fun a => Fin.ext ?_)
    match a with
    | ⟨0, _⟩ => show win0_2.index t (0 : Fin 2) * 512 + 1 * (j 0).val = win0_3.index t (0 : Fin 2) * 512 + 1 * (j 0).val; omega
    | ⟨1, _⟩ => show win0_2.index t (1 : Fin 2) * 1024 + 1 * (j 1).val = win0_3.index t (1 : Fin 2) * 1024 + 1 * (j 1).val; omega
  · show V m c main_arg0 (((cfg0.win 0).blk t).view.emb (ix2 (j 0) k)) = _
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2816 + 1 * k.val = k.val; omega
  · show V m c main_arg1 (((cfg0.win 1).blk t).view.emb (ix2 k (j 1))) = _
    refine congrArg _ (funext fun a => Fin.ext ?_)
    match a with
    | ⟨0, _⟩ => show win0_1.index t (0 : Fin 2) * 2816 + 1 * k.val = k.val; omega
    | ⟨1, _⟩ => show win0_1.index t (1 : Fin 2) * 1024 + 1 * (j 1).val = win0_3.index t (1 : Fin 2) * 1024 + 1 * (j 1).val; omega

/-- Membership in an output block, by coordinates. -/
theorem mem_blk (t : Fin cfg0.N) (i : S4096x1024.Idx) : i ∈ ((cfg0.win 3).blk t).view.set ↔
    ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]; exact Iff.rfl

/-- Every index of the result is in some point's block. -/
theorem covered3 (i : S4096x1024.Idx) :
    ∃ t : Fin cfg0.N, (cfg0.win 3).flush t = true ∧ i ∈ ((cfg0.win 3).blk t).view.set := by
  have hi : (i 0).val < 4096 := (i 0).isLt
  have hi1 : (i 1).val < 1024 := (i 1).isLt
  have hN : cfg0.N = 8 := by decide
  obtain ⟨t, ht⟩ : ∃ t : Fin cfg0.N, t.val = (i 0).val / 512 := ⟨⟨(i 0).val / 512, by omega⟩, rfl⟩
  obtain ⟨_, _, _, _, _, _, e4, e5⟩ := idx_facts t
  refine ⟨t, flush0_3 _, ?_⟩
  rw [mem_blk]
  have key : ∀ a : Fin 2, win0_3.index t a * S512x1024.size a ≤ (i a).val
      ∧ (i a).val < win0_3.index t a * S512x1024.size a + S512x1024.size a := by
    rw [Fin.forall_fin_two, e4, e5, ht]
    show ((i 0).val / 512 * 512 ≤ (i 0).val ∧ (i 0).val < (i 0).val / 512 * 512 + 512)
      ∧ (0 * 1024 ≤ (i 1).val ∧ (i 1).val < 0 * 1024 + 1024)
    omega
  exact key

/-- The result array after the run. -/
theorem final3 (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 (G (V m c main_arg0) (V m c main_arg1) (V m c main_arg2)) (fun t _ => flushed3_eq m c t) covered3).trans
    (by rw [V_main_arg0, V_main_arg1, V_main_arg2])

/-- The reference's result is the same function. -/
theorem ref_eq (g : Vec Ideal S4096x2816 .bf16) (w : Vec Ideal S2816x1024 .bf16) (r : Vec Ideal S4096x1024 .f32) :
    Cert.ReferenceDownIdeal.Read.val_main_v3 (F := Ideal) g w r = G g w r := by
  funext j
  unfold G Cert.ReferenceDownIdeal.Read.val_main_v3 Cert.ReferenceDownIdeal.Read.val_main_v2 Cert.ReferenceDownIdeal.Read.val_main_v1
    Cert.ReferenceDownIdeal.Read.val_main_v0
  pointwise

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (run_blocks m ρ)

/-- The two programs leave the same result. -/
theorem algebraic : Cert.algebraic_KernelDownIdeal_ReferenceDownIdeal := by
  intro m g m' g' _ hagree
  refine ⟨fun c => G (m ((c : Thread nD τ).loc main_arg0)) (m ((c : Thread nD τ).loc main_arg1))
    (m ((c : Thread nD τ).loc main_arg2)), run m g, ?_⟩
  refine (θ_run _ _ _).mono (fun r h c => ⟨?_, (h c).2⟩) (Cert.ReferenceDownIdeal.Value.run m' g')
  rw [(h c).1, Cert.ReferenceDownIdeal.Read.val_main_v3_eq]
  refine (ref_eq _ _ _).trans ?_
  rw [(hagree c).1, (hagree c).2.1, (hagree c).2.2]

end Cert.DownValue

end
-- ==== Proof.DxRef.lean ====
/- The gradient into the first mixer's input, as the reference computes it, at an index. -/
module

public import proofs.«01_k».proof.Proof.Gen.ReferenceDxIdeal.Read
public import proofs.«01_k».proof.Proof.Norm
public import Idealize.ShloMosaic.Lib.Pointwise

@[expose] public section

set_option maxRecDepth 16384

noncomputable section

namespace Cert.DxValue

open Cert.ReferenceDxIdeal Cert.ReferenceDxIdeal.Gen Cert.ReferenceDxIdeal.Read
open Idealize.ShloMosaic Idealize.ShloMosaic.TcCoe Idealize.SL.Sem

/-- The gradient of the norm's output at token `t` and feature `d`: the two branches' gradients against their weights. -/
def act (da : Vec Ideal S2x4096x1024 .bf16) (w1 : Vec Ideal S1024x2048 .bf16) (t : Fin 4096) (d : Fin 1024) : EReal :=
  (∑ k : Fin 1024, da (ix3 0 t k) * w1 (ix2 d ⟨k.val, by omega⟩))
    + ∑ k : Fin 1024, da (ix3 1 t k) * w1 (ix2 d ⟨1024 + k.val, by omega⟩)

/-- The reference's product of the two branches side by side is the two branches' products. -/
theorem product (da : Vec Ideal S2x4096x1024 .bf16) (w1 : Vec Ideal S1024x2048 .bf16) (t : Fin 4096) (d : Fin 1024) :
    val_main_v20 (F := Ideal) da w1 (ix2 t d) = act da w1 t d := by
  have e : val_main_v20 (F := Ideal) da w1 (ix2 t d)
      = ∑ k : Fin (1024 + 1024), da (ix3 ⟨k.val / 1024, by omega⟩ t ⟨k.val % 1024, by omega⟩) * w1 (ix2 d k) := by
    unfold val_main_v20 val_main_v19 val_main_v18 val_main_v17 val_main_v15
    pointwise
  rw [e, Fin.sum_univ_add]
  refine congrArg₂ (fun a b : EReal => a + b) (Finset.sum_congr rfl fun k _ => congrArg₂ (fun a b : EReal => a * b) (congrArg da ?_) (congrArg w1 ?_))
    (Finset.sum_congr rfl fun k _ => congrArg₂ (fun a b : EReal => a * b) (congrArg da ?_) (congrArg w1 ?_))
  · funext a; apply Fin.ext
    match a with
    | ⟨0, _⟩ => show k.val / 1024 = 0; omega
    | ⟨1, _⟩ => rfl
    | ⟨2, _⟩ => show k.val % 1024 = k.val; omega
  · funext a; apply Fin.ext
    match a with
    | ⟨0, _⟩ => rfl
    | ⟨1, _⟩ => rfl
  · funext a; apply Fin.ext
    match a with
    | ⟨0, _⟩ => show (1024 + k.val) / 1024 = 1; omega
    | ⟨1, _⟩ => rfl
    | ⟨2, _⟩ => show (1024 + k.val) % 1024 = k.val; omega
  · funext a; apply Fin.ext
    match a with
    | ⟨0, _⟩ => rfl
    | ⟨1, _⟩ => rfl

variable (da : Vec Ideal S2x4096x1024 .bf16) (w1 : Vec Ideal S1024x2048 .bf16) (r : Vec Ideal S4096x1024 .f32)
  (g : Vec Ideal S1x1024 .f32) (dr : Vec Ideal S4096x1024 .f32)

/-- The reference's first result at an index is the chain rule's row. -/
theorem rows_chain (t : Fin 4096) (d : Fin 1024) : val_main_v40 (F := Ideal) da w1 r g dr (ix2 t d)
    = Norm.chain (act da w1 t) (fun k => r (ix2 t k)) (fun k => g (ix2 0 k)) (fun k => dr (ix2 t k)) d := by
  have hp : ∀ k, val_main_v20 (F := Ideal) da w1 (ix2 t k) = act da w1 t k := product da w1 t
  unfold val_main_v40 val_main_v39 val_main_v38 val_main_v37 val_main_v36 val_main_v35 val_main_v34 val_main_v33
    val_main_v32 val_main_v31 val_main_v30 val_main_v29 val_main_v28 val_main_v27 val_main_v26 val_main_v25 val_main_v24
    val_main_v10 val_main_v9 val_main_v8 val_main_v7 val_main_v6 val_main_v5 val_main_v4 val_main_v3 val_main_v2
    val_main_v1 val_main_v0 val_main_cst_1 val_main_cst_0 val_main_cst val_main_cst_2 val_main_cst_4 val_main_cst_5 val_main_cst_6
  revert hp
  generalize val_main_v20 (F := Ideal) da w1 = a
  intro hp
  unfold Norm.chain Norm.spread Norm.inv
  pointwise
  simp only [Finset.univ_unique, Finset.sum_singleton, hp]

/-- The gain's gradient at a feature. -/
theorem gain_sum (j : S1x1024.Idx) : val_main_v23 (F := Ideal) da w1 r j
    = ∑ t : Fin 4096, act da w1 t (j 1) * (r (ix2 t (j 1)) * Norm.inv fun k => r (ix2 t k)) := by
  have hp : ∀ t k, val_main_v20 (F := Ideal) da w1 (ix2 t k) = act da w1 t k := product da w1
  unfold val_main_v23 val_main_v22 val_main_v21 val_main_v12 val_main_v11 val_main_v7 val_main_v6 val_main_v5 val_main_v4
    val_main_v3 val_main_v2 val_main_v1 val_main_v0 val_main_cst_3 val_main_cst_1 val_main_cst_0 val_main_cst
  revert hp
  generalize val_main_v20 (F := Ideal) da w1 = a
  intro hp
  unfold Norm.inv
  pointwise
  exact Finset.sum_congr rfl fun t _ => (congrArg (fun z => _ * z) (hp t (j 1))).trans (mul_comm _ _)

/-- The rows' sum at a feature. -/
theorem row_sum (j : S1x1024.Idx) : val_main_v42 (F := Ideal) da w1 r g dr j
    = ∑ t : Fin 4096, val_main_v40 (F := Ideal) da w1 r g dr (ix2 t (j 1)) := by
  unfold val_main_v42 val_main_v41 val_main_cst_7
  generalize val_main_v40 (F := Ideal) da w1 r g dr = a
  pointwise

end Cert.DxValue

end
-- ==== Proof.DxKer.lean ====
/- The gradient into the first mixer's input: what the kernel's blocks and its two running sums leave. -/
module

public import proofs.«01_k».proof.Proof.Gen.KernelDxIdeal.Value
public import proofs.«01_k».proof.Proof.DxRef
public import proofs.«01_k».proof.Proof.DhKer
public import Idealize.ShloMosaic.Lib.Pointwise
public import Idealize.ShloMosaic.Lib.Pipeline.ValueKit

@[expose] public section

set_option maxRecDepth 16384

noncomputable section

namespace Cert.DxValue

open Cert.DhValue (rowOf sum_rows)
open Cert.KernelDxIdeal Cert.KernelDxIdeal.Gen Cert.KernelDxIdeal.Value
open Idealize.ShloMosaic Idealize.ShloMosaic.TcCoe Idealize.SL.Sem

section forms

variable (da : Vec Ideal S2x4096x1024 .bf16) (w1 : Vec Ideal S1024x2048 .bf16) (r : Vec Ideal S4096x1024 .f32)
  (g : Vec Ideal S1x1024 .f32) (dr : Vec Ideal S4096x1024 .f32)

/-- A row's gradient. -/
def rowAt (t : Fin 4096) (d : Fin 1024) : EReal :=
  Norm.row (act da w1 t) (fun k => r (ix2 t k)) (fun k => g (ix2 0 k)) (fun k => dr (ix2 t k)) d

/-- A row's part of the gain's gradient. -/
def gainAt (t : Fin 4096) (d : Fin 1024) : EReal :=
  act da w1 t d * (r (ix2 t d) * Norm.inv fun k => r (ix2 t k))

/-- The rows. -/
def Rows : Vec Ideal S4096x1024 .f32 := fun j => rowAt da w1 r g dr (j 0) (j 1)

/-- The gain's gradient. -/
def Gain : Vec Ideal S1x1024 .f32 := fun j => ∑ t : Fin 4096, gainAt da w1 r t (j 1)

/-- The rows' sum. -/
def Sums : Vec Ideal S1x1024 .f32 := fun j => ∑ t : Fin 4096, rowAt da w1 r g dr t (j 1)

end forms

variable (m : (ℓ : Loc nD τ sig) → Buf (Elt Ideal) ℓ) (ρ : Dev nD → PrngReg)

/-- Where the input windows' blocks sit. -/
theorem idx_in : ∀ t : Fin cfg0.N, (win0_0.index t (0 : Fin 3) = 0 ∧ win0_0.index t (1 : Fin 3) = t.val ∧ win0_0.index t (2 : Fin 3) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0) :=
  (by decide +kernel : ∀ t : Fin grid0.N, _)

/-- Where the output windows' blocks sit. -/
theorem idx_out : ∀ t : Fin cfg0.N, (win0_5.index t (0 : Fin 2) = t.val ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)

theorem points (t : Fin cfg0.N) : t.val < 8 := lt_of_lt_of_eq t.isLt (by decide)

theorem in0 (c : Dev nD) (t : Fin cfg0.N) (b : Fin 2) (x : Fin 512) (k : Fin 1024) :
    iblk m c 0 t (ix3 b x k) = V m c main_arg0 (ix3 b (rowOf t.val (points t) x) k) := by
  obtain ⟨⟨e0, e1, e2⟩, _⟩ := idx_in t
  show V m c main_arg0 (((cfg0.win 0).blk t).view.emb (ix3 b x k)) = _
  refine congrArg _ (funext fun a => Fin.ext ?_)
  match a with
  | ⟨0, _⟩ => show win0_0.index t (0 : Fin 3) * 2 + 1 * b.val = b.val; omega
  | ⟨1, _⟩ => show win0_0.index t (1 : Fin 3) * 512 + 1 * x.val = t.val * 512 + x.val; omega
  | ⟨2, _⟩ => show win0_0.index t (2 : Fin 3) * 1024 + 1 * k.val = k.val; omega

theorem in1 (c : Dev nD) (t : Fin cfg0.N) (x : Fin 1024) (k : Fin 2048) :
    iblk m c 1 t (ix2 x k) = V m c main_arg1 (ix2 x k) := by
  obtain ⟨_, ⟨e0, e1⟩, _⟩ := idx_in t
  show V m c main_arg1 (((cfg0.win 1).blk t).view.emb (ix2 x k)) = _
  refine congrArg _ (funext fun a => Fin.ext ?_)
  match a with
  | ⟨0, _⟩ => show win0_1.index t (0 : Fin 2) * 1024 + 1 * x.val = x.val; omega
  | ⟨1, _⟩ => show win0_1.index t (1 : Fin 2) * 2048 + 1 * k.val = k.val; omega

theorem in2 (c : Dev nD) (t : Fin cfg0.N) (x : Fin 512) (k : Fin 1024) :
    iblk m c 2 t (ix2 x k) = V m c main_arg2 (ix2 (rowOf t.val (points t) x) k) := by
  obtain ⟨_, _, ⟨e0, e1⟩, _⟩ := idx_in t
  show V m c main_arg2 (((cfg0.win 2).blk t).view.emb (ix2 x k)) = _
  refine congrArg _ (funext fun a => Fin.ext ?_)
  match a with
  | ⟨0, _⟩ => show win0_2.index t (0 : Fin 2) * 512 + 1 * x.val = t.val * 512 + x.val; omega
  | ⟨1, _⟩ => show win0_2.index t (1 : Fin 2) * 1024 + 1 * k.val = k.val; omega

theorem in3 (c : Dev nD) (t : Fin cfg0.N) (x : Fin 1) (k : Fin 1024) :
    iblk m c 3 t (ix2 x k) = V m c main_arg3 (ix2 x k) := by
  obtain ⟨_, _, _, ⟨e0, e1⟩, _⟩ := idx_in t
  show V m c main_arg3 (((cfg0.win 3).blk t).view.emb (ix2 x k)) = _
  refine congrArg _ (funext fun a => Fin.ext ?_)
  match a with
  | ⟨0, _⟩ => show win0_3.index t (0 : Fin 2) * 1 + 1 * x.val = x.val; omega
  | ⟨1, _⟩ => show win0_3.index t (1 : Fin 2) * 1024 + 1 * k.val = k.val; omega

theorem in4 (c : Dev nD) (t : Fin cfg0.N) (x : Fin 512) (k : Fin 1024) :
    iblk m c 4 t (ix2 x k) = V m c main_arg4 (ix2 (rowOf t.val (points t) x) k) := by
  obtain ⟨_, _, _, _, ⟨e0, e1⟩⟩ := idx_in t
  show V m c main_arg4 (((cfg0.win 4).blk t).view.emb (ix2 x k)) = _
  refine congrArg _ (funext fun a => Fin.ext ?_)
  match a with
  | ⟨0, _⟩ => show win0_4.index t (0 : Fin 2) * 512 + 1 * x.val = t.val * 512 + x.val; omega
  | ⟨1, _⟩ => show win0_4.index t (1 : Fin 2) * 1024 + 1 * k.val = k.val; omega

/-- The row a point computes for row `x` of its block. -/
abbrev rowV (c : Dev nD) (t : Fin cfg0.N) (x : Fin 512) (d : Fin 1024) : EReal :=
  rowAt (V m c main_arg0) (V m c main_arg1) (V m c main_arg2) (V m c main_arg3) (V m c main_arg4) (rowOf t.val (points t) x) d

/-- Its part of the gain's gradient. -/
abbrev gainV (c : Dev nD) (t : Fin cfg0.N) (x : Fin 512) (d : Fin 1024) : EReal :=
  gainAt (V m c main_arg0) (V m c main_arg1) (V m c main_arg2) (rowOf t.val (points t) x) d

/-- The rows a point leaves in the first result's block. -/
theorem rows5 (c : Dev nD) (t : Fin cfg0.N) (x : Fin 512) (d : Fin 1024) :
    (outsAt0 m c t.val t.isLt).1 (ix2 x d) = rowV m c t x d := by
  unfold rowV rowAt Norm.row Norm.inv act
  by_cases h0 : t.val % 8 = 0
  · rw [outsAt0_A m c t h0]
    frame_out
    pointwise [k0_pay1, k0_pay9, k0_pay8, k0_pay7, k0_pay6]
    simp only [in0, in1, in2, in3, in4]
  · rw [outsAt0_B m c t h0]
    frame_out
    pointwise [k0_pay1, k0_pay9, k0_pay8, k0_pay7, k0_pay6]
    simp only [in0, in1, in2, in3, in4]

/-- An index of the one row. -/
theorem eta (y : S1x1024.Idx) : ∃ d : Fin 1024, y = ix2 0 d := by
  refine ⟨y 1, funext fun a => Fin.ext ?_⟩
  match a with
  | ⟨0, _⟩ => exact Nat.lt_one_iff.mp (y 0).isLt
  | ⟨1, _⟩ => rfl

/-- The gain's running sum at the first point. -/
theorem gain6_A (c : Dev nD) (t : Fin cfg0.N) (h0 : t.val % 8 = 0) (d : Fin 1024) :
    (outsAt0 m c t.val t.isLt).2.1 (ix2 0 d) = ∑ x : Fin 512, gainV m c t x d := by
  unfold gainV gainAt Norm.inv act
  rw [outsAt0_A m c t h0]
  frame_out
  pointwise [k0_pay4, k0_pay2, k0_pay1, k0_pay9, k0_pay8, k0_pay7, k0_pay6]
  simp only [in0, in1, in2, in3, in4]

/-- And at a later one. -/
theorem gain6_B (c : Dev nD) (t : Fin cfg0.N) (h0 : ¬t.val % 8 = 0) (d : Fin 1024) :
    (outsAt0 m c t.val t.isLt).2.1 (ix2 0 d)
      = (outsAt0 m c (t.val - 1) (Nat.lt_of_le_of_lt (Nat.sub_le _ _) t.isLt)).2.1 (ix2 0 d) + ∑ x : Fin 512, gainV m c t x d := by
  unfold gainV gainAt Norm.inv act
  rw [outsAt0_B m c t h0]
  frame_out
  pointwise [k0_pay4, k0_pay2, k0_pay1, k0_pay9, k0_pay8, k0_pay7, k0_pay6]
  simp only [in0, in1, in2, in3, in4]

/-- The rows' running sum at the first point. -/
theorem sum7_A (c : Dev nD) (t : Fin cfg0.N) (h0 : t.val % 8 = 0) (d : Fin 1024) :
    (outsAt0 m c t.val t.isLt).2.2 (ix2 0 d) = ∑ x : Fin 512, rowV m c t x d := by
  unfold rowV rowAt Norm.row Norm.inv act
  rw [outsAt0_A m c t h0]
  frame_out
  pointwise [k0_pay5, k0_pay3, k0_pay1, k0_pay9, k0_pay8, k0_pay7, k0_pay6]
  simp only [in0, in1, in2, in3, in4]

/-- And at a later one. -/
theorem sum7_B (c : Dev nD) (t : Fin cfg0.N) (h0 : ¬t.val % 8 = 0) (d : Fin 1024) :
    (outsAt0 m c t.val t.isLt).2.2 (ix2 0 d)
      = (outsAt0 m c (t.val - 1) (Nat.lt_of_le_of_lt (Nat.sub_le _ _) t.isLt)).2.2 (ix2 0 d) + ∑ x : Fin 512, rowV m c t x d := by
  unfold rowV rowAt Norm.row Norm.inv act
  rw [outsAt0_B m c t h0]
  frame_out
  pointwise [k0_pay5, k0_pay3, k0_pay1, k0_pay9, k0_pay8, k0_pay7, k0_pay6]
  simp only [in0, in1, in2, in3, in4]

/-- The gain's gradient after the last point. -/
theorem gain6_last (c : Dev nD) (t : Fin cfg0.N) (ht : t.val % 8 = 7) (y : S1x1024.Idx) :
    (outsAt0 m c t.val t.isLt).2.1 y = Gain (V m c main_arg0) (V m c main_arg1) (V m c main_arg2) y := by
  have e := Pipeline.eq_sum_of_reset_step_apply_single_of_mod (fun n h => (outsAt0 m c n h).2.1) 8 (fun _ => (0 : EReal))
    (fun n y => if hn : n < cfg0.N then ∑ x : Fin 512, gainV m c ⟨n, hn⟩ x (y 1) else 0)
    (fun t h y => by
      obtain ⟨d, rfl⟩ := eta y
      refine (gain6_A m c t h d).trans ?_
      rw [dif_pos t.isLt, zero_add]; rfl)
    (fun t h y => by
      obtain ⟨d, rfl⟩ := eta y
      refine (gain6_B m c t h d).trans ?_
      rw [dif_pos t.isLt]; rfl)
    (by decide) t ht y
  refine e.trans ?_
  rw [zero_add]
  exact sum_rows (fun t => gainAt (V m c main_arg0) (V m c main_arg1) (V m c main_arg2) t (y 1)) _
    (fun n hn => dif_pos (show n < cfg0.N from lt_of_lt_of_eq hn (by decide)))

/-- The rows' sum after the last point. -/
theorem sum7_last (c : Dev nD) (t : Fin cfg0.N) (ht : t.val % 8 = 7) (y : S1x1024.Idx) :
    (outsAt0 m c t.val t.isLt).2.2 y
      = Sums (V m c main_arg0) (V m c main_arg1) (V m c main_arg2) (V m c main_arg3) (V m c main_arg4) y := by
  have e := Pipeline.eq_sum_of_reset_step_apply_single_of_mod (fun n h => (outsAt0 m c n h).2.2) 8 (fun _ => (0 : EReal))
    (fun n y => if hn : n < cfg0.N then ∑ x : Fin 512, rowV m c ⟨n, hn⟩ x (y 1) else 0)
    (fun t h y => by
      obtain ⟨d, rfl⟩ := eta y
      refine (sum7_A m c t h d).trans ?_
      rw [dif_pos t.isLt, zero_add]; rfl)
    (fun t h y => by
      obtain ⟨d, rfl⟩ := eta y
      refine (sum7_B m c t h d).trans ?_
      rw [dif_pos t.isLt]; rfl)
    (by decide) t ht y
  refine e.trans ?_
  rw [zero_add]
  exact sum_rows (fun t => rowAt (V m c main_arg0) (V m c main_arg1) (V m c main_arg2) (V m c main_arg3) (V m c main_arg4) t (y 1)) _
    (fun n hn => dif_pos (show n < cfg0.N from lt_of_lt_of_eq hn (by decide)))

end Cert.DxValue

end
-- ==== Proof.Dx.lean ====
/- The gradient into the first mixer's input: the claim that kernel and reference leave the same results. -/
module

public import proofs.«01_k».proof.Defs
public import proofs.«01_k».proof.Proof.Gen.KernelDx
public import proofs.«01_k».proof.Proof.Gen.ReferenceDxIdeal
public import proofs.«01_k».proof.Proof.DxKer
public import proofs.«01_k».proof.Proof.Dh

@[expose] public section

set_option maxRecDepth 16384

noncomputable section

namespace Cert.DxValue

open Cert.DhValue (rowOf)
open Cert.KernelDxIdeal Cert.KernelDxIdeal.Gen Cert.KernelDxIdeal.Value
open Idealize.ShloMosaic Idealize.ShloMosaic.TcCoe Idealize.SL.Sem

variable (m : (ℓ : Loc nD τ sig) → Buf (Elt Ideal) ℓ) (ρ : Dev nD → PrngReg)

/-- The first result's array: the rows. -/
theorem final5 (c : Dev nD) : (dats m 0 c).arrAt 5 cfg0.N
    = Rows (V m c main_arg0) (V m c main_arg1) (V m c main_arg2) (V m c main_arg3) (V m c main_arg4) := by
  refine (dats m 0 c).arrAt_eq_of_covers 5 _ (by decide +kernel) fun t hf y => ?_
  obtain ⟨⟨e0, e1⟩, _⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 5).blk t).view.emb (ix2 x d) = ix2 (rowOf t.val (points t) x) d := funext fun a => Fin.ext (by
    match a with
    | ⟨0, _⟩ => show win0_5.index t (0 : Fin 2) * 512 + 1 * x.val = t.val * 512 + x.val; omega
    | ⟨1, _⟩ => show win0_5.index t (1 : Fin 2) * 1024 + 1 * d.val = d.val; omega)
  rw [e]
  refine Eq.trans ?_ (rows5 m c t x d)
  blk_simp
  rw [after0_5]

/-- The second result's: the gain's gradient. -/
theorem final6 (c : Dev nD) : (dats m 0 c).arrAt 6 cfg0.N
    = Gain (V m c main_arg0) (V m c main_arg1) (V m c main_arg2) := by
  refine (dats m 0 c).arrAt_eq_of_after_last 6 t0_7 (by decide +kernel) _ fun j => ?_
  rw [after0_6]
  exact gain6_last m c t0_7 (by decide) j

/-- The third result's: the rows' sum. -/
theorem final7 (c : Dev nD) : (dats m 0 c).arrAt 7 cfg0.N
    = Sums (V m c main_arg0) (V m c main_arg1) (V m c main_arg2) (V m c main_arg3) (V m c main_arg4) := by
  refine (dats m 0 c).arrAt_eq_of_after_last 7 t0_7 (by decide +kernel) _ fun j => ?_
  rw [after0_7]
  exact sum7_last m c t0_7 (by decide) j

/-- The kernel's run: its three results, and the arguments as they were. -/
theorem run_all : θ_run defs (onTc (τ := τ) (main (F := Ideal))) ⟨m, fun _ => 0, ρ⟩ fun r => ∀ c : Dev nD,
      r.2.mem ((c : Thread nD τ).loc main_v0_0) = Rows (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_v0_1) = Gain (m ((c : Thread nD τ).loc main_arg0)) (m ((c : Thread nD τ).loc main_arg1))
        (m ((c : Thread nD τ).loc main_arg2))
      ∧ r.2.mem ((c : Thread nD τ).loc main_v0_2) = Sums (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c),
    (h c).2.2.1.trans (final7 m c), (h c).2.2.2⟩) (run_blocks m ρ)

section reference

open Cert.ReferenceDxIdeal.Read

variable (da : Vec Ideal S2x4096x1024 .bf16) (w1 : Vec Ideal S1024x2048 .bf16) (r : Vec Ideal S4096x1024 .f32)
  (g : Vec Ideal S1x1024 .f32) (dr : Vec Ideal S4096x1024 .f32)

/-- The reference's row is the kernel's. -/
theorem rows_eq (t : Fin 4096) (d : Fin 1024) : val_main_v40 (F := Ideal) da w1 r g dr (ix2 t d) = rowAt da w1 r g dr t d := by
  rw [rows_chain]
  unfold rowAt
  exact (Norm.row_eq_chain _ _ _ _ d).symm

end reference

/-- The two programs leave the same three results. -/
theorem algebraic : Cert.algebraic_KernelDxIdeal_ReferenceDxIdeal := by
  intro m g m' g' _ hagree
  refine ⟨_, _, _, run_all m g, ?_⟩
  refine (θ_run _ _ _).mono (fun r h c => ?_) (Cert.ReferenceDxIdeal.Value.run m' g')
  obtain ⟨h0, h1, h2, hk⟩ := h c
  obtain ⟨a0, a1, a2, a3, a4⟩ := hagree c
  refine ⟨?_, ?_, ?_, hk⟩
  · rw [h0, Cert.ReferenceDxIdeal.Read.val_main_v40_eq, a0, a1, a2, a3, a4]
    funext j
    obtain ⟨t, d, rfl⟩ : ∃ (t : Fin 4096) (d : Fin 1024), j = ix2 t d := ⟨j 0, j 1, funext fun a => by match a with | ⟨0, _⟩ => rfl | ⟨1, _⟩ => rfl⟩
    exact rows_eq _ _ _ _ _ t d
  · rw [h1, Cert.ReferenceDxIdeal.Read.val_main_v23_eq, a0, a1, a2]
    funext j
    exact gain_sum _ _ _ j
  · rw [h2, Cert.ReferenceDxIdeal.Read.val_main_v42_eq, a0, a1, a2, a3, a4]
    funext j
    exact (row_sum _ _ _ _ _ j).trans (Finset.sum_congr rfl fun t _ => rows_eq _ _ _ _ _ t (j 1))

end Cert.DxValue

end
-- ==== Proof.Dwa.lean ====
/- The gradient of the mixer's first pointwise weight: the kernel's blocks of columns, one branch at a time, and the
   reference's product of the branches side by side are one sum over the tokens at every index. -/
module

public import proofs.«01_k».proof.Proof.Gen.KernelDwaIdeal.Value
public import proofs.«01_k».proof.Proof.Gen.ReferenceDwaIdeal.Read
public import Idealize.ShloMosaic.Lib.Pointwise
public import proofs.«01_k».proof.Defs
public import proofs.«01_k».proof.Proof.Gen.KernelDwa
public import proofs.«01_k».proof.Proof.Gen.ReferenceDwaIdeal

@[expose] public section

set_option maxRecDepth 16384

noncomputable section

namespace Cert.DwaValue

open Cert.KernelDwaIdeal Cert.KernelDwaIdeal.Gen Cert.KernelDwaIdeal.Value
open Idealize.ShloMosaic Idealize.ShloMosaic.TcCoe Idealize.SL.Sem

/-- The result at an index: column `j 1` of the weight's gradient is feature `j 1 % 1024` of branch `j 1 / 1024`; its entry
    `j 0` is that feature's gradient against feature `j 0` of the input, summed over the tokens. -/
def G (h : Vec Ideal S4096x1024 .bf16) (da : Vec Ideal S2x4096x1024 .bf16) : Vec Ideal S1024x2048 .bf16 :=
  fun j => ∑ k : Fin 4096, h (ix2 k (j 0)) * da (ix3 ⟨(j 1).val / 1024, by have h := (j 1).isLt; change (j 1).val < 2048 at h; omega⟩ k
    ⟨(j 1).val % 1024, by omega⟩)

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer is its one payload of the input blocks. -/
theorem out_eq (c : Dev nD) (i : grid0.Coords) (a3 : Memref sig .tc .vmem S4096x1024 .bf16) (h3 : a3.IsWhole)
    (a4 : Memref sig .tc .vmem S1x4096x1024 .bf16) (h4 : a4.IsWhole) (a5 : Memref sig .tc .vmem S1024x1024 .bf16) (h5 : a5.IsWhole)
    (a6 : Memref sig .tc .vmem S8x128 .f32) (h6 : a6.IsWhole)
    (x0 : Vec Ideal S4096x1024 .bf16) (x1 : Vec Ideal S1x4096x1024 .bf16) :
    out0_A_2 c i a3 h3 a4 h4 a5 h5 a6 h6 x0 x1 = k0_pay1 x0 x1 := by
  unfold out0_A_2
  rw [View.read_writes_junk_eq_canon]
  unfold kernelRun0_A
  dsimp only
  sl_unfold_words
  simp only [View.readAt_eq_ld, h3.read_unread, h4.read_unread]
  rw [View.canon_unit_zero hz, View.ld_unit_zero hz, View.ld_unit_zero hz3]

/-- The payload at an index: a column of the one block against a column of the other. -/
theorem pay_apply (x0 : Vec Ideal S4096x1024 .bf16) (x1 : Vec Ideal S1x4096x1024 .bf16) (j : S1024x1024.Idx) :
    k0_pay1 x0 x1 j = ∑ k : Fin 4096, x0 (ix2 k (j 0)) * x1 (ix3 0 k (j 1)) := by
  unfold k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- What a point writes back is its block of `G` of the arguments. -/
theorem flushed2_eq (c : Dev nD) (t : Fin cfg0.N) :
    (dats m 0 c).flushed 2 t = ((cfg0.win 2).blk t).view.read (Elt Ideal) (G (V m c main_arg0) (V m c main_arg1)) := by
  obtain ⟨e0, e1, e2, e3, e4, e5, e6⟩ := idx_facts t
  rw [flushed2_A, out_eq]
  funext j
  have hj : (j 1).val < 1024 := (j 1).isLt
  show k0_pay1 (iblk m c 0 t) (iblk m c 1 t) j = G (V m c main_arg0) (V m c main_arg1) (((cfg0.win 2).blk t).view.emb j)
  rw [pay_apply]
  unfold G
  refine Finset.sum_congr rfl fun k _ => congrArg₂ (fun a b : EReal => a * b) ?_ ?_
  · show V m c main_arg0 (((cfg0.win 0).blk t).view.emb (ix2 k (j 0))) = _
    refine congrArg _ (funext fun a => Fin.ext ?_)
    match a with
    | ⟨0, _⟩ => show win0_0.index t (0 : Fin 2) * 4096 + 1 * k.val = k.val; omega
    | ⟨1, _⟩ => show win0_0.index t (1 : Fin 2) * 1024 + 1 * (j 0).val = win0_2.index t (0 : Fin 2) * 1024 + 1 * (j 0).val; omega
  · show V m c main_arg1 (((cfg0.win 1).blk t).view.emb (ix3 0 k (j 1))) = _
    refine congrArg _ (funext fun a => Fin.ext ?_)
    match a with
    | ⟨0, _⟩ => show win0_1.index t (0 : Fin 3) * 1 + 1 * 0 = (win0_2.index t (1 : Fin 2) * 1024 + 1 * (j 1).val) / 1024; omega
    | ⟨1, _⟩ => show win0_1.index t (1 : Fin 3) * 4096 + 1 * k.val = k.val; omega
    | ⟨2, _⟩ => show win0_1.index t (2 : Fin 3) * 1024 + 1 * (j 1).val = (win0_2.index t (1 : Fin 2) * 1024 + 1 * (j 1).val) % 1024; omega

/-- Membership in an output block, by coordinates. -/
theorem mem_blk (t : Fin cfg0.N) (i : S1024x2048.Idx) : i ∈ ((cfg0.win 2).blk t).view.set ↔
    ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]; exact Iff.rfl

/-- Every index of the result is in some point's block. -/
theorem covered2 (i : S1024x2048.Idx) :
    ∃ t : Fin cfg0.N, (cfg0.win 2).flush t = true ∧ i ∈ ((cfg0.win 2).blk t).view.set := by
  have hi : (i 0).val < 1024 := (i 0).isLt
  have hi1 : (i 1).val < 2048 := (i 1).isLt
  have hN : cfg0.N = 2 := by decide
  obtain ⟨t, ht⟩ : ∃ t : Fin cfg0.N, t.val = (i 1).val / 1024 := ⟨⟨(i 1).val / 1024, by omega⟩, rfl⟩
  obtain ⟨_, _, _, _, _, e4, e5⟩ := idx_facts t
  refine ⟨t, flush0_2 _, ?_⟩
  rw [mem_blk]
  have key : ∀ a : Fin 2, win0_2.index t a * S1024x1024.size a ≤ (i a).val
      ∧ (i a).val < win0_2.index t a * S1024x1024.size a + S1024x1024.size a := by
    rw [Fin.forall_fin_two, e4, e5, ht]
    show (0 * 1024 ≤ (i 0).val ∧ (i 0).val < 0 * 1024 + 1024)
      ∧ ((i 1).val / 1024 * 1024 ≤ (i 1).val ∧ (i 1).val < (i 1).val / 1024 * 1024 + 1024)
    omega
  exact key

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

/-- The reference's result is the same function. -/
theorem ref_eq (h : Vec Ideal S4096x1024 .bf16) (da : Vec Ideal S2x4096x1024 .bf16) :
    Cert.ReferenceDwaIdeal.Read.val_main_v8 (F := Ideal) h da = G h da := by
  funext j
  unfold G Cert.ReferenceDwaIdeal.Read.val_main_v8 Cert.ReferenceDwaIdeal.Read.val_main_v7
    Cert.ReferenceDwaIdeal.Read.val_main_v6 Cert.ReferenceDwaIdeal.Read.val_main_v5 Cert.ReferenceDwaIdeal.Read.val_main_v4
    Cert.ReferenceDwaIdeal.Read.val_main_v3 Cert.ReferenceDwaIdeal.Read.val_main_v1
  pointwise
  have hj : (j 1).val < 2048 := (j 1).isLt
  refine Finset.sum_congr rfl fun k _ => (mul_comm _ _).trans (congrArg (fun z => _ * da z) (funext fun a => Fin.ext ?_))
  have hk := k.isLt
  match a with
  | ⟨0, _⟩ => first | rfl | (show _ = (j 1).val / 1024; omega)
  | ⟨1, _⟩ => first | rfl | (show _ = k.val; omega)
  | ⟨2, _⟩ => first | rfl | (show _ = (j 1).val % 1024; omega)

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The two programs leave the same result. -/
theorem algebraic : Cert.algebraic_KernelDwaIdeal_ReferenceDwaIdeal := by
  intro m g m' g' _ hagree
  refine ⟨fun c => G (m ((c : Thread nD τ).loc main_arg0)) (m ((c : Thread nD τ).loc main_arg1)), run m g, ?_⟩
  refine (θ_run _ _ _).mono (fun r h c => ⟨?_, (h c).2⟩) (Cert.ReferenceDwaIdeal.Value.run m' g')
  rw [(h c).1, Cert.ReferenceDwaIdeal.Read.val_main_v8_eq]
  refine (ref_eq _ _).trans ?_
  rw [(hagree c).1, (hagree c).2]

end Cert.DwaValue

end
-- ==== Proof.Dwb.lean ====
/- The gradient of the mixer's second pointwise weight: the kernel sums over the tokens in two halves, the first kept in a scratch
   buffer, and the reference's product is the whole sum. -/
module

public import proofs.«01_k».proof.Proof.Gen.KernelDwbIdeal.Value
public import proofs.«01_k».proof.Proof.Gen.ReferenceDwbIdeal.Read
public import Idealize.ShloMosaic.Lib.Pointwise
public import proofs.«01_k».proof.Defs
public import proofs.«01_k».proof.Proof.Gen.KernelDwb
public import proofs.«01_k».proof.Proof.Gen.ReferenceDwbIdeal

@[expose] public section

set_option maxRecDepth 16384

noncomputable section

namespace Cert.DwbValue

open Cert.KernelDwbIdeal Cert.KernelDwbIdeal.Gen Cert.KernelDwbIdeal.Value
open Idealize.ShloMosaic Idealize.ShloMosaic.TcCoe Idealize.SL.Sem

/-- The result at an index: feature `j 0` of the convolution's gated values against feature `j 1` of the output's gradient, summed over the
    tokens. -/
def G (g : Vec Ideal S4096x1024 .bf16) (d : Vec Ideal S4096x1024 .bf16) : Vec Ideal S1024x1024 .bf16 :=
  fun j => ∑ k : Fin 4096, g (ix2 k (j 0)) * d (ix2 k (j 1))

/-- The sum over the tokens in its two halves. -/
theorem G_split (g : Vec Ideal S4096x1024 .bf16) (d : Vec Ideal S4096x1024 .bf16) (j : S1024x1024.Idx) :
    G g d j = (∑ k : Fin 2048, g (ix2 (Fin.castAdd 2048 k) (j 0)) * d (ix2 (Fin.castAdd 2048 k) (j 1)))
      + ∑ k : Fin 2048, g (ix2 (Fin.natAdd 2048 k) (j 0)) * d (ix2 (Fin.natAdd 2048 k) (j 1)) := by
  unfold G
  exact Fin.sum_univ_add (a := 2048) (b := 2048) _

theorem hz : (![0, 0] : Fin 2 → Nat) = fun _ => 0 := funext fun a => by fin_cases a <;> rfl

/-- What the first half leaves in the scratch. -/
theorem sout_eq (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x0 : Vec Ideal S2048x1024 .bf16) (x1 : Vec Ideal S2048x1024 .bf16) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  sl_unfold_words
  simp only [View.readAt_eq_ld, h3.read_unread, h4.read_unread]
  rw [View.canon_unit_zero hz, View.ld_unit_zero hz, View.ld_unit_zero hz]

/-- What the second half leaves in the output's buffer, over the scratch. -/
theorem out_eq (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x0 : Vec Ideal S2048x1024 .bf16) (x1 : Vec Ideal S2048x1024 .bf16) (xs : Vec Ideal S1024x1024 .f32) :
    out0_B_2 c i a3 h3 a4 h4 a5 h5 a6 h6 hc0 hc1 hc2 x0 x1 xs = k0_pay4 x0 x1 xs := by
  unfold out0_B_2
  rw [View.read_writes_junk_eq_canon]
  unfold kernelRun0_B
  dsimp only
  sl_unfold_words
  simp only [View.readAt_eq_ld, h3.read_unread, h4.read_unread, h6.read_unread]
  rw [View.canon_unit_zero hz, View.ld_unit_zero hz, View.ld_unit_zero hz, View.ld_unit_zero hz]

/-- The first half's sum at an index. -/
theorem pay2_apply (x0 : Vec Ideal S2048x1024 .bf16) (x1 : Vec Ideal S2048x1024 .bf16) (j : S1024x1024.Idx) :
    k0_pay2 x0 x1 j = ∑ k : Fin 2048, x0 (ix2 k (j 0)) * x1 (ix2 k (j 1)) := by
  unfold k0_pay2 k0_pay1
  pointwise

/-- The second half's sum at an index, added to the scratch. -/
theorem pay4_apply (x0 : Vec Ideal S2048x1024 .bf16) (x1 : Vec Ideal S2048x1024 .bf16) (xs : Vec Ideal S1024x1024 .f32) (j : S1024x1024.Idx) :
    k0_pay4 x0 x1 xs j = xs j + ∑ k : Fin 2048, x0 (ix2 k (j 0)) * x1 (ix2 k (j 1)) := by
  unfold k0_pay4 k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val % 2 ∧ win0_0.index t (1 : Fin 2) = 0
    ∧ win0_1.index t (0 : Fin 2) = t.val % 2 ∧ win0_1.index t (1 : Fin 2) = 0
    ∧ win0_2.index t (0 : Fin 2) = 0 ∧ win0_2.index t (1 : Fin 2) = 0 :=
  (by decide +kernel : ∀ t : Fin grid0.N, _)

/-- The scratch an odd point finds: the sum over the first half of the tokens. -/
theorem scratch_eq (c : Dev nD) (n : ℕ) (hn : n < cfg0.N) (h0 : n % 2 = 0) :
    (outsAt0 m c n hn).2 = k0_pay2 (iblk m c 0 ⟨n, hn⟩) (iblk m c 1 ⟨n, hn⟩) := by
  have e := outsAt0_A m c ⟨n, hn⟩ h0 (by show ¬ n % 2 = 1; omega)
  have e' : (outsAt0 m c n hn).2 = _ := congrArg Prod.snd e
  rw [e']
  dsimp only
  rw [sout_eq]

/-- An input block's entries are the array's, `2048` rows to a block of the tokens. -/
theorem block0 (c : Dev nD) (t : Fin cfg0.N) (k : Fin 2048) (y : Fin 1024) (K : Fin 4096) (Y : Fin 1024)
    (hK : K.val = t.val % 2 * 2048 + k.val) (hY : Y.val = y.val) :
    iblk m c 0 t (ix2 k y) = V m c main_arg0 (ix2 K Y) := by
  obtain ⟨e0, e1, e2, e3, e4, e5⟩ := idx_facts t
  show V m c main_arg0 (((cfg0.win 0).blk t).view.emb (ix2 k y)) = _
  refine congrArg _ (funext fun a => Fin.ext ?_)
  match a with
  | ⟨0, _⟩ => show win0_0.index t (0 : Fin 2) * 2048 + 1 * k.val = K.val; omega
  | ⟨1, _⟩ => show win0_0.index t (1 : Fin 2) * 1024 + 1 * y.val = Y.val; omega

/-- The same of the other input. -/
theorem block1 (c : Dev nD) (t : Fin cfg0.N) (k : Fin 2048) (y : Fin 1024) (K : Fin 4096) (Y : Fin 1024)
    (hK : K.val = t.val % 2 * 2048 + k.val) (hY : Y.val = y.val) :
    iblk m c 1 t (ix2 k y) = V m c main_arg1 (ix2 K Y) := by
  obtain ⟨e0, e1, e2, e3, e4, e5⟩ := idx_facts t
  show V m c main_arg1 (((cfg0.win 1).blk t).view.emb (ix2 k y)) = _
  refine congrArg _ (funext fun a => Fin.ext ?_)
  match a with
  | ⟨0, _⟩ => show win0_1.index t (0 : Fin 2) * 2048 + 1 * k.val = K.val; omega
  | ⟨1, _⟩ => show win0_1.index t (1 : Fin 2) * 1024 + 1 * y.val = Y.val; omega

/-- What an odd point writes back is its block of `G` of the arguments. -/
theorem flushed2_G (c : Dev nD) (t : Fin cfg0.N) (hf : (cfg0.win 2).flush t = true) :
    (dats m 0 c).flushed 2 t = ((cfg0.win 2).blk t).view.read (Elt Ideal) (G (V m c main_arg0) (V m c main_arg1)) := by
  have h1 : t.val % 2 = 1 := (flush0_2 t).mp hf
  obtain ⟨e0, e1, e2, e3, e4, e5⟩ := idx_facts t
  have hp : t.val - 1 < cfg0.N := Nat.lt_of_le_of_lt (Nat.sub_le _ _) t.isLt
  rw [flushed2_B m c t (by omega) h1, out_eq, scratch_eq m c (t.val - 1) hp (by omega)]
  funext j
  show k0_pay4 (iblk m c 0 t) (iblk m c 1 t) (k0_pay2 (iblk m c 0 ⟨t.val - 1, hp⟩) (iblk m c 1 ⟨t.val - 1, hp⟩)) j
    = G (V m c main_arg0) (V m c main_arg1) (((cfg0.win 2).blk t).view.emb j)
  rw [pay4_apply, pay2_apply, G_split]
  have r0 : (((cfg0.win 2).blk t).view.emb j 0).val = win0_2.index t (0 : Fin 2) * 1024 + 1 * (j 0).val := rfl
  have r1 : (((cfg0.win 2).blk t).view.emb j 1).val = win0_2.index t (1 : Fin 2) * 1024 + 1 * (j 1).val := rfl
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · exact block0 m c _ k (j 0) _ _ (by show k.val = (t.val - 1) % 2 * 2048 + k.val; omega) (by rw [r0]; omega)
  · exact block1 m c _ k (j 1) _ _ (by show k.val = (t.val - 1) % 2 * 2048 + k.val; omega) (by rw [r1]; omega)
  · exact block0 m c _ k (j 0) _ _ (by show 2048 + k.val = t.val % 2 * 2048 + k.val; omega) (by rw [r0]; omega)
  · exact block1 m c _ k (j 1) _ _ (by show 2048 + k.val = t.val % 2 * 2048 + k.val; omega) (by rw [r1]; omega)

/-- The result array after the run. -/
theorem final2_G (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t hf => flushed2_G m c t hf)
    (fun i => (covered_iff2 i).2 (by
      have h0 : (i 0).val < 1024 := (i 0).isLt
      have h1 : (i 1).val < 1024 := (i 1).isLt
      omega))).trans (by rw [V_main_arg0, V_main_arg1])

/-- The reference's result is the same function. -/
theorem ref_eq (g : Vec Ideal S4096x1024 .bf16) (d : Vec Ideal S4096x1024 .bf16) :
    Cert.ReferenceDwbIdeal.Read.val_main_v6 (F := Ideal) g d = G g d := by
  funext j
  unfold G Cert.ReferenceDwbIdeal.Read.val_main_v6 Cert.ReferenceDwbIdeal.Read.val_main_v5 Cert.ReferenceDwbIdeal.Read.val_main_v4
    Cert.ReferenceDwbIdeal.Read.val_main_v3 Cert.ReferenceDwbIdeal.Read.val_main_v1
  pointwise
  exact Finset.sum_congr rfl fun k _ => mul_comm _ _

/-- The kernel's run: the result is `G` of the arguments, which are unchanged. -/
theorem run_G : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2_G m c), (h c).2⟩) (run_blocks m ρ)

/-- The two programs leave the same result. -/
theorem algebraic : Cert.algebraic_KernelDwbIdeal_ReferenceDwbIdeal := by
  intro m g m' g' _ hagree
  refine ⟨fun c => G (m ((c : Thread nD τ).loc main_arg0)) (m ((c : Thread nD τ).loc main_arg1)), run_G m g, ?_⟩
  refine (θ_run _ _ _).mono (fun r h c => ⟨?_, (h c).2⟩) (Cert.ReferenceDwbIdeal.Value.run m' g')
  rw [(h c).1, Cert.ReferenceDwbIdeal.Read.val_main_v6_eq]
  refine (ref_eq _ _).trans ?_
  rw [(hagree c).1, (hagree c).2]

end Cert.DwbValue

end
-- ==== Proof.Pw.lean ====
/- The mixer's first pointwise layer: the kernel's blocks, one branch at a time, and the reference's biased product cut into
   its two branches are one sum over the model dimension and a bias at every index. -/
module

public import proofs.«01_k».proof.Proof.Gen.KernelPwIdeal.Value
public import proofs.«01_k».proof.Proof.Gen.ReferencePwIdeal.Read
public import Idealize.ShloMosaic.Lib.Pointwise
public import proofs.«01_k».proof.Defs
public import proofs.«01_k».proof.Proof.Gen.KernelPw
public import proofs.«01_k».proof.Proof.Gen.ReferencePwIdeal

@[expose] public section

set_option maxRecDepth 16384

noncomputable section

namespace Cert.PwValue

open Cert.KernelPwIdeal Cert.KernelPwIdeal.Gen Cert.KernelPwIdeal.Value
open Idealize.ShloMosaic Idealize.ShloMosaic.TcCoe Idealize.SL.Sem

/-- The result at an index: token `j 1` against feature `j 2` of branch `j 0`, whose weights and bias are column
    `1024 * j 0 + j 2`. -/
def G (h : Vec Ideal S4096x1024 .bf16) (w : Vec Ideal S1024x2048 .bf16) (b : Vec Ideal S1x2048 .f32) : Vec Ideal S2x4096x1024 .bf16 :=
  fun j =>
    have hj : (j 0).val * 1024 + (j 2).val < 2048 := by
      have h0 := (j 0).isLt; have h2 := (j 2).isLt; change (j 0).val < 2 at h0; change (j 2).val < 1024 at h2; omega
    (∑ k : Fin 1024, h (ix2 (j 1) k) * w (ix2 k ⟨(j 0).val * 1024 + (j 2).val, hj⟩)) + b (ix2 0 ⟨(j 0).val * 1024 + (j 2).val, hj⟩)

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer is its one payload of the input blocks. -/
theorem out_eq (c : Dev nD) (i : grid0.Coords) (a3 : Memref sig .tc .vmem S512x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1x512x1024 .bf16) (h6 : a6.IsWhole) (a7 : Memref sig .tc .vmem S8x128 .f32) (h7 : a7.IsWhole)
    (x0 : Vec Ideal S512x1024 .bf16) (x1 : Vec Ideal S1024x1024 .bf16) (x2 : Vec Ideal S1x1024 .f32) :
    out0_A_3 c i a3 h3 a4 h4 a5 h5 a6 h6 a7 h7 x0 x1 x2 = k0_pay1 x0 x1 x2 := by
  unfold out0_A_3
  rw [View.read_writes_junk_eq_canon]
  unfold kernelRun0_A
  dsimp only
  sl_unfold_words
  simp only [View.readAt_eq_ld, h3.read_unread, h4.read_unread, h5.read_unread]
  rw [View.canon_unit_zero hz3, View.ld_unit_zero hz, View.ld_unit_zero hz, View.ld_unit_zero hz]

/-- The payload at an index: a row of the one block against a column of the other, and the bias. -/
theorem pay_apply (x0 : Vec Ideal S512x1024 .bf16) (x1 : Vec Ideal S1024x1024 .bf16) (x2 : Vec Ideal S1x1024 .f32) (j : S1x512x1024.Idx) :
    k0_pay1 x0 x1 x2 j = (∑ k : Fin 1024, x0 (ix2 (j 1) k) * x1 (ix2 k (j 2))) + x2 (ix2 0 (j 2)) := by
  unfold k0_pay1
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = 0 ∧ win0_2.index t (1 : Fin 2) = t.val / 8
    ∧ win0_3.index t (0 : Fin 3) = t.val / 8 ∧ win0_3.index t (1 : Fin 3) = t.val % 8 ∧ win0_3.index t (2 : Fin 3) = 0 :=
  (by decide +kernel : ∀ t : Fin grid0.N, _)

/-- What a point writes back is its block of `G` of the arguments. -/
theorem flushed3_eq (c : Dev nD) (t : Fin cfg0.N) :
    (dats m 0 c).flushed 3 t = ((cfg0.win 3).blk t).view.read (Elt Ideal) (G (V m c main_arg0) (V m c main_arg1) (V m c main_arg2)) := by
  obtain ⟨e0, e1, e2, e3, e4, e5, e6, e7, e8⟩ := idx_facts t
  rw [flushed3_A, out_eq]
  funext j
  have hj : (j 0).val < 1 := (j 0).isLt
  show k0_pay1 (iblk m c 0 t) (iblk m c 1 t) (iblk m c 2 t) j = G (V m c main_arg0) (V m c main_arg1) (V m c main_arg2) (((cfg0.win 3).blk t).view.emb j)
  rw [pay_apply]
  unfold G
  refine congrArg₂ (fun a b : EReal => a + b) (Finset.sum_congr rfl fun k _ => congrArg₂ (fun a b : EReal => a * b) ?_ ?_) ?_
  · show V m c main_arg0 (((cfg0.win 0).blk t).view.emb (ix2 (j 1) k)) = _
    refine congrArg _ (funext fun a => Fin.ext ?_)
    match a with
    | ⟨0, _⟩ => show win0_0.index t (0 : Fin 2) * 512 + 1 * (j 1).val = win0_3.index t (1 : Fin 3) * 512 + 1 * (j 1).val; omega
    | ⟨1, _⟩ => show win0_0.index t (1 : Fin 2) * 1024 + 1 * k.val = k.val; omega
  · show V m c main_arg1 (((cfg0.win 1).blk t).view.emb (ix2 k (j 2))) = _
    refine congrArg _ (funext fun a => Fin.ext ?_)
    match a with
    | ⟨0, _⟩ => show win0_1.index t (0 : Fin 2) * 1024 + 1 * k.val = k.val; omega
    | ⟨1, _⟩ =>
      show win0_1.index t (1 : Fin 2) * 1024 + 1 * (j 2).val
        = (win0_3.index t (0 : Fin 3) * 1 + 1 * (j 0).val) * 1024 + (win0_3.index t (2 : Fin 3) * 1024 + 1 * (j 2).val)
      omega
  · show V m c main_arg2 (((cfg0.win 2).blk t).view.emb (ix2 0 (j 2))) = _
    refine congrArg _ (funext fun a => Fin.ext ?_)
    match a with
    | ⟨0, _⟩ => show win0_2.index t (0 : Fin 2) * 1 + 1 * 0 = 0; omega
    | ⟨1, _⟩ =>
      show win0_2.index t (1 : Fin 2) * 1024 + 1 * (j 2).val
        = (win0_3.index t (0 : Fin 3) * 1 + 1 * (j 0).val) * 1024 + (win0_3.index t (2 : Fin 3) * 1024 + 1 * (j 2).val)
      omega

/-- Membership in an output block, by coordinates. -/
theorem mem_blk (t : Fin cfg0.N) (i : S2x4096x1024.Idx) : i ∈ ((cfg0.win 3).blk t).view.set ↔
    ∀ a : Fin 3, win0_3.index t a * S1x512x1024.size a ≤ (i a).val ∧ (i a).val < win0_3.index t a * S1x512x1024.size a + S1x512x1024.size a := by
  show i ∈ ((View.whole main_v0).slice (win0_3.rect t)).set ↔ _
  rw [View.set_slice_whole, Rect.mem_set_unit]; exact Iff.rfl

/-- Every index of the result is in some point's block. -/
theorem covered3 (i : S2x4096x1024.Idx) :
    ∃ t : Fin cfg0.N, (cfg0.win 3).flush t = true ∧ i ∈ ((cfg0.win 3).blk t).view.set := by
  have hi : (i 0).val < 2 := (i 0).isLt
  have hi1 : (i 1).val < 4096 := (i 1).isLt
  have hi2 : (i 2).val < 1024 := (i 2).isLt
  have hN : cfg0.N = 16 := by decide
  obtain ⟨t, ht⟩ : ∃ t : Fin cfg0.N, t.val = (i 0).val * 8 + (i 1).val / 512 := ⟨⟨(i 0).val * 8 + (i 1).val / 512, by omega⟩, rfl⟩
  obtain ⟨_, _, _, _, _, _, e4, e5, e6⟩ := idx_facts t
  refine ⟨t, flush0_3 _, ?_⟩
  rw [mem_blk]
  have key : ∀ a : Fin 3, win0_3.index t a * S1x512x1024.size a ≤ (i a).val
      ∧ (i a).val < win0_3.index t a * S1x512x1024.size a + S1x512x1024.size a := by
    rw [Fin.forall_fin_succ, Fin.forall_fin_two]
    show (win0_3.index t (0 : Fin 3) * 1 ≤ (i 0).val ∧ (i 0).val < win0_3.index t (0 : Fin 3) * 1 + 1)
      ∧ (win0_3.index t (1 : Fin 3) * 512 ≤ (i 1).val ∧ (i 1).val < win0_3.index t (1 : Fin 3) * 512 + 512)
      ∧ (win0_3.index t (2 : Fin 3) * 1024 ≤ (i 2).val ∧ (i 2).val < win0_3.index t (2 : Fin 3) * 1024 + 1024)
    omega
  exact key

/-- The result array after the run. -/
theorem final3 (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 (G (V m c main_arg0) (V m c main_arg1) (V m c main_arg2)) (fun t _ => flushed3_eq m c t) covered3).trans
    (by rw [V_main_arg0, V_main_arg1, V_main_arg2])

/-- The reference's result is the same function. -/
theorem ref_eq (h : Vec Ideal S4096x1024 .bf16) (w : Vec Ideal S1024x2048 .bf16) (b : Vec Ideal S1x2048 .f32) :
    Cert.ReferencePwIdeal.Read.val_main_v10 (F := Ideal) h w b = G h w b := by
  funext j
  unfold G Cert.ReferencePwIdeal.Read.val_main_v10 Cert.ReferencePwIdeal.Read.val_main_v9 Cert.ReferencePwIdeal.Read.val_main_v8
    Cert.ReferencePwIdeal.Read.val_main_v7 Cert.ReferencePwIdeal.Read.val_main_v6 Cert.ReferencePwIdeal.Read.val_main_v5
    Cert.ReferencePwIdeal.Read.val_main_v4 Cert.ReferencePwIdeal.Read.val_main_v3 Cert.ReferencePwIdeal.Read.val_main_v2
    Cert.ReferencePwIdeal.Read.val_main_v1 Cert.ReferencePwIdeal.Read.val_main_v0
  pointwise
  have h0 : (j 0).val < 2 := (j 0).isLt
  split <;> rename_i hh <;> refine congrArg₂ (fun x y : EReal => x + y)
    (Finset.sum_congr rfl fun k _ => congrArg (fun x => _ * w (ix2 k x)) (Fin.ext ?_)) (congrArg (fun x => b (ix2 0 x)) (Fin.ext ?_))
  · show (j 2).val = (j 0).val * 1024 + (j 2).val
    omega
  · show (j 2).val = (j 0).val * 1024 + (j 2).val
    omega
  · show 1024 + (j 2).val = (j 0).val * 1024 + (j 2).val
    omega
  · show 1024 + (j 2).val = (j 0).val * 1024 + (j 2).val
    omega

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (run_blocks m ρ)

/-- The two programs leave the same result. -/
theorem algebraic : Cert.algebraic_KernelPwIdeal_ReferencePwIdeal := by
  intro m g m' g' _ hagree
  refine ⟨fun c => G (m ((c : Thread nD τ).loc main_arg0)) (m ((c : Thread nD τ).loc main_arg1)) (m ((c : Thread nD τ).loc main_arg2)), run m g, ?_⟩
  refine (θ_run _ _ _).mono (fun r h c => ⟨?_, (h c).2⟩) (Cert.ReferencePwIdeal.Value.run m' g')
  rw [(h c).1, Cert.ReferencePwIdeal.Read.val_main_v10_eq]
  refine (ref_eq _ _ _).trans ?_
  rw [(hagree c).1, (hagree c).2.1, (hagree c).2.2]

end Cert.PwValue

end
-- ==== Proof.Sum.lean ====
/- The sum of the packed small gradients over the devices: the kernel adds them one by one, the reference sums. -/
module

public import proofs.«01_k».proof.Proof.Gen.KernelSumIdeal.Value
public import proofs.«01_k».proof.Proof.Gen.ReferenceSumIdeal.Read
public import Idealize.ShloMosaic.Lib.Pointwise
public import proofs.«01_k».proof.Defs
public import proofs.«01_k».proof.Proof.Gen.KernelSum
public import proofs.«01_k».proof.Proof.Gen.ReferenceSumIdeal

@[expose] public section

set_option maxRecDepth 16384

noncomputable section

namespace Cert.SumValue

open Cert.KernelSumIdeal Cert.KernelSumIdeal.Gen Cert.KernelSumIdeal.Value
open Idealize.ShloMosaic Idealize.ShloMosaic.TcCoe Idealize.SL.Sem

/-- The kernel's array is the reference's: the eight devices' parts summed at every index. -/
theorem ref_eq (x : Vec Ideal S8x72x1024 .f32) : Cert.ReferenceSumIdeal.Read.val_main_v0 (F := Ideal) x = G1 x := by
  funext j
  unfold Cert.ReferenceSumIdeal.Read.val_main_v0 Cert.ReferenceSumIdeal.Read.val_main_cst G1 k0_pay1
  pointwise
  exact Fin.sum_univ_eight (fun k : Fin 8 => (x (ix3 k (j 0) (j 1)) : EReal))

/-- The two programs leave the same result. -/
theorem algebraic : Cert.algebraic_KernelSumIdeal_ReferenceSumIdeal := by
  intro m g m' g' _ hagree
  refine ⟨_, run m g, ?_⟩
  refine (θ_run _ _ _).mono (fun r h c => ⟨?_, (h c).2⟩) (Cert.ReferenceSumIdeal.Value.run m' g')
  rw [(h c).1, Cert.ReferenceSumIdeal.Read.val_main_v0_eq, hagree c]
  exact ref_eq _

end Cert.SumValue

end
-- ==== Proof.Adam.lean ====
/- One AdamW step at one entry of a weight, over the reals. -/
module

public import Idealize.ShloMosaic.Lib.Pointwise

@[expose] public section

noncomputable section

namespace Cert.Adam

open Idealize.ShloMosaic

/-- The first moment after the step: `0.9 * m + 0.1 * g`. -/
def moment (m g : EReal) : EReal := Ideal.ofBits .f32 0x3F666666#32 * m + Ideal.ofBits .f32 0x3DCCCCCD#32 * g

/-- The second moment after the step: `0.999 * v + 0.001 * (g * g)`. -/
def square (v g : EReal) : EReal := Ideal.ofBits .f32 0x3F7FBE77#32 * v + Ideal.ofBits .f32 0x3A83126F#32 * (g * g)

/-- What is added to the weight: the corrected first moment over the root of the corrected second, and the decay. -/
def delta (w g m v : EReal) : EReal :=
  Ideal.ofBits .f32 0xBA83126F#32 *
    (Ideal.div (Ideal.div (moment m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

end Cert.Adam

end
-- ==== Proof.Ada.lean ====
/- The AdamW step on the first pointwise weight, four blocks of rows; the devices' parts of the gradient are added one by one. -/
module

public import proofs.«01_k».proof.Proof.Gen.KernelAdaIdeal.Value
public import proofs.«01_k».proof.Proof.Gen.ReferenceAdaIdeal.Read
public import Idealize.ShloMosaic.Lib.Pointwise
public import proofs.«01_k».proof.Defs
public import proofs.«01_k».proof.Proof.Gen.KernelAda
public import proofs.«01_k».proof.Proof.Gen.ReferenceAdaIdeal
public import proofs.«01_k».proof.Proof.Adam

@[expose] public section

set_option maxRecDepth 16384

noncomputable section

namespace Cert.AdaValue

open Cert.KernelAdaIdeal Cert.KernelAdaIdeal.Gen Cert.KernelAdaIdeal.Value
open Idealize.ShloMosaic Idealize.ShloMosaic.TcCoe Idealize.SL.Sem

/-- What the body leaves of the gradient, at an index. -/
theorem out4_apply (x0 : Vec Ideal S8x256x256 .bf16) (x1 x2 x3 : Vec Ideal S1x256x256 .f32) (j : S1x256x256.Idx) :
    out0_4 x0 x1 x2 x3 j = ∑ k : Fin 8, x0 (ix3 k (j 1) (j 2)) := by
  unfold_out out0_4
  rw [canon4_eq]
  simp only [Fin.sum_univ_eight]
  pointwise

/-- What the body leaves of the change of the weight, at an index. -/
theorem out5_apply (x0 : Vec Ideal S8x256x256 .bf16) (x1 x2 x3 : Vec Ideal S1x256x256 .f32) (j : S1x256x256.Idx) :
    out0_5 x0 x1 x2 x3 j = Adam.delta (x1 (ix3 0 (j 1) (j 2))) (∑ k : Fin 8, x0 (ix3 k (j 1) (j 2))) (x2 (ix3 0 (j 1) (j 2))) (x3 (ix3 0 (j 1) (j 2))) := by
  unfold_out out0_5
  rw [canon5_eq]
  unfold Adam.delta Adam.moment Adam.square
  simp only [Fin.sum_univ_eight]
  pointwise

/-- What the body leaves of the first moment, at an index. -/
theorem out6_apply (x0 : Vec Ideal S8x256x256 .bf16) (x1 x2 x3 : Vec Ideal S1x256x256 .f32) (j : S1x256x256.Idx) :
    out0_6 x0 x1 x2 x3 j = Adam.moment (x2 (ix3 0 (j 1) (j 2))) (∑ k : Fin 8, x0 (ix3 k (j 1) (j 2))) := by
  unfold_out out0_6
  rw [canon6_eq]
  unfold Adam.moment
  simp only [Fin.sum_univ_eight]
  pointwise

/-- What the body leaves of the second moment, at an index. -/
theorem out7_apply (x0 : Vec Ideal S8x256x256 .bf16) (x1 x2 x3 : Vec Ideal S1x256x256 .f32) (j : S1x256x256.Idx) :
    out0_7 x0 x1 x2 x3 j = Adam.square (x3 (ix3 0 (j 1) (j 2))) (∑ k : Fin 8, x0 (ix3 k (j 1) (j 2))) := by
  unfold_out out0_7
  rw [canon7_eq]
  unfold Adam.square
  simp only [Fin.sum_univ_eight]
  pointwise

/-- The reference's value of the gradient, at an index. -/
theorem ref4_apply (x0 : Vec Ideal S8x1024x256 .bf16) (a : Fin 1024) (b : Fin 256) :
    ReferenceAdaIdeal.Read.val_main_v2 (F := Ideal) x0 (ix3 0 a b) = (fun j : S1x1024x256.Idx => ∑ k : Fin 8, x0 (ix3 k (j 1) (j 2))) (ix3 0 a b) := by
  dsimp only
  unfold ReferenceAdaIdeal.Read.val_main_v2 ReferenceAdaIdeal.Read.val_main_v1 ReferenceAdaIdeal.Read.val_main_cst ReferenceAdaIdeal.Read.val_main_v0
  pointwise

/-- The reference's value of the change of the weight, at an index. -/
theorem ref5_apply (x0 : Vec Ideal S8x1024x256 .bf16) (x1 : Vec Ideal S1x1024x256 .f32) (x2 : Vec Ideal S1x1024x256 .f32) (x3 : Vec Ideal S1x1024x256 .f32) (a : Fin 1024) (b : Fin 256) :
    ReferenceAdaIdeal.Read.val_main_v26 (F := Ideal) x0 x1 x2 x3 (ix3 0 a b) = (fun j : S1x1024x256.Idx => Adam.delta (x1 j) (∑ k : Fin 8, x0 (ix3 k (j 1) (j 2))) (x2 j) (x3 j)) (ix3 0 a b) := by
  dsimp only
  unfold ReferenceAdaIdeal.Read.val_main_v26 ReferenceAdaIdeal.Read.val_main_v25 ReferenceAdaIdeal.Read.val_main_cst_8 ReferenceAdaIdeal.Read.val_main_v24
    ReferenceAdaIdeal.Read.val_main_v23 ReferenceAdaIdeal.Read.val_main_v22 ReferenceAdaIdeal.Read.val_main_cst_7 ReferenceAdaIdeal.Read.val_main_v21
    ReferenceAdaIdeal.Read.val_main_v20 ReferenceAdaIdeal.Read.val_main_v19 ReferenceAdaIdeal.Read.val_main_cst_6 ReferenceAdaIdeal.Read.val_main_v18
    ReferenceAdaIdeal.Read.val_main_v17 ReferenceAdaIdeal.Read.val_main_v16 ReferenceAdaIdeal.Read.val_main_cst_5 ReferenceAdaIdeal.Read.val_main_v15
    ReferenceAdaIdeal.Read.val_main_v14 ReferenceAdaIdeal.Read.val_main_cst_4 ReferenceAdaIdeal.Read.val_main_v13 ReferenceAdaIdeal.Read.val_main_v12
    ReferenceAdaIdeal.Read.val_main_v11 ReferenceAdaIdeal.Read.val_main_cst_3 ReferenceAdaIdeal.Read.val_main_v10 ReferenceAdaIdeal.Read.val_main_v9
    ReferenceAdaIdeal.Read.val_main_v8 ReferenceAdaIdeal.Read.val_main_cst_2 ReferenceAdaIdeal.Read.val_main_v7 ReferenceAdaIdeal.Read.val_main_v6
    ReferenceAdaIdeal.Read.val_main_v5 ReferenceAdaIdeal.Read.val_main_cst_1 ReferenceAdaIdeal.Read.val_main_v4 ReferenceAdaIdeal.Read.val_main_v3
    ReferenceAdaIdeal.Read.val_main_cst_0 ReferenceAdaIdeal.Read.val_main_v2 ReferenceAdaIdeal.Read.val_main_v1 ReferenceAdaIdeal.Read.val_main_cst
    ReferenceAdaIdeal.Read.val_main_v0 Adam.delta Adam.moment Adam.square
  pointwise

/-- The reference's value of the first moment, at an index. -/
theorem ref6_apply (x0 : Vec Ideal S8x1024x256 .bf16) (x2 : Vec Ideal S1x1024x256 .f32) (a : Fin 1024) (b : Fin 256) :
    ReferenceAdaIdeal.Read.val_main_v7 (F := Ideal) x0 x2 (ix3 0 a b) = (fun j : S1x1024x256.Idx => Adam.moment (x2 j) (∑ k : Fin 8, x0 (ix3 k (j 1) (j 2)))) (ix3 0 a b) := by
  dsimp only
  unfold ReferenceAdaIdeal.Read.val_main_v7 ReferenceAdaIdeal.Read.val_main_v6 ReferenceAdaIdeal.Read.val_main_v5 ReferenceAdaIdeal.Read.val_main_cst_1
    ReferenceAdaIdeal.Read.val_main_v4 ReferenceAdaIdeal.Read.val_main_v3 ReferenceAdaIdeal.Read.val_main_cst_0 ReferenceAdaIdeal.Read.val_main_v2
    ReferenceAdaIdeal.Read.val_main_v1 ReferenceAdaIdeal.Read.val_main_cst ReferenceAdaIdeal.Read.val_main_v0 Adam.moment
  pointwise

/-- The reference's value of the second moment, at an index. -/
theorem ref7_apply (x0 : Vec Ideal S8x1024x256 .bf16) (x3 : Vec Ideal S1x1024x256 .f32) (a : Fin 1024) (b : Fin 256) :
    ReferenceAdaIdeal.Read.val_main_v13 (F := Ideal) x0 x3 (ix3 0 a b) = (fun j : S1x1024x256.Idx => Adam.square (x3 j) (∑ k : Fin 8, x0 (ix3 k (j 1) (j 2)))) (ix3 0 a b) := by
  dsimp only
  unfold ReferenceAdaIdeal.Read.val_main_v13 ReferenceAdaIdeal.Read.val_main_v12 ReferenceAdaIdeal.Read.val_main_v11 ReferenceAdaIdeal.Read.val_main_cst_3
    ReferenceAdaIdeal.Read.val_main_v10 ReferenceAdaIdeal.Read.val_main_v9 ReferenceAdaIdeal.Read.val_main_v8 ReferenceAdaIdeal.Read.val_main_cst_2
    ReferenceAdaIdeal.Read.val_main_v2 ReferenceAdaIdeal.Read.val_main_v1 ReferenceAdaIdeal.Read.val_main_cst ReferenceAdaIdeal.Read.val_main_v0 Adam.square
  pointwise

/-- The gradient, the devices' parts summed. -/
def G4 (g : Vec Ideal S8x1024x256 .bf16) : Vec Ideal S1x1024x256 .f32 := fun j => ∑ k : Fin 8, g (ix3 k (j 1) (j 2))

/-- The change of the weight. -/
def G5 (g : Vec Ideal S8x1024x256 .bf16) (w m v : Vec Ideal S1x1024x256 .f32) : Vec Ideal S1x1024x256 .f32 :=
  fun j => Adam.delta (w j) (G4 g j) (m j) (v j)

/-- The first moment. -/
def G6 (g : Vec Ideal S8x1024x256 .bf16) (m : Vec Ideal S1x1024x256 .f32) : Vec Ideal S1x1024x256 .f32 := fun j => Adam.moment (m j) (G4 g j)

/-- The second moment. -/
def G7 (g : Vec Ideal S8x1024x256 .bf16) (v : Vec Ideal S1x1024x256 .f32) : Vec Ideal S1x1024x256 .f32 := fun j => Adam.square (v j) (G4 g j)

variable (m : (ℓ : Loc nD τ sig) → Buf (Elt Ideal) ℓ) (ρ : Dev nD → PrngReg)

/-- Where the windows' blocks sit: block `t` is rows `256 t` and on, of every array. -/
theorem idx_facts : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0)
    ∧ (win0_7.index t (0 : Fin 3) = 0 ∧ win0_7.index t (1 : Fin 3) = t.val ∧ win0_7.index t (2 : Fin 3) = 0) :=
  (by decide +kernel : ∀ t : Fin grid0.N, _)

/-- The gradient block's entries are the array's. -/
theorem read0 (c : Dev nD) (t : Fin cfg0.N) (k : Fin 8) (a : Fin 256) (b : Fin 256) (A : Fin 1024) (hA : A.val = t.val * 256 + a.val) :
    iblk m c 0 t (ix3 k a b) = V m c main_arg0 (ix3 k A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  show V m c main_arg0 (((cfg0.win 0).blk t).view.emb (ix3 k a b)) = _
  refine congrArg _ (funext fun i => Fin.ext ?_)
  match i with
  | ⟨0, _⟩ => show win0_0.index t (0 : Fin 3) * 8 + 1 * k.val = k.val; omega
  | ⟨1, _⟩ => show win0_0.index t (1 : Fin 3) * 256 + 1 * a.val = A.val; omega
  | ⟨2, _⟩ => show win0_0.index t (2 : Fin 3) * 256 + 1 * b.val = b.val; omega

theorem read1 (c : Dev nD) (t : Fin cfg0.N) (a : Fin 256) (b : Fin 256) (A : Fin 1024) (hA : A.val = t.val * 256 + a.val) :
    iblk m c 1 t (ix3 0 a b) = V m c main_arg1 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  show V m c main_arg1 (((cfg0.win 1).blk t).view.emb (ix3 0 a b)) = _
  refine congrArg _ (funext fun i => Fin.ext ?_)
  match i with
  | ⟨0, _⟩ => show win0_1.index t (0 : Fin 3) * 1 + 1 * 0 = 0; omega
  | ⟨1, _⟩ => show win0_1.index t (1 : Fin 3) * 256 + 1 * a.val = A.val; omega
  | ⟨2, _⟩ => show win0_1.index t (2 : Fin 3) * 256 + 1 * b.val = b.val; omega

theorem read2 (c : Dev nD) (t : Fin cfg0.N) (a : Fin 256) (b : Fin 256) (A : Fin 1024) (hA : A.val = t.val * 256 + a.val) :
    iblk m c 2 t (ix3 0 a b) = V m c main_arg2 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  show V m c main_arg2 (((cfg0.win 2).blk t).view.emb (ix3 0 a b)) = _
  refine congrArg _ (funext fun i => Fin.ext ?_)
  match i with
  | ⟨0, _⟩ => show win0_2.index t (0 : Fin 3) * 1 + 1 * 0 = 0; omega
  | ⟨1, _⟩ => show win0_2.index t (1 : Fin 3) * 256 + 1 * a.val = A.val; omega
  | ⟨2, _⟩ => show win0_2.index t (2 : Fin 3) * 256 + 1 * b.val = b.val; omega

theorem read3 (c : Dev nD) (t : Fin cfg0.N) (a : Fin 256) (b : Fin 256) (A : Fin 1024) (hA : A.val = t.val * 256 + a.val) :
    iblk m c 3 t (ix3 0 a b) = V m c main_arg3 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  show V m c main_arg3 (((cfg0.win 3).blk t).view.emb (ix3 0 a b)) = _
  refine congrArg _ (funext fun i => Fin.ext ?_)
  match i with
  | ⟨0, _⟩ => show win0_3.index t (0 : Fin 3) * 1 + 1 * 0 = 0; omega
  | ⟨1, _⟩ => show win0_3.index t (1 : Fin 3) * 256 + 1 * a.val = A.val; omega
  | ⟨2, _⟩ => show win0_3.index t (2 : Fin 3) * 256 + 1 * b.val = b.val; omega

/-- An index of the block of the gradient is this index of its array. -/
theorem emb4 (t : Fin cfg0.N) (a : Fin 256) (b : Fin 256) (A : Fin 1024) (hA : A.val = t.val * 256 + a.val) :
    ((cfg0.win 4).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  refine funext fun i => Fin.ext ?_
  match i with
  | ⟨0, _⟩ => show win0_4.index t (0 : Fin 3) * 1 + 1 * 0 = 0; omega
  | ⟨1, _⟩ => show win0_4.index t (1 : Fin 3) * 256 + 1 * a.val = A.val; omega
  | ⟨2, _⟩ => show win0_4.index t (2 : Fin 3) * 256 + 1 * b.val = b.val; omega

/-- What a point writes back of the gradient is its block of the whole array's function. -/
theorem flushed4_G (c : Dev nD) (t : Fin cfg0.N) :
    (dats m 0 c).flushed 4 t = ((cfg0.win 4).blk t).view.read (Elt Ideal) (G4 (V m c main_arg0)) := by
  rw [flushed4]
  funext j
  obtain ⟨a, b, rfl⟩ : ∃ (a : Fin 256) (b : Fin 256), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 256 + a.val < 1024 := by have := a.isLt; omega
  show out0_4 (iblk m c 0 t) (iblk m c 1 t) (iblk m c 2 t) (iblk m c 3 t) (ix3 0 a b) = (G4 (V m c main_arg0)) (((cfg0.win 4).blk t).view.emb (ix3 0 a b))
  rw [out4_apply, emb4 t a b ⟨t.val * 256 + a.val, hA⟩ rfl]
  have e0 : (∑ k : Fin 8, iblk m c 0 t (ix3 k a b) : EReal) = G4 (V m c main_arg0) (ix3 0 ⟨t.val * 256 + a.val, hA⟩ b) :=
    Finset.sum_congr rfl fun k _ => read0 m c t k a b ⟨t.val * 256 + a.val, hA⟩ rfl
  exact e0

/-- The array of the gradient after the run. -/
theorem final4 (c : Dev nD) : (dats m 0 c).arrAt 4 cfg0.N = G4 (m ((c : Thread nD τ).loc main_arg0)) :=
  ((dats m 0 c).arrAt_eq_of_cover 4 (G4 (V m c main_arg0)) (fun t _ => flushed4_G m c t) (fun i => by
    have h0 : (i 0).val < 1 := (i 0).isLt
    have h1 : (i 1).val < 1024 := (i 1).isLt
    have hlt : (i 1).val / 256 < cfg0.N := by
      have hN : cfg0.N = 4 := by decide
      have h2 : (i 1).val / 256 < 4 := by omega
      exact hN ▸ h2
    refine ⟨⟨(i 1).val / 256, hlt⟩, flush0_4 _, ?_⟩
    have e := emb4 ⟨(i 1).val / 256, hlt⟩ ⟨(i 1).val % 256, Nat.mod_lt _ (by decide)⟩ (i 2) (i 1) (by show (i 1).val = (i 1).val / 256 * 256 + (i 1).val % 256; omega)
    have hi : i = ix3 0 (i 1) (i 2) := funext fun q => by match q with | ⟨0, _⟩ => exact Subsingleton.elim (α := Fin 1) _ _ | ⟨1, _⟩ => rfl | ⟨2, _⟩ => rfl
    exact (Finset.mem_map (f := ((cfg0.win 4).blk ⟨(i 1).val / 256, hlt⟩).view.emb)).mpr ⟨ix3 0 ⟨(i 1).val % 256, Nat.mod_lt _ (by decide)⟩ (i 2), Finset.mem_univ _, e.trans hi.symm⟩)).trans (by rw [V_main_arg0])

/-- An index of the block of the change of the weight is this index of its array. -/
theorem emb5 (t : Fin cfg0.N) (a : Fin 256) (b : Fin 256) (A : Fin 1024) (hA : A.val = t.val * 256 + a.val) :
    ((cfg0.win 5).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  refine funext fun i => Fin.ext ?_
  match i with
  | ⟨0, _⟩ => show win0_5.index t (0 : Fin 3) * 1 + 1 * 0 = 0; omega
  | ⟨1, _⟩ => show win0_5.index t (1 : Fin 3) * 256 + 1 * a.val = A.val; omega
  | ⟨2, _⟩ => show win0_5.index t (2 : Fin 3) * 256 + 1 * b.val = b.val; omega

/-- What a point writes back of the change of the weight is its block of the whole array's function. -/
theorem flushed5_G (c : Dev nD) (t : Fin cfg0.N) :
    (dats m 0 c).flushed 5 t = ((cfg0.win 5).blk t).view.read (Elt Ideal) (G5 (V m c main_arg0) (V m c main_arg1) (V m c main_arg2) (V m c main_arg3)) := by
  rw [flushed5]
  funext j
  obtain ⟨a, b, rfl⟩ : ∃ (a : Fin 256) (b : Fin 256), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 256 + a.val < 1024 := by have := a.isLt; omega
  show out0_5 (iblk m c 0 t) (iblk m c 1 t) (iblk m c 2 t) (iblk m c 3 t) (ix3 0 a b) = (G5 (V m c main_arg0) (V m c main_arg1) (V m c main_arg2) (V m c main_arg3)) (((cfg0.win 5).blk t).view.emb (ix3 0 a b))
  rw [out5_apply, emb5 t a b ⟨t.val * 256 + a.val, hA⟩ rfl]
  have e0 : (∑ k : Fin 8, iblk m c 0 t (ix3 k a b) : EReal) = G4 (V m c main_arg0) (ix3 0 ⟨t.val * 256 + a.val, hA⟩ b) :=
    Finset.sum_congr rfl fun k _ => read0 m c t k a b ⟨t.val * 256 + a.val, hA⟩ rfl
  have e1 := read1 m c t a b ⟨t.val * 256 + a.val, hA⟩ rfl
  have e2 := read2 m c t a b ⟨t.val * 256 + a.val, hA⟩ rfl
  have e3 := read3 m c t a b ⟨t.val * 256 + a.val, hA⟩ rfl
  show Adam.delta (iblk m c 1 t (ix3 0 a b)) (∑ k : Fin 8, iblk m c 0 t (ix3 k a b)) (iblk m c 2 t (ix3 0 a b)) (iblk m c 3 t (ix3 0 a b)) = _
  rw [e0, e1, e2, e3]
  rfl

/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_G m c t) (fun i => by
    have h0 : (i 0).val < 1 := (i 0).isLt
    have h1 : (i 1).val < 1024 := (i 1).isLt
    have hlt : (i 1).val / 256 < cfg0.N := by
      have hN : cfg0.N = 4 := by decide
      have h2 : (i 1).val / 256 < 4 := by omega
      exact hN ▸ h2
    refine ⟨⟨(i 1).val / 256, hlt⟩, flush0_5 _, ?_⟩
    have e := emb5 ⟨(i 1).val / 256, hlt⟩ ⟨(i 1).val % 256, Nat.mod_lt _ (by decide)⟩ (i 2) (i 1) (by show (i 1).val = (i 1).val / 256 * 256 + (i 1).val % 256; omega)
    have hi : i = ix3 0 (i 1) (i 2) := funext fun q => by match q with | ⟨0, _⟩ => exact Subsingleton.elim (α := Fin 1) _ _ | ⟨1, _⟩ => rfl | ⟨2, _⟩ => rfl
    exact (Finset.mem_map (f := ((cfg0.win 5).blk ⟨(i 1).val / 256, hlt⟩).view.emb)).mpr ⟨ix3 0 ⟨(i 1).val % 256, Nat.mod_lt _ (by decide)⟩ (i 2), Finset.mem_univ _, e.trans hi.symm⟩)).trans (by rw [V_main_arg0, V_main_arg1, V_main_arg2, V_main_arg3])

/-- An index of the block of the first moment is this index of its array. -/
theorem emb6 (t : Fin cfg0.N) (a : Fin 256) (b : Fin 256) (A : Fin 1024) (hA : A.val = t.val * 256 + a.val) :
    ((cfg0.win 6).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  refine funext fun i => Fin.ext ?_
  match i with
  | ⟨0, _⟩ => show win0_6.index t (0 : Fin 3) * 1 + 1 * 0 = 0; omega
  | ⟨1, _⟩ => show win0_6.index t (1 : Fin 3) * 256 + 1 * a.val = A.val; omega
  | ⟨2, _⟩ => show win0_6.index t (2 : Fin 3) * 256 + 1 * b.val = b.val; omega

/-- What a point writes back of the first moment is its block of the whole array's function. -/
theorem flushed6_G (c : Dev nD) (t : Fin cfg0.N) :
    (dats m 0 c).flushed 6 t = ((cfg0.win 6).blk t).view.read (Elt Ideal) (G6 (V m c main_arg0) (V m c main_arg2)) := by
  rw [flushed6]
  funext j
  obtain ⟨a, b, rfl⟩ : ∃ (a : Fin 256) (b : Fin 256), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 256 + a.val < 1024 := by have := a.isLt; omega
  show out0_6 (iblk m c 0 t) (iblk m c 1 t) (iblk m c 2 t) (iblk m c 3 t) (ix3 0 a b) = (G6 (V m c main_arg0) (V m c main_arg2)) (((cfg0.win 6).blk t).view.emb (ix3 0 a b))
  rw [out6_apply, emb6 t a b ⟨t.val * 256 + a.val, hA⟩ rfl]
  have e0 : (∑ k : Fin 8, iblk m c 0 t (ix3 k a b) : EReal) = G4 (V m c main_arg0) (ix3 0 ⟨t.val * 256 + a.val, hA⟩ b) :=
    Finset.sum_congr rfl fun k _ => read0 m c t k a b ⟨t.val * 256 + a.val, hA⟩ rfl
  have e2 := read2 m c t a b ⟨t.val * 256 + a.val, hA⟩ rfl
  show Adam.moment (iblk m c 2 t (ix3 0 a b)) (∑ k : Fin 8, iblk m c 0 t (ix3 k a b)) = _
  rw [e0, e2]
  rfl

/-- The array of the first moment after the run. -/
theorem final6 (c : Dev nD) : (dats m 0 c).arrAt 6 cfg0.N = G6 (m ((c : Thread nD τ).loc main_arg0)) (m ((c : Thread nD τ).loc main_arg2)) :=
  ((dats m 0 c).arrAt_eq_of_cover 6 (G6 (V m c main_arg0) (V m c main_arg2)) (fun t _ => flushed6_G m c t) (fun i => by
    have h0 : (i 0).val < 1 := (i 0).isLt
    have h1 : (i 1).val < 1024 := (i 1).isLt
    have hlt : (i 1).val / 256 < cfg0.N := by
      have hN : cfg0.N = 4 := by decide
      have h2 : (i 1).val / 256 < 4 := by omega
      exact hN ▸ h2
    refine ⟨⟨(i 1).val / 256, hlt⟩, flush0_6 _, ?_⟩
    have e := emb6 ⟨(i 1).val / 256, hlt⟩ ⟨(i 1).val % 256, Nat.mod_lt _ (by decide)⟩ (i 2) (i 1) (by show (i 1).val = (i 1).val / 256 * 256 + (i 1).val % 256; omega)
    have hi : i = ix3 0 (i 1) (i 2) := funext fun q => by match q with | ⟨0, _⟩ => exact Subsingleton.elim (α := Fin 1) _ _ | ⟨1, _⟩ => rfl | ⟨2, _⟩ => rfl
    exact (Finset.mem_map (f := ((cfg0.win 6).blk ⟨(i 1).val / 256, hlt⟩).view.emb)).mpr ⟨ix3 0 ⟨(i 1).val % 256, Nat.mod_lt _ (by decide)⟩ (i 2), Finset.mem_univ _, e.trans hi.symm⟩)).trans (by rw [V_main_arg0, V_main_arg2])

/-- An index of the block of the second moment is this index of its array. -/
theorem emb7 (t : Fin cfg0.N) (a : Fin 256) (b : Fin 256) (A : Fin 1024) (hA : A.val = t.val * 256 + a.val) :
    ((cfg0.win 7).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx_facts t
  refine funext fun i => Fin.ext ?_
  match i with
  | ⟨0, _⟩ => show win0_7.index t (0 : Fin 3) * 1 + 1 * 0 = 0; omega
  | ⟨1, _⟩ => show win0_7.index t (1 : Fin 3) * 256 + 1 * a.val = A.val; omega
  | ⟨2, _⟩ => show win0_7.index t (2 : Fin 3) * 256 + 1 * b.val = b.val; omega

/-- What a point writes back of the second moment is its block of the whole array's function. -/
theorem flushed7_G (c : Dev nD) (t : Fin cfg0.N) :
    (dats m 0 c).flushed 7 t = ((cfg0.win 7).blk t).view.read (Elt Ideal) (G7 (V m c main_arg0) (V m c main_arg3)) := by
  rw [flushed7]
  funext j
  obtain ⟨a, b, rfl⟩ : ∃ (a : Fin 256) (b : Fin 256), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 256 + a.val < 1024 := by have := a.isLt; omega
  show out0_7 (iblk m c 0 t) (iblk m c 1 t) (iblk m c 2 t) (iblk m c 3 t) (ix3 0 a b) = (G7 (V m c main_arg0) (V m c main_arg3)) (((cfg0.win 7).blk t).view.emb (ix3 0 a b))
  rw [out7_apply, emb7 t a b ⟨t.val * 256 + a.val, hA⟩ rfl]
  have e0 : (∑ k : Fin 8, iblk m c 0 t (ix3 k a b) : EReal) = G4 (V m c main_arg0) (ix3 0 ⟨t.val * 256 + a.val, hA⟩ b) :=
    Finset.sum_congr rfl fun k _ => read0 m c t k a b ⟨t.val * 256 + a.val, hA⟩ rfl
  have e3 := read3 m c t a b ⟨t.val * 256 + a.val, hA⟩ rfl
  show Adam.square (iblk m c 3 t (ix3 0 a b)) (∑ k : Fin 8, iblk m c 0 t (ix3 k a b)) = _
  rw [e0, e3]
  rfl

/-- The array of the second moment after the run. -/
theorem final7 (c : Dev nD) : (dats m 0 c).arrAt 7 cfg0.N = G7 (m ((c : Thread nD τ).loc main_arg0)) (m ((c : Thread nD τ).loc main_arg3)) :=
  ((dats m 0 c).arrAt_eq_of_cover 7 (G7 (V m c main_arg0) (V m c main_arg3)) (fun t _ => flushed7_G m c t) (fun i => by
    have h0 : (i 0).val < 1 := (i 0).isLt
    have h1 : (i 1).val < 1024 := (i 1).isLt
    have hlt : (i 1).val / 256 < cfg0.N := by
      have hN : cfg0.N = 4 := by decide
      have h2 : (i 1).val / 256 < 4 := by omega
      exact hN ▸ h2
    refine ⟨⟨(i 1).val / 256, hlt⟩, flush0_7 _, ?_⟩
    have e := emb7 ⟨(i 1).val / 256, hlt⟩ ⟨(i 1).val % 256, Nat.mod_lt _ (by decide)⟩ (i 2) (i 1) (by show (i 1).val = (i 1).val / 256 * 256 + (i 1).val % 256; omega)
    have hi : i = ix3 0 (i 1) (i 2) := funext fun q => by match q with | ⟨0, _⟩ => exact Subsingleton.elim (α := Fin 1) _ _ | ⟨1, _⟩ => rfl | ⟨2, _⟩ => rfl
    exact (Finset.mem_map (f := ((cfg0.win 7).blk ⟨(i 1).val / 256, hlt⟩).view.emb)).mpr ⟨ix3 0 ⟨(i 1).val % 256, Nat.mod_lt _ (by decide)⟩ (i 2), Finset.mem_univ _, e.trans hi.symm⟩)).trans (by rw [V_main_arg0, V_main_arg3])

/-- The kernel's run: the four results, the arguments unchanged. -/
theorem run : θ_run defs (onTc (τ := τ) (main (F := Ideal))) ⟨m, fun _ => 0, ρ⟩ fun r => ∀ c : Dev nD,
      r.2.mem ((c : Thread nD τ).loc main_v0_0) = G4 (m ((c : Thread nD τ).loc main_arg0))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg2))
      ∧ r.2.mem ((c : Thread nD τ).loc main_v0_3) = G7 (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (run_blocks m ρ)

/-- The reference's array is the kernel's function of the arguments. -/
theorem val4_eq (x0 : Vec Ideal S8x1024x256 .bf16) : ReferenceAdaIdeal.Read.val_main_v2 (F := Ideal) x0 = G4 x0 := by
  funext j
  obtain ⟨a, b, rfl⟩ : ∃ (a : Fin 1024) (b : Fin 256), j = ix3 0 a b :=
    ⟨j 1, j 2, funext fun i => by match i with | ⟨0, _⟩ => exact Subsingleton.elim (α := Fin 1) _ _ | ⟨1, _⟩ => rfl | ⟨2, _⟩ => rfl⟩
  exact ref4_apply x0 a b

/-- The reference's array is the kernel's function of the arguments. -/
theorem val5_eq (x0 : Vec Ideal S8x1024x256 .bf16) (x1 x2 x3 : Vec Ideal S1x1024x256 .f32) : ReferenceAdaIdeal.Read.val_main_v26 (F := Ideal) x0 x1 x2 x3 = G5 x0 x1 x2 x3 := by
  funext j
  obtain ⟨a, b, rfl⟩ : ∃ (a : Fin 1024) (b : Fin 256), j = ix3 0 a b :=
    ⟨j 1, j 2, funext fun i => by match i with | ⟨0, _⟩ => exact Subsingleton.elim (α := Fin 1) _ _ | ⟨1, _⟩ => rfl | ⟨2, _⟩ => rfl⟩
  exact ref5_apply x0 x1 x2 x3 a b

/-- The reference's array is the kernel's function of the arguments. -/
theorem val6_eq (x0 : Vec Ideal S8x1024x256 .bf16) (x2 : Vec Ideal S1x1024x256 .f32) : ReferenceAdaIdeal.Read.val_main_v7 (F := Ideal) x0 x2 = G6 x0 x2 := by
  funext j
  obtain ⟨a, b, rfl⟩ : ∃ (a : Fin 1024) (b : Fin 256), j = ix3 0 a b :=
    ⟨j 1, j 2, funext fun i => by match i with | ⟨0, _⟩ => exact Subsingleton.elim (α := Fin 1) _ _ | ⟨1, _⟩ => rfl | ⟨2, _⟩ => rfl⟩
  exact ref6_apply x0 x2 a b

/-- The reference's array is the kernel's function of the arguments. -/
theorem val7_eq (x0 : Vec Ideal S8x1024x256 .bf16) (x3 : Vec Ideal S1x1024x256 .f32) : ReferenceAdaIdeal.Read.val_main_v13 (F := Ideal) x0 x3 = G7 x0 x3 := by
  funext j
  obtain ⟨a, b, rfl⟩ : ∃ (a : Fin 1024) (b : Fin 256), j = ix3 0 a b :=
    ⟨j 1, j 2, funext fun i => by match i with | ⟨0, _⟩ => exact Subsingleton.elim (α := Fin 1) _ _ | ⟨1, _⟩ => rfl | ⟨2, _⟩ => rfl⟩
  exact ref7_apply x0 x3 a b

/-- The two programs leave the same four results. -/
theorem algebraic : Cert.algebraic_KernelAdaIdeal_ReferenceAdaIdeal := by
  intro m g m' g' _ hagree
  refine ⟨_, _, _, _, run m g, ?_⟩
  refine (θ_run _ _ _).mono (fun r h c => ?_) (Cert.ReferenceAdaIdeal.Value.run m' g')
  obtain ⟨h0, h1, h2, h3, hk⟩ := h c
  obtain ⟨a0, a1, a2, a3⟩ := hagree c
  refine ⟨?_, ?_, ?_, ?_, hk⟩
  · rw [h0, Cert.ReferenceAdaIdeal.Read.val_main_v2_eq, a0]
    exact val4_eq _
  · rw [h1, Cert.ReferenceAdaIdeal.Read.val_main_v26_eq, a0, a1, a2, a3]
    exact val5_eq _ _ _ _
  · rw [h2, Cert.ReferenceAdaIdeal.Read.val_main_v7_eq, a0, a2]
    exact val6_eq _ _
  · rw [h3, Cert.ReferenceAdaIdeal.Read.val_main_v13_eq, a0, a3]
    exact val7_eq _ _

end Cert.AdaValue

end
-- ==== Proof.Adb.lean ====
/- The AdamW step on the second pointwise weight: one grid point; the devices' parts of the gradient are added one by one. -/
module

public import proofs.«01_k».proof.Proof.Gen.KernelAdbIdeal.Value
public import proofs.«01_k».proof.Proof.Gen.ReferenceAdbIdeal.Read
public import Idealize.ShloMosaic.Lib.Pointwise
public import proofs.«01_k».proof.Defs
public import proofs.«01_k».proof.Proof.Gen.KernelAdb
public import proofs.«01_k».proof.Proof.Gen.ReferenceAdbIdeal
public import proofs.«01_k».proof.Proof.Adam

@[expose] public section

set_option maxRecDepth 16384

noncomputable section

namespace Cert.AdbValue

open Cert.KernelAdbIdeal Cert.KernelAdbIdeal.Gen Cert.KernelAdbIdeal.Value
open Idealize.ShloMosaic Idealize.ShloMosaic.TcCoe Idealize.SL.Sem

/-- What the body leaves of the gradient, at an index. -/
theorem out4_apply (x0 : Vec Ideal S8x128x1024 .bf16) (x1 x2 x3 : Vec Ideal S1x128x1024 .f32) (j : S1x128x1024.Idx) :
    out0_4 x0 x1 x2 x3 j = ∑ k : Fin 8, x0 (ix3 k (j 1) (j 2)) := by
  unfold_out out0_4
  rw [canon4_eq]
  simp only [Fin.sum_univ_eight]
  pointwise

/-- What the body leaves of the change of the weight, at an index. -/
theorem out5_apply (x0 : Vec Ideal S8x128x1024 .bf16) (x1 x2 x3 : Vec Ideal S1x128x1024 .f32) (j : S1x128x1024.Idx) :
    out0_5 x0 x1 x2 x3 j = Adam.delta (x1 (ix3 0 (j 1) (j 2))) (∑ k : Fin 8, x0 (ix3 k (j 1) (j 2))) (x2 (ix3 0 (j 1) (j 2))) (x3 (ix3 0 (j 1) (j 2))) := by
  unfold_out out0_5
  rw [canon5_eq]
  unfold Adam.delta Adam.moment Adam.square
  simp only [Fin.sum_univ_eight]
  pointwise

/-- What the body leaves of the first moment, at an index. -/
theorem out6_apply (x0 : Vec Ideal S8x128x1024 .bf16) (x1 x2 x3 : Vec Ideal S1x128x1024 .f32) (j : S1x128x1024.Idx) :
    out0_6 x0 x1 x2 x3 j = Adam.moment (x2 (ix3 0 (j 1) (j 2))) (∑ k : Fin 8, x0 (ix3 k (j 1) (j 2))) := by
  unfold_out out0_6
  rw [canon6_eq]
  unfold Adam.moment
  simp only [Fin.sum_univ_eight]
  pointwise

/-- What the body leaves of the second moment, at an index. -/
theorem out7_apply (x0 : Vec Ideal S8x128x1024 .bf16) (x1 x2 x3 : Vec Ideal S1x128x1024 .f32) (j : S1x128x1024.Idx) :
    out0_7 x0 x1 x2 x3 j = Adam.square (x3 (ix3 0 (j 1) (j 2))) (∑ k : Fin 8, x0 (ix3 k (j 1) (j 2))) := by
  unfold_out out0_7
  rw [canon7_eq]
  unfold Adam.square
  simp only [Fin.sum_univ_eight]
  pointwise

/-- The reference's value of the gradient, at an index. -/
theorem ref4_apply (x0 : Vec Ideal S8x128x1024 .bf16) (a : Fin 128) (b : Fin 1024) :
    ReferenceAdbIdeal.Read.val_main_v2 (F := Ideal) x0 (ix3 0 a b) = (fun j : S1x128x1024.Idx => ∑ k : Fin 8, x0 (ix3 k (j 1) (j 2))) (ix3 0 a b) := by
  dsimp only
  unfold ReferenceAdbIdeal.Read.val_main_v2 ReferenceAdbIdeal.Read.val_main_v1 ReferenceAdbIdeal.Read.val_main_cst ReferenceAdbIdeal.Read.val_main_v0
  pointwise

/-- The reference's value of the change of the weight, at an index. -/
theorem ref5_apply (x0 : Vec Ideal S8x128x1024 .bf16) (x1 : Vec Ideal S1x128x1024 .f32) (x2 : Vec Ideal S1x128x1024 .f32) (x3 : Vec Ideal S1x128x1024 .f32) (a : Fin 128) (b : Fin 1024) :
    ReferenceAdbIdeal.Read.val_main_v26 (F := Ideal) x0 x1 x2 x3 (ix3 0 a b) = (fun j : S1x128x1024.Idx => Adam.delta (x1 j) (∑ k : Fin 8, x0 (ix3 k (j 1) (j 2))) (x2 j) (x3 j)) (ix3 0 a b) := by
  dsimp only
  unfold ReferenceAdbIdeal.Read.val_main_v26 ReferenceAdbIdeal.Read.val_main_v25 ReferenceAdbIdeal.Read.val_main_cst_8 ReferenceAdbIdeal.Read.val_main_v24
    ReferenceAdbIdeal.Read.val_main_v23 ReferenceAdbIdeal.Read.val_main_v22 ReferenceAdbIdeal.Read.val_main_cst_7 ReferenceAdbIdeal.Read.val_main_v21
    ReferenceAdbIdeal.Read.val_main_v20 ReferenceAdbIdeal.Read.val_main_v19 ReferenceAdbIdeal.Read.val_main_cst_6 ReferenceAdbIdeal.Read.val_main_v18
    ReferenceAdbIdeal.Read.val_main_v17 ReferenceAdbIdeal.Read.val_main_v16 ReferenceAdbIdeal.Read.val_main_cst_5 ReferenceAdbIdeal.Read.val_main_v15
    ReferenceAdbIdeal.Read.val_main_v14 ReferenceAdbIdeal.Read.val_main_cst_4 ReferenceAdbIdeal.Read.val_main_v13 ReferenceAdbIdeal.Read.val_main_v12
    ReferenceAdbIdeal.Read.val_main_v11 ReferenceAdbIdeal.Read.val_main_cst_3 ReferenceAdbIdeal.Read.val_main_v10 ReferenceAdbIdeal.Read.val_main_v9
    ReferenceAdbIdeal.Read.val_main_v8 ReferenceAdbIdeal.Read.val_main_cst_2 ReferenceAdbIdeal.Read.val_main_v7 ReferenceAdbIdeal.Read.val_main_v6
    ReferenceAdbIdeal.Read.val_main_v5 ReferenceAdbIdeal.Read.val_main_cst_1 ReferenceAdbIdeal.Read.val_main_v4 ReferenceAdbIdeal.Read.val_main_v3
    ReferenceAdbIdeal.Read.val_main_cst_0 ReferenceAdbIdeal.Read.val_main_v2 ReferenceAdbIdeal.Read.val_main_v1 ReferenceAdbIdeal.Read.val_main_cst
    ReferenceAdbIdeal.Read.val_main_v0 Adam.delta Adam.moment Adam.square
  pointwise

/-- The reference's value of the first moment, at an index. -/
theorem ref6_apply (x0 : Vec Ideal S8x128x1024 .bf16) (x2 : Vec Ideal S1x128x1024 .f32) (a : Fin 128) (b : Fin 1024) :
    ReferenceAdbIdeal.Read.val_main_v7 (F := Ideal) x0 x2 (ix3 0 a b) = (fun j : S1x128x1024.Idx => Adam.moment (x2 j) (∑ k : Fin 8, x0 (ix3 k (j 1) (j 2)))) (ix3 0 a b) := by
  dsimp only
  unfold ReferenceAdbIdeal.Read.val_main_v7 ReferenceAdbIdeal.Read.val_main_v6 ReferenceAdbIdeal.Read.val_main_v5 ReferenceAdbIdeal.Read.val_main_cst_1
    ReferenceAdbIdeal.Read.val_main_v4 ReferenceAdbIdeal.Read.val_main_v3 ReferenceAdbIdeal.Read.val_main_cst_0 ReferenceAdbIdeal.Read.val_main_v2
    ReferenceAdbIdeal.Read.val_main_v1 ReferenceAdbIdeal.Read.val_main_cst ReferenceAdbIdeal.Read.val_main_v0 Adam.moment
  pointwise

/-- The reference's value of the second moment, at an index. -/
theorem ref7_apply (x0 : Vec Ideal S8x128x1024 .bf16) (x3 : Vec Ideal S1x128x1024 .f32) (a : Fin 128) (b : Fin 1024) :
    ReferenceAdbIdeal.Read.val_main_v13 (F := Ideal) x0 x3 (ix3 0 a b) = (fun j : S1x128x1024.Idx => Adam.square (x3 j) (∑ k : Fin 8, x0 (ix3 k (j 1) (j 2)))) (ix3 0 a b) := by
  dsimp only
  unfold ReferenceAdbIdeal.Read.val_main_v13 ReferenceAdbIdeal.Read.val_main_v12 ReferenceAdbIdeal.Read.val_main_v11 ReferenceAdbIdeal.Read.val_main_cst_3
    ReferenceAdbIdeal.Read.val_main_v10 ReferenceAdbIdeal.Read.val_main_v9 ReferenceAdbIdeal.Read.val_main_v8 ReferenceAdbIdeal.Read.val_main_cst_2
    ReferenceAdbIdeal.Read.val_main_v2 ReferenceAdbIdeal.Read.val_main_v1 ReferenceAdbIdeal.Read.val_main_cst ReferenceAdbIdeal.Read.val_main_v0 Adam.square
  pointwise

/-- The reference's array is the kernel's function of the arguments. -/
theorem val4_eq (x0 : Vec Ideal S8x128x1024 .bf16) (x1 x2 x3 : Vec Ideal S1x128x1024 .f32) : ReferenceAdbIdeal.Read.val_main_v2 (F := Ideal) x0 = G4 x0 x1 x2 x3 := by
  funext j
  obtain ⟨a, b, rfl⟩ : ∃ (a : Fin 128) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G4 x0 x1 x2 x3 (ix3 0 a b) = _ := (congrFun (out4_eq x0 x1 x2 x3) (ix3 0 a b)).symm.trans (out4_apply x0 x1 x2 x3 (ix3 0 a b))
  rw [e]
  exact ref4_apply x0 a b

/-- The reference's array is the kernel's function of the arguments. -/
theorem val5_eq (x0 : Vec Ideal S8x128x1024 .bf16) (x1 x2 x3 : Vec Ideal S1x128x1024 .f32) : ReferenceAdbIdeal.Read.val_main_v26 (F := Ideal) x0 x1 x2 x3 = G5 x0 x1 x2 x3 := by
  funext j
  obtain ⟨a, b, rfl⟩ : ∃ (a : Fin 128) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G5 x0 x1 x2 x3 (ix3 0 a b) = _ := (congrFun (out5_eq x0 x1 x2 x3) (ix3 0 a b)).symm.trans (out5_apply x0 x1 x2 x3 (ix3 0 a b))
  rw [e]
  exact ref5_apply x0 x1 x2 x3 a b

/-- The reference's array is the kernel's function of the arguments. -/
theorem val6_eq (x0 : Vec Ideal S8x128x1024 .bf16) (x1 x2 x3 : Vec Ideal S1x128x1024 .f32) : ReferenceAdbIdeal.Read.val_main_v7 (F := Ideal) x0 x2 = G6 x0 x1 x2 x3 := by
  funext j
  obtain ⟨a, b, rfl⟩ : ∃ (a : Fin 128) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G6 x0 x1 x2 x3 (ix3 0 a b) = _ := (congrFun (out6_eq x0 x1 x2 x3) (ix3 0 a b)).symm.trans (out6_apply x0 x1 x2 x3 (ix3 0 a b))
  rw [e]
  exact ref6_apply x0 x2 a b

/-- The reference's array is the kernel's function of the arguments. -/
theorem val7_eq (x0 : Vec Ideal S8x128x1024 .bf16) (x1 x2 x3 : Vec Ideal S1x128x1024 .f32) : ReferenceAdbIdeal.Read.val_main_v13 (F := Ideal) x0 x3 = G7 x0 x1 x2 x3 := by
  funext j
  obtain ⟨a, b, rfl⟩ : ∃ (a : Fin 128) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G7 x0 x1 x2 x3 (ix3 0 a b) = _ := (congrFun (out7_eq x0 x1 x2 x3) (ix3 0 a b)).symm.trans (out7_apply x0 x1 x2 x3 (ix3 0 a b))
  rw [e]
  exact ref7_apply x0 x3 a b

/-- The two programs leave the same four results. -/
theorem algebraic : Cert.algebraic_KernelAdbIdeal_ReferenceAdbIdeal := by
  intro m g m' g' _ hagree
  refine ⟨_, _, _, _, run m g, ?_⟩
  refine (θ_run _ _ _).mono (fun r h c => ?_) (Cert.ReferenceAdbIdeal.Value.run m' g')
  obtain ⟨h0, h1, h2, h3, hk⟩ := h c
  obtain ⟨a0, a1, a2, a3⟩ := hagree c
  refine ⟨?_, ?_, ?_, ?_, hk⟩
  · rw [h0, Cert.ReferenceAdbIdeal.Read.val_main_v2_eq, a0]
    exact val4_eq _ _ _ _
  · rw [h1, Cert.ReferenceAdbIdeal.Read.val_main_v26_eq, a0, a1, a2, a3]
    exact val5_eq _ _ _ _
  · rw [h2, Cert.ReferenceAdbIdeal.Read.val_main_v7_eq, a0, a2]
    exact val6_eq _ _ _ _
  · rw [h3, Cert.ReferenceAdbIdeal.Read.val_main_v13_eq, a0, a3]
    exact val7_eq _ _ _ _

end Cert.AdbValue

end
-- ==== Proof.Adp.lean ====
/- The AdamW step on the pooling weight: one grid point; the devices' parts of the gradient are added one by one. -/
module

public import proofs.«01_k».proof.Proof.Gen.KernelAdpIdeal.Value
public import proofs.«01_k».proof.Proof.Gen.ReferenceAdpIdeal.Read
public import Idealize.ShloMosaic.Lib.Pointwise
public import proofs.«01_k».proof.Defs
public import proofs.«01_k».proof.Proof.Gen.KernelAdp
public import proofs.«01_k».proof.Proof.Gen.ReferenceAdpIdeal
public import proofs.«01_k».proof.Proof.Adam

@[expose] public section

set_option maxRecDepth 16384

noncomputable section

namespace Cert.AdpValue

open Cert.KernelAdpIdeal Cert.KernelAdpIdeal.Gen Cert.KernelAdpIdeal.Value
open Idealize.ShloMosaic Idealize.ShloMosaic.TcCoe Idealize.SL.Sem

/-- What the body leaves of the gradient, at an index. -/
theorem out4_apply (x0 : Vec Ideal S8x128x256 .bf16) (x1 x2 x3 : Vec Ideal S1x128x256 .f32) (j : S1x128x256.Idx) :
    out0_4 x0 x1 x2 x3 j = ∑ k : Fin 8, x0 (ix3 k (j 1) (j 2)) := by
  unfold_out out0_4
  rw [canon4_eq]
  simp only [Fin.sum_univ_eight]
  pointwise

/-- What the body leaves of the change of the weight, at an index. -/
theorem out5_apply (x0 : Vec Ideal S8x128x256 .bf16) (x1 x2 x3 : Vec Ideal S1x128x256 .f32) (j : S1x128x256.Idx) :
    out0_5 x0 x1 x2 x3 j = Adam.delta (x1 (ix3 0 (j 1) (j 2))) (∑ k : Fin 8, x0 (ix3 k (j 1) (j 2))) (x2 (ix3 0 (j 1) (j 2))) (x3 (ix3 0 (j 1) (j 2))) := by
  unfold_out out0_5
  rw [canon5_eq]
  unfold Adam.delta Adam.moment Adam.square
  simp only [Fin.sum_univ_eight]
  pointwise

/-- What the body leaves of the first moment, at an index. -/
theorem out6_apply (x0 : Vec Ideal S8x128x256 .bf16) (x1 x2 x3 : Vec Ideal S1x128x256 .f32) (j : S1x128x256.Idx) :
    out0_6 x0 x1 x2 x3 j = Adam.moment (x2 (ix3 0 (j 1) (j 2))) (∑ k : Fin 8, x0 (ix3 k (j 1) (j 2))) := by
  unfold_out out0_6
  rw [canon6_eq]
  unfold Adam.moment
  simp only [Fin.sum_univ_eight]
  pointwise

/-- What the body leaves of the second moment, at an index. -/
theorem out7_apply (x0 : Vec Ideal S8x128x256 .bf16) (x1 x2 x3 : Vec Ideal S1x128x256 .f32) (j : S1x128x256.Idx) :
    out0_7 x0 x1 x2 x3 j = Adam.square (x3 (ix3 0 (j 1) (j 2))) (∑ k : Fin 8, x0 (ix3 k (j 1) (j 2))) := by
  unfold_out out0_7
  rw [canon7_eq]
  unfold Adam.square
  simp only [Fin.sum_univ_eight]
  pointwise

/-- The reference's value of the gradient, at an index. -/
theorem ref4_apply (x0 : Vec Ideal S8x128x256 .bf16) (a : Fin 128) (b : Fin 256) :
    ReferenceAdpIdeal.Read.val_main_v2 (F := Ideal) x0 (ix3 0 a b) = (fun j : S1x128x256.Idx => ∑ k : Fin 8, x0 (ix3 k (j 1) (j 2))) (ix3 0 a b) := by
  dsimp only
  unfold ReferenceAdpIdeal.Read.val_main_v2 ReferenceAdpIdeal.Read.val_main_v1 ReferenceAdpIdeal.Read.val_main_cst ReferenceAdpIdeal.Read.val_main_v0
  pointwise

/-- The reference's value of the change of the weight, at an index. -/
theorem ref5_apply (x0 : Vec Ideal S8x128x256 .bf16) (x1 : Vec Ideal S1x128x256 .f32) (x2 : Vec Ideal S1x128x256 .f32) (x3 : Vec Ideal S1x128x256 .f32) (a : Fin 128) (b : Fin 256) :
    ReferenceAdpIdeal.Read.val_main_v26 (F := Ideal) x0 x1 x2 x3 (ix3 0 a b) = (fun j : S1x128x256.Idx => Adam.delta (x1 j) (∑ k : Fin 8, x0 (ix3 k (j 1) (j 2))) (x2 j) (x3 j)) (ix3 0 a b) := by
  dsimp only
  unfold ReferenceAdpIdeal.Read.val_main_v26 ReferenceAdpIdeal.Read.val_main_v25 ReferenceAdpIdeal.Read.val_main_cst_8 ReferenceAdpIdeal.Read.val_main_v24
    ReferenceAdpIdeal.Read.val_main_v23 ReferenceAdpIdeal.Read.val_main_v22 ReferenceAdpIdeal.Read.val_main_cst_7 ReferenceAdpIdeal.Read.val_main_v21
    ReferenceAdpIdeal.Read.val_main_v20 ReferenceAdpIdeal.Read.val_main_v19 ReferenceAdpIdeal.Read.val_main_cst_6 ReferenceAdpIdeal.Read.val_main_v18
    ReferenceAdpIdeal.Read.val_main_v17 ReferenceAdpIdeal.Read.val_main_v16 ReferenceAdpIdeal.Read.val_main_cst_5 ReferenceAdpIdeal.Read.val_main_v15
    ReferenceAdpIdeal.Read.val_main_v14 ReferenceAdpIdeal.Read.val_main_cst_4 ReferenceAdpIdeal.Read.val_main_v13 ReferenceAdpIdeal.Read.val_main_v12
    ReferenceAdpIdeal.Read.val_main_v11 ReferenceAdpIdeal.Read.val_main_cst_3 ReferenceAdpIdeal.Read.val_main_v10 ReferenceAdpIdeal.Read.val_main_v9
    ReferenceAdpIdeal.Read.val_main_v8 ReferenceAdpIdeal.Read.val_main_cst_2 ReferenceAdpIdeal.Read.val_main_v7 ReferenceAdpIdeal.Read.val_main_v6
    ReferenceAdpIdeal.Read.val_main_v5 ReferenceAdpIdeal.Read.val_main_cst_1 ReferenceAdpIdeal.Read.val_main_v4 ReferenceAdpIdeal.Read.val_main_v3
    ReferenceAdpIdeal.Read.val_main_cst_0 ReferenceAdpIdeal.Read.val_main_v2 ReferenceAdpIdeal.Read.val_main_v1 ReferenceAdpIdeal.Read.val_main_cst
    ReferenceAdpIdeal.Read.val_main_v0 Adam.delta Adam.moment Adam.square
  pointwise

/-- The reference's value of the first moment, at an index. -/
theorem ref6_apply (x0 : Vec Ideal S8x128x256 .bf16) (x2 : Vec Ideal S1x128x256 .f32) (a : Fin 128) (b : Fin 256) :
    ReferenceAdpIdeal.Read.val_main_v7 (F := Ideal) x0 x2 (ix3 0 a b) = (fun j : S1x128x256.Idx => Adam.moment (x2 j) (∑ k : Fin 8, x0 (ix3 k (j 1) (j 2)))) (ix3 0 a b) := by
  dsimp only
  unfold ReferenceAdpIdeal.Read.val_main_v7 ReferenceAdpIdeal.Read.val_main_v6 ReferenceAdpIdeal.Read.val_main_v5 ReferenceAdpIdeal.Read.val_main_cst_1
    ReferenceAdpIdeal.Read.val_main_v4 ReferenceAdpIdeal.Read.val_main_v3 ReferenceAdpIdeal.Read.val_main_cst_0 ReferenceAdpIdeal.Read.val_main_v2
    ReferenceAdpIdeal.Read.val_main_v1 ReferenceAdpIdeal.Read.val_main_cst ReferenceAdpIdeal.Read.val_main_v0 Adam.moment
  pointwise

/-- The reference's value of the second moment, at an index. -/
theorem ref7_apply (x0 : Vec Ideal S8x128x256 .bf16) (x3 : Vec Ideal S1x128x256 .f32) (a : Fin 128) (b : Fin 256) :
    ReferenceAdpIdeal.Read.val_main_v13 (F := Ideal) x0 x3 (ix3 0 a b) = (fun j : S1x128x256.Idx => Adam.square (x3 j) (∑ k : Fin 8, x0 (ix3 k (j 1) (j 2)))) (ix3 0 a b) := by
  dsimp only
  unfold ReferenceAdpIdeal.Read.val_main_v13 ReferenceAdpIdeal.Read.val_main_v12 ReferenceAdpIdeal.Read.val_main_v11 ReferenceAdpIdeal.Read.val_main_cst_3
    ReferenceAdpIdeal.Read.val_main_v10 ReferenceAdpIdeal.Read.val_main_v9 ReferenceAdpIdeal.Read.val_main_v8 ReferenceAdpIdeal.Read.val_main_cst_2
    ReferenceAdpIdeal.Read.val_main_v2 ReferenceAdpIdeal.Read.val_main_v1 ReferenceAdpIdeal.Read.val_main_cst ReferenceAdpIdeal.Read.val_main_v0 Adam.square
  pointwise

/-- The reference's array is the kernel's function of the arguments. -/
theorem val4_eq (x0 : Vec Ideal S8x128x256 .bf16) (x1 x2 x3 : Vec Ideal S1x128x256 .f32) : ReferenceAdpIdeal.Read.val_main_v2 (F := Ideal) x0 = G4 x0 x1 x2 x3 := by
  funext j
  obtain ⟨a, b, rfl⟩ : ∃ (a : Fin 128) (b : Fin 256), j = ix3 0 a b :=
    ⟨j 1, j 2, funext fun i => by match i with | ⟨0, _⟩ => exact Subsingleton.elim (α := Fin 1) _ _ | ⟨1, _⟩ => rfl | ⟨2, _⟩ => rfl⟩
  have e : G4 x0 x1 x2 x3 (ix3 0 a b) = _ := (congrFun (out4_eq x0 x1 x2 x3) (ix3 0 a b)).symm.trans (out4_apply x0 x1 x2 x3 (ix3 0 a b))
  rw [e]
  exact ref4_apply x0 a b

/-- The reference's array is the kernel's function of the arguments. -/
theorem val5_eq (x0 : Vec Ideal S8x128x256 .bf16) (x1 x2 x3 : Vec Ideal S1x128x256 .f32) : ReferenceAdpIdeal.Read.val_main_v26 (F := Ideal) x0 x1 x2 x3 = G5 x0 x1 x2 x3 := by
  funext j
  obtain ⟨a, b, rfl⟩ : ∃ (a : Fin 128) (b : Fin 256), j = ix3 0 a b :=
    ⟨j 1, j 2, funext fun i => by match i with | ⟨0, _⟩ => exact Subsingleton.elim (α := Fin 1) _ _ | ⟨1, _⟩ => rfl | ⟨2, _⟩ => rfl⟩
  have e : G5 x0 x1 x2 x3 (ix3 0 a b) = _ := (congrFun (out5_eq x0 x1 x2 x3) (ix3 0 a b)).symm.trans (out5_apply x0 x1 x2 x3 (ix3 0 a b))
  rw [e]
  exact ref5_apply x0 x1 x2 x3 a b

/-- The reference's array is the kernel's function of the arguments. -/
theorem val6_eq (x0 : Vec Ideal S8x128x256 .bf16) (x1 x2 x3 : Vec Ideal S1x128x256 .f32) : ReferenceAdpIdeal.Read.val_main_v7 (F := Ideal) x0 x2 = G6 x0 x1 x2 x3 := by
  funext j
  obtain ⟨a, b, rfl⟩ : ∃ (a : Fin 128) (b : Fin 256), j = ix3 0 a b :=
    ⟨j 1, j 2, funext fun i => by match i with | ⟨0, _⟩ => exact Subsingleton.elim (α := Fin 1) _ _ | ⟨1, _⟩ => rfl | ⟨2, _⟩ => rfl⟩
  have e : G6 x0 x1 x2 x3 (ix3 0 a b) = _ := (congrFun (out6_eq x0 x1 x2 x3) (ix3 0 a b)).symm.trans (out6_apply x0 x1 x2 x3 (ix3 0 a b))
  rw [e]
  exact ref6_apply x0 x2 a b

/-- The reference's array is the kernel's function of the arguments. -/
theorem val7_eq (x0 : Vec Ideal S8x128x256 .bf16) (x1 x2 x3 : Vec Ideal S1x128x256 .f32) : ReferenceAdpIdeal.Read.val_main_v13 (F := Ideal) x0 x3 = G7 x0 x1 x2 x3 := by
  funext j
  obtain ⟨a, b, rfl⟩ : ∃ (a : Fin 128) (b : Fin 256), j = ix3 0 a b :=
    ⟨j 1, j 2, funext fun i => by match i with | ⟨0, _⟩ => exact Subsingleton.elim (α := Fin 1) _ _ | ⟨1, _⟩ => rfl | ⟨2, _⟩ => rfl⟩
  have e : G7 x0 x1 x2 x3 (ix3 0 a b) = _ := (congrFun (out7_eq x0 x1 x2 x3) (ix3 0 a b)).symm.trans (out7_apply x0 x1 x2 x3 (ix3 0 a b))
  rw [e]
  exact ref7_apply x0 x3 a b

/-- The two programs leave the same four results. -/
theorem algebraic : Cert.algebraic_KernelAdpIdeal_ReferenceAdpIdeal := by
  intro m g m' g' _ hagree
  refine ⟨_, _, _, _, run m g, ?_⟩
  refine (θ_run _ _ _).mono (fun r h c => ?_) (Cert.ReferenceAdpIdeal.Value.run m' g')
  obtain ⟨h0, h1, h2, h3, hk⟩ := h c
  obtain ⟨a0, a1, a2, a3⟩ := hagree c
  refine ⟨?_, ?_, ?_, ?_, hk⟩
  · rw [h0, Cert.ReferenceAdpIdeal.Read.val_main_v2_eq, a0]
    exact val4_eq _ _ _ _
  · rw [h1, Cert.ReferenceAdpIdeal.Read.val_main_v26_eq, a0, a1, a2, a3]
    exact val5_eq _ _ _ _
  · rw [h2, Cert.ReferenceAdpIdeal.Read.val_main_v7_eq, a0, a2]
    exact val6_eq _ _ _ _
  · rw [h3, Cert.ReferenceAdpIdeal.Read.val_main_v13_eq, a0, a3]
    exact val7_eq _ _ _ _

end Cert.AdpValue

end
-- ==== Proof.Ads.lean ====
/- The AdamW step on the packed small weights: one grid point, every result the same function of the entries. -/
module

public import proofs.«01_k».proof.Proof.Gen.KernelAdsIdeal.Value
public import proofs.«01_k».proof.Proof.Gen.ReferenceAdsIdeal.Read
public import Idealize.ShloMosaic.Lib.Pointwise
public import proofs.«01_k».proof.Defs
public import proofs.«01_k».proof.Proof.Gen.KernelAds
public import proofs.«01_k».proof.Proof.Gen.ReferenceAdsIdeal
public import proofs.«01_k».proof.Proof.Adam

@[expose] public section

set_option maxRecDepth 16384

noncomputable section

namespace Cert.AdsValue

open Cert.KernelAdsIdeal Cert.KernelAdsIdeal.Gen Cert.KernelAdsIdeal.Value
open Idealize.ShloMosaic Idealize.ShloMosaic.TcCoe Idealize.SL.Sem

/-- What the body leaves of the gradient, at an index. -/
theorem out4_apply (x0 : Vec Ideal S1x24x1024 .f32) (x1 x2 x3 : Vec Ideal S1x24x1024 .f32) (j : S1x24x1024.Idx) :
    out0_4 x0 x1 x2 x3 j = x0 (ix3 0 (j 1) (j 2)) := by
  unfold out0_4
  rw [canon4_eq]
  unfold E4
  pointwise

/-- What the body leaves of the change of the weight, at an index. -/
theorem out5_apply (x0 : Vec Ideal S1x24x1024 .f32) (x1 x2 x3 : Vec Ideal S1x24x1024 .f32) (j : S1x24x1024.Idx) :
    out0_5 x0 x1 x2 x3 j = Adam.delta (x1 (ix3 0 (j 1) (j 2))) (x0 (ix3 0 (j 1) (j 2))) (x2 (ix3 0 (j 1) (j 2))) (x3 (ix3 0 (j 1) (j 2))) := by
  unfold out0_5
  rw [canon5_eq]
  unfold E5 k0_pay9
  unfold Adam.delta Adam.moment Adam.square
  pointwise

/-- What the body leaves of the first moment, at an index. -/
theorem out6_apply (x0 : Vec Ideal S1x24x1024 .f32) (x1 x2 x3 : Vec Ideal S1x24x1024 .f32) (j : S1x24x1024.Idx) :
    out0_6 x0 x1 x2 x3 j = Adam.moment (x2 (ix3 0 (j 1) (j 2))) (x0 (ix3 0 (j 1) (j 2))) := by
  unfold out0_6
  rw [canon6_eq]
  unfold Adam.moment
  pointwise

/-- What the body leaves of the second moment, at an index. -/
theorem out7_apply (x0 : Vec Ideal S1x24x1024 .f32) (x1 x2 x3 : Vec Ideal S1x24x1024 .f32) (j : S1x24x1024.Idx) :
    out0_7 x0 x1 x2 x3 j = Adam.square (x3 (ix3 0 (j 1) (j 2))) (x0 (ix3 0 (j 1) (j 2))) := by
  unfold out0_7
  rw [canon7_eq]
  unfold Adam.square
  pointwise

/-- The reference's value of the change of the weight, at an index. -/
theorem ref5_apply (x0 : Vec Ideal S1x24x1024 .f32) (x1 : Vec Ideal S1x24x1024 .f32) (x2 : Vec Ideal S1x24x1024 .f32) (x3 : Vec Ideal S1x24x1024 .f32) (a : Fin 24) (b : Fin 1024) :
    ReferenceAdsIdeal.Read.val_main_v23 (F := Ideal) x0 x1 x2 x3 (ix3 0 a b) = (fun j : S1x24x1024.Idx => Adam.delta (x1 j) (x0 j) (x2 j) (x3 j)) (ix3 0 a b) := by
  dsimp only
  unfold ReferenceAdsIdeal.Read.val_main_v23 ReferenceAdsIdeal.Read.val_main_v22 ReferenceAdsIdeal.Read.val_main_cst_7 ReferenceAdsIdeal.Read.val_main_v21
    ReferenceAdsIdeal.Read.val_main_v20 ReferenceAdsIdeal.Read.val_main_v19 ReferenceAdsIdeal.Read.val_main_cst_6 ReferenceAdsIdeal.Read.val_main_v18
    ReferenceAdsIdeal.Read.val_main_v17 ReferenceAdsIdeal.Read.val_main_v16 ReferenceAdsIdeal.Read.val_main_cst_5 ReferenceAdsIdeal.Read.val_main_v15
    ReferenceAdsIdeal.Read.val_main_v14 ReferenceAdsIdeal.Read.val_main_v13 ReferenceAdsIdeal.Read.val_main_cst_4 ReferenceAdsIdeal.Read.val_main_v12
    ReferenceAdsIdeal.Read.val_main_v11 ReferenceAdsIdeal.Read.val_main_cst_3 ReferenceAdsIdeal.Read.val_main_v10 ReferenceAdsIdeal.Read.val_main_v9
    ReferenceAdsIdeal.Read.val_main_v8 ReferenceAdsIdeal.Read.val_main_cst_2 ReferenceAdsIdeal.Read.val_main_v7 ReferenceAdsIdeal.Read.val_main_v6
    ReferenceAdsIdeal.Read.val_main_v5 ReferenceAdsIdeal.Read.val_main_cst_1 ReferenceAdsIdeal.Read.val_main_v4 ReferenceAdsIdeal.Read.val_main_v3
    ReferenceAdsIdeal.Read.val_main_v2 ReferenceAdsIdeal.Read.val_main_cst_0 ReferenceAdsIdeal.Read.val_main_v1 ReferenceAdsIdeal.Read.val_main_v0
    ReferenceAdsIdeal.Read.val_main_cst Adam.delta Adam.moment Adam.square
  pointwise

/-- The reference's value of the first moment, at an index. -/
theorem ref6_apply (x0 : Vec Ideal S1x24x1024 .f32) (x2 : Vec Ideal S1x24x1024 .f32) (a : Fin 24) (b : Fin 1024) :
    ReferenceAdsIdeal.Read.val_main_v4 (F := Ideal) x0 x2 (ix3 0 a b) = (fun j : S1x24x1024.Idx => Adam.moment (x2 j) (x0 j)) (ix3 0 a b) := by
  dsimp only
  unfold ReferenceAdsIdeal.Read.val_main_v4 ReferenceAdsIdeal.Read.val_main_v3 ReferenceAdsIdeal.Read.val_main_v2 ReferenceAdsIdeal.Read.val_main_cst_0
    ReferenceAdsIdeal.Read.val_main_v1 ReferenceAdsIdeal.Read.val_main_v0 ReferenceAdsIdeal.Read.val_main_cst Adam.moment
  pointwise

/-- The reference's value of the second moment, at an index. -/
theorem ref7_apply (x0 : Vec Ideal S1x24x1024 .f32) (x3 : Vec Ideal S1x24x1024 .f32) (a : Fin 24) (b : Fin 1024) :
    ReferenceAdsIdeal.Read.val_main_v10 (F := Ideal) x0 x3 (ix3 0 a b) = (fun j : S1x24x1024.Idx => Adam.square (x3 j) (x0 j)) (ix3 0 a b) := by
  dsimp only
  unfold ReferenceAdsIdeal.Read.val_main_v10 ReferenceAdsIdeal.Read.val_main_v9 ReferenceAdsIdeal.Read.val_main_v8 ReferenceAdsIdeal.Read.val_main_cst_2
    ReferenceAdsIdeal.Read.val_main_v7 ReferenceAdsIdeal.Read.val_main_v6 ReferenceAdsIdeal.Read.val_main_v5 ReferenceAdsIdeal.Read.val_main_cst_1 Adam.square
  pointwise

/-- The reference's array is the kernel's function of the arguments. -/
theorem val4_eq (x0 : Vec Ideal S1x24x1024 .f32) (x1 x2 x3 : Vec Ideal S1x24x1024 .f32) : x0 = G4 x0 x1 x2 x3 := by
  funext j
  obtain ⟨a, b, rfl⟩ : ∃ (a : Fin 24) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G4 x0 x1 x2 x3 (ix3 0 a b) = _ := (congrFun (out4_eq x0 x1 x2 x3) (ix3 0 a b)).symm.trans (out4_apply x0 x1 x2 x3 (ix3 0 a b))
  rw [e]
  rfl

/-- The reference's array is the kernel's function of the arguments. -/
theorem val5_eq (x0 : Vec Ideal S1x24x1024 .f32) (x1 x2 x3 : Vec Ideal S1x24x1024 .f32) : ReferenceAdsIdeal.Read.val_main_v23 (F := Ideal) x0 x1 x2 x3 = G5 x0 x1 x2 x3 := by
  funext j
  obtain ⟨a, b, rfl⟩ : ∃ (a : Fin 24) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G5 x0 x1 x2 x3 (ix3 0 a b) = _ := (congrFun (out5_eq x0 x1 x2 x3) (ix3 0 a b)).symm.trans (out5_apply x0 x1 x2 x3 (ix3 0 a b))
  rw [e]
  exact ref5_apply x0 x1 x2 x3 a b

/-- The reference's array is the kernel's function of the arguments. -/
theorem val6_eq (x0 : Vec Ideal S1x24x1024 .f32) (x1 x2 x3 : Vec Ideal S1x24x1024 .f32) : ReferenceAdsIdeal.Read.val_main_v4 (F := Ideal) x0 x2 = G6 x0 x1 x2 x3 := by
  funext j
  obtain ⟨a, b, rfl⟩ : ∃ (a : Fin 24) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G6 x0 x1 x2 x3 (ix3 0 a b) = _ := (congrFun (out6_eq x0 x1 x2 x3) (ix3 0 a b)).symm.trans (out6_apply x0 x1 x2 x3 (ix3 0 a b))
  rw [e]
  exact ref6_apply x0 x2 a b

/-- The reference's array is the kernel's function of the arguments. -/
theorem val7_eq (x0 : Vec Ideal S1x24x1024 .f32) (x1 x2 x3 : Vec Ideal S1x24x1024 .f32) : ReferenceAdsIdeal.Read.val_main_v10 (F := Ideal) x0 x3 = G7 x0 x1 x2 x3 := by
  funext j
  obtain ⟨a, b, rfl⟩ : ∃ (a : Fin 24) (b : Fin 1024), j = ix3 0 a b :=
    ⟨j 1, j 2, funext fun i => by match i with | ⟨0, _⟩ => exact Subsingleton.elim (α := Fin 1) _ _ | ⟨1, _⟩ => rfl | ⟨2, _⟩ => rfl⟩
  have e : G7 x0 x1 x2 x3 (ix3 0 a b) = _ := (congrFun (out7_eq x0 x1 x2 x3) (ix3 0 a b)).symm.trans (out7_apply x0 x1 x2 x3 (ix3 0 a b))
  rw [e]
  exact ref7_apply x0 x3 a b

/-- The two programs leave the same four results. -/
theorem algebraic : Cert.algebraic_KernelAdsIdeal_ReferenceAdsIdeal := by
  intro m g m' g' _ hagree
  refine ⟨_, _, _, _, run m g, ?_⟩
  refine (θ_run _ _ _).mono (fun r h c => ?_) (Cert.ReferenceAdsIdeal.Value.run m' g')
  obtain ⟨h0, h1, h2, h3, hk⟩ := h c
  obtain ⟨a0, a1, a2, a3⟩ := hagree c
  refine ⟨?_, ?_, ?_, ?_, hk⟩
  · rw [h0, a0]
    exact val4_eq _ _ _ _
  · rw [h1, Cert.ReferenceAdsIdeal.Read.val_main_v23_eq, a0, a1, a2, a3]
    exact val5_eq _ _ _ _
  · rw [h2, Cert.ReferenceAdsIdeal.Read.val_main_v4_eq, a0, a2]
    exact val6_eq _ _ _ _
  · rw [h3, Cert.ReferenceAdsIdeal.Read.val_main_v10_eq, a0, a3]
    exact val7_eq _ _ _ _

end Cert.AdsValue

end
-- ==== Proof.Adu.lean ====
/- The AdamW step on the feed-forward network's up-projections of both layers: one call fills layer 1 of the four results, the next one layer 0 over a copy of them. -/
module

public import proofs.«01_k».proof.Proof.Gen.KernelAduIdeal.Frame
public import proofs.«01_k».proof.Proof.Gen.ReferenceAduIdeal.Read
public import Idealize.ShloMosaic.Lib.Pointwise
public import proofs.«01_k».proof.Defs
public import proofs.«01_k».proof.Proof.Gen.KernelAdu
public import proofs.«01_k».proof.Proof.Gen.ReferenceAduIdeal
public import proofs.«01_k».proof.Proof.Adam

@[expose] public section

set_option maxRecDepth 16384

noncomputable section

namespace Cert.AduValue

open Cert.KernelAduIdeal Cert.KernelAduIdeal.Gen
open Idealize.ShloMosaic Idealize.ShloMosaic.TcCoe Idealize.SL.Sem
open Idealize.ShloMosaic.Rounds
open Idealize.SL Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

theorem hz : (![0, 0, 0] : Fin 3 → Nat) = fun _ => 0 := funext fun a => by fin_cases a <;> rfl

/-- The gradient of both layers, the devices' parts summed. -/
def G4 (g1 g0 : Vec Ideal S8x704x1024 .bf16) : Vec Ideal S2x704x1024 .f32 :=
  fun j => ∑ k : Fin 8, (if (j 0).val = 0 then g0 else g1) (ix3 k (j 1) (j 2))

/-- The change of the weight. -/
def G5 (g1 g0 : Vec Ideal S8x704x1024 .bf16) (w m v : Vec Ideal S2x704x1024 .f32) : Vec Ideal S2x704x1024 .f32 :=
  fun j => Adam.delta (w j) (G4 g1 g0 j) (m j) (v j)

/-- The first moment. -/
def G6 (g1 g0 : Vec Ideal S8x704x1024 .bf16) (m : Vec Ideal S2x704x1024 .f32) : Vec Ideal S2x704x1024 .f32 := fun j => Adam.moment (m j) (G4 g1 g0 j)

/-- The second moment. -/
def G7 (g1 g0 : Vec Ideal S8x704x1024 .bf16) (v : Vec Ideal S2x704x1024 .f32) : Vec Ideal S2x704x1024 .f32 := fun j => Adam.square (v j) (G4 g1 g0 j)

/-- What the first call's body leaves of the gradient, at an index. -/
theorem outA4_apply (x0 : Vec Ideal S8x176x1024 .bf16) (x1 x2 x3 : Vec Ideal S1x176x1024 .f32) (j : S1x176x1024.Idx) :
    out0_4 x0 x1 x2 x3 j = (∑ k : Fin 8, x0 (ix3 k (j 1) (j 2)) : EReal) := by
  unfold_out out0_4
  rw [View.canon_unit_zero hz]
  simp only [Fin.sum_univ_eight]
  unfold k0_pay6 k0_pay3
  pointwise

/-- What the first call's body leaves of the change of the weight, at an index. -/
theorem outA5_apply (x0 : Vec Ideal S8x176x1024 .bf16) (x1 x2 x3 : Vec Ideal S1x176x1024 .f32) (j : S1x176x1024.Idx) :
    out0_5 x0 x1 x2 x3 j = Adam.delta (x1 (ix3 0 (j 1) (j 2))) (∑ k : Fin 8, x0 (ix3 k (j 1) (j 2)) : EReal) (x2 (ix3 0 (j 1) (j 2))) (x3 (ix3 0 (j 1) (j 2))) := by
  unfold_out out0_5
  rw [View.canon_unit_zero hz]
  unfold Adam.delta Adam.moment Adam.square
  simp only [Fin.sum_univ_eight]
  unfold k0_pay7 k0_pay5 k0_pay4 k0_pay3
  pointwise

/-- What the first call's body leaves of the first moment, at an index. -/
theorem outA6_apply (x0 : Vec Ideal S8x176x1024 .bf16) (x1 x2 x3 : Vec Ideal S1x176x1024 .f32) (j : S1x176x1024.Idx) :
    out0_6 x0 x1 x2 x3 j = Adam.moment (x2 (ix3 0 (j 1) (j 2))) (∑ k : Fin 8, x0 (ix3 k (j 1) (j 2)) : EReal) := by
  unfold_out out0_6
  rw [View.canon_unit_zero hz]
  unfold Adam.moment
  simp only [Fin.sum_univ_eight]
  unfold k0_pay1 k0_pay4 k0_pay3
  pointwise

/-- What the first call's body leaves of the second moment, at an index. -/
theorem outA7_apply (x0 : Vec Ideal S8x176x1024 .bf16) (x1 x2 x3 : Vec Ideal S1x176x1024 .f32) (j : S1x176x1024.Idx) :
    out0_7 x0 x1 x2 x3 j = Adam.square (x3 (ix3 0 (j 1) (j 2))) (∑ k : Fin 8, x0 (ix3 k (j 1) (j 2)) : EReal) := by
  unfold_out out0_7
  rw [View.canon_unit_zero hz]
  unfold Adam.square
  simp only [Fin.sum_univ_eight]
  unfold k0_pay2 k0_pay5 k0_pay3
  pointwise

/-- What the second call's body leaves of the gradient, at an index. -/
theorem outB4_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_4 c i a1 h1 a2 h2 a3 h3 a4 h4 a9 h9 a10 h10 a11 h11 a12 h12 x0 x1 x2 x3 j = (∑ k : Fin 8, x0 (ix3 k (j 1) (j 2)) : EReal) := by
  unfold out1_A_4
  rw [View.read_writes_junk_eq_canon]
  unfold kernelRun1_A
  dsimp only
  sl_unfold_words
  simp only [View.readAt_eq_ld, h1.read_unread, h2.read_unread, h3.read_unread, h4.read_unread]
  rw [View.canon_unit_zero hz]
  simp only [Fin.sum_univ_eight]
  unfold k1_pay6 k1_pay3
  pointwise

/-- What the second call's body leaves of the change of the weight, at an index. -/
theorem outB5_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_5 c i a1 h1 a2 h2 a3 h3 a4 h4 a9 h9 a10 h10 a11 h11 a12 h12 x0 x1 x2 x3 j = Adam.delta (x1 (ix3 0 (j 1) (j 2))) (∑ k : Fin 8, x0 (ix3 k (j 1) (j 2)) : EReal) (x2 (ix3 0 (j 1) (j 2))) (x3 (ix3 0 (j 1) (j 2))) := by
  unfold out1_A_5
  rw [View.read_writes_junk_eq_canon]
  unfold kernelRun1_A
  dsimp only
  sl_unfold_words
  simp only [View.readAt_eq_ld, h1.read_unread, h2.read_unread, h3.read_unread, h4.read_unread]
  rw [View.canon_unit_zero hz]
  unfold Adam.delta Adam.moment Adam.square
  simp only [Fin.sum_univ_eight]
  unfold k1_pay7 k1_pay5 k1_pay4 k1_pay3
  pointwise

/-- What the second call's body leaves of the first moment, at an index. -/
theorem outB6_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_6 c i a1 h1 a2 h2 a3 h3 a4 h4 a9 h9 a10 h10 a11 h11 a12 h12 x0 x1 x2 x3 j = Adam.moment (x2 (ix3 0 (j 1) (j 2))) (∑ k : Fin 8, x0 (ix3 k (j 1) (j 2)) : EReal) := by
  unfold out1_A_6
  rw [View.read_writes_junk_eq_canon]
  unfold kernelRun1_A
  dsimp only
  sl_unfold_words
  simp only [View.readAt_eq_ld, h1.read_unread, h2.read_unread, h3.read_unread, h4.read_unread]
  rw [View.canon_unit_zero hz]
  unfold Adam.moment
  simp only [Fin.sum_univ_eight]
  unfold k1_pay1 k1_pay4 k1_pay3
  pointwise

/-- What the second call's body leaves of the second moment, at an index. -/
theorem outB7_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_7 c i a1 h1 a2 h2 a3 h3 a4 h4 a9 h9 a10 h10 a11 h11 a12 h12 x0 x1 x2 x3 j = Adam.square (x3 (ix3 0 (j 1) (j 2))) (∑ k : Fin 8, x0 (ix3 k (j 1) (j 2)) : EReal) := by
  unfold out1_A_7
  rw [View.read_writes_junk_eq_canon]
  unfold kernelRun1_A
  dsimp only
  sl_unfold_words
  simp only [View.readAt_eq_ld, h1.read_unread, h2.read_unread, h3.read_unread, h4.read_unread]
  rw [View.canon_unit_zero hz]
  unfold Adam.square
  simp only [Fin.sum_univ_eight]
  unfold k1_pay2 k1_pay5 k1_pay3
  pointwise

variable (V : (c : Dev nD) → (b : Ref sig .tc) → Buf (Elt Ideal) ((c : Thread nD τ).loc b))

/-- Where the blocks of the first call sit: block `t` is rows `176 t` and on, of layer 1. -/
theorem idx0 : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 1 ∧ win0_2.index t (1 : Fin 3) = t.val ∧ win0_2.index t (2 : Fin 3) = 0)
    ∧ (win0_3.index t (0 : Fin 3) = 1 ∧ win0_3.index t (1 : Fin 3) = t.val ∧ win0_3.index t (2 : Fin 3) = 0)
    ∧ (win0_4.index t (0 : Fin 3) = 1 ∧ win0_4.index t (1 : Fin 3) = t.val ∧ win0_4.index t (2 : Fin 3) = 0)
    ∧ (win0_5.index t (0 : Fin 3) = 1 ∧ win0_5.index t (1 : Fin 3) = t.val ∧ win0_5.index t (2 : Fin 3) = 0)
    ∧ (win0_6.index t (0 : Fin 3) = 1 ∧ win0_6.index t (1 : Fin 3) = t.val ∧ win0_6.index t (2 : Fin 3) = 0)
    ∧ (win0_7.index t (0 : Fin 3) = 1 ∧ win0_7.index t (1 : Fin 3) = t.val ∧ win0_7.index t (2 : Fin 3) = 0) :=
  (by decide +kernel : ∀ t : Fin grid0.N, _)

theorem read0_0 (c : Dev nD) (t : Fin cfg0.N) (k : Fin 8) (a : Fin 176) (b : Fin 1024) (A : Fin 704) (hA : A.val = t.val * 176 + a.val) :
    iblk0 V c 0 t (ix3 k a b) = V c main_arg0 (ix3 k A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg0 (((cfg0.win 0).blk t).view.emb (ix3 k a b)) = _
  refine congrArg _ (funext fun i => Fin.ext ?_)
  match i with
  | ⟨0, _⟩ => show win0_0.index t (0 : Fin 3) * 8 + 1 * k.val = k.val; omega
  | ⟨1, _⟩ => show win0_0.index t (1 : Fin 3) * 176 + 1 * a.val = A.val; omega
  | ⟨2, _⟩ => show win0_0.index t (2 : Fin 3) * 1024 + 1 * b.val = b.val; omega

theorem read0_1 (c : Dev nD) (t : Fin cfg0.N) (a : Fin 176) (b : Fin 1024) (A : Fin 704) (hA : A.val = t.val * 176 + a.val) :
    iblk0 V c 1 t (ix3 0 a b) = V c main_arg2 (ix3 1 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg2 (((cfg0.win 1).blk t).view.emb (ix3 0 a b)) = _
  refine congrArg _ (funext fun i => Fin.ext ?_)
  match i with
  | ⟨0, _⟩ => show win0_1.index t (0 : Fin 3) * 1 + 1 * 0 = 1; omega
  | ⟨1, _⟩ => show win0_1.index t (1 : Fin 3) * 176 + 1 * a.val = A.val; omega
  | ⟨2, _⟩ => show win0_1.index t (2 : Fin 3) * 1024 + 1 * b.val = b.val; omega

theorem read0_2 (c : Dev nD) (t : Fin cfg0.N) (a : Fin 176) (b : Fin 1024) (A : Fin 704) (hA : A.val = t.val * 176 + a.val) :
    iblk0 V c 2 t (ix3 0 a b) = V c main_arg3 (ix3 1 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg3 (((cfg0.win 2).blk t).view.emb (ix3 0 a b)) = _
  refine congrArg _ (funext fun i => Fin.ext ?_)
  match i with
  | ⟨0, _⟩ => show win0_2.index t (0 : Fin 3) * 1 + 1 * 0 = 1; omega
  | ⟨1, _⟩ => show win0_2.index t (1 : Fin 3) * 176 + 1 * a.val = A.val; omega
  | ⟨2, _⟩ => show win0_2.index t (2 : Fin 3) * 1024 + 1 * b.val = b.val; omega

theorem read0_3 (c : Dev nD) (t : Fin cfg0.N) (a : Fin 176) (b : Fin 1024) (A : Fin 704) (hA : A.val = t.val * 176 + a.val) :
    iblk0 V c 3 t (ix3 0 a b) = V c main_arg4 (ix3 1 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg4 (((cfg0.win 3).blk t).view.emb (ix3 0 a b)) = _
  refine congrArg _ (funext fun i => Fin.ext ?_)
  match i with
  | ⟨0, _⟩ => show win0_3.index t (0 : Fin 3) * 1 + 1 * 0 = 1; omega
  | ⟨1, _⟩ => show win0_3.index t (1 : Fin 3) * 176 + 1 * a.val = A.val; omega
  | ⟨2, _⟩ => show win0_3.index t (2 : Fin 3) * 1024 + 1 * b.val = b.val; omega

theorem emb0_4 (t : Fin cfg0.N) (a : Fin 176) (b : Fin 1024) (A : Fin 704) (hA : A.val = t.val * 176 + a.val) :
    ((cfg0.win 4).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_4.index t (0 : Fin 3) * 1 + 1 * 0 = 1; omega
  | ⟨1, _⟩ => show win0_4.index t (1 : Fin 3) * 176 + 1 * a.val = A.val; omega
  | ⟨2, _⟩ => show win0_4.index t (2 : Fin 3) * 1024 + 1 * b.val = b.val; omega

theorem emb0_5 (t : Fin cfg0.N) (a : Fin 176) (b : Fin 1024) (A : Fin 704) (hA : A.val = t.val * 176 + a.val) :
    ((cfg0.win 5).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_5.index t (0 : Fin 3) * 1 + 1 * 0 = 1; omega
  | ⟨1, _⟩ => show win0_5.index t (1 : Fin 3) * 176 + 1 * a.val = A.val; omega
  | ⟨2, _⟩ => show win0_5.index t (2 : Fin 3) * 1024 + 1 * b.val = b.val; omega

theorem emb0_6 (t : Fin cfg0.N) (a : Fin 176) (b : Fin 1024) (A : Fin 704) (hA : A.val = t.val * 176 + a.val) :
    ((cfg0.win 6).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_6.index t (0 : Fin 3) * 1 + 1 * 0 = 1; omega
  | ⟨1, _⟩ => show win0_6.index t (1 : Fin 3) * 176 + 1 * a.val = A.val; omega
  | ⟨2, _⟩ => show win0_6.index t (2 : Fin 3) * 1024 + 1 * b.val = b.val; omega

theorem emb0_7 (t : Fin cfg0.N) (a : Fin 176) (b : Fin 1024) (A : Fin 704) (hA : A.val = t.val * 176 + a.val) :
    ((cfg0.win 7).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_7.index t (0 : Fin 3) * 1 + 1 * 0 = 1; omega
  | ⟨1, _⟩ => show win0_7.index t (1 : Fin 3) * 176 + 1 * a.val = A.val; omega
  | ⟨2, _⟩ => show win0_7.index t (2 : Fin 3) * 1024 + 1 * b.val = b.val; omega

/-- What a point of the first call writes back of the gradient is its block of the whole array's function. -/
theorem flushed0_4 (c : Dev nD) (t : Fin cfg0.N) :
    (dat0 V c).flushed 4 t = ((cfg0.win 4).blk t).view.read (Elt Ideal) (G4 (V c main_arg0) (V c main_arg1)) := by
  show (cfg0.win 4).cut (grid0.coords t) ((dat0 V c).after 4 t) = _
  rw [after0_4]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show out0_4 (iblk0 V c 0 t) (iblk0 V c 1 t) (iblk0 V c 2 t) (iblk0 V c 3 t) (ix3 0 a b) = (G4 (V c main_arg0) (V c main_arg1)) (((cfg0.win 4).blk t).view.emb (ix3 0 a b))
  rw [outA4_apply, emb0_4 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  exact e0

theorem in0_4 (c : Dev nD) (i : S2x704x1024.Idx) (hi : (i 0).val = 1) : ∃ t : Fin cfg0.N, i ∈ ((cfg0.win 4).blk t).view.set := by
  have h1 : (i 1).val < 704 := (i 1).isLt
  have hlt : (i 1).val / 176 < cfg0.N := by
    have hN : cfg0.N = 4 := by decide
    have h2 : (i 1).val / 176 < 4 := by omega
    exact lt_of_lt_of_eq h2 hN.symm
  refine ⟨⟨(i 1).val / 176, hlt⟩, ?_⟩
  have e := emb0_4 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 4).blk ⟨(i 1).val / 176, hlt⟩).view.emb)).mpr ⟨ix3 0 ⟨(i 1).val % 176, Nat.mod_lt _ (by decide)⟩ (i 2), Finset.mem_univ _, e.trans hi'.symm⟩

/-- What a point of the first call writes back of the change of the weight is its block of the whole array's function. -/
theorem flushed0_5 (c : Dev nD) (t : Fin cfg0.N) :
    (dat0 V c).flushed 5 t = ((cfg0.win 5).blk t).view.read (Elt Ideal) (G5 (V c main_arg0) (V c main_arg1) (V c main_arg2) (V c main_arg3) (V c main_arg4)) := by
  show (cfg0.win 5).cut (grid0.coords t) ((dat0 V c).after 5 t) = _
  rw [after0_5]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show out0_5 (iblk0 V c 0 t) (iblk0 V c 1 t) (iblk0 V c 2 t) (iblk0 V c 3 t) (ix3 0 a b) = (G5 (V c main_arg0) (V c main_arg1) (V c main_arg2) (V c main_arg3) (V c main_arg4)) (((cfg0.win 5).blk t).view.emb (ix3 0 a b))
  rw [outA5_apply, emb0_5 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  have e1 := read0_1 V c t a b ⟨t.val * 176 + a.val, hA⟩ rfl
  have e2 := read0_2 V c t a b ⟨t.val * 176 + a.val, hA⟩ rfl
  have e3 := read0_3 V c t a b ⟨t.val * 176 + a.val, hA⟩ rfl
  show Adam.delta (iblk0 V c 1 t (ix3 0 a b)) (∑ k : Fin 8, iblk0 V c 0 t (ix3 k a b)) (iblk0 V c 2 t (ix3 0 a b)) (iblk0 V c 3 t (ix3 0 a b)) = _
  rw [e0, e1, e2, e3]
  rfl

theorem in0_5 (c : Dev nD) (i : S2x704x1024.Idx) (hi : (i 0).val = 1) : ∃ t : Fin cfg0.N, i ∈ ((cfg0.win 5).blk t).view.set := by
  have h1 : (i 1).val < 704 := (i 1).isLt
  have hlt : (i 1).val / 176 < cfg0.N := by
    have hN : cfg0.N = 4 := by decide
    have h2 : (i 1).val / 176 < 4 := by omega
    exact lt_of_lt_of_eq h2 hN.symm
  refine ⟨⟨(i 1).val / 176, hlt⟩, ?_⟩
  have e := emb0_5 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 5).blk ⟨(i 1).val / 176, hlt⟩).view.emb)).mpr ⟨ix3 0 ⟨(i 1).val % 176, Nat.mod_lt _ (by decide)⟩ (i 2), Finset.mem_univ _, e.trans hi'.symm⟩

/-- What a point of the first call writes back of the first moment is its block of the whole array's function. -/
theorem flushed0_6 (c : Dev nD) (t : Fin cfg0.N) :
    (dat0 V c).flushed 6 t = ((cfg0.win 6).blk t).view.read (Elt Ideal) (G6 (V c main_arg0) (V c main_arg1) (V c main_arg3)) := by
  show (cfg0.win 6).cut (grid0.coords t) ((dat0 V c).after 6 t) = _
  rw [after0_6]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show out0_6 (iblk0 V c 0 t) (iblk0 V c 1 t) (iblk0 V c 2 t) (iblk0 V c 3 t) (ix3 0 a b) = (G6 (V c main_arg0) (V c main_arg1) (V c main_arg3)) (((cfg0.win 6).blk t).view.emb (ix3 0 a b))
  rw [outA6_apply, emb0_6 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  have e2 := read0_2 V c t a b ⟨t.val * 176 + a.val, hA⟩ rfl
  show Adam.moment (iblk0 V c 2 t (ix3 0 a b)) (∑ k : Fin 8, iblk0 V c 0 t (ix3 k a b)) = _
  rw [e0, e2]
  rfl

theorem in0_6 (c : Dev nD) (i : S2x704x1024.Idx) (hi : (i 0).val = 1) : ∃ t : Fin cfg0.N, i ∈ ((cfg0.win 6).blk t).view.set := by
  have h1 : (i 1).val < 704 := (i 1).isLt
  have hlt : (i 1).val / 176 < cfg0.N := by
    have hN : cfg0.N = 4 := by decide
    have h2 : (i 1).val / 176 < 4 := by omega
    exact lt_of_lt_of_eq h2 hN.symm
  refine ⟨⟨(i 1).val / 176, hlt⟩, ?_⟩
  have e := emb0_6 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 6).blk ⟨(i 1).val / 176, hlt⟩).view.emb)).mpr ⟨ix3 0 ⟨(i 1).val % 176, Nat.mod_lt _ (by decide)⟩ (i 2), Finset.mem_univ _, e.trans hi'.symm⟩

/-- What a point of the first call writes back of the second moment is its block of the whole array's function. -/
theorem flushed0_7 (c : Dev nD) (t : Fin cfg0.N) :
    (dat0 V c).flushed 7 t = ((cfg0.win 7).blk t).view.read (Elt Ideal) (G7 (V c main_arg0) (V c main_arg1) (V c main_arg4)) := by
  show (cfg0.win 7).cut (grid0.coords t) ((dat0 V c).after 7 t) = _
  rw [after0_7]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show out0_7 (iblk0 V c 0 t) (iblk0 V c 1 t) (iblk0 V c 2 t) (iblk0 V c 3 t) (ix3 0 a b) = (G7 (V c main_arg0) (V c main_arg1) (V c main_arg4)) (((cfg0.win 7).blk t).view.emb (ix3 0 a b))
  rw [outA7_apply, emb0_7 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  have e3 := read0_3 V c t a b ⟨t.val * 176 + a.val, hA⟩ rfl
  show Adam.square (iblk0 V c 3 t (ix3 0 a b)) (∑ k : Fin 8, iblk0 V c 0 t (ix3 k a b)) = _
  rw [e0, e3]
  rfl

theorem in0_7 (c : Dev nD) (i : S2x704x1024.Idx) (hi : (i 0).val = 1) : ∃ t : Fin cfg0.N, i ∈ ((cfg0.win 7).blk t).view.set := by
  have h1 : (i 1).val < 704 := (i 1).isLt
  have hlt : (i 1).val / 176 < cfg0.N := by
    have hN : cfg0.N = 4 := by decide
    have h2 : (i 1).val / 176 < 4 := by omega
    exact lt_of_lt_of_eq h2 hN.symm
  refine ⟨⟨(i 1).val / 176, hlt⟩, ?_⟩
  have e := emb0_7 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 7).blk ⟨(i 1).val / 176, hlt⟩).view.emb)).mpr ⟨ix3 0 ⟨(i 1).val % 176, Nat.mod_lt _ (by decide)⟩ (i 2), Finset.mem_univ _, e.trans hi'.symm⟩

/-- Where the blocks of the second call sit: block `t` is rows `176 t` and on, of layer 0. -/
theorem idx1 : ∀ t : Fin cfg1.N, (win1_0.index t (0 : Fin 3) = 0 ∧ win1_0.index t (1 : Fin 3) = t.val ∧ win1_0.index t (2 : Fin 3) = 0)
    ∧ (win1_1.index t (0 : Fin 3) = 0 ∧ win1_1.index t (1 : Fin 3) = t.val ∧ win1_1.index t (2 : Fin 3) = 0)
    ∧ (win1_2.index t (0 : Fin 3) = 0 ∧ win1_2.index t (1 : Fin 3) = t.val ∧ win1_2.index t (2 : Fin 3) = 0)
    ∧ (win1_3.index t (0 : Fin 3) = 0 ∧ win1_3.index t (1 : Fin 3) = t.val ∧ win1_3.index t (2 : Fin 3) = 0)
    ∧ (win1_4.index t (0 : Fin 3) = 0 ∧ win1_4.index t (1 : Fin 3) = t.val ∧ win1_4.index t (2 : Fin 3) = 0)
    ∧ (win1_5.index t (0 : Fin 3) = 0 ∧ win1_5.index t (1 : Fin 3) = t.val ∧ win1_5.index t (2 : Fin 3) = 0)
    ∧ (win1_6.index t (0 : Fin 3) = 0 ∧ win1_6.index t (1 : Fin 3) = t.val ∧ win1_6.index t (2 : Fin 3) = 0)
    ∧ (win1_7.index t (0 : Fin 3) = 0 ∧ win1_7.index t (1 : Fin 3) = t.val ∧ win1_7.index t (2 : Fin 3) = 0) :=
  (by decide +kernel : ∀ t : Fin grid1.N, _)

theorem read1_0 (c : Dev nD) (t : Fin cfg1.N) (k : Fin 8) (a : Fin 176) (b : Fin 1024) (A : Fin 704) (hA : A.val = t.val * 176 + a.val) :
    iblk1 V c 0 t (ix3 k a b) = V c main_arg1 (ix3 k A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg1 (((cfg1.win 0).blk t).view.emb (ix3 k a b)) = _
  refine congrArg _ (funext fun i => Fin.ext ?_)
  match i with
  | ⟨0, _⟩ => show win1_0.index t (0 : Fin 3) * 8 + 1 * k.val = k.val; omega
  | ⟨1, _⟩ => show win1_0.index t (1 : Fin 3) * 176 + 1 * a.val = A.val; omega
  | ⟨2, _⟩ => show win1_0.index t (2 : Fin 3) * 1024 + 1 * b.val = b.val; omega

theorem read1_1 (c : Dev nD) (t : Fin cfg1.N) (a : Fin 176) (b : Fin 1024) (A : Fin 704) (hA : A.val = t.val * 176 + a.val) :
    iblk1 V c 1 t (ix3 0 a b) = V c main_arg2 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg2 (((cfg1.win 1).blk t).view.emb (ix3 0 a b)) = _
  refine congrArg _ (funext fun i => Fin.ext ?_)
  match i with
  | ⟨0, _⟩ => show win1_1.index t (0 : Fin 3) * 1 + 1 * 0 = 0; omega
  | ⟨1, _⟩ => show win1_1.index t (1 : Fin 3) * 176 + 1 * a.val = A.val; omega
  | ⟨2, _⟩ => show win1_1.index t (2 : Fin 3) * 1024 + 1 * b.val = b.val; omega

theorem read1_2 (c : Dev nD) (t : Fin cfg1.N) (a : Fin 176) (b : Fin 1024) (A : Fin 704) (hA : A.val = t.val * 176 + a.val) :
    iblk1 V c 2 t (ix3 0 a b) = V c main_arg3 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg3 (((cfg1.win 2).blk t).view.emb (ix3 0 a b)) = _
  refine congrArg _ (funext fun i => Fin.ext ?_)
  match i with
  | ⟨0, _⟩ => show win1_2.index t (0 : Fin 3) * 1 + 1 * 0 = 0; omega
  | ⟨1, _⟩ => show win1_2.index t (1 : Fin 3) * 176 + 1 * a.val = A.val; omega
  | ⟨2, _⟩ => show win1_2.index t (2 : Fin 3) * 1024 + 1 * b.val = b.val; omega

theorem read1_3 (c : Dev nD) (t : Fin cfg1.N) (a : Fin 176) (b : Fin 1024) (A : Fin 704) (hA : A.val = t.val * 176 + a.val) :
    iblk1 V c 3 t (ix3 0 a b) = V c main_arg4 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg4 (((cfg1.win 3).blk t).view.emb (ix3 0 a b)) = _
  refine congrArg _ (funext fun i => Fin.ext ?_)
  match i with
  | ⟨0, _⟩ => show win1_3.index t (0 : Fin 3) * 1 + 1 * 0 = 0; omega
  | ⟨1, _⟩ => show win1_3.index t (1 : Fin 3) * 176 + 1 * a.val = A.val; omega
  | ⟨2, _⟩ => show win1_3.index t (2 : Fin 3) * 1024 + 1 * b.val = b.val; omega

theorem emb1_4 (t : Fin cfg1.N) (a : Fin 176) (b : Fin 1024) (A : Fin 704) (hA : A.val = t.val * 176 + a.val) :
    ((cfg1.win 4).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_4.index t (0 : Fin 3) * 1 + 1 * 0 = 0; omega
  | ⟨1, _⟩ => show win1_4.index t (1 : Fin 3) * 176 + 1 * a.val = A.val; omega
  | ⟨2, _⟩ => show win1_4.index t (2 : Fin 3) * 1024 + 1 * b.val = b.val; omega

theorem emb1_5 (t : Fin cfg1.N) (a : Fin 176) (b : Fin 1024) (A : Fin 704) (hA : A.val = t.val * 176 + a.val) :
    ((cfg1.win 5).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_5.index t (0 : Fin 3) * 1 + 1 * 0 = 0; omega
  | ⟨1, _⟩ => show win1_5.index t (1 : Fin 3) * 176 + 1 * a.val = A.val; omega
  | ⟨2, _⟩ => show win1_5.index t (2 : Fin 3) * 1024 + 1 * b.val = b.val; omega

theorem emb1_6 (t : Fin cfg1.N) (a : Fin 176) (b : Fin 1024) (A : Fin 704) (hA : A.val = t.val * 176 + a.val) :
    ((cfg1.win 6).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_6.index t (0 : Fin 3) * 1 + 1 * 0 = 0; omega
  | ⟨1, _⟩ => show win1_6.index t (1 : Fin 3) * 176 + 1 * a.val = A.val; omega
  | ⟨2, _⟩ => show win1_6.index t (2 : Fin 3) * 1024 + 1 * b.val = b.val; omega

theorem emb1_7 (t : Fin cfg1.N) (a : Fin 176) (b : Fin 1024) (A : Fin 704) (hA : A.val = t.val * 176 + a.val) :
    ((cfg1.win 7).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_7.index t (0 : Fin 3) * 1 + 1 * 0 = 0; omega
  | ⟨1, _⟩ => show win1_7.index t (1 : Fin 3) * 176 + 1 * a.val = A.val; omega
  | ⟨2, _⟩ => show win1_7.index t (2 : Fin 3) * 1024 + 1 * b.val = b.val; omega

/-- What the second call's buffer of the gradient holds after a point. -/
theorem afterB4 (c : Dev nD) (t : Fin cfg1.N) : (outsAt1 V c t).1 = fun j : S1x176x1024.Idx => (∑ k : Fin 8, iblk1 V c 0 t (ix3 k (j 1) (j 2)) : EReal) := by
  unfold outsAt1
  dsimp only
  exact funext fun j => outB4_apply c (grid1.coords t) _ _ _ _ _ _ _ _ _ _ _ _ _ _ _ _ (iblk1 V c 0 t) (iblk1 V c 1 t) (iblk1 V c 2 t) (iblk1 V c 3 t) j

/-- What a point of the second call writes back of the gradient is its block of the whole array's function. -/
theorem flushed1_4 (c : Dev nD) (t : Fin cfg1.N) :
    (dat1 V c).flushed 4 t = ((cfg1.win 4).blk t).view.read (Elt Ideal) (G4 (V c main_arg0) (V c main_arg1)) := by
  show (cfg1.win 4).cut (grid1.coords t) ((dat1 V c).after 4 t) = _
  rw [after1_4, afterB4]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show (∑ k : Fin 8, iblk1 V c 0 t (ix3 k a b) : EReal) = (G4 (V c main_arg0) (V c main_arg1)) (((cfg1.win 4).blk t).view.emb (ix3 0 a b))
  rw [emb1_4 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  exact e0

theorem in1_4 (c : Dev nD) (i : S2x704x1024.Idx) (hi : (i 0).val = 0) : ∃ t : Fin cfg1.N, i ∈ ((cfg1.win 4).blk t).view.set := by
  have h1 : (i 1).val < 704 := (i 1).isLt
  have hlt : (i 1).val / 176 < cfg1.N := by
    have hN : cfg1.N = 4 := by decide
    have h2 : (i 1).val / 176 < 4 := by omega
    exact lt_of_lt_of_eq h2 hN.symm
  refine ⟨⟨(i 1).val / 176, hlt⟩, ?_⟩
  have e := emb1_4 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 4).blk ⟨(i 1).val / 176, hlt⟩).view.emb)).mpr ⟨ix3 0 ⟨(i 1).val % 176, Nat.mod_lt _ (by decide)⟩ (i 2), Finset.mem_univ _, e.trans hi'.symm⟩

theorem notin1_4 (c : Dev nD) (i : S2x704x1024.Idx) (hi : (i 0).val = 1) (t : Fin cfg1.N) : i ∉ ((cfg1.win 4).blk t).view.set := by
  intro h
  obtain ⟨j, -, e⟩ := (Finset.mem_map (f := ((cfg1.win 4).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_4.index t (0 : Fin 3) * 1 + 1 * (j (0 : Fin 3)).val = (i 0).val := congrArg (fun q : S2x704x1024.Idx => (q 0).val) e
  omega

/-- What the second call's buffer of the change of the weight holds after a point. -/
theorem afterB5 (c : Dev nD) (t : Fin cfg1.N) : (outsAt1 V c t).2.1 = fun j : S1x176x1024.Idx => Adam.delta (iblk1 V c 1 t (ix3 0 (j 1) (j 2))) (∑ k : Fin 8, iblk1 V c 0 t (ix3 k (j 1) (j 2)) : EReal) (iblk1 V c 2 t (ix3 0 (j 1) (j 2))) (iblk1 V c 3 t (ix3 0 (j 1) (j 2))) := by
  unfold outsAt1
  dsimp only
  exact funext fun j => outB5_apply c (grid1.coords t) _ _ _ _ _ _ _ _ _ _ _ _ _ _ _ _ (iblk1 V c 0 t) (iblk1 V c 1 t) (iblk1 V c 2 t) (iblk1 V c 3 t) j

/-- What a point of the second call writes back of the change of the weight is its block of the whole array's function. -/
theorem flushed1_5 (c : Dev nD) (t : Fin cfg1.N) :
    (dat1 V c).flushed 5 t = ((cfg1.win 5).blk t).view.read (Elt Ideal) (G5 (V c main_arg0) (V c main_arg1) (V c main_arg2) (V c main_arg3) (V c main_arg4)) := by
  show (cfg1.win 5).cut (grid1.coords t) ((dat1 V c).after 5 t) = _
  rw [after1_5, afterB5]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show Adam.delta (iblk1 V c 1 t (ix3 0 a b)) (∑ k : Fin 8, iblk1 V c 0 t (ix3 k a b) : EReal) (iblk1 V c 2 t (ix3 0 a b)) (iblk1 V c 3 t (ix3 0 a b)) = (G5 (V c main_arg0) (V c main_arg1) (V c main_arg2) (V c main_arg3) (V c main_arg4)) (((cfg1.win 5).blk t).view.emb (ix3 0 a b))
  rw [emb1_5 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  have e1 := read1_1 V c t a b ⟨t.val * 176 + a.val, hA⟩ rfl
  have e2 := read1_2 V c t a b ⟨t.val * 176 + a.val, hA⟩ rfl
  have e3 := read1_3 V c t a b ⟨t.val * 176 + a.val, hA⟩ rfl
  show Adam.delta (iblk1 V c 1 t (ix3 0 a b)) (∑ k : Fin 8, iblk1 V c 0 t (ix3 k a b)) (iblk1 V c 2 t (ix3 0 a b)) (iblk1 V c 3 t (ix3 0 a b)) = _
  rw [e0, e1, e2, e3]
  rfl

theorem in1_5 (c : Dev nD) (i : S2x704x1024.Idx) (hi : (i 0).val = 0) : ∃ t : Fin cfg1.N, i ∈ ((cfg1.win 5).blk t).view.set := by
  have h1 : (i 1).val < 704 := (i 1).isLt
  have hlt : (i 1).val / 176 < cfg1.N := by
    have hN : cfg1.N = 4 := by decide
    have h2 : (i 1).val / 176 < 4 := by omega
    exact lt_of_lt_of_eq h2 hN.symm
  refine ⟨⟨(i 1).val / 176, hlt⟩, ?_⟩
  have e := emb1_5 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 5).blk ⟨(i 1).val / 176, hlt⟩).view.emb)).mpr ⟨ix3 0 ⟨(i 1).val % 176, Nat.mod_lt _ (by decide)⟩ (i 2), Finset.mem_univ _, e.trans hi'.symm⟩

theorem notin1_5 (c : Dev nD) (i : S2x704x1024.Idx) (hi : (i 0).val = 1) (t : Fin cfg1.N) : i ∉ ((cfg1.win 5).blk t).view.set := by
  intro h
  obtain ⟨j, -, e⟩ := (Finset.mem_map (f := ((cfg1.win 5).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_5.index t (0 : Fin 3) * 1 + 1 * (j (0 : Fin 3)).val = (i 0).val := congrArg (fun q : S2x704x1024.Idx => (q 0).val) e
  omega

/-- What the second call's buffer of the first moment holds after a point. -/
theorem afterB6 (c : Dev nD) (t : Fin cfg1.N) : (outsAt1 V c t).2.2.1 = fun j : S1x176x1024.Idx => Adam.moment (iblk1 V c 2 t (ix3 0 (j 1) (j 2))) (∑ k : Fin 8, iblk1 V c 0 t (ix3 k (j 1) (j 2)) : EReal) := by
  unfold outsAt1
  dsimp only
  exact funext fun j => outB6_apply c (grid1.coords t) _ _ _ _ _ _ _ _ _ _ _ _ _ _ _ _ (iblk1 V c 0 t) (iblk1 V c 1 t) (iblk1 V c 2 t) (iblk1 V c 3 t) j

/-- What a point of the second call writes back of the first moment is its block of the whole array's function. -/
theorem flushed1_6 (c : Dev nD) (t : Fin cfg1.N) :
    (dat1 V c).flushed 6 t = ((cfg1.win 6).blk t).view.read (Elt Ideal) (G6 (V c main_arg0) (V c main_arg1) (V c main_arg3)) := by
  show (cfg1.win 6).cut (grid1.coords t) ((dat1 V c).after 6 t) = _
  rw [after1_6, afterB6]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show Adam.moment (iblk1 V c 2 t (ix3 0 a b)) (∑ k : Fin 8, iblk1 V c 0 t (ix3 k a b) : EReal) = (G6 (V c main_arg0) (V c main_arg1) (V c main_arg3)) (((cfg1.win 6).blk t).view.emb (ix3 0 a b))
  rw [emb1_6 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  have e2 := read1_2 V c t a b ⟨t.val * 176 + a.val, hA⟩ rfl
  show Adam.moment (iblk1 V c 2 t (ix3 0 a b)) (∑ k : Fin 8, iblk1 V c 0 t (ix3 k a b)) = _
  rw [e0, e2]
  rfl

theorem in1_6 (c : Dev nD) (i : S2x704x1024.Idx) (hi : (i 0).val = 0) : ∃ t : Fin cfg1.N, i ∈ ((cfg1.win 6).blk t).view.set := by
  have h1 : (i 1).val < 704 := (i 1).isLt
  have hlt : (i 1).val / 176 < cfg1.N := by
    have hN : cfg1.N = 4 := by decide
    have h2 : (i 1).val / 176 < 4 := by omega
    exact lt_of_lt_of_eq h2 hN.symm
  refine ⟨⟨(i 1).val / 176, hlt⟩, ?_⟩
  have e := emb1_6 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 6).blk ⟨(i 1).val / 176, hlt⟩).view.emb)).mpr ⟨ix3 0 ⟨(i 1).val % 176, Nat.mod_lt _ (by decide)⟩ (i 2), Finset.mem_univ _, e.trans hi'.symm⟩

theorem notin1_6 (c : Dev nD) (i : S2x704x1024.Idx) (hi : (i 0).val = 1) (t : Fin cfg1.N) : i ∉ ((cfg1.win 6).blk t).view.set := by
  intro h
  obtain ⟨j, -, e⟩ := (Finset.mem_map (f := ((cfg1.win 6).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_6.index t (0 : Fin 3) * 1 + 1 * (j (0 : Fin 3)).val = (i 0).val := congrArg (fun q : S2x704x1024.Idx => (q 0).val) e
  omega

/-- What the second call's buffer of the second moment holds after a point. -/
theorem afterB7 (c : Dev nD) (t : Fin cfg1.N) : (outsAt1 V c t).2.2.2 = fun j : S1x176x1024.Idx => Adam.square (iblk1 V c 3 t (ix3 0 (j 1) (j 2))) (∑ k : Fin 8, iblk1 V c 0 t (ix3 k (j 1) (j 2)) : EReal) := by
  unfold outsAt1
  dsimp only
  exact funext fun j => outB7_apply c (grid1.coords t) _ _ _ _ _ _ _ _ _ _ _ _ _ _ _ _ (iblk1 V c 0 t) (iblk1 V c 1 t) (iblk1 V c 2 t) (iblk1 V c 3 t) j

/-- What a point of the second call writes back of the second moment is its block of the whole array's function. -/
theorem flushed1_7 (c : Dev nD) (t : Fin cfg1.N) :
    (dat1 V c).flushed 7 t = ((cfg1.win 7).blk t).view.read (Elt Ideal) (G7 (V c main_arg0) (V c main_arg1) (V c main_arg4)) := by
  show (cfg1.win 7).cut (grid1.coords t) ((dat1 V c).after 7 t) = _
  rw [after1_7, afterB7]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 4 := t.isLt
  have hA : t.val * 176 + a.val < 704 := by have := a.isLt; omega
  show Adam.square (iblk1 V c 3 t (ix3 0 a b)) (∑ k : Fin 8, iblk1 V c 0 t (ix3 k a b) : EReal) = (G7 (V c main_arg0) (V c main_arg1) (V c main_arg4)) (((cfg1.win 7).blk t).view.emb (ix3 0 a b))
  rw [emb1_7 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  have e3 := read1_3 V c t a b ⟨t.val * 176 + a.val, hA⟩ rfl
  show Adam.square (iblk1 V c 3 t (ix3 0 a b)) (∑ k : Fin 8, iblk1 V c 0 t (ix3 k a b)) = _
  rw [e0, e3]
  rfl

theorem in1_7 (c : Dev nD) (i : S2x704x1024.Idx) (hi : (i 0).val = 0) : ∃ t : Fin cfg1.N, i ∈ ((cfg1.win 7).blk t).view.set := by
  have h1 : (i 1).val < 704 := (i 1).isLt
  have hlt : (i 1).val / 176 < cfg1.N := by
    have hN : cfg1.N = 4 := by decide
    have h2 : (i 1).val / 176 < 4 := by omega
    exact lt_of_lt_of_eq h2 hN.symm
  refine ⟨⟨(i 1).val / 176, hlt⟩, ?_⟩
  have e := emb1_7 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 7).blk ⟨(i 1).val / 176, hlt⟩).view.emb)).mpr ⟨ix3 0 ⟨(i 1).val % 176, Nat.mod_lt _ (by decide)⟩ (i 2), Finset.mem_univ _, e.trans hi'.symm⟩

theorem notin1_7 (c : Dev nD) (i : S2x704x1024.Idx) (hi : (i 0).val = 1) (t : Fin cfg1.N) : i ∉ ((cfg1.win 7).blk t).view.set := by
  intro h
  obtain ⟨j, -, e⟩ := (Finset.mem_map (f := ((cfg1.win 7).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_7.index t (0 : Fin 3) * 1 + 1 * (j (0 : Fin 3)).val = (i 0).val := congrArg (fun q : S2x704x1024.Idx => (q 0).val) e
  omega

variable (m : (ℓ : Loc nD τ sig) → Buf (Elt Ideal) ℓ) (ρ : Dev nD → PrngReg)

/-- The gradient after both calls. -/
theorem final4 (c : Dev nD) : W3 m ρ c (Proc.devRef .tc main_v1_0) = G4 (m ((c : Thread nD τ).loc main_arg0)) (m ((c : Thread nD τ).loc main_arg1)) := by
  have e1 : G4 (V2 m ρ c main_arg0) (V2 m ρ c main_arg1) = G4 (m ((c : Thread nD τ).loc main_arg0)) (m ((c : Thread nD τ).loc main_arg1)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide)]
  have hc : W2 m ρ c (Proc.devRef .tc main_v1_0) = W1 m ρ c (Proc.devRef .tc main_v0_0) := by
    show StableHlo.after hostOps1 (W1 m ρ c) (Proc.devRef .tc main_v1_0) = _
    after_results_simp
    try rfl
  refine (W3_arr m ρ c 4).trans (funext fun i => ?_)
  have h0 : (i 0).val < 2 := (i 0).isLt
  by_cases hi : (i 0).val = 0
  · obtain ⟨t, ht⟩ := in1_4 c i hi
    exact ((dat1 (V2 m ρ) c).arrAt_apply_of_mem 4 _ (fun t _ => flushed1_4 (V2 m ρ) c t) cfg1.N t i t.isLt (flush1_4 t) ht).trans (congrFun e1 i)
  · have hi1 : (i 0).val = 1 := by omega
    obtain ⟨t, ht⟩ := in0_4 c i hi1
    refine ((dat1 (V2 m ρ) c).arrAt_apply_of_forall_not_mem 4 cfg1.N i fun t _ _ => notin1_4 c i hi1 t).trans ?_
    refine (congrFun ((A_eq1 (V2 m ρ) c 4).trans (hc.trans (W1_arr m ρ c 4))) i).trans ?_
    exact (dat0 (V0 m ρ) c).arrAt_apply_of_mem 4 _ (fun t _ => flushed0_4 (V0 m ρ) c t) cfg0.N t i t.isLt (flush0_4 t) ht

/-- The change of the weight after both calls. -/
theorem final5 (c : Dev nD) : W3 m ρ c (Proc.devRef .tc main_v1_1) = G5 (m ((c : Thread nD τ).loc main_arg0)) (m ((c : Thread nD τ).loc main_arg1)) (m ((c : Thread nD τ).loc main_arg2)) (m ((c : Thread nD τ).loc main_arg3)) (m ((c : Thread nD τ).loc main_arg4)) := by
  have e1 : G5 (V2 m ρ c main_arg0) (V2 m ρ c main_arg1) (V2 m ρ c main_arg2) (V2 m ρ c main_arg3) (V2 m ρ c main_arg4) = G5 (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide), show V2 m ρ c main_arg2 = (m ((c : Thread nD τ).loc main_arg2)) from W2_args m ρ c main_arg2 (by decide), show V2 m ρ c main_arg3 = (m ((c : Thread nD τ).loc main_arg3)) from W2_args m ρ c main_arg3 (by decide), show V2 m ρ c main_arg4 = (m ((c : Thread nD τ).loc main_arg4)) from W2_args m ρ c main_arg4 (by decide)]
  have hc : W2 m ρ c (Proc.devRef .tc main_v1_1) = W1 m ρ c (Proc.devRef .tc main_v0_1) := by
    show StableHlo.after hostOps1 (W1 m ρ c) (Proc.devRef .tc main_v1_1) = _
    after_results_simp
    try rfl
  refine (W3_arr m ρ c 5).trans (funext fun i => ?_)
  have h0 : (i 0).val < 2 := (i 0).isLt
  by_cases hi : (i 0).val = 0
  · obtain ⟨t, ht⟩ := in1_5 c i hi
    exact ((dat1 (V2 m ρ) c).arrAt_apply_of_mem 5 _ (fun t _ => flushed1_5 (V2 m ρ) c t) cfg1.N t i t.isLt (flush1_5 t) ht).trans (congrFun e1 i)
  · have hi1 : (i 0).val = 1 := by omega
    obtain ⟨t, ht⟩ := in0_5 c i hi1
    refine ((dat1 (V2 m ρ) c).arrAt_apply_of_forall_not_mem 5 cfg1.N i fun t _ _ => notin1_5 c i hi1 t).trans ?_
    refine (congrFun ((A_eq1 (V2 m ρ) c 5).trans (hc.trans (W1_arr m ρ c 5))) i).trans ?_
    exact (dat0 (V0 m ρ) c).arrAt_apply_of_mem 5 _ (fun t _ => flushed0_5 (V0 m ρ) c t) cfg0.N t i t.isLt (flush0_5 t) ht

/-- The first moment after both calls. -/
theorem final6 (c : Dev nD) : W3 m ρ c (Proc.devRef .tc main_v1_2) = G6 (m ((c : Thread nD τ).loc main_arg0)) (m ((c : Thread nD τ).loc main_arg1)) (m ((c : Thread nD τ).loc main_arg3)) := by
  have e1 : G6 (V2 m ρ c main_arg0) (V2 m ρ c main_arg1) (V2 m ρ c main_arg3) = G6 (m ((c : Thread nD τ).loc main_arg0)) (m ((c : Thread nD τ).loc main_arg1)) (m ((c : Thread nD τ).loc main_arg3)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide), show V2 m ρ c main_arg3 = (m ((c : Thread nD τ).loc main_arg3)) from W2_args m ρ c main_arg3 (by decide)]
  have hc : W2 m ρ c (Proc.devRef .tc main_v1_2) = W1 m ρ c (Proc.devRef .tc main_v0_2) := by
    show StableHlo.after hostOps1 (W1 m ρ c) (Proc.devRef .tc main_v1_2) = _
    after_results_simp
    try rfl
  refine (W3_arr m ρ c 6).trans (funext fun i => ?_)
  have h0 : (i 0).val < 2 := (i 0).isLt
  by_cases hi : (i 0).val = 0
  · obtain ⟨t, ht⟩ := in1_6 c i hi
    exact ((dat1 (V2 m ρ) c).arrAt_apply_of_mem 6 _ (fun t _ => flushed1_6 (V2 m ρ) c t) cfg1.N t i t.isLt (flush1_6 t) ht).trans (congrFun e1 i)
  · have hi1 : (i 0).val = 1 := by omega
    obtain ⟨t, ht⟩ := in0_6 c i hi1
    refine ((dat1 (V2 m ρ) c).arrAt_apply_of_forall_not_mem 6 cfg1.N i fun t _ _ => notin1_6 c i hi1 t).trans ?_
    refine (congrFun ((A_eq1 (V2 m ρ) c 6).trans (hc.trans (W1_arr m ρ c 6))) i).trans ?_
    exact (dat0 (V0 m ρ) c).arrAt_apply_of_mem 6 _ (fun t _ => flushed0_6 (V0 m ρ) c t) cfg0.N t i t.isLt (flush0_6 t) ht

/-- The second moment after both calls. -/
theorem final7 (c : Dev nD) : W3 m ρ c (Proc.devRef .tc main_v1_3) = G7 (m ((c : Thread nD τ).loc main_arg0)) (m ((c : Thread nD τ).loc main_arg1)) (m ((c : Thread nD τ).loc main_arg4)) := by
  have e1 : G7 (V2 m ρ c main_arg0) (V2 m ρ c main_arg1) (V2 m ρ c main_arg4) = G7 (m ((c : Thread nD τ).loc main_arg0)) (m ((c : Thread nD τ).loc main_arg1)) (m ((c : Thread nD τ).loc main_arg4)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide), show V2 m ρ c main_arg4 = (m ((c : Thread nD τ).loc main_arg4)) from W2_args m ρ c main_arg4 (by decide)]
  have hc : W2 m ρ c (Proc.devRef .tc main_v1_3) = W1 m ρ c (Proc.devRef .tc main_v0_3) := by
    show StableHlo.after hostOps1 (W1 m ρ c) (Proc.devRef .tc main_v1_3) = _
    after_results_simp
    try rfl
  refine (W3_arr m ρ c 7).trans (funext fun i => ?_)
  have h0 : (i 0).val < 2 := (i 0).isLt
  by_cases hi : (i 0).val = 0
  · obtain ⟨t, ht⟩ := in1_7 c i hi
    exact ((dat1 (V2 m ρ) c).arrAt_apply_of_mem 7 _ (fun t _ => flushed1_7 (V2 m ρ) c t) cfg1.N t i t.isLt (flush1_7 t) ht).trans (congrFun e1 i)
  · have hi1 : (i 0).val = 1 := by omega
    obtain ⟨t, ht⟩ := in0_7 c i hi1
    refine ((dat1 (V2 m ρ) c).arrAt_apply_of_forall_not_mem 7 cfg1.N i fun t _ _ => notin1_7 c i hi1 t).trans ?_
    refine (congrFun ((A_eq1 (V2 m ρ) c 7).trans (hc.trans (W1_arr m ρ c 7))) i).trans ?_
    exact (dat0 (V0 m ρ) c).arrAt_apply_of_mem 7 _ (fun t _ => flushed0_7 (V0 m ρ) c t) cfg0.N t i t.isLt (flush0_7 t) ht

set_option backward.isDefEq.respectTransparency.types false in
/-- Every buffer that outlives the run ends at the contents the two calls and the copy between them leave. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: the four results at their functions of the arguments, the arguments unchanged. -/
theorem run : θ_run defs (onTc (τ := τ) (main (F := Ideal))) ⟨m, fun _ => 0, ρ⟩ (fun r => ∀ c : Dev nD,
      r.2.mem ((c.tc : Thread nD τ).loc main_v1_0) = G4 (m ((c : Thread nD τ).loc main_arg0)) (m ((c : Thread nD τ).loc main_arg1))
      ∧ r.2.mem ((c.tc : Thread nD τ).loc main_v1_1) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_2) = G6 (m ((c : Thread nD τ).loc main_arg0)) (m ((c : Thread nD τ).loc main_arg1)) (m ((c : Thread nD τ).loc main_arg3))
      ∧ r.2.mem ((c.tc : Thread nD τ).loc main_v1_3) = G7 (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1_0 (by decide))).trans (final4 m ρ c), (h c _ (mem_uc main_v1_1 (by decide))).trans (final5 m ρ c), (h c _ (mem_uc main_v1_2 (by decide))).trans (final6 m ρ c), (h c _ (mem_uc main_v1_3 (by decide))).trans (final7 m ρ c),
     (h c _ (mem_uc main_arg0 (by decide))).trans (W3_main_arg0 m ρ c), (h c _ (mem_uc main_arg1 (by decide))).trans (W3_main_arg1 m ρ c), (h c _ (mem_uc main_arg2 (by decide))).trans (W3_main_arg2 m ρ c), (h c _ (mem_uc main_arg3 (by decide))).trans (W3_main_arg3 m ρ c), (h c _ (mem_uc main_arg4 (by decide))).trans (W3_main_arg4 m ρ c)⟩) (run_all m ρ)

/-- Layer 0 of the reference's gradient. -/
theorem ref4_0 (x0 x1 : Vec Ideal S8x704x1024 .bf16) (a : Fin 704) (b : Fin 1024) :
    ReferenceAduIdeal.Read.val_main_v6 (F := Ideal) x0 x1 (ix3 0 a b) = ∑ k : Fin 8, x1 (ix3 k a b) := by
  unfold ReferenceAduIdeal.Read.val_main_v6 ReferenceAduIdeal.Read.val_main_v5 ReferenceAduIdeal.Read.val_main_v4 ReferenceAduIdeal.Read.val_main_v3
    ReferenceAduIdeal.Read.val_main_cst_0 ReferenceAduIdeal.Read.val_main_v2 ReferenceAduIdeal.Read.val_main_v1 ReferenceAduIdeal.Read.val_main_cst
    ReferenceAduIdeal.Read.val_main_v0
  pointwise

/-- Layer 1 of the reference's gradient. -/
theorem ref4_1 (x0 x1 : Vec Ideal S8x704x1024 .bf16) (a : Fin 704) (b : Fin 1024) :
    ReferenceAduIdeal.Read.val_main_v6 (F := Ideal) x0 x1 (ix3 1 a b) = ∑ k : Fin 8, x0 (ix3 k a b) := by
  unfold ReferenceAduIdeal.Read.val_main_v6 ReferenceAduIdeal.Read.val_main_v5 ReferenceAduIdeal.Read.val_main_v4 ReferenceAduIdeal.Read.val_main_v3
    ReferenceAduIdeal.Read.val_main_cst_0 ReferenceAduIdeal.Read.val_main_v2 ReferenceAduIdeal.Read.val_main_v1 ReferenceAduIdeal.Read.val_main_cst
    ReferenceAduIdeal.Read.val_main_v0
  pointwise

/-- The reference's gradient. -/
theorem val4_eq (x0 x1 : Vec Ideal S8x704x1024 .bf16) : ReferenceAduIdeal.Read.val_main_v6 (F := Ideal) x0 x1 = G4 x0 x1 := by
  funext j
  obtain ⟨l, a, b, rfl⟩ : ∃ (l : Fin 2) (a : Fin 704) (b : Fin 1024), j = ix3 l a b :=
    ⟨j 0, j 1, j 2, funext fun i => by match i with | ⟨0, _⟩ => rfl | ⟨1, _⟩ => rfl | ⟨2, _⟩ => rfl⟩
  match l with
  | ⟨0, _⟩ => exact ref4_0 x0 x1 a b
  | ⟨1, _⟩ => exact ref4_1 x0 x1 a b

/-- The reference's change of the weight. -/
theorem val5_eq (x0 x1 : Vec Ideal S8x704x1024 .bf16) (x2 x3 x4 : Vec Ideal S2x704x1024 .f32) : ReferenceAduIdeal.Read.val_main_v30 (F := Ideal) x0 x1 x2 x3 x4 = G5 x0 x1 x2 x3 x4 := by
  funext j
  obtain ⟨l, a, b, rfl⟩ : ∃ (l : Fin 2) (a : Fin 704) (b : Fin 1024), j = ix3 l a b :=
    ⟨j 0, j 1, j 2, funext fun i => by match i with | ⟨0, _⟩ => rfl | ⟨1, _⟩ => rfl | ⟨2, _⟩ => rfl⟩
  show _ = Adam.delta (x2 (ix3 l a b)) (G4 x0 x1 (ix3 l a b)) (x3 (ix3 l a b)) (x4 (ix3 l a b))
  unfold ReferenceAduIdeal.Read.val_main_v30 ReferenceAduIdeal.Read.val_main_v29 ReferenceAduIdeal.Read.val_main_cst_9 ReferenceAduIdeal.Read.val_main_v28
    ReferenceAduIdeal.Read.val_main_v27 ReferenceAduIdeal.Read.val_main_v26 ReferenceAduIdeal.Read.val_main_cst_8 ReferenceAduIdeal.Read.val_main_v25
    ReferenceAduIdeal.Read.val_main_v24 ReferenceAduIdeal.Read.val_main_v23 ReferenceAduIdeal.Read.val_main_cst_7 ReferenceAduIdeal.Read.val_main_v22
    ReferenceAduIdeal.Read.val_main_v21 ReferenceAduIdeal.Read.val_main_v20 ReferenceAduIdeal.Read.val_main_cst_6 ReferenceAduIdeal.Read.val_main_v19
    ReferenceAduIdeal.Read.val_main_v18 ReferenceAduIdeal.Read.val_main_cst_5 ReferenceAduIdeal.Read.val_main_v17 ReferenceAduIdeal.Read.val_main_v16
    ReferenceAduIdeal.Read.val_main_v15 ReferenceAduIdeal.Read.val_main_cst_4 ReferenceAduIdeal.Read.val_main_v14 ReferenceAduIdeal.Read.val_main_v13
    ReferenceAduIdeal.Read.val_main_v12 ReferenceAduIdeal.Read.val_main_cst_3 ReferenceAduIdeal.Read.val_main_v11 ReferenceAduIdeal.Read.val_main_v10
    ReferenceAduIdeal.Read.val_main_v9 ReferenceAduIdeal.Read.val_main_cst_2 ReferenceAduIdeal.Read.val_main_v8 ReferenceAduIdeal.Read.val_main_v7
    ReferenceAduIdeal.Read.val_main_cst_1
  rw [val4_eq]
  generalize G4 x0 x1 = y
  unfold Adam.delta Adam.moment Adam.square
  pointwise

/-- The reference's first moment. -/
theorem val6_eq (x0 x1 : Vec Ideal S8x704x1024 .bf16) (x3 : Vec Ideal S2x704x1024 .f32) : ReferenceAduIdeal.Read.val_main_v11 (F := Ideal) x0 x1 x3 = G6 x0 x1 x3 := by
  funext j
  obtain ⟨l, a, b, rfl⟩ : ∃ (l : Fin 2) (a : Fin 704) (b : Fin 1024), j = ix3 l a b :=
    ⟨j 0, j 1, j 2, funext fun i => by match i with | ⟨0, _⟩ => rfl | ⟨1, _⟩ => rfl | ⟨2, _⟩ => rfl⟩
  show _ = Adam.moment (x3 (ix3 l a b)) (G4 x0 x1 (ix3 l a b))
  unfold ReferenceAduIdeal.Read.val_main_v11 ReferenceAduIdeal.Read.val_main_v10 ReferenceAduIdeal.Read.val_main_v9 ReferenceAduIdeal.Read.val_main_cst_2
    ReferenceAduIdeal.Read.val_main_v8 ReferenceAduIdeal.Read.val_main_v7 ReferenceAduIdeal.Read.val_main_cst_1
  rw [val4_eq]
  generalize G4 x0 x1 = y
  unfold Adam.moment
  pointwise

/-- The reference's second moment. -/
theorem val7_eq (x0 x1 : Vec Ideal S8x704x1024 .bf16) (x4 : Vec Ideal S2x704x1024 .f32) : ReferenceAduIdeal.Read.val_main_v17 (F := Ideal) x0 x1 x4 = G7 x0 x1 x4 := by
  funext j
  obtain ⟨l, a, b, rfl⟩ : ∃ (l : Fin 2) (a : Fin 704) (b : Fin 1024), j = ix3 l a b :=
    ⟨j 0, j 1, j 2, funext fun i => by match i with | ⟨0, _⟩ => rfl | ⟨1, _⟩ => rfl | ⟨2, _⟩ => rfl⟩
  show _ = Adam.square (x4 (ix3 l a b)) (G4 x0 x1 (ix3 l a b))
  unfold ReferenceAduIdeal.Read.val_main_v17 ReferenceAduIdeal.Read.val_main_v16 ReferenceAduIdeal.Read.val_main_v15 ReferenceAduIdeal.Read.val_main_cst_4
    ReferenceAduIdeal.Read.val_main_v14 ReferenceAduIdeal.Read.val_main_v13 ReferenceAduIdeal.Read.val_main_v12 ReferenceAduIdeal.Read.val_main_cst_3
  rw [val4_eq]
  generalize G4 x0 x1 = y
  unfold Adam.square
  pointwise

/-- The two programs leave the same four results. -/
theorem algebraic : Cert.algebraic_KernelAduIdeal_ReferenceAduIdeal := by
  intro m g m' g' _ hagree
  refine ⟨_, _, _, _, run m g, ?_⟩
  refine (θ_run _ _ _).mono (fun r h c => ?_) (Cert.ReferenceAduIdeal.Value.run m' g')
  obtain ⟨h0, h1, h2, h3, hk⟩ := h c
  obtain ⟨a0, a1, a2, a3, a4⟩ := hagree c
  refine ⟨?_, ?_, ?_, ?_, hk⟩
  · rw [h0, Cert.ReferenceAduIdeal.Read.val_main_v6_eq, a0, a1]
    exact val4_eq _ _
  · rw [h1, Cert.ReferenceAduIdeal.Read.val_main_v30_eq, a0, a1, a2, a3, a4]
    exact val5_eq _ _ _ _ _
  · rw [h2, Cert.ReferenceAduIdeal.Read.val_main_v11_eq, a0, a1, a3]
    exact val6_eq _ _ _
  · rw [h3, Cert.ReferenceAduIdeal.Read.val_main_v17_eq, a0, a1, a4]
    exact val7_eq _ _ _

end Cert.AduValue

end
-- ==== Proof.Adf.lean ====
/- The AdamW step on the feed-forward network's down-projections of both layers: one call fills layer 1 of the four results, the next one layer 0 over a copy of them. -/
module

public import proofs.«01_k».proof.Proof.Gen.KernelAdfIdeal.Frame
public import proofs.«01_k».proof.Proof.Gen.ReferenceAdfIdeal.Read
public import Idealize.ShloMosaic.Lib.Pointwise
public import proofs.«01_k».proof.Defs
public import proofs.«01_k».proof.Proof.Gen.KernelAdf
public import proofs.«01_k».proof.Proof.Gen.ReferenceAdfIdeal
public import proofs.«01_k».proof.Proof.Adam

@[expose] public section

set_option maxRecDepth 16384

noncomputable section

namespace Cert.AdfValue

open Cert.KernelAdfIdeal Cert.KernelAdfIdeal.Gen
open Idealize.ShloMosaic Idealize.ShloMosaic.TcCoe Idealize.SL.Sem
open Idealize.ShloMosaic.Rounds
open Idealize.SL Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

theorem hz : (![0, 0, 0] : Fin 3 → Nat) = fun _ => 0 := funext fun a => by fin_cases a <;> rfl

/-- The gradient of both layers, the devices' parts summed. -/
def G4 (g1 g0 : Vec Ideal S8x352x1024 .bf16) : Vec Ideal S2x352x1024 .f32 :=
  fun j => ∑ k : Fin 8, (if (j 0).val = 0 then g0 else g1) (ix3 k (j 1) (j 2))

/-- The change of the weight. -/
def G5 (g1 g0 : Vec Ideal S8x352x1024 .bf16) (w m v : Vec Ideal S2x352x1024 .f32) : Vec Ideal S2x352x1024 .f32 :=
  fun j => Adam.delta (w j) (G4 g1 g0 j) (m j) (v j)

/-- The first moment. -/
def G6 (g1 g0 : Vec Ideal S8x352x1024 .bf16) (m : Vec Ideal S2x352x1024 .f32) : Vec Ideal S2x352x1024 .f32 := fun j => Adam.moment (m j) (G4 g1 g0 j)

/-- The second moment. -/
def G7 (g1 g0 : Vec Ideal S8x352x1024 .bf16) (v : Vec Ideal S2x352x1024 .f32) : Vec Ideal S2x352x1024 .f32 := fun j => Adam.square (v j) (G4 g1 g0 j)

/-- What the first call's body leaves of the gradient, at an index. -/
theorem outA4_apply (x0 : Vec Ideal S8x176x1024 .bf16) (x1 x2 x3 : Vec Ideal S1x176x1024 .f32) (j : S1x176x1024.Idx) :
    out0_4 x0 x1 x2 x3 j = (∑ k : Fin 8, x0 (ix3 k (j 1) (j 2)) : EReal) := by
  unfold_out out0_4
  rw [View.canon_unit_zero hz]
  simp only [Fin.sum_univ_eight]
  unfold k0_pay6 k0_pay3
  pointwise

/-- What the first call's body leaves of the change of the weight, at an index. -/
theorem outA5_apply (x0 : Vec Ideal S8x176x1024 .bf16) (x1 x2 x3 : Vec Ideal S1x176x1024 .f32) (j : S1x176x1024.Idx) :
    out0_5 x0 x1 x2 x3 j = Adam.delta (x1 (ix3 0 (j 1) (j 2))) (∑ k : Fin 8, x0 (ix3 k (j 1) (j 2)) : EReal) (x2 (ix3 0 (j 1) (j 2))) (x3 (ix3 0 (j 1) (j 2))) := by
  unfold_out out0_5
  rw [View.canon_unit_zero hz]
  unfold Adam.delta Adam.moment Adam.square
  simp only [Fin.sum_univ_eight]
  unfold k0_pay7 k0_pay5 k0_pay4 k0_pay3
  pointwise

/-- What the first call's body leaves of the first moment, at an index. -/
theorem outA6_apply (x0 : Vec Ideal S8x176x1024 .bf16) (x1 x2 x3 : Vec Ideal S1x176x1024 .f32) (j : S1x176x1024.Idx) :
    out0_6 x0 x1 x2 x3 j = Adam.moment (x2 (ix3 0 (j 1) (j 2))) (∑ k : Fin 8, x0 (ix3 k (j 1) (j 2)) : EReal) := by
  unfold_out out0_6
  rw [View.canon_unit_zero hz]
  unfold Adam.moment
  simp only [Fin.sum_univ_eight]
  unfold k0_pay1 k0_pay4 k0_pay3
  pointwise

/-- What the first call's body leaves of the second moment, at an index. -/
theorem outA7_apply (x0 : Vec Ideal S8x176x1024 .bf16) (x1 x2 x3 : Vec Ideal S1x176x1024 .f32) (j : S1x176x1024.Idx) :
    out0_7 x0 x1 x2 x3 j = Adam.square (x3 (ix3 0 (j 1) (j 2))) (∑ k : Fin 8, x0 (ix3 k (j 1) (j 2)) : EReal) := by
  unfold_out out0_7
  rw [View.canon_unit_zero hz]
  unfold Adam.square
  simp only [Fin.sum_univ_eight]
  unfold k0_pay2 k0_pay5 k0_pay3
  pointwise

/-- What the second call's body leaves of the gradient, at an index. -/
theorem outB4_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_4 c i a1 h1 a2 h2 a3 h3 a4 h4 a9 h9 a10 h10 a11 h11 a12 h12 x0 x1 x2 x3 j = (∑ k : Fin 8, x0 (ix3 k (j 1) (j 2)) : EReal) := by
  unfold out1_A_4
  rw [View.read_writes_junk_eq_canon]
  unfold kernelRun1_A
  dsimp only
  sl_unfold_words
  simp only [View.readAt_eq_ld, h1.read_unread, h2.read_unread, h3.read_unread, h4.read_unread]
  rw [View.canon_unit_zero hz]
  simp only [Fin.sum_univ_eight]
  unfold k1_pay6 k1_pay3
  pointwise

/-- What the second call's body leaves of the change of the weight, at an index. -/
theorem outB5_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_5 c i a1 h1 a2 h2 a3 h3 a4 h4 a9 h9 a10 h10 a11 h11 a12 h12 x0 x1 x2 x3 j = Adam.delta (x1 (ix3 0 (j 1) (j 2))) (∑ k : Fin 8, x0 (ix3 k (j 1) (j 2)) : EReal) (x2 (ix3 0 (j 1) (j 2))) (x3 (ix3 0 (j 1) (j 2))) := by
  unfold out1_A_5
  rw [View.read_writes_junk_eq_canon]
  unfold kernelRun1_A
  dsimp only
  sl_unfold_words
  simp only [View.readAt_eq_ld, h1.read_unread, h2.read_unread, h3.read_unread, h4.read_unread]
  rw [View.canon_unit_zero hz]
  unfold Adam.delta Adam.moment Adam.square
  simp only [Fin.sum_univ_eight]
  unfold k1_pay7 k1_pay5 k1_pay4 k1_pay3
  pointwise

/-- What the second call's body leaves of the first moment, at an index. -/
theorem outB6_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_6 c i a1 h1 a2 h2 a3 h3 a4 h4 a9 h9 a10 h10 a11 h11 a12 h12 x0 x1 x2 x3 j = Adam.moment (x2 (ix3 0 (j 1) (j 2))) (∑ k : Fin 8, x0 (ix3 k (j 1) (j 2)) : EReal) := by
  unfold out1_A_6
  rw [View.read_writes_junk_eq_canon]
  unfold kernelRun1_A
  dsimp only
  sl_unfold_words
  simp only [View.readAt_eq_ld, h1.read_unread, h2.read_unread, h3.read_unread, h4.read_unread]
  rw [View.canon_unit_zero hz]
  unfold Adam.moment
  simp only [Fin.sum_univ_eight]
  unfold k1_pay1 k1_pay4 k1_pay3
  pointwise

/-- What the second call's body leaves of the second moment, at an index. -/
theorem outB7_apply (c : Dev nD) (i : grid1.Coords) (a1 : Memref sig .tc .vmem S8x176x1024 .bf16) (h1 : a1.IsWhole) (a2 : Memref sig .tc .vmem S1x176x1024 .f32) (h2 : a2.IsWhole) (a3 : Memref sig .tc .vmem S1x176x1024 .f32) (h3 : a3.IsWhole) (a4 : Memref sig .tc .vmem S1x176x1024 .f32) (h4 : a4.IsWhole) (a9 : Memref sig .tc .vmem S1x176x1024 .f32) (h9 : a9.IsWhole) (a10 : Memref sig .tc .vmem S1x176x1024 .f32) (h10 : a10.IsWhole) (a11 : Memref sig .tc .vmem S1x176x1024 .f32) (h11 : a11.IsWhole) (a12 : Memref sig .tc .vmem S1x176x1024 .f32) (h12 : a12.IsWhole)
    (x0 : Vec Ideal S8x176x1024 .bf16) (x1 x2 x3 : Vec Ideal S1x176x1024 .f32) (j : S1x176x1024.Idx) :
    out1_A_7 c i a1 h1 a2 h2 a3 h3 a4 h4 a9 h9 a10 h10 a11 h11 a12 h12 x0 x1 x2 x3 j = Adam.square (x3 (ix3 0 (j 1) (j 2))) (∑ k : Fin 8, x0 (ix3 k (j 1) (j 2)) : EReal) := by
  unfold out1_A_7
  rw [View.read_writes_junk_eq_canon]
  unfold kernelRun1_A
  dsimp only
  sl_unfold_words
  simp only [View.readAt_eq_ld, h1.read_unread, h2.read_unread, h3.read_unread, h4.read_unread]
  rw [View.canon_unit_zero hz]
  unfold Adam.square
  simp only [Fin.sum_univ_eight]
  unfold k1_pay2 k1_pay5 k1_pay3
  pointwise

variable (V : (c : Dev nD) → (b : Ref sig .tc) → Buf (Elt Ideal) ((c : Thread nD τ).loc b))

/-- Where the blocks of the first call sit: block `t` is rows `176 t` and on, of layer 1. -/
theorem idx0 : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 1 ∧ win0_2.index t (1 : Fin 3) = t.val ∧ win0_2.index t (2 : Fin 3) = 0)
    ∧ (win0_3.index t (0 : Fin 3) = 1 ∧ win0_3.index t (1 : Fin 3) = t.val ∧ win0_3.index t (2 : Fin 3) = 0)
    ∧ (win0_4.index t (0 : Fin 3) = 1 ∧ win0_4.index t (1 : Fin 3) = t.val ∧ win0_4.index t (2 : Fin 3) = 0)
    ∧ (win0_5.index t (0 : Fin 3) = 1 ∧ win0_5.index t (1 : Fin 3) = t.val ∧ win0_5.index t (2 : Fin 3) = 0)
    ∧ (win0_6.index t (0 : Fin 3) = 1 ∧ win0_6.index t (1 : Fin 3) = t.val ∧ win0_6.index t (2 : Fin 3) = 0)
    ∧ (win0_7.index t (0 : Fin 3) = 1 ∧ win0_7.index t (1 : Fin 3) = t.val ∧ win0_7.index t (2 : Fin 3) = 0) :=
  (by decide +kernel : ∀ t : Fin grid0.N, _)

theorem read0_0 (c : Dev nD) (t : Fin cfg0.N) (k : Fin 8) (a : Fin 176) (b : Fin 1024) (A : Fin 352) (hA : A.val = t.val * 176 + a.val) :
    iblk0 V c 0 t (ix3 k a b) = V c main_arg0 (ix3 k A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg0 (((cfg0.win 0).blk t).view.emb (ix3 k a b)) = _
  refine congrArg _ (funext fun i => Fin.ext ?_)
  match i with
  | ⟨0, _⟩ => show win0_0.index t (0 : Fin 3) * 8 + 1 * k.val = k.val; omega
  | ⟨1, _⟩ => show win0_0.index t (1 : Fin 3) * 176 + 1 * a.val = A.val; omega
  | ⟨2, _⟩ => show win0_0.index t (2 : Fin 3) * 1024 + 1 * b.val = b.val; omega

theorem read0_1 (c : Dev nD) (t : Fin cfg0.N) (a : Fin 176) (b : Fin 1024) (A : Fin 352) (hA : A.val = t.val * 176 + a.val) :
    iblk0 V c 1 t (ix3 0 a b) = V c main_arg2 (ix3 1 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg2 (((cfg0.win 1).blk t).view.emb (ix3 0 a b)) = _
  refine congrArg _ (funext fun i => Fin.ext ?_)
  match i with
  | ⟨0, _⟩ => show win0_1.index t (0 : Fin 3) * 1 + 1 * 0 = 1; omega
  | ⟨1, _⟩ => show win0_1.index t (1 : Fin 3) * 176 + 1 * a.val = A.val; omega
  | ⟨2, _⟩ => show win0_1.index t (2 : Fin 3) * 1024 + 1 * b.val = b.val; omega

theorem read0_2 (c : Dev nD) (t : Fin cfg0.N) (a : Fin 176) (b : Fin 1024) (A : Fin 352) (hA : A.val = t.val * 176 + a.val) :
    iblk0 V c 2 t (ix3 0 a b) = V c main_arg3 (ix3 1 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg3 (((cfg0.win 2).blk t).view.emb (ix3 0 a b)) = _
  refine congrArg _ (funext fun i => Fin.ext ?_)
  match i with
  | ⟨0, _⟩ => show win0_2.index t (0 : Fin 3) * 1 + 1 * 0 = 1; omega
  | ⟨1, _⟩ => show win0_2.index t (1 : Fin 3) * 176 + 1 * a.val = A.val; omega
  | ⟨2, _⟩ => show win0_2.index t (2 : Fin 3) * 1024 + 1 * b.val = b.val; omega

theorem read0_3 (c : Dev nD) (t : Fin cfg0.N) (a : Fin 176) (b : Fin 1024) (A : Fin 352) (hA : A.val = t.val * 176 + a.val) :
    iblk0 V c 3 t (ix3 0 a b) = V c main_arg4 (ix3 1 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  show V c main_arg4 (((cfg0.win 3).blk t).view.emb (ix3 0 a b)) = _
  refine congrArg _ (funext fun i => Fin.ext ?_)
  match i with
  | ⟨0, _⟩ => show win0_3.index t (0 : Fin 3) * 1 + 1 * 0 = 1; omega
  | ⟨1, _⟩ => show win0_3.index t (1 : Fin 3) * 176 + 1 * a.val = A.val; omega
  | ⟨2, _⟩ => show win0_3.index t (2 : Fin 3) * 1024 + 1 * b.val = b.val; omega

theorem emb0_4 (t : Fin cfg0.N) (a : Fin 176) (b : Fin 1024) (A : Fin 352) (hA : A.val = t.val * 176 + a.val) :
    ((cfg0.win 4).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_4.index t (0 : Fin 3) * 1 + 1 * 0 = 1; omega
  | ⟨1, _⟩ => show win0_4.index t (1 : Fin 3) * 176 + 1 * a.val = A.val; omega
  | ⟨2, _⟩ => show win0_4.index t (2 : Fin 3) * 1024 + 1 * b.val = b.val; omega

theorem emb0_5 (t : Fin cfg0.N) (a : Fin 176) (b : Fin 1024) (A : Fin 352) (hA : A.val = t.val * 176 + a.val) :
    ((cfg0.win 5).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_5.index t (0 : Fin 3) * 1 + 1 * 0 = 1; omega
  | ⟨1, _⟩ => show win0_5.index t (1 : Fin 3) * 176 + 1 * a.val = A.val; omega
  | ⟨2, _⟩ => show win0_5.index t (2 : Fin 3) * 1024 + 1 * b.val = b.val; omega

theorem emb0_6 (t : Fin cfg0.N) (a : Fin 176) (b : Fin 1024) (A : Fin 352) (hA : A.val = t.val * 176 + a.val) :
    ((cfg0.win 6).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_6.index t (0 : Fin 3) * 1 + 1 * 0 = 1; omega
  | ⟨1, _⟩ => show win0_6.index t (1 : Fin 3) * 176 + 1 * a.val = A.val; omega
  | ⟨2, _⟩ => show win0_6.index t (2 : Fin 3) * 1024 + 1 * b.val = b.val; omega

theorem emb0_7 (t : Fin cfg0.N) (a : Fin 176) (b : Fin 1024) (A : Fin 352) (hA : A.val = t.val * 176 + a.val) :
    ((cfg0.win 7).blk t).view.emb (ix3 0 a b) = ix3 1 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx0 t
  refine funext fun i => Fin.ext ?_
  match i with
  | ⟨0, _⟩ => show win0_7.index t (0 : Fin 3) * 1 + 1 * 0 = 1; omega
  | ⟨1, _⟩ => show win0_7.index t (1 : Fin 3) * 176 + 1 * a.val = A.val; omega
  | ⟨2, _⟩ => show win0_7.index t (2 : Fin 3) * 1024 + 1 * b.val = b.val; omega

/-- What a point of the first call writes back of the gradient is its block of the whole array's function. -/
theorem flushed0_4 (c : Dev nD) (t : Fin cfg0.N) :
    (dat0 V c).flushed 4 t = ((cfg0.win 4).blk t).view.read (Elt Ideal) (G4 (V c main_arg0) (V c main_arg1)) := by
  show (cfg0.win 4).cut (grid0.coords t) ((dat0 V c).after 4 t) = _
  rw [after0_4]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show out0_4 (iblk0 V c 0 t) (iblk0 V c 1 t) (iblk0 V c 2 t) (iblk0 V c 3 t) (ix3 0 a b) = (G4 (V c main_arg0) (V c main_arg1)) (((cfg0.win 4).blk t).view.emb (ix3 0 a b))
  rw [outA4_apply, emb0_4 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  exact e0

theorem in0_4 (c : Dev nD) (i : S2x352x1024.Idx) (hi : (i 0).val = 1) : ∃ t : Fin cfg0.N, i ∈ ((cfg0.win 4).blk t).view.set := by
  have h1 : (i 1).val < 352 := (i 1).isLt
  have hlt : (i 1).val / 176 < cfg0.N := by
    have hN : cfg0.N = 2 := by decide
    have h2 : (i 1).val / 176 < 2 := by omega
    exact lt_of_lt_of_eq h2 hN.symm
  refine ⟨⟨(i 1).val / 176, hlt⟩, ?_⟩
  have e := emb0_4 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 4).blk ⟨(i 1).val / 176, hlt⟩).view.emb)).mpr ⟨ix3 0 ⟨(i 1).val % 176, Nat.mod_lt _ (by decide)⟩ (i 2), Finset.mem_univ _, e.trans hi'.symm⟩

/-- What a point of the first call writes back of the change of the weight is its block of the whole array's function. -/
theorem flushed0_5 (c : Dev nD) (t : Fin cfg0.N) :
    (dat0 V c).flushed 5 t = ((cfg0.win 5).blk t).view.read (Elt Ideal) (G5 (V c main_arg0) (V c main_arg1) (V c main_arg2) (V c main_arg3) (V c main_arg4)) := by
  show (cfg0.win 5).cut (grid0.coords t) ((dat0 V c).after 5 t) = _
  rw [after0_5]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show out0_5 (iblk0 V c 0 t) (iblk0 V c 1 t) (iblk0 V c 2 t) (iblk0 V c 3 t) (ix3 0 a b) = (G5 (V c main_arg0) (V c main_arg1) (V c main_arg2) (V c main_arg3) (V c main_arg4)) (((cfg0.win 5).blk t).view.emb (ix3 0 a b))
  rw [outA5_apply, emb0_5 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  have e1 := read0_1 V c t a b ⟨t.val * 176 + a.val, hA⟩ rfl
  have e2 := read0_2 V c t a b ⟨t.val * 176 + a.val, hA⟩ rfl
  have e3 := read0_3 V c t a b ⟨t.val * 176 + a.val, hA⟩ rfl
  show Adam.delta (iblk0 V c 1 t (ix3 0 a b)) (∑ k : Fin 8, iblk0 V c 0 t (ix3 k a b)) (iblk0 V c 2 t (ix3 0 a b)) (iblk0 V c 3 t (ix3 0 a b)) = _
  rw [e0, e1, e2, e3]
  rfl

theorem in0_5 (c : Dev nD) (i : S2x352x1024.Idx) (hi : (i 0).val = 1) : ∃ t : Fin cfg0.N, i ∈ ((cfg0.win 5).blk t).view.set := by
  have h1 : (i 1).val < 352 := (i 1).isLt
  have hlt : (i 1).val / 176 < cfg0.N := by
    have hN : cfg0.N = 2 := by decide
    have h2 : (i 1).val / 176 < 2 := by omega
    exact lt_of_lt_of_eq h2 hN.symm
  refine ⟨⟨(i 1).val / 176, hlt⟩, ?_⟩
  have e := emb0_5 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 5).blk ⟨(i 1).val / 176, hlt⟩).view.emb)).mpr ⟨ix3 0 ⟨(i 1).val % 176, Nat.mod_lt _ (by decide)⟩ (i 2), Finset.mem_univ _, e.trans hi'.symm⟩

/-- What a point of the first call writes back of the first moment is its block of the whole array's function. -/
theorem flushed0_6 (c : Dev nD) (t : Fin cfg0.N) :
    (dat0 V c).flushed 6 t = ((cfg0.win 6).blk t).view.read (Elt Ideal) (G6 (V c main_arg0) (V c main_arg1) (V c main_arg3)) := by
  show (cfg0.win 6).cut (grid0.coords t) ((dat0 V c).after 6 t) = _
  rw [after0_6]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show out0_6 (iblk0 V c 0 t) (iblk0 V c 1 t) (iblk0 V c 2 t) (iblk0 V c 3 t) (ix3 0 a b) = (G6 (V c main_arg0) (V c main_arg1) (V c main_arg3)) (((cfg0.win 6).blk t).view.emb (ix3 0 a b))
  rw [outA6_apply, emb0_6 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  have e2 := read0_2 V c t a b ⟨t.val * 176 + a.val, hA⟩ rfl
  show Adam.moment (iblk0 V c 2 t (ix3 0 a b)) (∑ k : Fin 8, iblk0 V c 0 t (ix3 k a b)) = _
  rw [e0, e2]
  rfl

theorem in0_6 (c : Dev nD) (i : S2x352x1024.Idx) (hi : (i 0).val = 1) : ∃ t : Fin cfg0.N, i ∈ ((cfg0.win 6).blk t).view.set := by
  have h1 : (i 1).val < 352 := (i 1).isLt
  have hlt : (i 1).val / 176 < cfg0.N := by
    have hN : cfg0.N = 2 := by decide
    have h2 : (i 1).val / 176 < 2 := by omega
    exact lt_of_lt_of_eq h2 hN.symm
  refine ⟨⟨(i 1).val / 176, hlt⟩, ?_⟩
  have e := emb0_6 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 6).blk ⟨(i 1).val / 176, hlt⟩).view.emb)).mpr ⟨ix3 0 ⟨(i 1).val % 176, Nat.mod_lt _ (by decide)⟩ (i 2), Finset.mem_univ _, e.trans hi'.symm⟩

/-- What a point of the first call writes back of the second moment is its block of the whole array's function. -/
theorem flushed0_7 (c : Dev nD) (t : Fin cfg0.N) :
    (dat0 V c).flushed 7 t = ((cfg0.win 7).blk t).view.read (Elt Ideal) (G7 (V c main_arg0) (V c main_arg1) (V c main_arg4)) := by
  show (cfg0.win 7).cut (grid0.coords t) ((dat0 V c).after 7 t) = _
  rw [after0_7]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show out0_7 (iblk0 V c 0 t) (iblk0 V c 1 t) (iblk0 V c 2 t) (iblk0 V c 3 t) (ix3 0 a b) = (G7 (V c main_arg0) (V c main_arg1) (V c main_arg4)) (((cfg0.win 7).blk t).view.emb (ix3 0 a b))
  rw [outA7_apply, emb0_7 t a b ⟨t.val * 176 + a.val, hA⟩ rfl]
  have e0 : (∑ k : Fin 8, iblk0 V c 0 t (ix3 k a b) : EReal) = G4 (V c main_arg0) (V c main_arg1) (ix3 1 ⟨t.val * 176 + a.val, hA⟩ b) :=
    Finset.sum_congr rfl fun k _ => read0_0 V c t k a b ⟨t.val * 176 + a.val, hA⟩ rfl
  have e3 := read0_3 V c t a b ⟨t.val * 176 + a.val, hA⟩ rfl
  show Adam.square (iblk0 V c 3 t (ix3 0 a b)) (∑ k : Fin 8, iblk0 V c 0 t (ix3 k a b)) = _
  rw [e0, e3]
  rfl

theorem in0_7 (c : Dev nD) (i : S2x352x1024.Idx) (hi : (i 0).val = 1) : ∃ t : Fin cfg0.N, i ∈ ((cfg0.win 7).blk t).view.set := by
  have h1 : (i 1).val < 352 := (i 1).isLt
  have hlt : (i 1).val / 176 < cfg0.N := by
    have hN : cfg0.N = 2 := by decide
    have h2 : (i 1).val / 176 < 2 := by omega
    exact lt_of_lt_of_eq h2 hN.symm
  refine ⟨⟨(i 1).val / 176, hlt⟩, ?_⟩
  have e := emb0_7 ⟨(i 1).val / 176, hlt⟩ ⟨(i 1).val % 176, Nat.mod_lt _ (by decide)⟩ (i 2) (i 1) (by show (i 1).val = (i 1).val / 176 * 176 + (i 1).val % 176; omega)
  have hi' : i = ix3 1 (i 1) (i 2) := funext fun q => by match q with | ⟨0, _⟩ => exact Fin.ext hi | ⟨1, _⟩ => rfl | ⟨2, _⟩ => rfl
  exact (Finset.mem_map (f := ((cfg0.win 7).blk ⟨(i 1).val / 176, hlt⟩).view.emb)).mpr ⟨ix3 0 ⟨(i 1).val % 176, Nat.mod_lt _ (by decide)⟩ (i 2), Finset.mem_univ _, e.trans hi'.symm⟩

/-- Where the blocks of the second call sit: block `t` is rows `176 t` and on, of layer 0. -/
theorem idx1 : ∀ t : Fin cfg1.N, (win1_0.index t (0 : Fin 3) = 0 ∧ win1_0.index t (1 : Fin 3) = t.val ∧ win1_0.index t (2 : Fin 3) = 0)
    ∧ (win1_1.index t (0 : Fin 3) = 0 ∧ win1_1.index t (1 : Fin 3) = t.val ∧ win1_1.index t (2 : Fin 3) = 0)
    ∧ (win1_2.index t (0 : Fin 3) = 0 ∧ win1_2.index t (1 : Fin 3) = t.val ∧ win1_2.index t (2 : Fin 3) = 0)
    ∧ (win1_3.index t (0 : Fin 3) = 0 ∧ win1_3.index t (1 : Fin 3) = t.val ∧ win1_3.index t (2 : Fin 3) = 0)
    ∧ (win1_4.index t (0 : Fin 3) = 0 ∧ win1_4.index t (1 : Fin 3) = t.val ∧ win1_4.index t (2 : Fin 3) = 0)
    ∧ (win1_5.index t (0 : Fin 3) = 0 ∧ win1_5.index t (1 : Fin 3) = t.val ∧ win1_5.index t (2 : Fin 3) = 0)
    ∧ (win1_6.index t (0 : Fin 3) = 0 ∧ win1_6.index t (1 : Fin 3) = t.val ∧ win1_6.index t (2 : Fin 3) = 0)
    ∧ (win1_7.index t (0 : Fin 3) = 0 ∧ win1_7.index t (1 : Fin 3) = t.val ∧ win1_7.index t (2 : Fin 3) = 0) :=
  (by decide +kernel : ∀ t : Fin grid1.N, _)

theorem read1_0 (c : Dev nD) (t : Fin cfg1.N) (k : Fin 8) (a : Fin 176) (b : Fin 1024) (A : Fin 352) (hA : A.val = t.val * 176 + a.val) :
    iblk1 V c 0 t (ix3 k a b) = V c main_arg1 (ix3 k A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg1 (((cfg1.win 0).blk t).view.emb (ix3 k a b)) = _
  refine congrArg _ (funext fun i => Fin.ext ?_)
  match i with
  | ⟨0, _⟩ => show win1_0.index t (0 : Fin 3) * 8 + 1 * k.val = k.val; omega
  | ⟨1, _⟩ => show win1_0.index t (1 : Fin 3) * 176 + 1 * a.val = A.val; omega
  | ⟨2, _⟩ => show win1_0.index t (2 : Fin 3) * 1024 + 1 * b.val = b.val; omega

theorem read1_1 (c : Dev nD) (t : Fin cfg1.N) (a : Fin 176) (b : Fin 1024) (A : Fin 352) (hA : A.val = t.val * 176 + a.val) :
    iblk1 V c 1 t (ix3 0 a b) = V c main_arg2 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg2 (((cfg1.win 1).blk t).view.emb (ix3 0 a b)) = _
  refine congrArg _ (funext fun i => Fin.ext ?_)
  match i with
  | ⟨0, _⟩ => show win1_1.index t (0 : Fin 3) * 1 + 1 * 0 = 0; omega
  | ⟨1, _⟩ => show win1_1.index t (1 : Fin 3) * 176 + 1 * a.val = A.val; omega
  | ⟨2, _⟩ => show win1_1.index t (2 : Fin 3) * 1024 + 1 * b.val = b.val; omega

theorem read1_2 (c : Dev nD) (t : Fin cfg1.N) (a : Fin 176) (b : Fin 1024) (A : Fin 352) (hA : A.val = t.val * 176 + a.val) :
    iblk1 V c 2 t (ix3 0 a b) = V c main_arg3 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg3 (((cfg1.win 2).blk t).view.emb (ix3 0 a b)) = _
  refine congrArg _ (funext fun i => Fin.ext ?_)
  match i with
  | ⟨0, _⟩ => show win1_2.index t (0 : Fin 3) * 1 + 1 * 0 = 0; omega
  | ⟨1, _⟩ => show win1_2.index t (1 : Fin 3) * 176 + 1 * a.val = A.val; omega
  | ⟨2, _⟩ => show win1_2.index t (2 : Fin 3) * 1024 + 1 * b.val = b.val; omega

theorem read1_3 (c : Dev nD) (t : Fin cfg1.N) (a : Fin 176) (b : Fin 1024) (A : Fin 352) (hA : A.val = t.val * 176 + a.val) :
    iblk1 V c 3 t (ix3 0 a b) = V c main_arg4 (ix3 0 A b) := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  show V c main_arg4 (((cfg1.win 3).blk t).view.emb (ix3 0 a b)) = _
  refine congrArg _ (funext fun i => Fin.ext ?_)
  match i with
  | ⟨0, _⟩ => show win1_3.index t (0 : Fin 3) * 1 + 1 * 0 = 0; omega
  | ⟨1, _⟩ => show win1_3.index t (1 : Fin 3) * 176 + 1 * a.val = A.val; omega
  | ⟨2, _⟩ => show win1_3.index t (2 : Fin 3) * 1024 + 1 * b.val = b.val; omega

theorem emb1_4 (t : Fin cfg1.N) (a : Fin 176) (b : Fin 1024) (A : Fin 352) (hA : A.val = t.val * 176 + a.val) :
    ((cfg1.win 4).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_4.index t (0 : Fin 3) * 1 + 1 * 0 = 0; omega
  | ⟨1, _⟩ => show win1_4.index t (1 : Fin 3) * 176 + 1 * a.val = A.val; omega
  | ⟨2, _⟩ => show win1_4.index t (2 : Fin 3) * 1024 + 1 * b.val = b.val; omega

theorem emb1_5 (t : Fin cfg1.N) (a : Fin 176) (b : Fin 1024) (A : Fin 352) (hA : A.val = t.val * 176 + a.val) :
    ((cfg1.win 5).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_5.index t (0 : Fin 3) * 1 + 1 * 0 = 0; omega
  | ⟨1, _⟩ => show win1_5.index t (1 : Fin 3) * 176 + 1 * a.val = A.val; omega
  | ⟨2, _⟩ => show win1_5.index t (2 : Fin 3) * 1024 + 1 * b.val = b.val; omega

theorem emb1_6 (t : Fin cfg1.N) (a : Fin 176) (b : Fin 1024) (A : Fin 352) (hA : A.val = t.val * 176 + a.val) :
    ((cfg1.win 6).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_6.index t (0 : Fin 3) * 1 + 1 * 0 = 0; omega
  | ⟨1, _⟩ => show win1_6.index t (1 : Fin 3) * 176 + 1 * a.val = A.val; omega
  | ⟨2, _⟩ => show win1_6.index t (2 : Fin 3) * 1024 + 1 * b.val = b.val; omega

theorem emb1_7 (t : Fin cfg1.N) (a : Fin 176) (b : Fin 1024) (A : Fin 352) (hA : A.val = t.val * 176 + a.val) :
    ((cfg1.win 7).blk t).view.emb (ix3 0 a b) = ix3 0 A b := by
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  refine funext fun i => Fin.ext ?_
  match i with
  | ⟨0, _⟩ => show win1_7.index t (0 : Fin 3) * 1 + 1 * 0 = 0; omega
  | ⟨1, _⟩ => show win1_7.index t (1 : Fin 3) * 176 + 1 * a.val = A.val; omega
  | ⟨2, _⟩ => show win1_7.index t (2 : Fin 3) * 1024 + 1 * b.val = b.val; omega

/-- What the second call's buffer of the gradient holds after a point. -/
theorem afterB4 (c : Dev nD) (t : Fin cfg1.N) : (outsAt1 V c t).1 = fun j : S1x176x1024.Idx => (∑ k : Fin 8, iblk1 V c 0 t (ix3 k (j 1) (j 2)) : EReal) := by
  unfold outsAt1
  dsimp only
  exact funext fun j => outB4_apply c (grid1.coords t) _ _ _ _ _ _ _ _ _ _ _ _ _ _ _ _ (iblk1 V c 0 t) (iblk1 V c 1 t) (iblk1 V c 2 t) (iblk1 V c 3 t) j

/-- What a point of the second call writes back of the gradient is its block of the whole array's function. -/
theorem flushed1_4 (c : Dev nD) (t : Fin cfg1.N) :
    (dat1 V c).flushed 4 t = ((cfg1.win 4).blk t).view.read (Elt Ideal) (G4 (V c main_arg0) (V c main_arg1)) := by
  show (cfg1.win 4).cut (grid1.coords t) ((dat1 V c).after 4 t) = _
  rw [after1_4, afterB4]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show (∑ k : Fin 8, iblk1 V c 0 t (ix3 k a b) : EReal) = (G4 (V c main_arg0) (V c main_arg1)) (((cfg1.win 4).blk t).view.emb (ix3 0 a b))
  rw [emb1_4 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  exact e0

theorem in1_4 (c : Dev nD) (i : S2x352x1024.Idx) (hi : (i 0).val = 0) : ∃ t : Fin cfg1.N, i ∈ ((cfg1.win 4).blk t).view.set := by
  have h1 : (i 1).val < 352 := (i 1).isLt
  have hlt : (i 1).val / 176 < cfg1.N := by
    have hN : cfg1.N = 2 := by decide
    have h2 : (i 1).val / 176 < 2 := by omega
    exact lt_of_lt_of_eq h2 hN.symm
  refine ⟨⟨(i 1).val / 176, hlt⟩, ?_⟩
  have e := emb1_4 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 4).blk ⟨(i 1).val / 176, hlt⟩).view.emb)).mpr ⟨ix3 0 ⟨(i 1).val % 176, Nat.mod_lt _ (by decide)⟩ (i 2), Finset.mem_univ _, e.trans hi'.symm⟩

theorem notin1_4 (c : Dev nD) (i : S2x352x1024.Idx) (hi : (i 0).val = 1) (t : Fin cfg1.N) : i ∉ ((cfg1.win 4).blk t).view.set := by
  intro h
  obtain ⟨j, -, e⟩ := (Finset.mem_map (f := ((cfg1.win 4).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_4.index t (0 : Fin 3) * 1 + 1 * (j (0 : Fin 3)).val = (i 0).val := congrArg (fun q : S2x352x1024.Idx => (q 0).val) e
  omega

/-- What the second call's buffer of the change of the weight holds after a point. -/
theorem afterB5 (c : Dev nD) (t : Fin cfg1.N) : (outsAt1 V c t).2.1 = fun j : S1x176x1024.Idx => Adam.delta (iblk1 V c 1 t (ix3 0 (j 1) (j 2))) (∑ k : Fin 8, iblk1 V c 0 t (ix3 k (j 1) (j 2)) : EReal) (iblk1 V c 2 t (ix3 0 (j 1) (j 2))) (iblk1 V c 3 t (ix3 0 (j 1) (j 2))) := by
  unfold outsAt1
  dsimp only
  exact funext fun j => outB5_apply c (grid1.coords t) _ _ _ _ _ _ _ _ _ _ _ _ _ _ _ _ (iblk1 V c 0 t) (iblk1 V c 1 t) (iblk1 V c 2 t) (iblk1 V c 3 t) j

/-- What a point of the second call writes back of the change of the weight is its block of the whole array's function. -/
theorem flushed1_5 (c : Dev nD) (t : Fin cfg1.N) :
    (dat1 V c).flushed 5 t = ((cfg1.win 5).blk t).view.read (Elt Ideal) (G5 (V c main_arg0) (V c main_arg1) (V c main_arg2) (V c main_arg3) (V c main_arg4)) := by
  show (cfg1.win 5).cut (grid1.coords t) ((dat1 V c).after 5 t) = _
  rw [after1_5, afterB5]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show Adam.delta (iblk1 V c 1 t (ix3 0 a b)) (∑ k : Fin 8, iblk1 V c 0 t (ix3 k a b) : EReal) (iblk1 V c 2 t (ix3 0 a b)) (iblk1 V c 3 t (ix3 0 a b)) = (G5 (V c main_arg0) (V c main_arg1) (V c main_arg2) (V c main_arg3) (V c main_arg4)) (((cfg1.win 5).blk t).view.emb (ix3 0 a b))
  rw [emb1_5 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  have e1 := read1_1 V c t a b ⟨t.val * 176 + a.val, hA⟩ rfl
  have e2 := read1_2 V c t a b ⟨t.val * 176 + a.val, hA⟩ rfl
  have e3 := read1_3 V c t a b ⟨t.val * 176 + a.val, hA⟩ rfl
  show Adam.delta (iblk1 V c 1 t (ix3 0 a b)) (∑ k : Fin 8, iblk1 V c 0 t (ix3 k a b)) (iblk1 V c 2 t (ix3 0 a b)) (iblk1 V c 3 t (ix3 0 a b)) = _
  rw [e0, e1, e2, e3]
  rfl

theorem in1_5 (c : Dev nD) (i : S2x352x1024.Idx) (hi : (i 0).val = 0) : ∃ t : Fin cfg1.N, i ∈ ((cfg1.win 5).blk t).view.set := by
  have h1 : (i 1).val < 352 := (i 1).isLt
  have hlt : (i 1).val / 176 < cfg1.N := by
    have hN : cfg1.N = 2 := by decide
    have h2 : (i 1).val / 176 < 2 := by omega
    exact lt_of_lt_of_eq h2 hN.symm
  refine ⟨⟨(i 1).val / 176, hlt⟩, ?_⟩
  have e := emb1_5 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 5).blk ⟨(i 1).val / 176, hlt⟩).view.emb)).mpr ⟨ix3 0 ⟨(i 1).val % 176, Nat.mod_lt _ (by decide)⟩ (i 2), Finset.mem_univ _, e.trans hi'.symm⟩

theorem notin1_5 (c : Dev nD) (i : S2x352x1024.Idx) (hi : (i 0).val = 1) (t : Fin cfg1.N) : i ∉ ((cfg1.win 5).blk t).view.set := by
  intro h
  obtain ⟨j, -, e⟩ := (Finset.mem_map (f := ((cfg1.win 5).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_5.index t (0 : Fin 3) * 1 + 1 * (j (0 : Fin 3)).val = (i 0).val := congrArg (fun q : S2x352x1024.Idx => (q 0).val) e
  omega

/-- What the second call's buffer of the first moment holds after a point. -/
theorem afterB6 (c : Dev nD) (t : Fin cfg1.N) : (outsAt1 V c t).2.2.1 = fun j : S1x176x1024.Idx => Adam.moment (iblk1 V c 2 t (ix3 0 (j 1) (j 2))) (∑ k : Fin 8, iblk1 V c 0 t (ix3 k (j 1) (j 2)) : EReal) := by
  unfold outsAt1
  dsimp only
  exact funext fun j => outB6_apply c (grid1.coords t) _ _ _ _ _ _ _ _ _ _ _ _ _ _ _ _ (iblk1 V c 0 t) (iblk1 V c 1 t) (iblk1 V c 2 t) (iblk1 V c 3 t) j

/-- What a point of the second call writes back of the first moment is its block of the whole array's function. -/
theorem flushed1_6 (c : Dev nD) (t : Fin cfg1.N) :
    (dat1 V c).flushed 6 t = ((cfg1.win 6).blk t).view.read (Elt Ideal) (G6 (V c main_arg0) (V c main_arg1) (V c main_arg3)) := by
  show (cfg1.win 6).cut (grid1.coords t) ((dat1 V c).after 6 t) = _
  rw [after1_6, afterB6]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show Adam.moment (iblk1 V c 2 t (ix3 0 a b)) (∑ k : Fin 8, iblk1 V c 0 t (ix3 k a b) : EReal) = (G6 (V c main_arg0) (V c main_arg1) (V c main_arg3)) (((cfg1.win 6).blk t).view.emb (ix3 0 a b))
  rw [emb1_6 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  have e2 := read1_2 V c t a b ⟨t.val * 176 + a.val, hA⟩ rfl
  show Adam.moment (iblk1 V c 2 t (ix3 0 a b)) (∑ k : Fin 8, iblk1 V c 0 t (ix3 k a b)) = _
  rw [e0, e2]
  rfl

theorem in1_6 (c : Dev nD) (i : S2x352x1024.Idx) (hi : (i 0).val = 0) : ∃ t : Fin cfg1.N, i ∈ ((cfg1.win 6).blk t).view.set := by
  have h1 : (i 1).val < 352 := (i 1).isLt
  have hlt : (i 1).val / 176 < cfg1.N := by
    have hN : cfg1.N = 2 := by decide
    have h2 : (i 1).val / 176 < 2 := by omega
    exact lt_of_lt_of_eq h2 hN.symm
  refine ⟨⟨(i 1).val / 176, hlt⟩, ?_⟩
  have e := emb1_6 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 6).blk ⟨(i 1).val / 176, hlt⟩).view.emb)).mpr ⟨ix3 0 ⟨(i 1).val % 176, Nat.mod_lt _ (by decide)⟩ (i 2), Finset.mem_univ _, e.trans hi'.symm⟩

theorem notin1_6 (c : Dev nD) (i : S2x352x1024.Idx) (hi : (i 0).val = 1) (t : Fin cfg1.N) : i ∉ ((cfg1.win 6).blk t).view.set := by
  intro h
  obtain ⟨j, -, e⟩ := (Finset.mem_map (f := ((cfg1.win 6).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_6.index t (0 : Fin 3) * 1 + 1 * (j (0 : Fin 3)).val = (i 0).val := congrArg (fun q : S2x352x1024.Idx => (q 0).val) e
  omega

/-- What the second call's buffer of the second moment holds after a point. -/
theorem afterB7 (c : Dev nD) (t : Fin cfg1.N) : (outsAt1 V c t).2.2.2 = fun j : S1x176x1024.Idx => Adam.square (iblk1 V c 3 t (ix3 0 (j 1) (j 2))) (∑ k : Fin 8, iblk1 V c 0 t (ix3 k (j 1) (j 2)) : EReal) := by
  unfold outsAt1
  dsimp only
  exact funext fun j => outB7_apply c (grid1.coords t) _ _ _ _ _ _ _ _ _ _ _ _ _ _ _ _ (iblk1 V c 0 t) (iblk1 V c 1 t) (iblk1 V c 2 t) (iblk1 V c 3 t) j

/-- What a point of the second call writes back of the second moment is its block of the whole array's function. -/
theorem flushed1_7 (c : Dev nD) (t : Fin cfg1.N) :
    (dat1 V c).flushed 7 t = ((cfg1.win 7).blk t).view.read (Elt Ideal) (G7 (V c main_arg0) (V c main_arg1) (V c main_arg4)) := by
  show (cfg1.win 7).cut (grid1.coords t) ((dat1 V c).after 7 t) = _
  rw [after1_7, afterB7]
  funext j
  obtain ⟨a, b, rfl⟩ : ∃ (a : Fin 176) (b : Fin 1024), j = ix3 0 a b :=
    ⟨j 1, j 2, funext fun i => by match i with | ⟨0, _⟩ => exact Subsingleton.elim (α := Fin 1) _ _ | ⟨1, _⟩ => rfl | ⟨2, _⟩ => rfl⟩
  have ht : t.val < 2 := t.isLt
  have hA : t.val * 176 + a.val < 352 := by have := a.isLt; omega
  show Adam.square (iblk1 V c 3 t (ix3 0 a b)) (∑ k : Fin 8, iblk1 V c 0 t (ix3 k a b) : EReal) = (G7 (V c main_arg0) (V c main_arg1) (V c main_arg4)) (((cfg1.win 7).blk t).view.emb (ix3 0 a b))
  rw [emb1_7 t a b ⟨t.val * 176 + a.val, hA⟩ rfl]
  have e0 : (∑ k : Fin 8, iblk1 V c 0 t (ix3 k a b) : EReal) = G4 (V c main_arg0) (V c main_arg1) (ix3 0 ⟨t.val * 176 + a.val, hA⟩ b) :=
    Finset.sum_congr rfl fun k _ => read1_0 V c t k a b ⟨t.val * 176 + a.val, hA⟩ rfl
  have e3 := read1_3 V c t a b ⟨t.val * 176 + a.val, hA⟩ rfl
  show Adam.square (iblk1 V c 3 t (ix3 0 a b)) (∑ k : Fin 8, iblk1 V c 0 t (ix3 k a b)) = _
  rw [e0, e3]
  rfl

theorem in1_7 (c : Dev nD) (i : S2x352x1024.Idx) (hi : (i 0).val = 0) : ∃ t : Fin cfg1.N, i ∈ ((cfg1.win 7).blk t).view.set := by
  have h1 : (i 1).val < 352 := (i 1).isLt
  have hlt : (i 1).val / 176 < cfg1.N := by
    have hN : cfg1.N = 2 := by decide
    have h2 : (i 1).val / 176 < 2 := by omega
    exact lt_of_lt_of_eq h2 hN.symm
  refine ⟨⟨(i 1).val / 176, hlt⟩, ?_⟩
  have e := emb1_7 ⟨(i 1).val / 176, hlt⟩ ⟨(i 1).val % 176, Nat.mod_lt _ (by decide)⟩ (i 2) (i 1) (by show (i 1).val = (i 1).val / 176 * 176 + (i 1).val % 176; omega)
  have hi' : i = ix3 0 (i 1) (i 2) := funext fun q => by match q with | ⟨0, _⟩ => exact Fin.ext hi | ⟨1, _⟩ => rfl | ⟨2, _⟩ => rfl
  exact (Finset.mem_map (f := ((cfg1.win 7).blk ⟨(i 1).val / 176, hlt⟩).view.emb)).mpr ⟨ix3 0 ⟨(i 1).val % 176, Nat.mod_lt _ (by decide)⟩ (i 2), Finset.mem_univ _, e.trans hi'.symm⟩

theorem notin1_7 (c : Dev nD) (i : S2x352x1024.Idx) (hi : (i 0).val = 1) (t : Fin cfg1.N) : i ∉ ((cfg1.win 7).blk t).view.set := by
  intro h
  obtain ⟨j, -, e⟩ := (Finset.mem_map (f := ((cfg1.win 7).blk t).view.emb)).mp h
  obtain ⟨⟨e00, e01, e02⟩, ⟨e10, e11, e12⟩, ⟨e20, e21, e22⟩, ⟨e30, e31, e32⟩, ⟨e40, e41, e42⟩, ⟨e50, e51, e52⟩, ⟨e60, e61, e62⟩, ⟨e70, e71, e72⟩⟩ := idx1 t
  have h0 : (j (0 : Fin 3)).val < 1 := (j (0 : Fin 3)).isLt
  have e' : win1_7.index t (0 : Fin 3) * 1 + 1 * (j (0 : Fin 3)).val = (i 0).val := congrArg (fun q : S2x352x1024.Idx => (q 0).val) e
  omega

variable (m : (ℓ : Loc nD τ sig) → Buf (Elt Ideal) ℓ) (ρ : Dev nD → PrngReg)

/-- The gradient after both calls. -/
theorem final4 (c : Dev nD) : W3 m ρ c (Proc.devRef .tc main_v1_0) = G4 (m ((c : Thread nD τ).loc main_arg0)) (m ((c : Thread nD τ).loc main_arg1)) := by
  have e1 : G4 (V2 m ρ c main_arg0) (V2 m ρ c main_arg1) = G4 (m ((c : Thread nD τ).loc main_arg0)) (m ((c : Thread nD τ).loc main_arg1)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide)]
  have hc : W2 m ρ c (Proc.devRef .tc main_v1_0) = W1 m ρ c (Proc.devRef .tc main_v0_0) := by
    show StableHlo.after hostOps1 (W1 m ρ c) (Proc.devRef .tc main_v1_0) = _
    after_results_simp
    try rfl
  refine (W3_arr m ρ c 4).trans (funext fun i => ?_)
  have h0 : (i 0).val < 2 := (i 0).isLt
  by_cases hi : (i 0).val = 0
  · obtain ⟨t, ht⟩ := in1_4 c i hi
    exact ((dat1 (V2 m ρ) c).arrAt_apply_of_mem 4 _ (fun t _ => flushed1_4 (V2 m ρ) c t) cfg1.N t i t.isLt (flush1_4 t) ht).trans (congrFun e1 i)
  · have hi1 : (i 0).val = 1 := by omega
    obtain ⟨t, ht⟩ := in0_4 c i hi1
    refine ((dat1 (V2 m ρ) c).arrAt_apply_of_forall_not_mem 4 cfg1.N i fun t _ _ => notin1_4 c i hi1 t).trans ?_
    refine (congrFun ((A_eq1 (V2 m ρ) c 4).trans (hc.trans (W1_arr m ρ c 4))) i).trans ?_
    exact (dat0 (V0 m ρ) c).arrAt_apply_of_mem 4 _ (fun t _ => flushed0_4 (V0 m ρ) c t) cfg0.N t i t.isLt (flush0_4 t) ht

/-- The change of the weight after both calls. -/
theorem final5 (c : Dev nD) : W3 m ρ c (Proc.devRef .tc main_v1_1) = G5 (m ((c : Thread nD τ).loc main_arg0)) (m ((c : Thread nD τ).loc main_arg1)) (m ((c : Thread nD τ).loc main_arg2)) (m ((c : Thread nD τ).loc main_arg3)) (m ((c : Thread nD τ).loc main_arg4)) := by
  have e1 : G5 (V2 m ρ c main_arg0) (V2 m ρ c main_arg1) (V2 m ρ c main_arg2) (V2 m ρ c main_arg3) (V2 m ρ c main_arg4) = G5 (m ((c : Thread nD τ).loc main_arg0)) (m ((c : Thread nD τ).loc main_arg1)) (m ((c : Thread nD τ).loc main_arg2)) (m ((c : Thread nD τ).loc main_arg3)) (m ((c : Thread nD τ).loc main_arg4)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide), show V2 m ρ c main_arg2 = (m ((c : Thread nD τ).loc main_arg2)) from W2_args m ρ c main_arg2 (by decide), show V2 m ρ c main_arg3 = (m ((c : Thread nD τ).loc main_arg3)) from W2_args m ρ c main_arg3 (by decide), show V2 m ρ c main_arg4 = (m ((c : Thread nD τ).loc main_arg4)) from W2_args m ρ c main_arg4 (by decide)]
  have hc : W2 m ρ c (Proc.devRef .tc main_v1_1) = W1 m ρ c (Proc.devRef .tc main_v0_1) := by
    show StableHlo.after hostOps1 (W1 m ρ c) (Proc.devRef .tc main_v1_1) = _
    after_results_simp
    try rfl
  refine (W3_arr m ρ c 5).trans (funext fun i => ?_)
  have h0 : (i 0).val < 2 := (i 0).isLt
  by_cases hi : (i 0).val = 0
  · obtain ⟨t, ht⟩ := in1_5 c i hi
    exact ((dat1 (V2 m ρ) c).arrAt_apply_of_mem 5 _ (fun t _ => flushed1_5 (V2 m ρ) c t) cfg1.N t i t.isLt (flush1_5 t) ht).trans (congrFun e1 i)
  · have hi1 : (i 0).val = 1 := by omega
    obtain ⟨t, ht⟩ := in0_5 c i hi1
    refine ((dat1 (V2 m ρ) c).arrAt_apply_of_forall_not_mem 5 cfg1.N i fun t _ _ => notin1_5 c i hi1 t).trans ?_
    refine (congrFun ((A_eq1 (V2 m ρ) c 5).trans (hc.trans (W1_arr m ρ c 5))) i).trans ?_
    exact (dat0 (V0 m ρ) c).arrAt_apply_of_mem 5 _ (fun t _ => flushed0_5 (V0 m ρ) c t) cfg0.N t i t.isLt (flush0_5 t) ht

/-- The first moment after both calls. -/
theorem final6 (c : Dev nD) : W3 m ρ c (Proc.devRef .tc main_v1_2) = G6 (m ((c : Thread nD τ).loc main_arg0)) (m ((c : Thread nD τ).loc main_arg1)) (m ((c : Thread nD τ).loc main_arg3)) := by
  have e1 : G6 (V2 m ρ c main_arg0) (V2 m ρ c main_arg1) (V2 m ρ c main_arg3) = G6 (m ((c : Thread nD τ).loc main_arg0)) (m ((c : Thread nD τ).loc main_arg1)) (m ((c : Thread nD τ).loc main_arg3)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide), show V2 m ρ c main_arg3 = (m ((c : Thread nD τ).loc main_arg3)) from W2_args m ρ c main_arg3 (by decide)]
  have hc : W2 m ρ c (Proc.devRef .tc main_v1_2) = W1 m ρ c (Proc.devRef .tc main_v0_2) := by
    show StableHlo.after hostOps1 (W1 m ρ c) (Proc.devRef .tc main_v1_2) = _
    after_results_simp
    try rfl
  refine (W3_arr m ρ c 6).trans (funext fun i => ?_)
  have h0 : (i 0).val < 2 := (i 0).isLt
  by_cases hi : (i 0).val = 0
  · obtain ⟨t, ht⟩ := in1_6 c i hi
    exact ((dat1 (V2 m ρ) c).arrAt_apply_of_mem 6 _ (fun t _ => flushed1_6 (V2 m ρ) c t) cfg1.N t i t.isLt (flush1_6 t) ht).trans (congrFun e1 i)
  · have hi1 : (i 0).val = 1 := by omega
    obtain ⟨t, ht⟩ := in0_6 c i hi1
    refine ((dat1 (V2 m ρ) c).arrAt_apply_of_forall_not_mem 6 cfg1.N i fun t _ _ => notin1_6 c i hi1 t).trans ?_
    refine (congrFun ((A_eq1 (V2 m ρ) c 6).trans (hc.trans (W1_arr m ρ c 6))) i).trans ?_
    exact (dat0 (V0 m ρ) c).arrAt_apply_of_mem 6 _ (fun t _ => flushed0_6 (V0 m ρ) c t) cfg0.N t i t.isLt (flush0_6 t) ht

/-- The second moment after both calls. -/
theorem final7 (c : Dev nD) : W3 m ρ c (Proc.devRef .tc main_v1_3) = G7 (m ((c : Thread nD τ).loc main_arg0)) (m ((c : Thread nD τ).loc main_arg1)) (m ((c : Thread nD τ).loc main_arg4)) := by
  have e1 : G7 (V2 m ρ c main_arg0) (V2 m ρ c main_arg1) (V2 m ρ c main_arg4) = G7 (m ((c : Thread nD τ).loc main_arg0)) (m ((c : Thread nD τ).loc main_arg1)) (m ((c : Thread nD τ).loc main_arg4)) := by
    rw [show V2 m ρ c main_arg0 = (m ((c : Thread nD τ).loc main_arg0)) from W2_args m ρ c main_arg0 (by decide), show V2 m ρ c main_arg1 = (m ((c : Thread nD τ).loc main_arg1)) from W2_args m ρ c main_arg1 (by decide), show V2 m ρ c main_arg4 = (m ((c : Thread nD τ).loc main_arg4)) from W2_args m ρ c main_arg4 (by decide)]
  have hc : W2 m ρ c (Proc.devRef .tc main_v1_3) = W1 m ρ c (Proc.devRef .tc main_v0_3) := by
    show StableHlo.after hostOps1 (W1 m ρ c) (Proc.devRef .tc main_v1_3) = _
    after_results_simp
    try rfl
  refine (W3_arr m ρ c 7).trans (funext fun i => ?_)
  have h0 : (i 0).val < 2 := (i 0).isLt
  by_cases hi : (i 0).val = 0
  · obtain ⟨t, ht⟩ := in1_7 c i hi
    exact ((dat1 (V2 m ρ) c).arrAt_apply_of_mem 7 _ (fun t _ => flushed1_7 (V2 m ρ) c t) cfg1.N t i t.isLt (flush1_7 t) ht).trans (congrFun e1 i)
  · have hi1 : (i 0).val = 1 := by omega
    obtain ⟨t, ht⟩ := in0_7 c i hi1
    refine ((dat1 (V2 m ρ) c).arrAt_apply_of_forall_not_mem 7 cfg1.N i fun t _ _ => notin1_7 c i hi1 t).trans ?_
    refine (congrFun ((A_eq1 (V2 m ρ) c 7).trans (hc.trans (W1_arr m ρ c 7))) i).trans ?_
    exact (dat0 (V0 m ρ) c).arrAt_apply_of_mem 7 _ (fun t _ => flushed0_7 (V0 m ρ) c t) cfg0.N t i t.isLt (flush0_7 t) ht

set_option backward.isDefEq.respectTransparency.types false in
/-- Every buffer that outlives the run ends at the contents the two calls and the copy between them leave. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The kernel's run: the four results at their functions of the arguments, the arguments unchanged. -/
theorem run : θ_run defs (onTc (τ := τ) (main (F := Ideal))) ⟨m, fun _ => 0, ρ⟩ (fun r => ∀ c : Dev nD,
      r.2.mem ((c.tc : Thread nD τ).loc main_v1_0) = G4 (m ((c : Thread nD τ).loc main_arg0)) (m ((c : Thread nD τ).loc main_arg1))
      ∧ r.2.mem ((c.tc : Thread nD τ).loc main_v1_1) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v1_2) = G6 (m ((c : Thread nD τ).loc main_arg0)) (m ((c : Thread nD τ).loc main_arg1)) (m ((c : Thread nD τ).loc main_arg3))
      ∧ r.2.mem ((c.tc : Thread nD τ).loc main_v1_3) = G7 (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1_0 (by decide))).trans (final4 m ρ c), (h c _ (mem_uc main_v1_1 (by decide))).trans (final5 m ρ c), (h c _ (mem_uc main_v1_2 (by decide))).trans (final6 m ρ c), (h c _ (mem_uc main_v1_3 (by decide))).trans (final7 m ρ c),
     (h c _ (mem_uc main_arg0 (by decide))).trans (W3_main_arg0 m ρ c), (h c _ (mem_uc main_arg1 (by decide))).trans (W3_main_arg1 m ρ c), (h c _ (mem_uc main_arg2 (by decide))).trans (W3_main_arg2 m ρ c), (h c _ (mem_uc main_arg3 (by decide))).trans (W3_main_arg3 m ρ c), (h c _ (mem_uc main_arg4 (by decide))).trans (W3_main_arg4 m ρ c)⟩) (run_all m ρ)

/-- Layer 0 of the reference's gradient. -/
theorem ref4_0 (x0 x1 : Vec Ideal S8x352x1024 .bf16) (a : Fin 352) (b : Fin 1024) :
    ReferenceAdfIdeal.Read.val_main_v6 (F := Ideal) x0 x1 (ix3 0 a b) = ∑ k : Fin 8, x1 (ix3 k a b) := by
  unfold ReferenceAdfIdeal.Read.val_main_v6 ReferenceAdfIdeal.Read.val_main_v5 ReferenceAdfIdeal.Read.val_main_v4 ReferenceAdfIdeal.Read.val_main_v3
    ReferenceAdfIdeal.Read.val_main_cst_0 ReferenceAdfIdeal.Read.val_main_v2 ReferenceAdfIdeal.Read.val_main_v1 ReferenceAdfIdeal.Read.val_main_cst
    ReferenceAdfIdeal.Read.val_main_v0
  pointwise

/-- Layer 1 of the reference's gradient. -/
theorem ref4_1 (x0 x1 : Vec Ideal S8x352x1024 .bf16) (a : Fin 352) (b : Fin 1024) :
    ReferenceAdfIdeal.Read.val_main_v6 (F := Ideal) x0 x1 (ix3 1 a b) = ∑ k : Fin 8, x0 (ix3 k a b) := by
  unfold ReferenceAdfIdeal.Read.val_main_v6 ReferenceAdfIdeal.Read.val_main_v5 ReferenceAdfIdeal.Read.val_main_v4 ReferenceAdfIdeal.Read.val_main_v3
    ReferenceAdfIdeal.Read.val_main_cst_0 ReferenceAdfIdeal.Read.val_main_v2 ReferenceAdfIdeal.Read.val_main_v1 ReferenceAdfIdeal.Read.val_main_cst
    ReferenceAdfIdeal.Read.val_main_v0
  pointwise

/-- The reference's gradient. -/
theorem val4_eq (x0 x1 : Vec Ideal S8x352x1024 .bf16) : ReferenceAdfIdeal.Read.val_main_v6 (F := Ideal) x0 x1 = G4 x0 x1 := by
  funext j
  obtain ⟨l, a, b, rfl⟩ : ∃ (l : Fin 2) (a : Fin 352) (b : Fin 1024), j = ix3 l a b :=
    ⟨j 0, j 1, j 2, funext fun i => by match i with | ⟨0, _⟩ => rfl | ⟨1, _⟩ => rfl | ⟨2, _⟩ => rfl⟩
  match l with
  | ⟨0, _⟩ => exact ref4_0 x0 x1 a b
  | ⟨1, _⟩ => exact ref4_1 x0 x1 a b

/-- The reference's change of the weight. -/
theorem val5_eq (x0 x1 : Vec Ideal S8x352x1024 .bf16) (x2 x3 x4 : Vec Ideal S2x352x1024 .f32) : ReferenceAdfIdeal.Read.val_main_v30 (F := Ideal) x0 x1 x2 x3 x4 = G5 x0 x1 x2 x3 x4 := by
  funext j
  obtain ⟨l, a, b, rfl⟩ : ∃ (l : Fin 2) (a : Fin 352) (b : Fin 1024), j = ix3 l a b :=
    ⟨j 0, j 1, j 2, funext fun i => by match i with | ⟨0, _⟩ => rfl | ⟨1, _⟩ => rfl | ⟨2, _⟩ => rfl⟩
  show _ = Adam.delta (x2 (ix3 l a b)) (G4 x0 x1 (ix3 l a b)) (x3 (ix3 l a b)) (x4 (ix3 l a b))
  unfold ReferenceAdfIdeal.Read.val_main_v30 ReferenceAdfIdeal.Read.val_main_v29 ReferenceAdfIdeal.Read.val_main_cst_9 ReferenceAdfIdeal.Read.val_main_v28
    ReferenceAdfIdeal.Read.val_main_v27 ReferenceAdfIdeal.Read.val_main_v26 ReferenceAdfIdeal.Read.val_main_cst_8 ReferenceAdfIdeal.Read.val_main_v25
    ReferenceAdfIdeal.Read.val_main_v24 ReferenceAdfIdeal.Read.val_main_v23 ReferenceAdfIdeal.Read.val_main_cst_7 ReferenceAdfIdeal.Read.val_main_v22
    ReferenceAdfIdeal.Read.val_main_v21 ReferenceAdfIdeal.Read.val_main_v20 ReferenceAdfIdeal.Read.val_main_cst_6 ReferenceAdfIdeal.Read.val_main_v19
    ReferenceAdfIdeal.Read.val_main_v18 ReferenceAdfIdeal.Read.val_main_cst_5 ReferenceAdfIdeal.Read.val_main_v17 ReferenceAdfIdeal.Read.val_main_v16
    ReferenceAdfIdeal.Read.val_main_v15 ReferenceAdfIdeal.Read.val_main_cst_4 ReferenceAdfIdeal.Read.val_main_v14 ReferenceAdfIdeal.Read.val_main_v13
    ReferenceAdfIdeal.Read.val_main_v12 ReferenceAdfIdeal.Read.val_main_cst_3 ReferenceAdfIdeal.Read.val_main_v11 ReferenceAdfIdeal.Read.val_main_v10
    ReferenceAdfIdeal.Read.val_main_v9 ReferenceAdfIdeal.Read.val_main_cst_2 ReferenceAdfIdeal.Read.val_main_v8 ReferenceAdfIdeal.Read.val_main_v7
    ReferenceAdfIdeal.Read.val_main_cst_1
  rw [val4_eq]
  generalize G4 x0 x1 = y
  unfold Adam.delta Adam.moment Adam.square
  pointwise

/-- The reference's first moment. -/
theorem val6_eq (x0 x1 : Vec Ideal S8x352x1024 .bf16) (x3 : Vec Ideal S2x352x1024 .f32) : ReferenceAdfIdeal.Read.val_main_v11 (F := Ideal) x0 x1 x3 = G6 x0 x1 x3 := by
  funext j
  obtain ⟨l, a, b, rfl⟩ : ∃ (l : Fin 2) (a : Fin 352) (b : Fin 1024), j = ix3 l a b :=
    ⟨j 0, j 1, j 2, funext fun i => by match i with | ⟨0, _⟩ => rfl | ⟨1, _⟩ => rfl | ⟨2, _⟩ => rfl⟩
  show _ = Adam.moment (x3 (ix3 l a b)) (G4 x0 x1 (ix3 l a b))
  unfold ReferenceAdfIdeal.Read.val_main_v11 ReferenceAdfIdeal.Read.val_main_v10 ReferenceAdfIdeal.Read.val_main_v9 ReferenceAdfIdeal.Read.val_main_cst_2
    ReferenceAdfIdeal.Read.val_main_v8 ReferenceAdfIdeal.Read.val_main_v7 ReferenceAdfIdeal.Read.val_main_cst_1
  rw [val4_eq]
  generalize G4 x0 x1 = y
  unfold Adam.moment
  pointwise

/-- The reference's second moment. -/
theorem val7_eq (x0 x1 : Vec Ideal S8x352x1024 .bf16) (x4 : Vec Ideal S2x352x1024 .f32) : ReferenceAdfIdeal.Read.val_main_v17 (F := Ideal) x0 x1 x4 = G7 x0 x1 x4 := by
  funext j
  obtain ⟨l, a, b, rfl⟩ : ∃ (l : Fin 2) (a : Fin 352) (b : Fin 1024), j = ix3 l a b :=
    ⟨j 0, j 1, j 2, funext fun i => by match i with | ⟨0, _⟩ => rfl | ⟨1, _⟩ => rfl | ⟨2, _⟩ => rfl⟩
  show _ = Adam.square (x4 (ix3 l a b)) (G4 x0 x1 (ix3 l a b))
  unfold ReferenceAdfIdeal.Read.val_main_v17 ReferenceAdfIdeal.Read.val_main_v16 ReferenceAdfIdeal.Read.val_main_v15 ReferenceAdfIdeal.Read.val_main_cst_4
    ReferenceAdfIdeal.Read.val_main_v14 ReferenceAdfIdeal.Read.val_main_v13 ReferenceAdfIdeal.Read.val_main_v12 ReferenceAdfIdeal.Read.val_main_cst_3
  rw [val4_eq]
  generalize G4 x0 x1 = y
  unfold Adam.square
  pointwise

/-- The two programs leave the same four results. -/
theorem algebraic : Cert.algebraic_KernelAdfIdeal_ReferenceAdfIdeal := by
  intro m g m' g' _ hagree
  refine ⟨_, _, _, _, run m g, ?_⟩
  refine (θ_run _ _ _).mono (fun r h c => ?_) (Cert.ReferenceAdfIdeal.Value.run m' g')
  obtain ⟨h0, h1, h2, h3, hk⟩ := h c
  obtain ⟨a0, a1, a2, a3, a4⟩ := hagree c
  refine ⟨?_, ?_, ?_, ?_, hk⟩
  · rw [h0, Cert.ReferenceAdfIdeal.Read.val_main_v6_eq, a0, a1]
    exact val4_eq _ _
  · rw [h1, Cert.ReferenceAdfIdeal.Read.val_main_v30_eq, a0, a1, a2, a3, a4]
    exact val5_eq _ _ _ _ _
  · rw [h2, Cert.ReferenceAdfIdeal.Read.val_main_v11_eq, a0, a1, a3]
    exact val6_eq _ _ _
  · rw [h3, Cert.ReferenceAdfIdeal.Read.val_main_v17_eq, a0, a1, a4]
    exact val7_eq _ _ _

end Cert.AdfValue

end
-- ==== Proof.Rows.lean ====
/- The forward norms on one row: the RMS norm scaled by its gain, and the layer norm followed by silu. -/
module

public import proofs.«01_k».proof.Proof.Norm

@[expose] public section

noncomputable section

namespace Cert.Rows

open Idealize.ShloMosaic

/-- The RMS norm of a row, times its gain. -/
def rms (x g : Fin 1024 → EReal) (d : Fin 1024) : EReal := x d * Norm.inv x * g d

/-- A row's mean. -/
def mean (x : Fin 1024 → EReal) : EReal := Ideal.div (∑ k, x k) (Ideal.ofBits FTy.f32 1149239296#32)

/-- The reciprocal root of a row's variance. -/
def dev (x : Fin 1024 → EReal) : EReal :=
  Ideal.rsqrt (Ideal.div (∑ k, (x k - mean x) * (x k - mean x)) (Ideal.ofBits FTy.f32 1149239296#32)
    + Ideal.ofBits FTy.f32 925353388#32)

/-- The layer norm of a row, with gain and offset. -/
def layer (x g b : Fin 1024 → EReal) (d : Fin 1024) : EReal := (x d - mean x) * dev x * g d + b d

/-- A value times its logistic. -/
def silu (z : EReal) : EReal := z * Ideal.div 1 (1 + Ideal.exp (-z))

/-- The second product's row operand. -/
def lift (x g b : Fin 1024 → EReal) (d : Fin 1024) : EReal := silu (layer x g b d)

/-- The residual's row after the product with `w` and its offset. -/
def out (x g b : Fin 1024 → EReal) (w : Fin 1024 → Fin 1024 → EReal) (o r : Fin 1024 → EReal) (d : Fin 1024) : EReal :=
  r d + ((∑ k, lift x g b k * w k d) + o d)

end Cert.Rows

end
-- ==== Proof.Rms.lean ====
/- The RMS norm: the kernel's blocks of rows and the reference are one function of a row at every index. -/
module

public import proofs.«01_k».proof.Proof.Gen.KernelRmsIdeal.Value
public import proofs.«01_k».proof.Proof.Gen.ReferenceRmsIdeal.Read
public import proofs.«01_k».proof.Proof.Rows
public import Idealize.ShloMosaic.Lib.Pointwise
public import proofs.«01_k».proof.Defs
public import proofs.«01_k».proof.Proof.Gen.KernelRms
public import proofs.«01_k».proof.Proof.Gen.ReferenceRmsIdeal

@[expose] public section

set_option maxRecDepth 16384

noncomputable section

namespace Cert.RmsValue

open Cert.KernelRmsIdeal Cert.KernelRmsIdeal.Gen Cert.KernelRmsIdeal.Value
open Idealize.ShloMosaic Idealize.ShloMosaic.TcCoe Idealize.SL.Sem

/-- The result: every row's norm. -/
def G (x : Vec Ideal S4096x1024 .f32) (g : Vec Ideal S1x1024 .f32) : Vec Ideal S4096x1024 .bf16 :=
  fun j => Rows.rms (fun k => x (ix2 (j 0) k)) (fun k => g (ix2 0 k)) (j 1)

theorem hz : (![0, 0] : Fin 2 → Nat) = fun _ => 0 := funext fun a => by fin_cases a <;> rfl

/-- What the body leaves in the output's buffer is its one payload of the input blocks. -/
theorem out_eq (x0 : Vec Ideal S512x1024 .f32) (x1 : Vec Ideal S1x1024 .f32) : out0_2 x0 x1 = k0_pay1 x0 x1 := by
  unfold out0_2
  rw [View.canon_unit_zero hz, View.ld_unit_zero hz, View.ld_unit_zero hz]

/-- The payload at an index. -/
theorem pay_apply (x0 : Vec Ideal S512x1024 .f32) (x1 : Vec Ideal S1x1024 .f32) (x : Fin 512) (d : Fin 1024) :
    k0_pay1 x0 x1 (ix2 x d) = Rows.rms (fun k => x0 (ix2 x k)) (fun k => x1 (ix2 0 k)) d := by
  unfold k0_pay1 Rows.rms Norm.inv
  pointwise

variable (m : (ℓ : Loc nD τ sig) → Buf (Elt Ideal) ℓ) (ρ : Dev nD → PrngReg)

/-- Where the windows' blocks sit. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What a point writes back is its block of `G` of the arguments. -/
theorem flushed2_eq (c : Dev nD) (t : Fin cfg0.N) :
    (dats m 0 c).flushed 2 t
      = ((cfg0.win 2).blk t).view.read (Elt Ideal) (G (V m c main_arg0) (V m c main_arg1)) := by
  obtain ⟨e0, e1, e2, e3, e4, e5⟩ := idx_facts t
  rw [flushed2, out_eq]
  funext y
  obtain ⟨x, d, rfl⟩ : ∃ (x : Fin 512) (d : Fin 1024), y = ix2 x d := ⟨y 0, y 1, funext fun a => by match a with | ⟨0, _⟩ => rfl | ⟨1, _⟩ => rfl⟩
  show k0_pay1 (iblk m c 0 t) (iblk m c 1 t) (ix2 x d)
    = G (V m c main_arg0) (V m c main_arg1) (((cfg0.win 2).blk t).view.emb (ix2 x d))
  rw [pay_apply]
  unfold G
  have hd : ((cfg0.win 2).blk t).view.emb (ix2 x d) 1 = d := Fin.ext (by
    show win0_2.index t (1 : Fin 2) * 1024 + 1 * d.val = d.val; omega)
  rw [hd]
  refine congrArg₂ (fun a b => Rows.rms a b d) (funext fun k => ?_) (funext fun k => ?_)
  · show V m c main_arg0 (((cfg0.win 0).blk t).view.emb (ix2 x k)) = _
    refine congrArg _ (funext fun a => Fin.ext ?_)
    match a with
    | ⟨0, _⟩ => show win0_0.index t (0 : Fin 2) * 512 + 1 * x.val = win0_2.index t (0 : Fin 2) * 512 + 1 * x.val; omega
    | ⟨1, _⟩ => show win0_0.index t (1 : Fin 2) * 1024 + 1 * k.val = k.val; omega
  · show V m c main_arg1 (((cfg0.win 1).blk t).view.emb (ix2 0 k)) = _
    refine congrArg _ (funext fun a => Fin.ext ?_)
    match a with
    | ⟨0, _⟩ => show win0_1.index t (0 : Fin 2) * 1 + 1 * 0 = 0; omega
    | ⟨1, _⟩ => show win0_1.index t (1 : Fin 2) * 1024 + 1 * k.val = k.val; omega

/-- Membership in an output block, by coordinates. -/
theorem mem_blk (t : Fin cfg0.N) (i : S4096x1024.Idx) : i ∈ ((cfg0.win 2).blk t).view.set ↔
    ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]; exact Iff.rfl

/-- Every index of the result is in some point's block. -/
theorem covered2 (i : S4096x1024.Idx) :
    ∃ t : Fin cfg0.N, (cfg0.win 2).flush t = true ∧ i ∈ ((cfg0.win 2).blk t).view.set := by
  have hi : (i 0).val < 4096 := (i 0).isLt
  have hi1 : (i 1).val < 1024 := (i 1).isLt
  have hN : cfg0.N = 8 := by decide
  obtain ⟨t, ht⟩ : ∃ t : Fin cfg0.N, t.val = (i 0).val / 512 := ⟨⟨(i 0).val / 512, by omega⟩, rfl⟩
  obtain ⟨_, _, _, _, e4, e5⟩ := idx_facts t
  refine ⟨t, flush0_2 _, ?_⟩
  rw [mem_blk]
  have key : ∀ a : Fin 2, win0_2.index t a * S512x1024.size a ≤ (i a).val
      ∧ (i a).val < win0_2.index t a * S512x1024.size a + S512x1024.size a := by
    rw [Fin.forall_fin_two, e4, e5, ht]
    show ((i 0).val / 512 * 512 ≤ (i 0).val ∧ (i 0).val < (i 0).val / 512 * 512 + 512)
      ∧ (0 * 1024 ≤ (i 1).val ∧ (i 1).val < 0 * 1024 + 1024)
    omega
  exact key

/-- The result array after the run. -/
theorem final2 (c : Dev nD) : (dats m 0 c).arrAt 2 cfg0.N
    = G (m ((c : Thread nD τ).loc main_arg0)) (m ((c : Thread nD τ).loc main_arg1)) :=
  ((dats m 0 c).arrAt_eq_of_cover 2 (G (V m c main_arg0) (V m c main_arg1)) (fun t _ => flushed2_eq m c t) covered2).trans
    (by rw [V_main_arg0, V_main_arg1])

section reference

open Cert.ReferenceRmsIdeal.Read

/-- The reference's result is the same function. -/
theorem ref_eq (x : Vec Ideal S4096x1024 .f32) (g : Vec Ideal S1x1024 .f32) : val_main_v12 (F := Ideal) x g = G x g := by
  funext j
  unfold G Rows.rms Norm.inv val_main_v12 val_main_v11 val_main_v10 val_main_v9 val_main_v8 val_main_v7 val_main_v6 val_main_v5
    val_main_v4 val_main_v3 val_main_v2 val_main_v1 val_main_v0 val_main_cst val_main_cst_0 val_main_cst_1
  pointwise

end reference

/-- The kernel's run: the result is `G` of the arguments, which are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The two programs leave the same result. -/
theorem algebraic : Cert.algebraic_KernelRmsIdeal_ReferenceRmsIdeal := by
  intro m g m' g' _ hagree
  refine ⟨fun c => G (m ((c : Thread nD τ).loc main_arg0)) (m ((c : Thread nD τ).loc main_arg1)), run m g, ?_⟩
  refine (θ_run _ _ _).mono (fun r h c => ⟨?_, (h c).2⟩) (Cert.ReferenceRmsIdeal.Value.run m' g')
  rw [(h c).1, Cert.ReferenceRmsIdeal.Read.val_main_v12_eq]
  refine (ref_eq _ _).trans ?_
  rw [(hagree c).1, (hagree c).2]

end Cert.RmsValue

end
-- ==== Proof.Pwb.lean ====
/- The second pointwise product of the convolution module: the layer norm and silu before it, the residual and the next norm
   after it. -/
module

public import proofs.«01_k».proof.Proof.Gen.KernelPwbIdeal.Value
public import proofs.«01_k».proof.Proof.Gen.ReferencePwbIdeal.Read
public import proofs.«01_k».proof.Proof.Rows
public import Idealize.ShloMosaic.Lib.Pointwise
public import Idealize.ShloMosaic.Lib.Pipeline.ValueKit
public import proofs.«01_k».proof.Defs
public import proofs.«01_k».proof.Proof.Gen.KernelPwb
public import proofs.«01_k».proof.Proof.Gen.ReferencePwbIdeal

@[expose] public section

set_option maxRecDepth 16384

noncomputable section

namespace Cert.PwbValue

open Cert.KernelPwbIdeal Cert.KernelPwbIdeal.Gen Cert.KernelPwbIdeal.Value
open Idealize.ShloMosaic Idealize.ShloMosaic.TcCoe Idealize.SL.Sem

section forms

variable (v : Vec Ideal S4096x1024 .f32) (w : Vec Ideal S1024x1024 .bf16) (g b o : Vec Ideal S1x1024 .f32)
  (r : Vec Ideal S4096x1024 .f32) (n : Vec Ideal S1x1024 .f32)

/-- A row of the product's operand. -/
def liftAt (t : Fin 4096) (d : Fin 1024) : EReal :=
  Rows.lift (fun k => v (ix2 t k)) (fun k => g (ix2 0 k)) (fun k => b (ix2 0 k)) d

/-- A row of the residual after the product. -/
def outAt (t : Fin 4096) (d : Fin 1024) : EReal :=
  Rows.out (fun k => v (ix2 t k)) (fun k => g (ix2 0 k)) (fun k => b (ix2 0 k)) (fun k e => w (ix2 k e)) (fun k => o (ix2 0 k))
    (fun k => r (ix2 t k)) d

/-- The first result: the residual. -/
def Res : Vec Ideal S4096x1024 .f32 := fun j => outAt v w g b o r (j 0) (j 1)

/-- The second: its norm. -/
def Nrm : Vec Ideal S4096x1024 .bf16 := fun j => Rows.rms (outAt v w g b o r (j 0)) (fun k => n (ix2 0 k)) (j 1)

/-- The third: the product's operand. -/
def Lft : Vec Ideal S4096x1024 .bf16 := fun j => liftAt v g b (j 0) (j 1)

end forms

/-- The operand's payload on a row. -/
theorem pay3_apply (x0 : Vec Ideal S512x1024 .f32) (x1 x2 : Vec Ideal S1x1024 .f32) (x : Fin 512) (d : Fin 1024) :
    k0_pay3 x0 x1 x2 (ix2 x d) = Rows.lift (fun k => x0 (ix2 x k)) (fun k => x1 (ix2 0 k)) (fun k => x2 (ix2 0 k)) d := by
  unfold k0_pay3 Rows.lift Rows.silu Rows.layer Rows.dev Rows.mean
  pointwise
  rw [zero_sub]

/-- The product's. -/
theorem pay4_apply (x0 : Vec Ideal S512x1024 .f32) (x1 x2 : Vec Ideal S1x1024 .f32) (w : Vec Ideal S1024x1024 .bf16) (x : Fin 512)
    (d : Fin 1024) : k0_pay4 x0 x1 x2 w (ix2 x d)
      = ∑ k : Fin 1024, Rows.lift (fun k => x0 (ix2 x k)) (fun k => x1 (ix2 0 k)) (fun k => x2 (ix2 0 k)) k * w (ix2 k d) := by
  have hp := fun k => pay3_apply x0 x1 x2 x k
  unfold k0_pay4
  revert hp
  generalize k0_pay3 x0 x1 x2 = a
  intro hp
  pointwise
  simp only [hp]

/-- The residual's, for any product. -/
theorem pay1_apply (p r : Vec Ideal S512x1024 .f32) (o : Vec Ideal S1x1024 .f32) (x : Fin 512) (d : Fin 1024) :
    k0_pay1 p r o (ix2 x d) = r (ix2 x d) + (p (ix2 x d) + o (ix2 0 d)) := by
  unfold k0_pay1
  pointwise

/-- The norm's, for any product. -/
theorem pay2_apply (p r : Vec Ideal S512x1024 .f32) (o n : Vec Ideal S1x1024 .f32) (x : Fin 512) (d : Fin 1024) :
    k0_pay2 p r o n (ix2 x d)
      = Rows.rms (fun k => r (ix2 x k) + (p (ix2 x k) + o (ix2 0 k))) (fun k => n (ix2 0 k)) d := by
  have hp := fun k => pay1_apply p r o x k
  unfold k0_pay2 Rows.rms Norm.inv
  revert hp
  generalize k0_pay1 p r o = a
  intro hp
  pointwise
  simp only [hp]

/-- Row `x` of the `n`-th block of 512. -/
def rowOf (n : ℕ) (hn : n < 8) (x : Fin 512) : Fin 4096 := ⟨n * 512 + x.val, by omega⟩

variable (m : (ℓ : Loc nD τ sig) → Buf (Elt Ideal) ℓ) (ρ : Dev nD → PrngReg)

/-- Where the input windows' blocks sit. -/
theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- Where the output windows' blocks sit. -/
theorem idx_out : ∀ t : Fin cfg0.N, (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem points (t : Fin cfg0.N) : t.val < 8 := lt_of_lt_of_eq t.isLt (by decide)

theorem in0 (c : Dev nD) (t : Fin cfg0.N) (x : Fin 512) (k : Fin 1024) :
    iblk m c 0 t (ix2 x k) = V m c main_arg0 (ix2 (rowOf t.val (points t) x) k) := by
  obtain ⟨⟨e0, e1⟩, _, _, _, _, _, _⟩ := idx_in t
  show V m c main_arg0 (((cfg0.win 0).blk t).view.emb (ix2 x k)) = _
  refine congrArg _ (funext fun a => Fin.ext ?_)
  match a with
  | ⟨0, _⟩ => show win0_0.index t (0 : Fin 2) * 512 + 1 * x.val = t.val * 512 + x.val; omega
  | ⟨1, _⟩ => show win0_0.index t (1 : Fin 2) * 1024 + 1 * k.val = k.val; omega

theorem in1 (c : Dev nD) (t : Fin cfg0.N) (x : Fin 1024) (k : Fin 1024) :
    iblk m c 1 t (ix2 x k) = V m c main_arg1 (ix2 x k) := by
  obtain ⟨_, ⟨e0, e1⟩, _, _, _, _, _⟩ := idx_in t
  show V m c main_arg1 (((cfg0.win 1).blk t).view.emb (ix2 x k)) = _
  refine congrArg _ (funext fun a => Fin.ext ?_)
  match a with
  | ⟨0, _⟩ => show win0_1.index t (0 : Fin 2) * 1024 + 1 * x.val = x.val; omega
  | ⟨1, _⟩ => show win0_1.index t (1 : Fin 2) * 1024 + 1 * k.val = k.val; omega

theorem in2 (c : Dev nD) (t : Fin cfg0.N) (x : Fin 1) (k : Fin 1024) :
    iblk m c 2 t (ix2 x k) = V m c main_arg2 (ix2 x k) := by
  obtain ⟨_, _, ⟨e0, e1⟩, _, _, _, _⟩ := idx_in t
  show V m c main_arg2 (((cfg0.win 2).blk t).view.emb (ix2 x k)) = _
  refine congrArg _ (funext fun a => Fin.ext ?_)
  match a with
  | ⟨0, _⟩ => show win0_2.index t (0 : Fin 2) * 1 + 1 * x.val = x.val; omega
  | ⟨1, _⟩ => show win0_2.index t (1 : Fin 2) * 1024 + 1 * k.val = k.val; omega

theorem in3 (c : Dev nD) (t : Fin cfg0.N) (x : Fin 1) (k : Fin 1024) :
    iblk m c 3 t (ix2 x k) = V m c main_arg3 (ix2 x k) := by
  obtain ⟨_, _, _, ⟨e0, e1⟩, _, _, _⟩ := idx_in t
  show V m c main_arg3 (((cfg0.win 3).blk t).view.emb (ix2 x k)) = _
  refine congrArg _ (funext fun a => Fin.ext ?_)
  match a with
  | ⟨0, _⟩ => show win0_3.index t (0 : Fin 2) * 1 + 1 * x.val = x.val; omega
  | ⟨1, _⟩ => show win0_3.index t (1 : Fin 2) * 1024 + 1 * k.val = k.val; omega

theorem in4 (c : Dev nD) (t : Fin cfg0.N) (x : Fin 1) (k : Fin 1024) :
    iblk m c 4 t (ix2 x k) = V m c main_arg4 (ix2 x k) := by
  obtain ⟨_, _, _, _, ⟨e0, e1⟩, _, _⟩ := idx_in t
  show V m c main_arg4 (((cfg0.win 4).blk t).view.emb (ix2 x k)) = _
  refine congrArg _ (funext fun a => Fin.ext ?_)
  match a with
  | ⟨0, _⟩ => show win0_4.index t (0 : Fin 2) * 1 + 1 * x.val = x.val; omega
  | ⟨1, _⟩ => show win0_4.index t (1 : Fin 2) * 1024 + 1 * k.val = k.val; omega

theorem in5 (c : Dev nD) (t : Fin cfg0.N) (x : Fin 512) (k : Fin 1024) :
    iblk m c 5 t (ix2 x k) = V m c main_arg5 (ix2 (rowOf t.val (points t) x) k) := by
  obtain ⟨_, _, _, _, _, ⟨e0, e1⟩, _⟩ := idx_in t
  show V m c main_arg5 (((cfg0.win 5).blk t).view.emb (ix2 x k)) = _
  refine congrArg _ (funext fun a => Fin.ext ?_)
  match a with
  | ⟨0, _⟩ => show win0_5.index t (0 : Fin 2) * 512 + 1 * x.val = t.val * 512 + x.val; omega
  | ⟨1, _⟩ => show win0_5.index t (1 : Fin 2) * 1024 + 1 * k.val = k.val; omega

theorem in6 (c : Dev nD) (t : Fin cfg0.N) (x : Fin 1) (k : Fin 1024) :
    iblk m c 6 t (ix2 x k) = V m c main_arg6 (ix2 x k) := by
  obtain ⟨_, _, _, _, _, _, ⟨e0, e1⟩⟩ := idx_in t
  show V m c main_arg6 (((cfg0.win 6).blk t).view.emb (ix2 x k)) = _
  refine congrArg _ (funext fun a => Fin.ext ?_)
  match a with
  | ⟨0, _⟩ => show win0_6.index t (0 : Fin 2) * 1 + 1 * x.val = x.val; omega
  | ⟨1, _⟩ => show win0_6.index t (1 : Fin 2) * 1024 + 1 * k.val = k.val; omega

/-- The product's operand a point leaves. -/
theorem rows9 (c : Dev nD) (t : Fin cfg0.N) (x : Fin 512) (d : Fin 1024) :
    (outsAt0 m c t).2.2 (ix2 x d) = liftAt (V m c main_arg0) (V m c main_arg2) (V m c main_arg3) (rowOf t.val (points t) x) d := by
  unfold outsAt0 liftAt
  frame_out
  rw [pay3_apply]
  simp only [in0, in1, in2, in3, in4, in5, in6]

/-- The residual it leaves. -/
theorem rows7 (c : Dev nD) (t : Fin cfg0.N) (x : Fin 512) (d : Fin 1024) :
    (outsAt0 m c t).1 (ix2 x d) = outAt (V m c main_arg0) (V m c main_arg1) (V m c main_arg2) (V m c main_arg3) (V m c main_arg4) (V m c main_arg5) (rowOf t.val (points t) x) d := by
  unfold outsAt0 outAt Rows.out
  frame_out
  rw [pay1_apply, pay4_apply]
  simp only [in0, in1, in2, in3, in4, in5, in6]

/-- The norm it leaves. -/
theorem rows8 (c : Dev nD) (t : Fin cfg0.N) (x : Fin 512) (d : Fin 1024) :
    (outsAt0 m c t).2.1 (ix2 x d) = Rows.rms (outAt (V m c main_arg0) (V m c main_arg1) (V m c main_arg2) (V m c main_arg3) (V m c main_arg4) (V m c main_arg5) (rowOf t.val (points t) x))
      (fun k => V m c main_arg6 (ix2 0 k)) d := by
  unfold outsAt0 outAt Rows.out
  frame_out
  rw [pay2_apply]
  simp only [pay4_apply]
  simp only [in0, in1, in2, in3, in4, in5, in6]

/-- The first result's array. -/
theorem final7 (c : Dev nD) : (dats m 0 c).arrAt 7 cfg0.N = Res (V m c main_arg0) (V m c main_arg1) (V m c main_arg2) (V m c main_arg3) (V m c main_arg4) (V m c main_arg5) := by
  refine (dats m 0 c).arrAt_eq_of_covers 7 _ (by decide +kernel) fun t hf y => ?_
  obtain ⟨⟨a0, a1⟩, ⟨b0, b1⟩, ⟨c0, c1⟩⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 7).blk t).view.emb (ix2 x d) = ix2 (rowOf t.val (points t) x) d := funext fun a => Fin.ext (by
    match a with
    | ⟨0, _⟩ => show win0_7.index t (0 : Fin 2) * 512 + 1 * x.val = t.val * 512 + x.val; omega
    | ⟨1, _⟩ => show win0_7.index t (1 : Fin 2) * 1024 + 1 * d.val = d.val; omega)
  rw [e]
  refine Eq.trans ?_ (rows7 m c t x d)
  blk_simp
  rw [after0_7]

/-- The second result's array. -/
theorem final8 (c : Dev nD) : (dats m 0 c).arrAt 8 cfg0.N = Nrm (V m c main_arg0) (V m c main_arg1) (V m c main_arg2) (V m c main_arg3) (V m c main_arg4) (V m c main_arg5) (V m c main_arg6) := by
  refine (dats m 0 c).arrAt_eq_of_covers 8 _ (by decide +kernel) fun t hf y => ?_
  obtain ⟨⟨a0, a1⟩, ⟨b0, b1⟩, ⟨c0, c1⟩⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 8).blk t).view.emb (ix2 x d) = ix2 (rowOf t.val (points t) x) d := funext fun a => Fin.ext (by
    match a with
    | ⟨0, _⟩ => show win0_8.index t (0 : Fin 2) * 512 + 1 * x.val = t.val * 512 + x.val; omega
    | ⟨1, _⟩ => show win0_8.index t (1 : Fin 2) * 1024 + 1 * d.val = d.val; omega)
  rw [e]
  refine Eq.trans ?_ (rows8 m c t x d)
  blk_simp
  rw [after0_8]

/-- The third result's array. -/
theorem final9 (c : Dev nD) : (dats m 0 c).arrAt 9 cfg0.N = Lft (V m c main_arg0) (V m c main_arg2) (V m c main_arg3) := by
  refine (dats m 0 c).arrAt_eq_of_covers 9 _ (by decide +kernel) fun t hf y => ?_
  obtain ⟨⟨a0, a1⟩, ⟨b0, b1⟩, ⟨c0, c1⟩⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 9).blk t).view.emb (ix2 x d) = ix2 (rowOf t.val (points t) x) d := funext fun a => Fin.ext (by
    match a with
    | ⟨0, _⟩ => show win0_9.index t (0 : Fin 2) * 512 + 1 * x.val = t.val * 512 + x.val; omega
    | ⟨1, _⟩ => show win0_9.index t (1 : Fin 2) * 1024 + 1 * d.val = d.val; omega)
  rw [e]
  refine Eq.trans ?_ (rows9 m c t x d)
  blk_simp
  rw [after0_9]

/-- The kernel's run: its three results, and the arguments as they were. -/
theorem run_all : θ_run defs (onTc (τ := τ) (main (F := Ideal))) ⟨m, fun _ => 0, ρ⟩ fun r => ∀ c : Dev nD,
      r.2.mem ((c : Thread nD τ).loc main_v0_0)
        = Res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1)
        = Nrm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2)
        = Lft (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2⟩) (run_blocks m ρ)

section reference

open Cert.ReferencePwbIdeal.Read

variable (v : Vec Ideal S4096x1024 .f32) (w : Vec Ideal S1024x1024 .bf16) (g b o : Vec Ideal S1x1024 .f32)
  (r : Vec Ideal S4096x1024 .f32) (n : Vec Ideal S1x1024 .f32)

/-- The reference's operand. -/
theorem ref_lift (t : Fin 4096) (d : Fin 1024) : val_main_v22 (F := Ideal) v g b (ix2 t d) = liftAt v g b t d := by
  unfold liftAt Rows.lift Rows.silu Rows.layer Rows.dev Rows.mean
  unfold val_main_v22 val_main_call0_v5 val_main_call0_v4 val_main_call0_v3 val_main_call0_v2 val_main_call0_v1 val_main_call0_v0
    val_main_call0_cst val_main_call0_cst_0 val_main_v21 val_main_v20 val_main_v19 val_main_v18 val_main_v17 val_main_v16
    val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1 val_main_cst_2 val_main_cst_3
  pointwise

/-- The reference's residual. -/
theorem ref_out (t : Fin 4096) (d : Fin 1024) : val_main_v27 (F := Ideal) v w g b o r (ix2 t d) = outAt v w g b o r t d := by
  have hp : ∀ k, val_main_v22 (F := Ideal) v g b (ix2 t k) = liftAt v g b t k := ref_lift v g b t
  unfold outAt Rows.out
  unfold val_main_v27 val_main_v26 val_main_v25 val_main_v24 val_main_v23
  revert hp
  generalize val_main_v22 (F := Ideal) v g b = a
  intro hp
  unfold liftAt at hp
  pointwise
  simp only [hp]

/-- The reference's first result. -/
theorem ref_res : val_main_v27 (F := Ideal) v w g b o r = Res v w g b o r := by
  funext j
  obtain ⟨t, d, rfl⟩ : ∃ (t : Fin 4096) (d : Fin 1024), j = ix2 t d := ⟨j 0, j 1, funext fun a => by match a with | ⟨0, _⟩ => rfl | ⟨1, _⟩ => rfl⟩
  exact ref_out v w g b o r t d

/-- The second. -/
theorem ref_nrm : val_main_v40 (F := Ideal) v w g b o r n = Nrm v w g b o r n := by
  funext j
  obtain ⟨t, d, rfl⟩ : ∃ (t : Fin 4096) (d : Fin 1024), j = ix2 t d := ⟨j 0, j 1, funext fun a => by match a with | ⟨0, _⟩ => rfl | ⟨1, _⟩ => rfl⟩
  have hp : ∀ k, val_main_v27 (F := Ideal) v w g b o r (ix2 t k) = outAt v w g b o r t k := ref_out v w g b o r t
  show _ = Rows.rms (outAt v w g b o r t) (fun k => n (ix2 0 k)) d
  unfold Rows.rms Norm.inv
  unfold val_main_v40 val_main_v39 val_main_v38 val_main_v37 val_main_v36 val_main_v35 val_main_v34 val_main_v33 val_main_v32
    val_main_v31 val_main_v30 val_main_v29 val_main_v28 val_main_cst_4 val_main_cst_5 val_main_cst_6
  revert hp
  generalize val_main_v27 (F := Ideal) v w g b o r = a
  intro hp
  pointwise
  simp only [hp]

/-- The third. -/
theorem ref_lft : val_main_v41 (F := Ideal) v g b = Lft v g b := by
  funext j
  obtain ⟨t, d, rfl⟩ : ∃ (t : Fin 4096) (d : Fin 1024), j = ix2 t d := ⟨j 0, j 1, funext fun a => by match a with | ⟨0, _⟩ => rfl | ⟨1, _⟩ => rfl⟩
  exact ref_lift v g b t d

end reference

/-- The two programs leave the same three results. -/
theorem algebraic : Cert.algebraic_KernelPwbIdeal_ReferencePwbIdeal := by
  intro m g m' g' _ hagree
  refine ⟨_, _, _, run_all m g, ?_⟩
  refine (θ_run _ _ _).mono (fun r h c => ⟨?_, ?_, ?_, (h c).2.2.2⟩) (Cert.ReferencePwbIdeal.Value.run m' g')
  · rw [(h c).1, Cert.ReferencePwbIdeal.Read.val_main_v27_eq]
    refine (ref_res _ _ _ _ _ _).trans ?_
    obtain ⟨a0, a1, a2, a3, a4, a5, a6⟩ := hagree c
    rw [a0, a1, a2, a3, a4, a5]
  · rw [(h c).2.1, Cert.ReferencePwbIdeal.Read.val_main_v40_eq]
    refine (ref_nrm _ _ _ _ _ _ _).trans ?_
    obtain ⟨a0, a1, a2, a3, a4, a5, a6⟩ := hagree c
    rw [a0, a1, a2, a3, a4, a5, a6]
  · rw [(h c).2.2.1, Cert.ReferencePwbIdeal.Read.val_main_v41_eq]
    refine (ref_lft _ _ _).trans ?_
    obtain ⟨a0, a1, a2, a3, a4, a5, a6⟩ := hagree c
    rw [a0, a2, a3]

end Cert.PwbValue

end
-- ==== Proof.HeadRef.lean ====
/- The loss head: the loss, its gradient through the last norm, and the reference's terms at an index. -/
module

public import proofs.«01_k».proof.Proof.Gen.ReferenceHeadIdeal.Read
public import proofs.«01_k».proof.Proof.Norm
public import Idealize.ShloMosaic.Lib.Pointwise

@[expose] public section

set_option maxRecDepth 16384

noncomputable section

namespace Cert.HeadValue

open Cert.ReferenceHeadIdeal Cert.ReferenceHeadIdeal.Read
open Idealize.ShloMosaic Idealize.ShloMosaic.TcCoe

/-- A row's error: its norm with the gain, less the target. -/
def err (x g y : Fin 1024 → EReal) (d : Fin 1024) : EReal := x d * Norm.inv x * g d - y d

/-- The loss's gradient with respect to the norm's output. -/
def slope (x g y : Fin 1024 → EReal) (d : Fin 1024) : EReal := Ideal.div (err x g y d) (Ideal.ofBits FTy.f32 1149239296#32)

/-- A row's loss. -/
def miss (x g y : Fin 1024 → EReal) : EReal :=
  Ideal.ofBits FTy.f32 1056964608#32 * Ideal.div (∑ k, err x g y k * err x g y k) (Ideal.ofBits FTy.f32 1149239296#32)

/-- A row's part of the gain's gradient. -/
def part (x g y : Fin 1024 → EReal) (d : Fin 1024) : EReal := slope x g y d * (x d * Norm.inv x)

/-- The gradient of a row. -/
def back (x g y : Fin 1024 → EReal) (d : Fin 1024) : EReal := Norm.row (slope x g y) x g (fun _ => 0) d

theorem half : Ideal.ofBits FTy.f32 1056964608#32 = ((1 / 2 : ℝ) : EReal) := by
  simp [Ideal.ofBits, Ideal.ieee, -EReal.coe_mul]; norm_num

theorem two : Ideal.ofBits FTy.f32 1073741824#32 = ((2 : ℝ) : EReal) := by
  simp [Ideal.ofBits, Ideal.ieee, -EReal.coe_mul]; norm_num

/-- The square's derivative, halved, over the width. -/
theorem slope_eq (z : EReal) : Ideal.div (Ideal.ofBits FTy.f32 1056964608#32 * 1) (Ideal.ofBits FTy.f32 1149239296#32)
      * (Ideal.ofBits FTy.f32 1073741824#32 * z) = Ideal.div z (Ideal.ofBits FTy.f32 1149239296#32) := by
  rw [half, two, Consts.width, Ideal.div_coe (by norm_num : (1024 : ℝ) ≠ 0), Ideal.div_coe (by norm_num : (1024 : ℝ) ≠ 0), mul_one,
    ← EReal.coe_mul, ← mul_assoc, ← EReal.coe_mul, mul_comm z]
  norm_num

/-- Half of a sum of losses is the sum of their halves. -/
theorem half_sum (f : Fin 4096 → EReal) : Ideal.ofBits FTy.f32 1056964608#32 * ∑ t, f t
    = ∑ t, Ideal.ofBits FTy.f32 1056964608#32 * f t := by
  rw [half, mul_comm, Norm.sum_mul _ _ (by norm_num : (0 : ℝ) ≤ 1 / 2)]
  exact Finset.sum_congr rfl fun t _ => mul_comm _ _

variable (p : Vec Ideal S4096x2816 .bf16) (w : Vec Ideal S2816x1024 .bf16) (r y : Vec Ideal S4096x1024 .f32)
  (g : Vec Ideal S1x1024 .f32)

/-- A row before the last norm: the residual plus the product. -/
def hid (t : Fin 4096) (d : Fin 1024) : EReal := r (ix2 t d) + ∑ k : Fin 2816, p (ix2 t k) * w (ix2 k d)

/-- The row's gain and target. -/
abbrev gn (k : Fin 1024) : EReal := g (ix2 0 k)
abbrev tg (t : Fin 4096) (k : Fin 1024) : EReal := y (ix2 t k)

/-- The reference's row before the norm. -/
theorem ref_hid (t : Fin 4096) (d : Fin 1024) : val_main_v3 (F := Ideal) p w r (ix2 t d) = hid p w r t d := by
  unfold hid val_main_v3 val_main_v2 val_main_v1 val_main_v0
  pointwise

/-- Its mean square with the small constant. -/
theorem ref_ms (t : Fin 4096) : val_main_v10 (F := Ideal) p w r (ix2 t 0)
    = Ideal.div (∑ k, hid p w r t k * hid p w r t k) (Ideal.ofBits FTy.f32 1149239296#32) + Ideal.ofBits FTy.f32 897988541#32 := by
  have hp : ∀ k, val_main_v3 (F := Ideal) p w r (ix2 t k) = hid p w r t k := ref_hid p w r t
  unfold val_main_v10 val_main_v9 val_main_v8 val_main_v7 val_main_v6 val_main_v5 val_main_v4 val_main_cst val_main_cst_0 val_main_cst_1
  revert hp
  generalize val_main_v3 (F := Ideal) p w r = a
  intro hp
  pointwise
  simp only [hp]

/-- The reciprocal root. -/
theorem ref_inv (t : Fin 4096) : val_main_v11 (F := Ideal) p w r (ix2 t 0) = Norm.inv (hid p w r t) := by
  have hp := ref_ms p w r t
  unfold val_main_v11 Norm.inv
  revert hp
  generalize val_main_v10 (F := Ideal) p w r = a
  intro hp
  pointwise
  rw [hp]

/-- The normed row. -/
theorem ref_hat (t : Fin 4096) (d : Fin 1024) : val_main_v16 (F := Ideal) p w r (ix2 t d)
    = hid p w r t d * Norm.inv (hid p w r t) := by
  have hp := ref_hid p w r t d
  have hi := ref_inv p w r t
  unfold val_main_v16 val_main_v15
  revert hp hi
  generalize val_main_v3 (F := Ideal) p w r = a
  generalize val_main_v11 (F := Ideal) p w r = b
  intro hp hi
  pointwise
  rw [hp, hi]

/-- The error. -/
theorem ref_err (t : Fin 4096) (d : Fin 1024) : val_main_v19 (F := Ideal) p w r y g (ix2 t d)
    = err (hid p w r t) (gn g) (tg y t) d := by
  have hp := ref_hat p w r t d
  unfold err val_main_v19 val_main_v18 val_main_v17
  revert hp
  generalize val_main_v16 (F := Ideal) p w r = a
  intro hp
  pointwise
  rw [hp]

/-- The gradient with respect to the norm's output. -/
theorem ref_slope (t : Fin 4096) (d : Fin 1024) : val_main_v33 (F := Ideal) p w r y g (ix2 t d)
    = slope (hid p w r t) (gn g) (tg y t) d := by
  have hp := ref_err p w r y g t d
  unfold slope
  rw [← hp, ← slope_eq]
  unfold val_main_v33 val_main_v32 val_main_v31 val_main_v30 val_main_v29 val_main_v28 val_main_v22 val_main_v21 val_main_cst_3
    val_main_cst_8 val_main_cst_9 val_main_cst_10
  generalize val_main_v19 (F := Ideal) p w r y g = a
  pointwise

/-- The first result at an index is the chain rule's row. -/
theorem ref_back (t : Fin 4096) (d : Fin 1024) : val_main_v52 (F := Ideal) p w r y g (ix2 t d)
    = back (hid p w r t) (gn g) (tg y t) d := by
  have hs : ∀ k, val_main_v33 (F := Ideal) p w r y g (ix2 t k) = slope (hid p w r t) (gn g) (tg y t) k := ref_slope p w r y g t
  have hp : ∀ k, val_main_v3 (F := Ideal) p w r (ix2 t k) = hid p w r t k := ref_hid p w r t
  have hi := ref_inv p w r t
  have hm := ref_ms p w r t
  unfold back
  rw [Norm.row_eq_chain]
  unfold Norm.chain Norm.spread
  unfold val_main_v52 val_main_v51 val_main_v50 val_main_v49 val_main_v48 val_main_v47 val_main_v46 val_main_v45 val_main_v44
    val_main_v43 val_main_v42 val_main_v41 val_main_v40 val_main_v39 val_main_v38 val_main_v37 val_main_v14 val_main_v13
    val_main_v12 val_main_cst_2 val_main_cst_12 val_main_cst_13 val_main_cst_14
  revert hs hp hi hm
  generalize val_main_v33 (F := Ideal) p w r y g = a
  generalize val_main_v3 (F := Ideal) p w r = b
  generalize val_main_v11 (F := Ideal) p w r = e
  generalize val_main_v10 (F := Ideal) p w r = f
  intro hs hp hi hm
  pointwise
  simp only [Finset.univ_unique, Finset.sum_singleton, Fin.default_eq_zero, hs, hp, hi, hm, zero_add]

/-- The gain's gradient at a feature. -/
theorem ref_part (d : Fin 1024) : val_main_v36 (F := Ideal) p w r y g (ix2 0 d)
    = ∑ t : Fin 4096, part (hid p w r t) (gn g) (tg y t) d := by
  have hs : ∀ t k, val_main_v33 (F := Ideal) p w r y g (ix2 t k) = slope (hid p w r t) (gn g) (tg y t) k := ref_slope p w r y g
  have hp : ∀ t k, val_main_v16 (F := Ideal) p w r (ix2 t k) = hid p w r t k * Norm.inv (hid p w r t) := ref_hat p w r
  unfold part
  unfold val_main_v36 val_main_v35 val_main_v34 val_main_cst_11
  revert hs hp
  generalize val_main_v33 (F := Ideal) p w r y g = a
  generalize val_main_v16 (F := Ideal) p w r = b
  intro hs hp
  pointwise
  simp only [hs, hp]
  exact Finset.sum_congr rfl fun t _ => mul_comm _ _

/-- The loss. -/
theorem ref_miss : val_main_v54 (F := Ideal) p w r y g (ix2 0 0) = ∑ t : Fin 4096, miss (hid p w r t) (gn g) (tg y t) := by
  have hp : ∀ t k, val_main_v19 (F := Ideal) p w r y g (ix2 t k) = err (hid p w r t) (gn g) (tg y t) k := ref_err p w r y g
  unfold miss
  rw [← half_sum fun t => Ideal.div (∑ k, err (hid p w r t) (gn g) (tg y t) k * err (hid p w r t) (gn g) (tg y t) k)
    (Ideal.ofBits FTy.f32 1149239296#32)]
  unfold val_main_v54 val_main_v27 val_main_v26 val_main_v25 val_main_v24 val_main_v23 val_main_v20 val_main_cst_4 val_main_cst_5
    val_main_cst_6 val_main_cst_7
  revert hp
  generalize val_main_v19 (F := Ideal) p w r y g = a
  intro hp
  pointwise
  simp only [hp]

end Cert.HeadValue

end
-- ==== Proof.Head.lean ====
/- The last product with the loss head: what the kernel's blocks of rows and its two running sums leave, and that the two
   programs leave the same results. -/
module

public import proofs.«01_k».proof.Proof.Gen.KernelHeadIdeal.Value
public import proofs.«01_k».proof.Proof.HeadRef
public import Idealize.ShloMosaic.Lib.Pointwise
public import Idealize.ShloMosaic.Lib.Pipeline.ValueKit
public import proofs.«01_k».proof.Defs
public import proofs.«01_k».proof.Proof.Gen.KernelHead
public import proofs.«01_k».proof.Proof.Gen.ReferenceHeadIdeal

@[expose] public section

set_option maxRecDepth 16384

noncomputable section

namespace Cert.HeadValue

open Cert.KernelHeadIdeal Cert.KernelHeadIdeal.Gen Cert.KernelHeadIdeal.Value
open Idealize.ShloMosaic Idealize.ShloMosaic.TcCoe Idealize.SL.Sem

section forms

variable (p : Vec Ideal S4096x2816 .bf16) (w : Vec Ideal S2816x1024 .bf16) (r y : Vec Ideal S4096x1024 .f32)
  (g : Vec Ideal S1x1024 .f32)

/-- The gradient's rows. -/
def Rows : Vec Ideal S4096x1024 .f32 := fun j => back (hid p w r (j 0)) (gn g) (tg y (j 0)) (j 1)

/-- The loss. -/
def Loss : Vec Ideal S1x1 .f32 := fun _ => ∑ t : Fin 4096, miss (hid p w r t) (gn g) (tg y t)

/-- The gain's gradient. -/
def Gain : Vec Ideal S1x1024 .f32 := fun j => ∑ t : Fin 4096, part (hid p w r t) (gn g) (tg y t) (j 1)

end forms

section payloads

variable (x0 : Vec Ideal S512x2816 .bf16) (x1 : Vec Ideal S2816x1024 .bf16) (x2 x3 : Vec Ideal S512x1024 .f32)
  (x4 : Vec Ideal S1x1024 .f32)

/-- A row of the block before the norm. -/
def hidB (x : Fin 512) (d : Fin 1024) : EReal := x2 (ix2 x d) + ∑ k : Fin 2816, x0 (ix2 x k) * x1 (ix2 k d)

/-- A row of the block's target. -/
abbrev tgB (x : Fin 512) (k : Fin 1024) : EReal := x3 (ix2 x k)

theorem pay6_apply (x : Fin 512) (d : Fin 1024) : k0_pay6 x0 x1 x2 (ix2 x d) = hidB x0 x1 x2 x d := by
  unfold k0_pay6 hidB
  pointwise

theorem pay7_apply (x : Fin 512) : k0_pay7 x0 x1 x2 (ix2 x 0) = Norm.inv (hidB x0 x1 x2 x) := by
  have hp : ∀ k, k0_pay6 x0 x1 x2 (ix2 x k) = hidB x0 x1 x2 x k := pay6_apply x0 x1 x2 x
  unfold k0_pay7 Norm.inv
  revert hp
  generalize k0_pay6 x0 x1 x2 = a
  intro hp
  pointwise
  simp only [hp]

theorem pay8_apply (x : Fin 512) (d : Fin 1024) : k0_pay8 x0 x1 x2 (ix2 x d) = hidB x0 x1 x2 x d * Norm.inv (hidB x0 x1 x2 x) := by
  have hp := pay6_apply x0 x1 x2 x d
  have hi := pay7_apply x0 x1 x2 x
  unfold k0_pay8
  revert hp hi
  generalize k0_pay6 x0 x1 x2 = a
  generalize k0_pay7 x0 x1 x2 = b
  intro hp hi
  pointwise
  rw [hp, hi]

theorem pay9_apply (x : Fin 512) (d : Fin 1024) : k0_pay9 x0 x1 x2 x3 x4 (ix2 x d) = err (hidB x0 x1 x2 x) (gn x4) (tgB x3 x) d := by
  have hp := pay8_apply x0 x1 x2 x d
  unfold k0_pay9 err
  revert hp
  generalize k0_pay8 x0 x1 x2 = a
  intro hp
  pointwise
  rw [hp]

theorem pay10_apply (x : Fin 512) (d : Fin 1024) :
    k0_pay10 x0 x1 x2 x3 x4 (ix2 x d) = slope (hidB x0 x1 x2 x) (gn x4) (tgB x3 x) d := by
  have hp := pay9_apply x0 x1 x2 x3 x4 x d
  unfold k0_pay10 slope
  revert hp
  generalize k0_pay9 x0 x1 x2 x3 x4 = a
  intro hp
  pointwise
  rw [hp]

theorem pay11_apply (x : Fin 512) (d : Fin 1024) :
    k0_pay11 x0 x1 x2 x3 x4 (ix2 x d) = back (hidB x0 x1 x2 x) (gn x4) (tgB x3 x) d := by
  have hs : ∀ k, k0_pay10 x0 x1 x2 x3 x4 (ix2 x k) = slope (hidB x0 x1 x2 x) (gn x4) (tgB x3 x) k := pay10_apply x0 x1 x2 x3 x4 x
  have hp : ∀ k, k0_pay8 x0 x1 x2 (ix2 x k) = hidB x0 x1 x2 x k * Norm.inv (hidB x0 x1 x2 x) := pay8_apply x0 x1 x2 x
  have hi := pay7_apply x0 x1 x2 x
  unfold k0_pay11 back Norm.row
  revert hs hp hi
  generalize k0_pay10 x0 x1 x2 x3 x4 = a
  generalize k0_pay8 x0 x1 x2 = b
  generalize k0_pay7 x0 x1 x2 = e
  intro hs hp hi
  pointwise
  simp only [hs, hp, hi, zero_add]

theorem pay12_apply (x : Fin 512) : k0_pay12 x0 x1 x2 x3 x4 (ix2 x 0)
    = ∑ k, err (hidB x0 x1 x2 x) (gn x4) (tgB x3 x) k * err (hidB x0 x1 x2 x) (gn x4) (tgB x3 x) k := by
  have hp : ∀ k, k0_pay9 x0 x1 x2 x3 x4 (ix2 x k) = err (hidB x0 x1 x2 x) (gn x4) (tgB x3 x) k := pay9_apply x0 x1 x2 x3 x4 x
  unfold k0_pay12
  revert hp
  generalize k0_pay9 x0 x1 x2 x3 x4 = a
  intro hp
  pointwise
  simp only [hp]

/-- The loss's running sum, one block on. -/
theorem pay4_apply (z : Vec Ideal S1x1 .f32) : k0_pay4 (k0_pay12 x0 x1 x2 x3 x4) k0_pay13 z (ix2 0 0)
    = z (ix2 0 0) + ∑ x : Fin 512, miss (hidB x0 x1 x2 x) (gn x4) (tgB x3 x) := by
  have hp := pay12_apply x0 x1 x2 x3 x4
  unfold k0_pay4 k0_pay13 miss
  revert hp
  generalize k0_pay12 x0 x1 x2 x3 x4 = a
  intro hp
  pointwise
  simp only [hp]

/-- The gain's running sum, one block on. -/
theorem pay5_apply (z : Vec Ideal S1x1024 .f32) (d : Fin 1024) : k0_pay5 (k0_pay8 x0 x1 x2) (k0_pay10 x0 x1 x2 x3 x4) z (ix2 0 d)
    = z (ix2 0 d) + ∑ x : Fin 512, part (hidB x0 x1 x2 x) (gn x4) (tgB x3 x) d := by
  have hs : ∀ x k, k0_pay10 x0 x1 x2 x3 x4 (ix2 x k) = slope (hidB x0 x1 x2 x) (gn x4) (tgB x3 x) k := pay10_apply x0 x1 x2 x3 x4
  have hp : ∀ x k, k0_pay8 x0 x1 x2 (ix2 x k) = hidB x0 x1 x2 x k * Norm.inv (hidB x0 x1 x2 x) := pay8_apply x0 x1 x2
  unfold k0_pay5 part
  revert hs hp
  generalize k0_pay10 x0 x1 x2 x3 x4 = a
  generalize k0_pay8 x0 x1 x2 = b
  intro hs hp
  pointwise
  simp only [hs, hp]

/-- The sums start at zero. -/
theorem pay2_apply : k0_pay2 (F := Ideal) (ix2 0 0) = 0 := by
  unfold k0_pay2
  pointwise

theorem pay3_apply (d : Fin 1024) : k0_pay3 (F := Ideal) (ix2 0 d) = 0 := by
  unfold k0_pay3
  pointwise

/-- The rows in the narrow format are the same reals. -/
theorem pay1_apply (v : FVec Ideal S512x1024 .f32) (x : Fin 512) (d : Fin 1024) : k0_pay1 v (ix2 x d) = v (ix2 x d) := by
  unfold k0_pay1
  pointwise

end payloads

/-- Row `x` of the `n`-th block of 512. -/
def rowOf (n : ℕ) (hn : n < 8) (x : Fin 512) : Fin 4096 := ⟨n * 512 + x.val, by omega⟩

/-- The sum over the rows, block by block. -/
theorem sum_rows (f : Fin 4096 → EReal) (term : ℕ → EReal)
    (h : ∀ (n : ℕ) (hn : n < 8), term n = ∑ x : Fin 512, f (rowOf n hn x)) :
    ∑ n ∈ Finset.range 8, term n = ∑ t : Fin 4096, f t := by
  have e := Fin.sum_univ_univ_mul_add (M := EReal) 8 512 (fun l => if hl : l < 4096 then f ⟨l, hl⟩ else 0)
  have er : ∑ l : Fin (8 * 512), (if hl : l.val < 4096 then f ⟨l.val, hl⟩ else 0) = ∑ t : Fin 4096, f t :=
    Finset.sum_congr rfl fun l _ => dif_pos l.isLt
  rw [← er, ← e, ← Fin.sum_univ_eq_sum_range term 8]
  refine Finset.sum_congr rfl fun n _ => ?_
  rw [h n.val n.isLt]
  refine Finset.sum_congr rfl fun x _ => ?_
  have hx : n.val * 512 + x.val < 4096 := by have := n.isLt; have := x.isLt; omega
  rw [dif_pos hx]
  rfl

variable (m : (ℓ : Loc nD τ sig) → Buf (Elt Ideal) ℓ) (ρ : Dev nD → PrngReg)

/-- Where the input windows' blocks sit. -/
theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

/-- Where the output windows' blocks sit. -/
theorem idx_out : ∀ t : Fin cfg0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem points (t : Fin cfg0.N) : t.val < 8 := lt_of_lt_of_eq t.isLt (by decide)

theorem in0 (c : Dev nD) (t : Fin cfg0.N) (x : Fin 512) (k : Fin 2816) :
    iblk m c 0 t (ix2 x k) = V m c main_arg0 (ix2 (rowOf t.val (points t) x) k) := by
  obtain ⟨⟨e0, e1⟩, _, _, _, _⟩ := idx_in t
  show V m c main_arg0 (((cfg0.win 0).blk t).view.emb (ix2 x k)) = _
  refine congrArg _ (funext fun a => Fin.ext ?_)
  match a with
  | ⟨0, _⟩ => show win0_0.index t (0 : Fin 2) * 512 + 1 * x.val = t.val * 512 + x.val; omega
  | ⟨1, _⟩ => show win0_0.index t (1 : Fin 2) * 2816 + 1 * k.val = k.val; omega

theorem in1 (c : Dev nD) (t : Fin cfg0.N) (x : Fin 2816) (k : Fin 1024) :
    iblk m c 1 t (ix2 x k) = V m c main_arg1 (ix2 x k) := by
  obtain ⟨_, ⟨e0, e1⟩, _, _, _⟩ := idx_in t
  show V m c main_arg1 (((cfg0.win 1).blk t).view.emb (ix2 x k)) = _
  refine congrArg _ (funext fun a => Fin.ext ?_)
  match a with
  | ⟨0, _⟩ => show win0_1.index t (0 : Fin 2) * 2816 + 1 * x.val = x.val; omega
  | ⟨1, _⟩ => show win0_1.index t (1 : Fin 2) * 1024 + 1 * k.val = k.val; omega

theorem in2 (c : Dev nD) (t : Fin cfg0.N) (x : Fin 512) (k : Fin 1024) :
    iblk m c 2 t (ix2 x k) = V m c main_arg2 (ix2 (rowOf t.val (points t) x) k) := by
  obtain ⟨_, _, ⟨e0, e1⟩, _, _⟩ := idx_in t
  show V m c main_arg2 (((cfg0.win 2).blk t).view.emb (ix2 x k)) = _
  refine congrArg _ (funext fun a => Fin.ext ?_)
  match a with
  | ⟨0, _⟩ => show win0_2.index t (0 : Fin 2) * 512 + 1 * x.val = t.val * 512 + x.val; omega
  | ⟨1, _⟩ => show win0_2.index t (1 : Fin 2) * 1024 + 1 * k.val = k.val; omega

theorem in3 (c : Dev nD) (t : Fin cfg0.N) (x : Fin 512) (k : Fin 1024) :
    iblk m c 3 t (ix2 x k) = V m c main_arg3 (ix2 (rowOf t.val (points t) x) k) := by
  obtain ⟨_, _, _, ⟨e0, e1⟩, _⟩ := idx_in t
  show V m c main_arg3 (((cfg0.win 3).blk t).view.emb (ix2 x k)) = _
  refine congrArg _ (funext fun a => Fin.ext ?_)
  match a with
  | ⟨0, _⟩ => show win0_3.index t (0 : Fin 2) * 512 + 1 * x.val = t.val * 512 + x.val; omega
  | ⟨1, _⟩ => show win0_3.index t (1 : Fin 2) * 1024 + 1 * k.val = k.val; omega

theorem in4 (c : Dev nD) (t : Fin cfg0.N) (x : Fin 1) (k : Fin 1024) :
    iblk m c 4 t (ix2 x k) = V m c main_arg4 (ix2 x k) := by
  obtain ⟨_, _, _, _, ⟨e0, e1⟩⟩ := idx_in t
  show V m c main_arg4 (((cfg0.win 4).blk t).view.emb (ix2 x k)) = _
  refine congrArg _ (funext fun a => Fin.ext ?_)
  match a with
  | ⟨0, _⟩ => show win0_4.index t (0 : Fin 2) * 1 + 1 * x.val = x.val; omega
  | ⟨1, _⟩ => show win0_4.index t (1 : Fin 2) * 1024 + 1 * k.val = k.val; omega

/-- A block's rows are the arguments' rows. -/
theorem hid_blk (c : Dev nD) (t : Fin cfg0.N) (x : Fin 512) : hidB (iblk m c 0 t) (iblk m c 1 t) (iblk m c 2 t) x
    = hid (V m c main_arg0) (V m c main_arg1) (V m c main_arg2) (rowOf t.val (points t) x) := by
  funext d
  unfold hidB hid
  simp only [in0, in1, in2]

theorem tg_blk (c : Dev nD) (t : Fin cfg0.N) (x : Fin 512) : tgB (iblk m c 3 t) x = tg (V m c main_arg3) (rowOf t.val (points t) x) :=
  funext fun k => in3 m c t x k

theorem gn_blk (c : Dev nD) (t : Fin cfg0.N) : gn (iblk m c 4 t) = gn (V m c main_arg4) :=
  funext fun k => in4 m c t 0 k

/-- The row a point computes for row `x` of its block. -/
abbrev rowV (c : Dev nD) (t : Fin cfg0.N) (x : Fin 512) (d : Fin 1024) : EReal :=
  back (hid (V m c main_arg0) (V m c main_arg1) (V m c main_arg2) (rowOf t.val (points t) x)) (gn (V m c main_arg4))
    (tg (V m c main_arg3) (rowOf t.val (points t) x)) d

/-- Its loss. -/
abbrev missV (c : Dev nD) (t : Fin cfg0.N) (x : Fin 512) : EReal :=
  miss (hid (V m c main_arg0) (V m c main_arg1) (V m c main_arg2) (rowOf t.val (points t) x)) (gn (V m c main_arg4))
    (tg (V m c main_arg3) (rowOf t.val (points t) x))

/-- Its part of the gain's gradient. -/
abbrev partV (c : Dev nD) (t : Fin cfg0.N) (x : Fin 512) (d : Fin 1024) : EReal :=
  part (hid (V m c main_arg0) (V m c main_arg1) (V m c main_arg2) (rowOf t.val (points t) x)) (gn (V m c main_arg4))
    (tg (V m c main_arg3) (rowOf t.val (points t) x)) d

/-- The rows a point leaves in the first result's block. -/
theorem rows5 (c : Dev nD) (t : Fin cfg0.N) (x : Fin 512) (d : Fin 1024) :
    (outsAt0 m c t.val t.isLt).1 (ix2 x d) = rowV m c t x d := by
  unfold rowV
  by_cases h0 : t.val % 8 = 0
  · rw [outsAt0_A m c t h0]
    frame_out
    rw [pay11_apply, hid_blk, tg_blk, gn_blk]
  · rw [outsAt0_B m c t h0]
    frame_out
    rw [pay11_apply, hid_blk, tg_blk, gn_blk]

/-- And in the second result's. -/
theorem rows6 (c : Dev nD) (t : Fin cfg0.N) (x : Fin 512) (d : Fin 1024) :
    (outsAt0 m c t.val t.isLt).2.1 (ix2 x d) = rowV m c t x d := by
  unfold rowV
  by_cases h0 : t.val % 8 = 0
  · rw [outsAt0_A m c t h0]
    frame_out
    rw [pay1_apply, pay11_apply, hid_blk, tg_blk, gn_blk]
  · rw [outsAt0_B m c t h0]
    frame_out
    rw [pay1_apply, pay11_apply, hid_blk, tg_blk, gn_blk]

/-- The loss's running sum at the first point. -/
theorem loss7_A (c : Dev nD) (t : Fin cfg0.N) (h0 : t.val % 8 = 0) :
    (outsAt0 m c t.val t.isLt).2.2.1 (ix2 0 0) = ∑ x : Fin 512, missV m c t x := by
  unfold missV
  rw [outsAt0_A m c t h0]
  frame_out
  rw [pay4_apply, pay2_apply, zero_add]
  simp only [hid_blk, tg_blk, gn_blk]

/-- And at a later one. -/
theorem loss7_B (c : Dev nD) (t : Fin cfg0.N) (h0 : ¬t.val % 8 = 0) :
    (outsAt0 m c t.val t.isLt).2.2.1 (ix2 0 0)
      = (outsAt0 m c (t.val - 1) (Nat.lt_of_le_of_lt (Nat.sub_le _ _) t.isLt)).2.2.1 (ix2 0 0) + ∑ x : Fin 512, missV m c t x := by
  unfold missV
  rw [outsAt0_B m c t h0]
  frame_out
  rw [pay4_apply]
  simp only [hid_blk, tg_blk, gn_blk]

/-- The gain's running sum at the first point. -/
theorem gain8_A (c : Dev nD) (t : Fin cfg0.N) (h0 : t.val % 8 = 0) (d : Fin 1024) :
    (outsAt0 m c t.val t.isLt).2.2.2 (ix2 0 d) = ∑ x : Fin 512, partV m c t x d := by
  unfold partV
  rw [outsAt0_A m c t h0]
  frame_out
  rw [pay5_apply, pay3_apply, zero_add]
  simp only [hid_blk, tg_blk, gn_blk]

/-- And at a later one. -/
theorem gain8_B (c : Dev nD) (t : Fin cfg0.N) (h0 : ¬t.val % 8 = 0) (d : Fin 1024) :
    (outsAt0 m c t.val t.isLt).2.2.2 (ix2 0 d)
      = (outsAt0 m c (t.val - 1) (Nat.lt_of_le_of_lt (Nat.sub_le _ _) t.isLt)).2.2.2 (ix2 0 d) + ∑ x : Fin 512, partV m c t x d := by
  unfold partV
  rw [outsAt0_B m c t h0]
  frame_out
  rw [pay5_apply]
  simp only [hid_blk, tg_blk, gn_blk]

/-- An index of the one row. -/
theorem eta (y : S1x1024.Idx) : ∃ d : Fin 1024, y = ix2 0 d := by
  refine ⟨y 1, funext fun a => Fin.ext ?_⟩
  match a with
  | ⟨0, _⟩ => exact Nat.lt_one_iff.mp (y 0).isLt
  | ⟨1, _⟩ => rfl

/-- The one index of the loss. -/
theorem eta1 (y : S1x1.Idx) : y = ix2 0 0 := by
  funext a
  refine Fin.ext ?_
  match a with
  | ⟨0, _⟩ => exact Nat.lt_one_iff.mp (y 0).isLt
  | ⟨1, _⟩ => exact Nat.lt_one_iff.mp (y 1).isLt

/-- The loss after the last point. -/
theorem loss7_last (c : Dev nD) (t : Fin cfg0.N) (ht : t.val % 8 = 7) (y : S1x1.Idx) :
    (outsAt0 m c t.val t.isLt).2.2.1 y = Loss (V m c main_arg0) (V m c main_arg1) (V m c main_arg2) (V m c main_arg3) (V m c main_arg4) y := by
  have e := Pipeline.eq_sum_of_reset_step_apply_single_of_mod (fun n h => (outsAt0 m c n h).2.2.1) 8 (fun _ => (0 : EReal))
    (fun n y => if hn : n < cfg0.N then ∑ x : Fin 512, missV m c ⟨n, hn⟩ x else 0)
    (fun t h y => by
      obtain rfl := eta1 y
      refine (loss7_A m c t h).trans ?_
      rw [dif_pos t.isLt, zero_add])
    (fun t h y => by
      obtain rfl := eta1 y
      refine (loss7_B m c t h).trans ?_
      rw [dif_pos t.isLt])
    (by decide) t ht y
  refine e.trans ?_
  rw [zero_add]
  exact sum_rows (fun t => miss (hid (V m c main_arg0) (V m c main_arg1) (V m c main_arg2) t) (gn (V m c main_arg4))
    (tg (V m c main_arg3) t)) _ (fun n hn => dif_pos (show n < cfg0.N from lt_of_lt_of_eq hn (by decide)))

/-- The gain's gradient after the last point. -/
theorem gain8_last (c : Dev nD) (t : Fin cfg0.N) (ht : t.val % 8 = 7) (y : S1x1024.Idx) :
    (outsAt0 m c t.val t.isLt).2.2.2 y = Gain (V m c main_arg0) (V m c main_arg1) (V m c main_arg2) (V m c main_arg3) (V m c main_arg4) y := by
  have e := Pipeline.eq_sum_of_reset_step_apply_single_of_mod (fun n h => (outsAt0 m c n h).2.2.2) 8 (fun _ => (0 : EReal))
    (fun n y => if hn : n < cfg0.N then ∑ x : Fin 512, partV m c ⟨n, hn⟩ x (y 1) else 0)
    (fun t h y => by
      obtain ⟨d, rfl⟩ := eta y
      refine (gain8_A m c t h d).trans ?_
      rw [dif_pos t.isLt, zero_add]; rfl)
    (fun t h y => by
      obtain ⟨d, rfl⟩ := eta y
      refine (gain8_B m c t h d).trans ?_
      rw [dif_pos t.isLt]; rfl)
    (by decide) t ht y
  refine e.trans ?_
  rw [zero_add]
  exact sum_rows (fun t => part (hid (V m c main_arg0) (V m c main_arg1) (V m c main_arg2) t) (gn (V m c main_arg4))
    (tg (V m c main_arg3) t) (y 1)) _ (fun n hn => dif_pos (show n < cfg0.N from lt_of_lt_of_eq hn (by decide)))

/-- The first result's array: the rows. -/
theorem final5 (c : Dev nD) : (dats m 0 c).arrAt 5 cfg0.N = Rows (V m c main_arg0) (V m c main_arg1) (V m c main_arg2) (V m c main_arg3) (V m c main_arg4) := by
  refine (dats m 0 c).arrAt_eq_of_covers 5 _ (by decide +kernel) fun t hf y => ?_
  obtain ⟨⟨a0, a1⟩, ⟨b0, b1⟩, _⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 5).blk t).view.emb (ix2 x d) = ix2 (rowOf t.val (points t) x) d := funext fun a => Fin.ext (by
    match a with
    | ⟨0, _⟩ => show win0_5.index t (0 : Fin 2) * 512 + 1 * x.val = t.val * 512 + x.val; omega
    | ⟨1, _⟩ => show win0_5.index t (1 : Fin 2) * 1024 + 1 * d.val = d.val; omega)
  rw [e]
  refine Eq.trans ?_ (rows5 m c t x d)
  blk_simp
  rw [after0_5]

/-- The second result's array: the rows. -/
theorem final6 (c : Dev nD) : (dats m 0 c).arrAt 6 cfg0.N = Rows (V m c main_arg0) (V m c main_arg1) (V m c main_arg2) (V m c main_arg3) (V m c main_arg4) := by
  refine (dats m 0 c).arrAt_eq_of_covers 6 _ (by decide +kernel) fun t hf y => ?_
  obtain ⟨⟨a0, a1⟩, ⟨b0, b1⟩, _⟩ := idx_out t
  obtain ⟨x, d, rfl⟩ : ∃ (x : Fin 512) (d : Fin 1024), y = ix2 x d := ⟨y 0, y 1, funext fun a => by match a with | ⟨0, _⟩ => rfl | ⟨1, _⟩ => rfl⟩
  have e : ((cfg0.win 6).blk t).view.emb (ix2 x d) = ix2 (rowOf t.val (points t) x) d := funext fun a => Fin.ext (by
    match a with
    | ⟨0, _⟩ => show win0_6.index t (0 : Fin 2) * 512 + 1 * x.val = t.val * 512 + x.val; omega
    | ⟨1, _⟩ => show win0_6.index t (1 : Fin 2) * 1024 + 1 * d.val = d.val; omega)
  rw [e]
  refine Eq.trans ?_ (rows6 m c t x d)
  blk_simp
  rw [after0_6]

/-- The third result's: the loss. -/
theorem final7 (c : Dev nD) : (dats m 0 c).arrAt 7 cfg0.N = Loss (V m c main_arg0) (V m c main_arg1) (V m c main_arg2) (V m c main_arg3) (V m c main_arg4) := by
  refine (dats m 0 c).arrAt_eq_of_after_last 7 t0_7 (by decide +kernel) _ fun j => ?_
  rw [after0_7]
  exact loss7_last m c t0_7 (by decide) j

/-- The fourth result's: the gain's gradient. -/
theorem final8 (c : Dev nD) : (dats m 0 c).arrAt 8 cfg0.N = Gain (V m c main_arg0) (V m c main_arg1) (V m c main_arg2) (V m c main_arg3) (V m c main_arg4) := by
  refine (dats m 0 c).arrAt_eq_of_after_last 8 t0_7 (by decide +kernel) _ fun j => ?_
  rw [after0_8]
  exact gain8_last m c t0_7 (by decide) j

/-- The kernel's run: its four results, and the arguments as they were. -/
theorem run_all : θ_run defs (onTc (τ := τ) (main (F := Ideal))) ⟨m, fun _ => 0, ρ⟩ fun r => ∀ c : Dev nD,
      r.2.mem ((c : Thread nD τ).loc main_v0_0)
        = Rows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1)
        = Rows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2)
        = Loss (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3)
        = Gain (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c),
    (h c).2.2.1.trans (final7 m c), (h c).2.2.2.1.trans (final8 m c), (h c).2.2.2.2⟩) (run_blocks m ρ)

/-- The two programs leave the same four results. -/
theorem algebraic : Cert.algebraic_KernelHeadIdeal_ReferenceHeadIdeal := by
  intro m g m' g' _ hagree
  refine ⟨_, _, _, _, run_all m g, ?_⟩
  refine (θ_run _ _ _).mono (fun r h c => ?_) (Cert.ReferenceHeadIdeal.Value.run m' g')
  obtain ⟨h0, h1, h2, h3, hk⟩ := h c
  obtain ⟨a0, a1, a2, a3, a4⟩ := hagree c
  refine ⟨?_, ?_, ?_, ?_, hk⟩
  · rw [h0, Cert.ReferenceHeadIdeal.Read.val_main_v52_eq, a0, a1, a2, a3, a4]
    funext j
    obtain ⟨t, d, rfl⟩ : ∃ (t : Fin 4096) (d : Fin 1024), j = ix2 t d := ⟨j 0, j 1, funext fun a => by match a with | ⟨0, _⟩ => rfl | ⟨1, _⟩ => rfl⟩
    exact ref_back _ _ _ _ _ t d
  · rw [h1, Cert.ReferenceHeadIdeal.Read.val_main_v53_eq, a0, a1, a2, a3, a4]
    funext j
    obtain ⟨t, d, rfl⟩ : ∃ (t : Fin 4096) (d : Fin 1024), j = ix2 t d := ⟨j 0, j 1, funext fun a => by match a with | ⟨0, _⟩ => rfl | ⟨1, _⟩ => rfl⟩
    exact ref_back _ _ _ _ _ t d
  · rw [h2, Cert.ReferenceHeadIdeal.Read.val_main_v54_eq, a0, a1, a2, a3, a4]
    funext j
    obtain rfl := eta1 j
    exact ref_miss _ _ _ _ _
  · rw [h3, Cert.ReferenceHeadIdeal.Read.val_main_v36_eq, a0, a1, a2, a3, a4]
    funext j
    obtain ⟨d, rfl⟩ := eta j
    exact ref_part _ _ _ _ _ d

end Cert.HeadValue

end
-- ==== Proof.lean ====
/- The certificate: every program runs and leaves its arguments as they were, and each kernel leaves its reference's results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelDh
public import proofs.«01_k».proof.Proof.Gen.KernelDh.Frame
public import proofs.«01_k».proof.Proof.Gen.KernelDhIdeal
public import proofs.«01_k».proof.Proof.Gen.KernelDhIdeal.Frame
public import proofs.«01_k».proof.Proof.Gen.ReferenceDhIdeal
public import proofs.«01_k».proof.Proof.Gen.ReferenceDhIdeal.Run
public import proofs.«01_k».proof.Proof.Dh
public import proofs.«01_k».proof.Proof.Gen.KernelDwu
public import proofs.«01_k».proof.Proof.Gen.KernelDwu.Frame
public import proofs.«01_k».proof.Proof.Gen.KernelDwuIdeal
public import proofs.«01_k».proof.Proof.Gen.KernelDwuIdeal.Frame
public import proofs.«01_k».proof.Proof.Gen.ReferenceDwuIdeal
public import proofs.«01_k».proof.Proof.Gen.ReferenceDwuIdeal.Run
public import proofs.«01_k».proof.Proof.Dwu
public import proofs.«01_k».proof.Proof.Gen.KernelDg
public import proofs.«01_k».proof.Proof.Gen.KernelDg.Frame
public import proofs.«01_k».proof.Proof.Gen.KernelDgIdeal
public import proofs.«01_k».proof.Proof.Gen.KernelDgIdeal.Frame
public import proofs.«01_k».proof.Proof.Gen.ReferenceDgIdeal
public import proofs.«01_k».proof.Proof.Gen.ReferenceDgIdeal.Run
public import proofs.«01_k».proof.Proof.Dg
public import proofs.«01_k».proof.Proof.Gen.KernelDwd
public import proofs.«01_k».proof.Proof.Gen.KernelDwd.Frame
public import proofs.«01_k».proof.Proof.Gen.KernelDwdIdeal
public import proofs.«01_k».proof.Proof.Gen.KernelDwdIdeal.Frame
public import proofs.«01_k».proof.Proof.Gen.ReferenceDwdIdeal
public import proofs.«01_k».proof.Proof.Gen.ReferenceDwdIdeal.Run
public import proofs.«01_k».proof.Proof.Dwd
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Up
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Down
public import proofs.«01_k».proof.Proof.Gen.KernelDx
public import proofs.«01_k».proof.Proof.Gen.KernelDx.Frame
public import proofs.«01_k».proof.Proof.Gen.KernelDxIdeal
public import proofs.«01_k».proof.Proof.Gen.KernelDxIdeal.Frame
public import proofs.«01_k».proof.Proof.Gen.ReferenceDxIdeal
public import proofs.«01_k».proof.Proof.Gen.ReferenceDxIdeal.Run
public import proofs.«01_k».proof.Proof.Dx
public import proofs.«01_k».proof.Proof.Gen.KernelDwa
public import proofs.«01_k».proof.Proof.Gen.KernelDwa.Frame
public import proofs.«01_k».proof.Proof.Gen.KernelDwaIdeal
public import proofs.«01_k».proof.Proof.Gen.KernelDwaIdeal.Frame
public import proofs.«01_k».proof.Proof.Gen.ReferenceDwaIdeal
public import proofs.«01_k».proof.Proof.Gen.ReferenceDwaIdeal.Run
public import proofs.«01_k».proof.Proof.Dwa
public import proofs.«01_k».proof.Proof.Gen.KernelDwb
public import proofs.«01_k».proof.Proof.Gen.KernelDwb.Frame
public import proofs.«01_k».proof.Proof.Gen.KernelDwbIdeal
public import proofs.«01_k».proof.Proof.Gen.KernelDwbIdeal.Frame
public import proofs.«01_k».proof.Proof.Gen.ReferenceDwbIdeal
public import proofs.«01_k».proof.Proof.Gen.ReferenceDwbIdeal.Run
public import proofs.«01_k».proof.Proof.Dwb
public import proofs.«01_k».proof.Proof.Gen.KernelPw
public import proofs.«01_k».proof.Proof.Gen.KernelPw.Frame
public import proofs.«01_k».proof.Proof.Gen.KernelPwIdeal
public import proofs.«01_k».proof.Proof.Gen.KernelPwIdeal.Frame
public import proofs.«01_k».proof.Proof.Gen.ReferencePwIdeal
public import proofs.«01_k».proof.Proof.Gen.ReferencePwIdeal.Run
public import proofs.«01_k».proof.Proof.Pw
public import proofs.«01_k».proof.Proof.Gen.KernelSum
public import proofs.«01_k».proof.Proof.Gen.KernelSum.Frame
public import proofs.«01_k».proof.Proof.Gen.KernelSumIdeal
public import proofs.«01_k».proof.Proof.Gen.KernelSumIdeal.Frame
public import proofs.«01_k».proof.Proof.Gen.ReferenceSumIdeal
public import proofs.«01_k».proof.Proof.Gen.ReferenceSumIdeal.Run
public import proofs.«01_k».proof.Proof.Sum
public import proofs.«01_k».proof.Proof.Gen.KernelAda
public import proofs.«01_k».proof.Proof.Gen.KernelAda.Frame
public import proofs.«01_k».proof.Proof.Gen.KernelAdaIdeal
public import proofs.«01_k».proof.Proof.Gen.KernelAdaIdeal.Frame
public import proofs.«01_k».proof.Proof.Gen.ReferenceAdaIdeal
public import proofs.«01_k».proof.Proof.Gen.ReferenceAdaIdeal.Run
public import proofs.«01_k».proof.Proof.Ada
public import proofs.«01_k».proof.Proof.Gen.KernelAdb
public import proofs.«01_k».proof.Proof.Gen.KernelAdb.Frame
public import proofs.«01_k».proof.Proof.Gen.KernelAdbIdeal
public import proofs.«01_k».proof.Proof.Gen.KernelAdbIdeal.Frame
public import proofs.«01_k».proof.Proof.Gen.ReferenceAdbIdeal
public import proofs.«01_k».proof.Proof.Gen.ReferenceAdbIdeal.Run
public import proofs.«01_k».proof.Proof.Adb
public import proofs.«01_k».proof.Proof.Gen.KernelAdp
public import proofs.«01_k».proof.Proof.Gen.KernelAdp.Frame
public import proofs.«01_k».proof.Proof.Gen.KernelAdpIdeal
public import proofs.«01_k».proof.Proof.Gen.KernelAdpIdeal.Frame
public import proofs.«01_k».proof.Proof.Gen.ReferenceAdpIdeal
public import proofs.«01_k».proof.Proof.Gen.ReferenceAdpIdeal.Run
public import proofs.«01_k».proof.Proof.Adp
public import proofs.«01_k».proof.Proof.Gen.KernelAds
public import proofs.«01_k».proof.Proof.Gen.KernelAds.Frame
public import proofs.«01_k».proof.Proof.Gen.KernelAdsIdeal
public import proofs.«01_k».proof.Proof.Gen.KernelAdsIdeal.Frame
public import proofs.«01_k».proof.Proof.Gen.ReferenceAdsIdeal
public import proofs.«01_k».proof.Proof.Gen.ReferenceAdsIdeal.Run
public import proofs.«01_k».proof.Proof.Ads
public import proofs.«01_k».proof.Proof.Gen.KernelAdu
public import proofs.«01_k».proof.Proof.Gen.KernelAdu.Frame
public import proofs.«01_k».proof.Proof.Gen.KernelAduIdeal
public import proofs.«01_k».proof.Proof.Gen.KernelAduIdeal.Frame
public import proofs.«01_k».proof.Proof.Gen.ReferenceAduIdeal
public import proofs.«01_k».proof.Proof.Gen.ReferenceAduIdeal.Run
public import proofs.«01_k».proof.Proof.Adu
public import proofs.«01_k».proof.Proof.Gen.KernelAdf
public import proofs.«01_k».proof.Proof.Gen.KernelAdf.Frame
public import proofs.«01_k».proof.Proof.Gen.KernelAdfIdeal
public import proofs.«01_k».proof.Proof.Gen.KernelAdfIdeal.Frame
public import proofs.«01_k».proof.Proof.Gen.ReferenceAdfIdeal
public import proofs.«01_k».proof.Proof.Gen.ReferenceAdfIdeal.Run
public import proofs.«01_k».proof.Proof.Adf
public import proofs.«01_k».proof.Proof.Gen.KernelRms
public import proofs.«01_k».proof.Proof.Gen.KernelRms.Frame
public import proofs.«01_k».proof.Proof.Gen.KernelRmsIdeal
public import proofs.«01_k».proof.Proof.Gen.KernelRmsIdeal.Frame
public import proofs.«01_k».proof.Proof.Gen.ReferenceRmsIdeal
public import proofs.«01_k».proof.Proof.Gen.ReferenceRmsIdeal.Run
public import proofs.«01_k».proof.Proof.Rms
public import proofs.«01_k».proof.Proof.Gen.KernelPwb
public import proofs.«01_k».proof.Proof.Gen.KernelPwb.Frame
public import proofs.«01_k».proof.Proof.Gen.KernelPwbIdeal
public import proofs.«01_k».proof.Proof.Gen.KernelPwbIdeal.Frame
public import proofs.«01_k».proof.Proof.Gen.ReferencePwbIdeal
public import proofs.«01_k».proof.Proof.Gen.ReferencePwbIdeal.Run
public import proofs.«01_k».proof.Proof.Pwb
public import proofs.«01_k».proof.Proof.Gen.KernelHead
public import proofs.«01_k».proof.Proof.Gen.KernelHead.Frame
public import proofs.«01_k».proof.Proof.Gen.KernelHeadIdeal
public import proofs.«01_k».proof.Proof.Gen.KernelHeadIdeal.Frame
public import proofs.«01_k».proof.Proof.Gen.ReferenceHeadIdeal
public import proofs.«01_k».proof.Proof.Gen.ReferenceHeadIdeal.Run
public import proofs.«01_k».proof.Proof.Head
public import Idealize.ShloMosaic.Adequacy
public import Idealize.ShloMosaic.Init

@[expose] public section

noncomputable section

namespace Cert.Proof

open Idealize.ShloMosaic Idealize.SL.Sem

/-- `ReferenceIdeal` runs, leaves its arguments as they were, and has no semaphore to leave above zero. -/
theorem frame_reference_pool (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0 :=
  (θ_run _ _ _).mono (fun r h => ⟨fun c => (h c).2.2.2.2.2.2, sem_eq_zero_of_no_sems (by decide) r.2⟩) (Cert.ReferenceIdeal.Value.run m ρ)

/-- `ReferenceDhIdeal` runs, leaves its arguments as they were, and has no semaphore to leave above zero. -/
theorem frame_reference_dh (m : (ℓ : Loc Cert.ReferenceDhIdeal.nD Cert.ReferenceDhIdeal.τ Cert.ReferenceDhIdeal.sig) → Buf (Elt Ideal) ℓ) (ρ : Dev Cert.ReferenceDhIdeal.nD → PrngReg) :
    θ_run (Cert.ReferenceDhIdeal.defs (F := Ideal)) (onTc (τ := Cert.ReferenceDhIdeal.τ) (Cert.ReferenceDhIdeal.main (F := Ideal))) ⟨m, fun _ => 0, ρ⟩ fun r =>
      (∀ c : Dev Cert.ReferenceDhIdeal.nD, r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
        ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
        ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
        ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
        ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0 :=
  (θ_run _ _ _).mono (fun r h => ⟨fun c => (h c).2.2.2.2, sem_eq_zero_of_no_sems (by decide) r.2⟩) (Cert.ReferenceDhIdeal.Value.run m ρ)

/-- `ReferenceDwuIdeal` runs, leaves its arguments as they were, and has no semaphore to leave above zero. -/
theorem frame_reference_dwu (m : (ℓ : Loc Cert.ReferenceDwuIdeal.nD Cert.ReferenceDwuIdeal.τ Cert.ReferenceDwuIdeal.sig) → Buf (Elt Ideal) ℓ) (ρ : Dev Cert.ReferenceDwuIdeal.nD → PrngReg) :
    θ_run (Cert.ReferenceDwuIdeal.defs (F := Ideal)) (onTc (τ := Cert.ReferenceDwuIdeal.τ) (Cert.ReferenceDwuIdeal.main (F := Ideal))) ⟨m, fun _ => 0, ρ⟩ fun r =>
      (∀ c : Dev Cert.ReferenceDwuIdeal.nD, r.2.mem ((c.tc : Thread Cert.ReferenceDwuIdeal.nD Cert.ReferenceDwuIdeal.τ).loc Cert.ReferenceDwuIdeal.main_arg0) = m ((c.tc : Thread Cert.ReferenceDwuIdeal.nD Cert.ReferenceDwuIdeal.τ).loc Cert.ReferenceDwuIdeal.main_arg0)
        ∧ r.2.mem ((c.tc : Thread Cert.ReferenceDwuIdeal.nD Cert.ReferenceDwuIdeal.τ).loc Cert.ReferenceDwuIdeal.main_arg1) = m ((c.tc : Thread Cert.ReferenceDwuIdeal.nD Cert.ReferenceDwuIdeal.τ).loc Cert.ReferenceDwuIdeal.main_arg1))
      ∧ r.2.sem = fun _ => 0 :=
  (θ_run _ _ _).mono (fun r h => ⟨fun c => (h c).2, sem_eq_zero_of_no_sems (by decide) r.2⟩) (Cert.ReferenceDwuIdeal.Value.run m ρ)

/-- `ReferenceDgIdeal` runs, leaves its arguments as they were, and has no semaphore to leave above zero. -/
theorem frame_reference_dg (m : (ℓ : Loc Cert.ReferenceDgIdeal.nD Cert.ReferenceDgIdeal.τ Cert.ReferenceDgIdeal.sig) → Buf (Elt Ideal) ℓ) (ρ : Dev Cert.ReferenceDgIdeal.nD → PrngReg) :
    θ_run (Cert.ReferenceDgIdeal.defs (F := Ideal)) (onTc (τ := Cert.ReferenceDgIdeal.τ) (Cert.ReferenceDgIdeal.main (F := Ideal))) ⟨m, fun _ => 0, ρ⟩ fun r =>
      (∀ c : Dev Cert.ReferenceDgIdeal.nD, r.2.mem ((c.tc : Thread Cert.ReferenceDgIdeal.nD Cert.ReferenceDgIdeal.τ).loc Cert.ReferenceDgIdeal.main_arg0) = m ((c.tc : Thread Cert.ReferenceDgIdeal.nD Cert.ReferenceDgIdeal.τ).loc Cert.ReferenceDgIdeal.main_arg0)
        ∧ r.2.mem ((c.tc : Thread Cert.ReferenceDgIdeal.nD Cert.ReferenceDgIdeal.τ).loc Cert.ReferenceDgIdeal.main_arg1) = m ((c.tc : Thread Cert.ReferenceDgIdeal.nD Cert.ReferenceDgIdeal.τ).loc Cert.ReferenceDgIdeal.main_arg1))
      ∧ r.2.sem = fun _ => 0 :=
  (θ_run _ _ _).mono (fun r h => ⟨fun c => (h c).2, sem_eq_zero_of_no_sems (by decide) r.2⟩) (Cert.ReferenceDgIdeal.Value.run m ρ)

/-- `ReferenceDwdIdeal` runs, leaves its arguments as they were, and has no semaphore to leave above zero. -/
theorem frame_reference_dwd (m : (ℓ : Loc Cert.ReferenceDwdIdeal.nD Cert.ReferenceDwdIdeal.τ Cert.ReferenceDwdIdeal.sig) → Buf (Elt Ideal) ℓ) (ρ : Dev Cert.ReferenceDwdIdeal.nD → PrngReg) :
    θ_run (Cert.ReferenceDwdIdeal.defs (F := Ideal)) (onTc (τ := Cert.ReferenceDwdIdeal.τ) (Cert.ReferenceDwdIdeal.main (F := Ideal))) ⟨m, fun _ => 0, ρ⟩ fun r =>
      (∀ c : Dev Cert.ReferenceDwdIdeal.nD, r.2.mem ((c.tc : Thread Cert.ReferenceDwdIdeal.nD Cert.ReferenceDwdIdeal.τ).loc Cert.ReferenceDwdIdeal.main_arg0) = m ((c.tc : Thread Cert.ReferenceDwdIdeal.nD Cert.ReferenceDwdIdeal.τ).loc Cert.ReferenceDwdIdeal.main_arg0)
        ∧ r.2.mem ((c.tc : Thread Cert.ReferenceDwdIdeal.nD Cert.ReferenceDwdIdeal.τ).loc Cert.ReferenceDwdIdeal.main_arg1) = m ((c.tc : Thread Cert.ReferenceDwdIdeal.nD Cert.ReferenceDwdIdeal.τ).loc Cert.ReferenceDwdIdeal.main_arg1))
      ∧ r.2.sem = fun _ => 0 :=
  (θ_run _ _ _).mono (fun r h => ⟨fun c => (h c).2, sem_eq_zero_of_no_sems (by decide) r.2⟩) (Cert.ReferenceDwdIdeal.Value.run m ρ)

/-- `ReferenceUpIdeal` runs, leaves its arguments as they were, and has no semaphore to leave above zero. -/
theorem frame_reference_up (m : (ℓ : Loc Cert.ReferenceUpIdeal.nD Cert.ReferenceUpIdeal.τ Cert.ReferenceUpIdeal.sig) → Buf (Elt Ideal) ℓ) (ρ : Dev Cert.ReferenceUpIdeal.nD → PrngReg) :
    θ_run (Cert.ReferenceUpIdeal.defs (F := Ideal)) (onTc (τ := Cert.ReferenceUpIdeal.τ) (Cert.ReferenceUpIdeal.main (F := Ideal))) ⟨m, fun _ => 0, ρ⟩ fun r =>
      (∀ c : Dev Cert.ReferenceUpIdeal.nD, r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
        ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0 :=
  (θ_run _ _ _).mono (fun r h => ⟨fun c => (h c).2, sem_eq_zero_of_no_sems (by decide) r.2⟩) (Cert.ReferenceUpIdeal.Value.run m ρ)

/-- `ReferenceDownIdeal` runs, leaves its arguments as they were, and has no semaphore to leave above zero. -/
theorem frame_reference_down (m : (ℓ : Loc Cert.ReferenceDownIdeal.nD Cert.ReferenceDownIdeal.τ Cert.ReferenceDownIdeal.sig) → Buf (Elt Ideal) ℓ) (ρ : Dev Cert.ReferenceDownIdeal.nD → PrngReg) :
    θ_run (Cert.ReferenceDownIdeal.defs (F := Ideal)) (onTc (τ := Cert.ReferenceDownIdeal.τ) (Cert.ReferenceDownIdeal.main (F := Ideal))) ⟨m, fun _ => 0, ρ⟩ fun r =>
      (∀ c : Dev Cert.ReferenceDownIdeal.nD, r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
        ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
        ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0 :=
  (θ_run _ _ _).mono (fun r h => ⟨fun c => (h c).2, sem_eq_zero_of_no_sems (by decide) r.2⟩) (Cert.ReferenceDownIdeal.Value.run m ρ)

/-- `ReferenceDxIdeal` runs, leaves its arguments as they were, and has no semaphore to leave above zero. -/
theorem frame_reference_dx (m : (ℓ : Loc Cert.ReferenceDxIdeal.nD Cert.ReferenceDxIdeal.τ Cert.ReferenceDxIdeal.sig) → Buf (Elt Ideal) ℓ) (ρ : Dev Cert.ReferenceDxIdeal.nD → PrngReg) :
    θ_run (Cert.ReferenceDxIdeal.defs (F := Ideal)) (onTc (τ := Cert.ReferenceDxIdeal.τ) (Cert.ReferenceDxIdeal.main (F := Ideal))) ⟨m, fun _ => 0, ρ⟩ fun r =>
      (∀ c : Dev Cert.ReferenceDxIdeal.nD, r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
        ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
        ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
        ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
        ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0 :=
  (θ_run _ _ _).mono (fun r h => ⟨fun c => (h c).2.2.2, sem_eq_zero_of_no_sems (by decide) r.2⟩) (Cert.ReferenceDxIdeal.Value.run m ρ)

/-- `ReferenceDwaIdeal` runs, leaves its arguments as they were, and has no semaphore to leave above zero. -/
theorem frame_reference_dwa (m : (ℓ : Loc Cert.ReferenceDwaIdeal.nD Cert.ReferenceDwaIdeal.τ Cert.ReferenceDwaIdeal.sig) → Buf (Elt Ideal) ℓ) (ρ : Dev Cert.ReferenceDwaIdeal.nD → PrngReg) :
    θ_run (Cert.ReferenceDwaIdeal.defs (F := Ideal)) (onTc (τ := Cert.ReferenceDwaIdeal.τ) (Cert.ReferenceDwaIdeal.main (F := Ideal))) ⟨m, fun _ => 0, ρ⟩ fun r =>
      (∀ c : Dev Cert.ReferenceDwaIdeal.nD, r.2.mem ((c.tc : Thread Cert.ReferenceDwaIdeal.nD Cert.ReferenceDwaIdeal.τ).loc Cert.ReferenceDwaIdeal.main_arg0) = m ((c.tc : Thread Cert.ReferenceDwaIdeal.nD Cert.ReferenceDwaIdeal.τ).loc Cert.ReferenceDwaIdeal.main_arg0)
        ∧ r.2.mem ((c.tc : Thread Cert.ReferenceDwaIdeal.nD Cert.ReferenceDwaIdeal.τ).loc Cert.ReferenceDwaIdeal.main_arg1) = m ((c.tc : Thread Cert.ReferenceDwaIdeal.nD Cert.ReferenceDwaIdeal.τ).loc Cert.ReferenceDwaIdeal.main_arg1))
      ∧ r.2.sem = fun _ => 0 :=
  (θ_run _ _ _).mono (fun r h => ⟨fun c => (h c).2, sem_eq_zero_of_no_sems (by decide) r.2⟩) (Cert.ReferenceDwaIdeal.Value.run m ρ)

/-- `ReferenceDwbIdeal` runs, leaves its arguments as they were, and has no semaphore to leave above zero. -/
theorem frame_reference_dwb (m : (ℓ : Loc Cert.ReferenceDwbIdeal.nD Cert.ReferenceDwbIdeal.τ Cert.ReferenceDwbIdeal.sig) → Buf (Elt Ideal) ℓ) (ρ : Dev Cert.ReferenceDwbIdeal.nD → PrngReg) :
    θ_run (Cert.ReferenceDwbIdeal.defs (F := Ideal)) (onTc (τ := Cert.ReferenceDwbIdeal.τ) (Cert.ReferenceDwbIdeal.main (F := Ideal))) ⟨m, fun _ => 0, ρ⟩ fun r =>
      (∀ c : Dev Cert.ReferenceDwbIdeal.nD, r.2.mem ((c.tc : Thread Cert.ReferenceDwbIdeal.nD Cert.ReferenceDwbIdeal.τ).loc Cert.ReferenceDwbIdeal.main_arg0) = m ((c.tc : Thread Cert.ReferenceDwbIdeal.nD Cert.ReferenceDwbIdeal.τ).loc Cert.ReferenceDwbIdeal.main_arg0)
        ∧ r.2.mem ((c.tc : Thread Cert.ReferenceDwbIdeal.nD Cert.ReferenceDwbIdeal.τ).loc Cert.ReferenceDwbIdeal.main_arg1) = m ((c.tc : Thread Cert.ReferenceDwbIdeal.nD Cert.ReferenceDwbIdeal.τ).loc Cert.ReferenceDwbIdeal.main_arg1))
      ∧ r.2.sem = fun _ => 0 :=
  (θ_run _ _ _).mono (fun r h => ⟨fun c => (h c).2, sem_eq_zero_of_no_sems (by decide) r.2⟩) (Cert.ReferenceDwbIdeal.Value.run m ρ)

/-- `ReferencePwIdeal` runs, leaves its arguments as they were, and has no semaphore to leave above zero. -/
theorem frame_reference_pw (m : (ℓ : Loc Cert.ReferencePwIdeal.nD Cert.ReferencePwIdeal.τ Cert.ReferencePwIdeal.sig) → Buf (Elt Ideal) ℓ) (ρ : Dev Cert.ReferencePwIdeal.nD → PrngReg) :
    θ_run (Cert.ReferencePwIdeal.defs (F := Ideal)) (onTc (τ := Cert.ReferencePwIdeal.τ) (Cert.ReferencePwIdeal.main (F := Ideal))) ⟨m, fun _ => 0, ρ⟩ fun r =>
      (∀ c : Dev Cert.ReferencePwIdeal.nD, r.2.mem ((c.tc : Thread Cert.ReferencePwIdeal.nD Cert.ReferencePwIdeal.τ).loc Cert.ReferencePwIdeal.main_arg0) = m ((c.tc : Thread Cert.ReferencePwIdeal.nD Cert.ReferencePwIdeal.τ).loc Cert.ReferencePwIdeal.main_arg0)
        ∧ r.2.mem ((c.tc : Thread Cert.ReferencePwIdeal.nD Cert.ReferencePwIdeal.τ).loc Cert.ReferencePwIdeal.main_arg1) = m ((c.tc : Thread Cert.ReferencePwIdeal.nD Cert.ReferencePwIdeal.τ).loc Cert.ReferencePwIdeal.main_arg1)
        ∧ r.2.mem ((c.tc : Thread Cert.ReferencePwIdeal.nD Cert.ReferencePwIdeal.τ).loc Cert.ReferencePwIdeal.main_arg2) = m ((c.tc : Thread Cert.ReferencePwIdeal.nD Cert.ReferencePwIdeal.τ).loc Cert.ReferencePwIdeal.main_arg2))
      ∧ r.2.sem = fun _ => 0 :=
  (θ_run _ _ _).mono (fun r h => ⟨fun c => (h c).2, sem_eq_zero_of_no_sems (by decide) r.2⟩) (Cert.ReferencePwIdeal.Value.run m ρ)

/-- `ReferenceSumIdeal` runs, leaves its arguments as they were, and has no semaphore to leave above zero. -/
theorem frame_reference_sum (m : (ℓ : Loc Cert.ReferenceSumIdeal.nD Cert.ReferenceSumIdeal.τ Cert.ReferenceSumIdeal.sig) → Buf (Elt Ideal) ℓ) (ρ : Dev Cert.ReferenceSumIdeal.nD → PrngReg) :
    θ_run (Cert.ReferenceSumIdeal.defs (F := Ideal)) (onTc (τ := Cert.ReferenceSumIdeal.τ) (Cert.ReferenceSumIdeal.main (F := Ideal))) ⟨m, fun _ => 0, ρ⟩ fun r =>
      (∀ c : Dev Cert.ReferenceSumIdeal.nD, r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0 :=
  (θ_run _ _ _).mono (fun r h => ⟨fun c => (h c).2, sem_eq_zero_of_no_sems (by decide) r.2⟩) (Cert.ReferenceSumIdeal.Value.run m ρ)

/-- `ReferenceAdaIdeal` runs, leaves its arguments as they were, and has no semaphore to leave above zero. -/
theorem frame_reference_ada (m : (ℓ : Loc Cert.ReferenceAdaIdeal.nD Cert.ReferenceAdaIdeal.τ Cert.ReferenceAdaIdeal.sig) → Buf (Elt Ideal) ℓ) (ρ : Dev Cert.ReferenceAdaIdeal.nD → PrngReg) :
    θ_run (Cert.ReferenceAdaIdeal.defs (F := Ideal)) (onTc (τ := Cert.ReferenceAdaIdeal.τ) (Cert.ReferenceAdaIdeal.main (F := Ideal))) ⟨m, fun _ => 0, ρ⟩ fun r =>
      (∀ c : Dev Cert.ReferenceAdaIdeal.nD, r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
        ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
        ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
        ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0 :=
  (θ_run _ _ _).mono (fun r h => ⟨fun c => (h c).2.2.2.2, sem_eq_zero_of_no_sems (by decide) r.2⟩) (Cert.ReferenceAdaIdeal.Value.run m ρ)

/-- `ReferenceAdbIdeal` runs, leaves its arguments as they were, and has no semaphore to leave above zero. -/
theorem frame_reference_adb (m : (ℓ : Loc Cert.ReferenceAdbIdeal.nD Cert.ReferenceAdbIdeal.τ Cert.ReferenceAdbIdeal.sig) → Buf (Elt Ideal) ℓ) (ρ : Dev Cert.ReferenceAdbIdeal.nD → PrngReg) :
    θ_run (Cert.ReferenceAdbIdeal.defs (F := Ideal)) (onTc (τ := Cert.ReferenceAdbIdeal.τ) (Cert.ReferenceAdbIdeal.main (F := Ideal))) ⟨m, fun _ => 0, ρ⟩ fun r =>
      (∀ c : Dev Cert.ReferenceAdbIdeal.nD, r.2.mem ((c.tc : Thread Cert.ReferenceAdbIdeal.nD Cert.ReferenceAdbIdeal.τ).loc Cert.ReferenceAdbIdeal.main_arg0) = m ((c.tc : Thread Cert.ReferenceAdbIdeal.nD Cert.ReferenceAdbIdeal.τ).loc Cert.ReferenceAdbIdeal.main_arg0)
        ∧ r.2.mem ((c.tc : Thread Cert.ReferenceAdbIdeal.nD Cert.ReferenceAdbIdeal.τ).loc Cert.ReferenceAdbIdeal.main_arg1) = m ((c.tc : Thread Cert.ReferenceAdbIdeal.nD Cert.ReferenceAdbIdeal.τ).loc Cert.ReferenceAdbIdeal.main_arg1)
        ∧ r.2.mem ((c.tc : Thread Cert.ReferenceAdbIdeal.nD Cert.ReferenceAdbIdeal.τ).loc Cert.ReferenceAdbIdeal.main_arg2) = m ((c.tc : Thread Cert.ReferenceAdbIdeal.nD Cert.ReferenceAdbIdeal.τ).loc Cert.ReferenceAdbIdeal.main_arg2)
        ∧ r.2.mem ((c.tc : Thread Cert.ReferenceAdbIdeal.nD Cert.ReferenceAdbIdeal.τ).loc Cert.ReferenceAdbIdeal.main_arg3) = m ((c.tc : Thread Cert.ReferenceAdbIdeal.nD Cert.ReferenceAdbIdeal.τ).loc Cert.ReferenceAdbIdeal.main_arg3))
      ∧ r.2.sem = fun _ => 0 :=
  (θ_run _ _ _).mono (fun r h => ⟨fun c => (h c).2.2.2.2, sem_eq_zero_of_no_sems (by decide) r.2⟩) (Cert.ReferenceAdbIdeal.Value.run m ρ)

/-- `ReferenceAdpIdeal` runs, leaves its arguments as they were, and has no semaphore to leave above zero. -/
theorem frame_reference_adp (m : (ℓ : Loc Cert.ReferenceAdpIdeal.nD Cert.ReferenceAdpIdeal.τ Cert.ReferenceAdpIdeal.sig) → Buf (Elt Ideal) ℓ) (ρ : Dev Cert.ReferenceAdpIdeal.nD → PrngReg) :
    θ_run (Cert.ReferenceAdpIdeal.defs (F := Ideal)) (onTc (τ := Cert.ReferenceAdpIdeal.τ) (Cert.ReferenceAdpIdeal.main (F := Ideal))) ⟨m, fun _ => 0, ρ⟩ fun r =>
      (∀ c : Dev Cert.ReferenceAdpIdeal.nD, r.2.mem ((c.tc : Thread Cert.ReferenceAdpIdeal.nD Cert.ReferenceAdpIdeal.τ).loc Cert.ReferenceAdpIdeal.main_arg0) = m ((c.tc : Thread Cert.ReferenceAdpIdeal.nD Cert.ReferenceAdpIdeal.τ).loc Cert.ReferenceAdpIdeal.main_arg0)
        ∧ r.2.mem ((c.tc : Thread Cert.ReferenceAdpIdeal.nD Cert.ReferenceAdpIdeal.τ).loc Cert.ReferenceAdpIdeal.main_arg1) = m ((c.tc : Thread Cert.ReferenceAdpIdeal.nD Cert.ReferenceAdpIdeal.τ).loc Cert.ReferenceAdpIdeal.main_arg1)
        ∧ r.2.mem ((c.tc : Thread Cert.ReferenceAdpIdeal.nD Cert.ReferenceAdpIdeal.τ).loc Cert.ReferenceAdpIdeal.main_arg2) = m ((c.tc : Thread Cert.ReferenceAdpIdeal.nD Cert.ReferenceAdpIdeal.τ).loc Cert.ReferenceAdpIdeal.main_arg2)
        ∧ r.2.mem ((c.tc : Thread Cert.ReferenceAdpIdeal.nD Cert.ReferenceAdpIdeal.τ).loc Cert.ReferenceAdpIdeal.main_arg3) = m ((c.tc : Thread Cert.ReferenceAdpIdeal.nD Cert.ReferenceAdpIdeal.τ).loc Cert.ReferenceAdpIdeal.main_arg3))
      ∧ r.2.sem = fun _ => 0 :=
  (θ_run _ _ _).mono (fun r h => ⟨fun c => (h c).2.2.2.2, sem_eq_zero_of_no_sems (by decide) r.2⟩) (Cert.ReferenceAdpIdeal.Value.run m ρ)

/-- `ReferenceAdsIdeal` runs, leaves its arguments as they were, and has no semaphore to leave above zero. -/
theorem frame_reference_ads (m : (ℓ : Loc Cert.ReferenceAdsIdeal.nD Cert.ReferenceAdsIdeal.τ Cert.ReferenceAdsIdeal.sig) → Buf (Elt Ideal) ℓ) (ρ : Dev Cert.ReferenceAdsIdeal.nD → PrngReg) :
    θ_run (Cert.ReferenceAdsIdeal.defs (F := Ideal)) (onTc (τ := Cert.ReferenceAdsIdeal.τ) (Cert.ReferenceAdsIdeal.main (F := Ideal))) ⟨m, fun _ => 0, ρ⟩ fun r =>
      (∀ c : Dev Cert.ReferenceAdsIdeal.nD, r.2.mem ((c.tc : Thread Cert.ReferenceAdsIdeal.nD Cert.ReferenceAdsIdeal.τ).loc Cert.ReferenceAdsIdeal.main_arg0) = m ((c.tc : Thread Cert.ReferenceAdsIdeal.nD Cert.ReferenceAdsIdeal.τ).loc Cert.ReferenceAdsIdeal.main_arg0)
        ∧ r.2.mem ((c.tc : Thread Cert.ReferenceAdsIdeal.nD Cert.ReferenceAdsIdeal.τ).loc Cert.ReferenceAdsIdeal.main_arg1) = m ((c.tc : Thread Cert.ReferenceAdsIdeal.nD Cert.ReferenceAdsIdeal.τ).loc Cert.ReferenceAdsIdeal.main_arg1)
        ∧ r.2.mem ((c.tc : Thread Cert.ReferenceAdsIdeal.nD Cert.ReferenceAdsIdeal.τ).loc Cert.ReferenceAdsIdeal.main_arg2) = m ((c.tc : Thread Cert.ReferenceAdsIdeal.nD Cert.ReferenceAdsIdeal.τ).loc Cert.ReferenceAdsIdeal.main_arg2)
        ∧ r.2.mem ((c.tc : Thread Cert.ReferenceAdsIdeal.nD Cert.ReferenceAdsIdeal.τ).loc Cert.ReferenceAdsIdeal.main_arg3) = m ((c.tc : Thread Cert.ReferenceAdsIdeal.nD Cert.ReferenceAdsIdeal.τ).loc Cert.ReferenceAdsIdeal.main_arg3))
      ∧ r.2.sem = fun _ => 0 :=
  (θ_run _ _ _).mono (fun r h => ⟨fun c => (h c).2.2.2.2, sem_eq_zero_of_no_sems (by decide) r.2⟩) (Cert.ReferenceAdsIdeal.Value.run m ρ)

/-- `ReferenceAduIdeal` runs, leaves its arguments as they were, and has no semaphore to leave above zero. -/
theorem frame_reference_adu (m : (ℓ : Loc Cert.ReferenceAduIdeal.nD Cert.ReferenceAduIdeal.τ Cert.ReferenceAduIdeal.sig) → Buf (Elt Ideal) ℓ) (ρ : Dev Cert.ReferenceAduIdeal.nD → PrngReg) :
    θ_run (Cert.ReferenceAduIdeal.defs (F := Ideal)) (onTc (τ := Cert.ReferenceAduIdeal.τ) (Cert.ReferenceAduIdeal.main (F := Ideal))) ⟨m, fun _ => 0, ρ⟩ fun r =>
      (∀ c : Dev Cert.ReferenceAduIdeal.nD, r.2.mem ((c.tc : Thread Cert.ReferenceAduIdeal.nD Cert.ReferenceAduIdeal.τ).loc Cert.ReferenceAduIdeal.main_arg0) = m ((c.tc : Thread Cert.ReferenceAduIdeal.nD Cert.ReferenceAduIdeal.τ).loc Cert.ReferenceAduIdeal.main_arg0)
        ∧ r.2.mem ((c.tc : Thread Cert.ReferenceAduIdeal.nD Cert.ReferenceAduIdeal.τ).loc Cert.ReferenceAduIdeal.main_arg1) = m ((c.tc : Thread Cert.ReferenceAduIdeal.nD Cert.ReferenceAduIdeal.τ).loc Cert.ReferenceAduIdeal.main_arg1)
        ∧ r.2.mem ((c.tc : Thread Cert.ReferenceAduIdeal.nD Cert.ReferenceAduIdeal.τ).loc Cert.ReferenceAduIdeal.main_arg2) = m ((c.tc : Thread Cert.ReferenceAduIdeal.nD Cert.ReferenceAduIdeal.τ).loc Cert.ReferenceAduIdeal.main_arg2)
        ∧ r.2.mem ((c.tc : Thread Cert.ReferenceAduIdeal.nD Cert.ReferenceAduIdeal.τ).loc Cert.ReferenceAduIdeal.main_arg3) = m ((c.tc : Thread Cert.ReferenceAduIdeal.nD Cert.ReferenceAduIdeal.τ).loc Cert.ReferenceAduIdeal.main_arg3)
        ∧ r.2.mem ((c.tc : Thread Cert.ReferenceAduIdeal.nD Cert.ReferenceAduIdeal.τ).loc Cert.ReferenceAduIdeal.main_arg4) = m ((c.tc : Thread Cert.ReferenceAduIdeal.nD Cert.ReferenceAduIdeal.τ).loc Cert.ReferenceAduIdeal.main_arg4))
      ∧ r.2.sem = fun _ => 0 :=
  (θ_run _ _ _).mono (fun r h => ⟨fun c => (h c).2.2.2.2, sem_eq_zero_of_no_sems (by decide) r.2⟩) (Cert.ReferenceAduIdeal.Value.run m ρ)

/-- `ReferenceAdfIdeal` runs, leaves its arguments as they were, and has no semaphore to leave above zero. -/
theorem frame_reference_adf (m : (ℓ : Loc Cert.ReferenceAdfIdeal.nD Cert.ReferenceAdfIdeal.τ Cert.ReferenceAdfIdeal.sig) → Buf (Elt Ideal) ℓ) (ρ : Dev Cert.ReferenceAdfIdeal.nD → PrngReg) :
    θ_run (Cert.ReferenceAdfIdeal.defs (F := Ideal)) (onTc (τ := Cert.ReferenceAdfIdeal.τ) (Cert.ReferenceAdfIdeal.main (F := Ideal))) ⟨m, fun _ => 0, ρ⟩ fun r =>
      (∀ c : Dev Cert.ReferenceAdfIdeal.nD, r.2.mem ((c.tc : Thread Cert.ReferenceAdfIdeal.nD Cert.ReferenceAdfIdeal.τ).loc Cert.ReferenceAdfIdeal.main_arg0) = m ((c.tc : Thread Cert.ReferenceAdfIdeal.nD Cert.ReferenceAdfIdeal.τ).loc Cert.ReferenceAdfIdeal.main_arg0)
        ∧ r.2.mem ((c.tc : Thread Cert.ReferenceAdfIdeal.nD Cert.ReferenceAdfIdeal.τ).loc Cert.ReferenceAdfIdeal.main_arg1) = m ((c.tc : Thread Cert.ReferenceAdfIdeal.nD Cert.ReferenceAdfIdeal.τ).loc Cert.ReferenceAdfIdeal.main_arg1)
        ∧ r.2.mem ((c.tc : Thread Cert.ReferenceAdfIdeal.nD Cert.ReferenceAdfIdeal.τ).loc Cert.ReferenceAdfIdeal.main_arg2) = m ((c.tc : Thread Cert.ReferenceAdfIdeal.nD Cert.ReferenceAdfIdeal.τ).loc Cert.ReferenceAdfIdeal.main_arg2)
        ∧ r.2.mem ((c.tc : Thread Cert.ReferenceAdfIdeal.nD Cert.ReferenceAdfIdeal.τ).loc Cert.ReferenceAdfIdeal.main_arg3) = m ((c.tc : Thread Cert.ReferenceAdfIdeal.nD Cert.ReferenceAdfIdeal.τ).loc Cert.ReferenceAdfIdeal.main_arg3)
        ∧ r.2.mem ((c.tc : Thread Cert.ReferenceAdfIdeal.nD Cert.ReferenceAdfIdeal.τ).loc Cert.ReferenceAdfIdeal.main_arg4) = m ((c.tc : Thread Cert.ReferenceAdfIdeal.nD Cert.ReferenceAdfIdeal.τ).loc Cert.ReferenceAdfIdeal.main_arg4))
      ∧ r.2.sem = fun _ => 0 :=
  (θ_run _ _ _).mono (fun r h => ⟨fun c => (h c).2.2.2.2, sem_eq_zero_of_no_sems (by decide) r.2⟩) (Cert.ReferenceAdfIdeal.Value.run m ρ)

/-- `ReferenceRmsIdeal` runs, leaves its arguments as they were, and has no semaphore to leave above zero. -/
theorem frame_reference_rms (m : (ℓ : Loc Cert.ReferenceRmsIdeal.nD Cert.ReferenceRmsIdeal.τ Cert.ReferenceRmsIdeal.sig) → Buf (Elt Ideal) ℓ) (ρ : Dev Cert.ReferenceRmsIdeal.nD → PrngReg) :
    θ_run (Cert.ReferenceRmsIdeal.defs (F := Ideal)) (onTc (τ := Cert.ReferenceRmsIdeal.τ) (Cert.ReferenceRmsIdeal.main (F := Ideal))) ⟨m, fun _ => 0, ρ⟩ fun r =>
      (∀ c : Dev Cert.ReferenceRmsIdeal.nD, r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
        ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0 :=
  (θ_run _ _ _).mono (fun r h => ⟨fun c => (h c).2, sem_eq_zero_of_no_sems (by decide) r.2⟩) (Cert.ReferenceRmsIdeal.Value.run m ρ)

/-- `ReferencePwbIdeal` runs, leaves its arguments as they were, and has no semaphore to leave above zero. -/
theorem frame_reference_pwb (m : (ℓ : Loc Cert.ReferencePwbIdeal.nD Cert.ReferencePwbIdeal.τ Cert.ReferencePwbIdeal.sig) → Buf (Elt Ideal) ℓ) (ρ : Dev Cert.ReferencePwbIdeal.nD → PrngReg) :
    θ_run (Cert.ReferencePwbIdeal.defs (F := Ideal)) (onTc (τ := Cert.ReferencePwbIdeal.τ) (Cert.ReferencePwbIdeal.main (F := Ideal))) ⟨m, fun _ => 0, ρ⟩ fun r =>
      (∀ c : Dev Cert.ReferencePwbIdeal.nD, r.2.mem ((c.tc : Thread Cert.ReferencePwbIdeal.nD Cert.ReferencePwbIdeal.τ).loc Cert.ReferencePwbIdeal.main_arg0) = m ((c.tc : Thread Cert.ReferencePwbIdeal.nD Cert.ReferencePwbIdeal.τ).loc Cert.ReferencePwbIdeal.main_arg0)
        ∧ r.2.mem ((c.tc : Thread Cert.ReferencePwbIdeal.nD Cert.ReferencePwbIdeal.τ).loc Cert.ReferencePwbIdeal.main_arg1) = m ((c.tc : Thread Cert.ReferencePwbIdeal.nD Cert.ReferencePwbIdeal.τ).loc Cert.ReferencePwbIdeal.main_arg1)
        ∧ r.2.mem ((c.tc : Thread Cert.ReferencePwbIdeal.nD Cert.ReferencePwbIdeal.τ).loc Cert.ReferencePwbIdeal.main_arg2) = m ((c.tc : Thread Cert.ReferencePwbIdeal.nD Cert.ReferencePwbIdeal.τ).loc Cert.ReferencePwbIdeal.main_arg2)
        ∧ r.2.mem ((c.tc : Thread Cert.ReferencePwbIdeal.nD Cert.ReferencePwbIdeal.τ).loc Cert.ReferencePwbIdeal.main_arg3) = m ((c.tc : Thread Cert.ReferencePwbIdeal.nD Cert.ReferencePwbIdeal.τ).loc Cert.ReferencePwbIdeal.main_arg3)
        ∧ r.2.mem ((c.tc : Thread Cert.ReferencePwbIdeal.nD Cert.ReferencePwbIdeal.τ).loc Cert.ReferencePwbIdeal.main_arg4) = m ((c.tc : Thread Cert.ReferencePwbIdeal.nD Cert.ReferencePwbIdeal.τ).loc Cert.ReferencePwbIdeal.main_arg4)
        ∧ r.2.mem ((c.tc : Thread Cert.ReferencePwbIdeal.nD Cert.ReferencePwbIdeal.τ).loc Cert.ReferencePwbIdeal.main_arg5) = m ((c.tc : Thread Cert.ReferencePwbIdeal.nD Cert.ReferencePwbIdeal.τ).loc Cert.ReferencePwbIdeal.main_arg5)
        ∧ r.2.mem ((c.tc : Thread Cert.ReferencePwbIdeal.nD Cert.ReferencePwbIdeal.τ).loc Cert.ReferencePwbIdeal.main_arg6) = m ((c.tc : Thread Cert.ReferencePwbIdeal.nD Cert.ReferencePwbIdeal.τ).loc Cert.ReferencePwbIdeal.main_arg6))
      ∧ r.2.sem = fun _ => 0 :=
  (θ_run _ _ _).mono (fun r h => ⟨fun c => (h c).2.2.2, sem_eq_zero_of_no_sems (by decide) r.2⟩) (Cert.ReferencePwbIdeal.Value.run m ρ)

/-- `ReferenceHeadIdeal` runs, leaves its arguments as they were, and has no semaphore to leave above zero. -/
theorem frame_reference_head (m : (ℓ : Loc Cert.ReferenceHeadIdeal.nD Cert.ReferenceHeadIdeal.τ Cert.ReferenceHeadIdeal.sig) → Buf (Elt Ideal) ℓ) (ρ : Dev Cert.ReferenceHeadIdeal.nD → PrngReg) :
    θ_run (Cert.ReferenceHeadIdeal.defs (F := Ideal)) (onTc (τ := Cert.ReferenceHeadIdeal.τ) (Cert.ReferenceHeadIdeal.main (F := Ideal))) ⟨m, fun _ => 0, ρ⟩ fun r =>
      (∀ c : Dev Cert.ReferenceHeadIdeal.nD, r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
        ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
        ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
        ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
        ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4))
      ∧ r.2.sem = fun _ => 0 :=
  (θ_run _ _ _).mono (fun r h => ⟨fun c => (h c).2.2.2.2, sem_eq_zero_of_no_sems (by decide) r.2⟩) (Cert.ReferenceHeadIdeal.Value.run m ρ)

/-- The certificate's claims. -/
theorem claim : Cert.Claim := ⟨Cert.Kernel.Gen.facts,
  Cert.KernelIdeal.Gen.facts,
  Cert.ReferenceIdeal.Gen.facts,
  Cert.KernelDh.Gen.facts,
  Cert.KernelDhIdeal.Gen.facts,
  Cert.ReferenceDhIdeal.Gen.facts,
  Cert.KernelDwu.Gen.facts,
  Cert.KernelDwuIdeal.Gen.facts,
  Cert.ReferenceDwuIdeal.Gen.facts,
  Cert.KernelDg.Gen.facts,
  Cert.KernelDgIdeal.Gen.facts,
  Cert.ReferenceDgIdeal.Gen.facts,
  Cert.KernelDwd.Gen.facts,
  Cert.KernelDwdIdeal.Gen.facts,
  Cert.ReferenceDwdIdeal.Gen.facts,
  Cert.KernelUp.Gen.facts,
  Cert.KernelUpIdeal.Gen.facts,
  Cert.ReferenceUpIdeal.Gen.facts,
  Cert.KernelDown.Gen.facts,
  Cert.KernelDownIdeal.Gen.facts,
  Cert.ReferenceDownIdeal.Gen.facts,
  Cert.KernelDx.Gen.facts,
  Cert.KernelDxIdeal.Gen.facts,
  Cert.ReferenceDxIdeal.Gen.facts,
  Cert.KernelDwa.Gen.facts,
  Cert.KernelDwaIdeal.Gen.facts,
  Cert.ReferenceDwaIdeal.Gen.facts,
  Cert.KernelDwb.Gen.facts,
  Cert.KernelDwbIdeal.Gen.facts,
  Cert.ReferenceDwbIdeal.Gen.facts,
  Cert.KernelPw.Gen.facts,
  Cert.KernelPwIdeal.Gen.facts,
  Cert.ReferencePwIdeal.Gen.facts,
  Cert.KernelSum.Gen.facts,
  Cert.KernelSumIdeal.Gen.facts,
  Cert.ReferenceSumIdeal.Gen.facts,
  Cert.KernelAda.Gen.facts,
  Cert.KernelAdaIdeal.Gen.facts,
  Cert.ReferenceAdaIdeal.Gen.facts,
  Cert.KernelAdb.Gen.facts,
  Cert.KernelAdbIdeal.Gen.facts,
  Cert.ReferenceAdbIdeal.Gen.facts,
  Cert.KernelAdp.Gen.facts,
  Cert.KernelAdpIdeal.Gen.facts,
  Cert.ReferenceAdpIdeal.Gen.facts,
  Cert.KernelAds.Gen.facts,
  Cert.KernelAdsIdeal.Gen.facts,
  Cert.ReferenceAdsIdeal.Gen.facts,
  Cert.KernelAdu.Gen.facts,
  Cert.KernelAduIdeal.Gen.facts,
  Cert.ReferenceAduIdeal.Gen.facts,
  Cert.KernelAdf.Gen.facts,
  Cert.KernelAdfIdeal.Gen.facts,
  Cert.ReferenceAdfIdeal.Gen.facts,
  Cert.KernelRms.Gen.facts,
  Cert.KernelRmsIdeal.Gen.facts,
  Cert.ReferenceRmsIdeal.Gen.facts,
  Cert.KernelPwb.Gen.facts,
  Cert.KernelPwbIdeal.Gen.facts,
  Cert.ReferencePwbIdeal.Gen.facts,
  Cert.KernelHead.Gen.facts,
  Cert.KernelHeadIdeal.Gen.facts,
  Cert.ReferenceHeadIdeal.Gen.facts,
  fun m ρ _ => Cert.Kernel.Gen.frame m ρ,
  fun m ρ _ => Cert.KernelIdeal.Gen.frame m ρ,
  fun m ρ _ => frame_reference_pool m ρ,
  fun m ρ _ => Cert.KernelDh.Gen.frame m ρ,
  fun m ρ _ => Cert.KernelDhIdeal.Gen.frame m ρ,
  fun m ρ _ => frame_reference_dh m ρ,
  fun m ρ _ => Cert.KernelDwu.Gen.frame m ρ,
  fun m ρ _ => Cert.KernelDwuIdeal.Gen.frame m ρ,
  fun m ρ _ => frame_reference_dwu m ρ,
  fun m ρ _ => Cert.KernelDg.Gen.frame m ρ,
  fun m ρ _ => Cert.KernelDgIdeal.Gen.frame m ρ,
  fun m ρ _ => frame_reference_dg m ρ,
  fun m ρ _ => Cert.KernelDwd.Gen.frame m ρ,
  fun m ρ _ => Cert.KernelDwdIdeal.Gen.frame m ρ,
  fun m ρ _ => frame_reference_dwd m ρ,
  fun m ρ _ => Cert.KernelUp.Gen.frame m ρ,
  fun m ρ _ => Cert.KernelUpIdeal.Gen.frame m ρ,
  fun m ρ _ => frame_reference_up m ρ,
  fun m ρ _ => Cert.KernelDown.Gen.frame m ρ,
  fun m ρ _ => Cert.KernelDownIdeal.Gen.frame m ρ,
  fun m ρ _ => frame_reference_down m ρ,
  fun m ρ _ => Cert.KernelDx.Gen.frame m ρ,
  fun m ρ _ => Cert.KernelDxIdeal.Gen.frame m ρ,
  fun m ρ _ => frame_reference_dx m ρ,
  fun m ρ _ => Cert.KernelDwa.Gen.frame m ρ,
  fun m ρ _ => Cert.KernelDwaIdeal.Gen.frame m ρ,
  fun m ρ _ => frame_reference_dwa m ρ,
  fun m ρ _ => Cert.KernelDwb.Gen.frame m ρ,
  fun m ρ _ => Cert.KernelDwbIdeal.Gen.frame m ρ,
  fun m ρ _ => frame_reference_dwb m ρ,
  fun m ρ _ => Cert.KernelPw.Gen.frame m ρ,
  fun m ρ _ => Cert.KernelPwIdeal.Gen.frame m ρ,
  fun m ρ _ => frame_reference_pw m ρ,
  fun m ρ _ => Cert.KernelSum.Gen.frame m ρ,
  fun m ρ _ => Cert.KernelSumIdeal.Gen.frame m ρ,
  fun m ρ _ => frame_reference_sum m ρ,
  fun m ρ _ => Cert.KernelAda.Gen.frame m ρ,
  fun m ρ _ => Cert.KernelAdaIdeal.Gen.frame m ρ,
  fun m ρ _ => frame_reference_ada m ρ,
  fun m ρ _ => Cert.KernelAdb.Gen.frame m ρ,
  fun m ρ _ => Cert.KernelAdbIdeal.Gen.frame m ρ,
  fun m ρ _ => frame_reference_adb m ρ,
  fun m ρ _ => Cert.KernelAdp.Gen.frame m ρ,
  fun m ρ _ => Cert.KernelAdpIdeal.Gen.frame m ρ,
  fun m ρ _ => frame_reference_adp m ρ,
  fun m ρ _ => Cert.KernelAds.Gen.frame m ρ,
  fun m ρ _ => Cert.KernelAdsIdeal.Gen.frame m ρ,
  fun m ρ _ => frame_reference_ads m ρ,
  fun m ρ _ => Cert.KernelAdu.Gen.frame m ρ,
  fun m ρ _ => Cert.KernelAduIdeal.Gen.frame m ρ,
  fun m ρ _ => frame_reference_adu m ρ,
  fun m ρ _ => Cert.KernelAdf.Gen.frame m ρ,
  fun m ρ _ => Cert.KernelAdfIdeal.Gen.frame m ρ,
  fun m ρ _ => frame_reference_adf m ρ,
  fun m ρ _ => Cert.KernelRms.Gen.frame m ρ,
  fun m ρ _ => Cert.KernelRmsIdeal.Gen.frame m ρ,
  fun m ρ _ => frame_reference_rms m ρ,
  fun m ρ _ => Cert.KernelPwb.Gen.frame m ρ,
  fun m ρ _ => Cert.KernelPwbIdeal.Gen.frame m ρ,
  fun m ρ _ => frame_reference_pwb m ρ,
  fun m ρ _ => Cert.KernelHead.Gen.frame m ρ,
  fun m ρ _ => Cert.KernelHeadIdeal.Gen.frame m ρ,
  fun m ρ _ => frame_reference_head m ρ,
  trivial,
  trivial,
  Cert.DhValue.algebraic,
  trivial,
  Cert.DwuValue.algebraic,
  trivial,
  Cert.DgValue.algebraic,
  trivial,
  Cert.DwdValue.algebraic,
  trivial,
  Cert.UpValue.algebraic,
  trivial,
  Cert.DownValue.algebraic,
  trivial,
  Cert.DxValue.algebraic,
  trivial,
  Cert.DwaValue.algebraic,
  trivial,
  Cert.DwbValue.algebraic,
  trivial,
  Cert.PwValue.algebraic,
  trivial,
  Cert.SumValue.algebraic,
  trivial,
  Cert.AdaValue.algebraic,
  trivial,
  Cert.AdbValue.algebraic,
  trivial,
  Cert.AdpValue.algebraic,
  trivial,
  Cert.AdsValue.algebraic,
  trivial,
  Cert.AduValue.algebraic,
  trivial,
  Cert.AdfValue.algebraic,
  trivial,
  Cert.RmsValue.algebraic,
  trivial,
  Cert.PwbValue.algebraic,
  trivial,
  Cert.HeadValue.algebraic⟩

end Cert.Proof

end
